-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x224x224 : Shape := ⟨4, ![16, 3, 224, 224]⟩
abbrev S768x1200 : Shape := ⟨2, ![768, 1200]⟩
abbrev S768 : Shape := ⟨1, ![768]⟩
abbrev S768x3x400 : Shape := ⟨3, ![768, 3, 400]⟩
abbrev S768x3x256 : Shape := ⟨3, ![768, 3, 256]⟩
abbrev S768x768 : Shape := ⟨2, ![768, 768]⟩
abbrev S196x16x768 : Shape := ⟨3, ![196, 16, 768]⟩
abbrev S3x3x16x224 : Shape := ⟨4, ![3, 3, 16, 224]⟩
abbrev S14x8x768 : Shape := ⟨3, ![14, 8, 768]⟩
abbrev S3 : Shape := ⟨1, ![3]⟩
abbrev S_ : Shape := ⟨0, ![]⟩
abbrev S1x3x16x224 : Shape := ⟨4, ![1, 3, 16, 224]⟩
abbrev S3x16x224 : Shape := ⟨3, ![3, 16, 224]⟩
abbrev S1 : Shape := ⟨1, ![1]⟩
abbrev S1x1x1x16 : Shape := ⟨4, ![1, 1, 1, 16]⟩
abbrev S16 : Shape := ⟨1, ![16]⟩
abbrev S1x1x16 : Shape := ⟨3, ![1, 1, 16]⟩
abbrev S3136x768 : Shape := ⟨2, ![3136, 768]⟩
abbrev S1x768 : Shape := ⟨2, ![1, 768]⟩
abbrev S1568x768 : Shape := ⟨2, ![1568, 768]⟩
abbrev S16x196x768 : Shape := ⟨3, ![16, 196, 768]⟩

abbrev nBuf : Table → Nat
  | .hbm => 12
  | .local .tc .vmem => 6
  | .local .scVector .vmem => 2
  | _ => 0

abbrev bufTy : (tb : Table) → Fin (nBuf tb) → BufTy
  | .hbm, ⟨0, _⟩ => ⟨S16x3x224x224, .f32⟩
  | .hbm, ⟨1, _⟩ => ⟨S768x1200, .f32⟩
  | .hbm, ⟨2, _⟩ => ⟨S768, .f32⟩
  | .hbm, ⟨3, _⟩ => ⟨S768x3x400, .f32⟩
  | .hbm, ⟨4, _⟩ => ⟨S768x3x256, .f32⟩
  | .hbm, ⟨5, _⟩ => ⟨S768x768, .f32⟩
  | .hbm, ⟨6, _⟩ => ⟨S196x16x768, .f32⟩
  | .hbm, ⟨7, _⟩ => ⟨S3136x768, .f32⟩
  | .hbm, ⟨8, _⟩ => ⟨S1x768, .f32⟩
  | .hbm, ⟨9, _⟩ => ⟨S3136x768, .f32⟩
  | .hbm, ⟨10, _⟩ => ⟨S196x16x768, .f32⟩
  | .hbm, ⟨11, _⟩ => ⟨S16x196x768, .f32⟩
  | .local .tc .vmem, ⟨0, _⟩ => ⟨S1568x768, .f32⟩
  | .local .tc .vmem, ⟨1, _⟩ => ⟨S1568x768, .f32⟩
  | .local .tc .vmem, ⟨2, _⟩ => ⟨S768x768, .f32⟩
  | .local .tc .vmem, ⟨3, _⟩ => ⟨S1x768, .f32⟩
  | .local .tc .vmem, ⟨4, _⟩ => ⟨S1568x768, .f32⟩
  | .local .tc .vmem, ⟨5, _⟩ => ⟨S1568x768, .f32⟩
  | .local .scVector .vmem, ⟨0, _⟩ => ⟨S3x3x16x224, .f32⟩
  | .local .scVector .vmem, ⟨1, _⟩ => ⟨S14x8x768, .f32⟩
  | _, _ => ⟨S16x3x224x224, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_arg0_scv : Ref sig .scVector := ⟨.hbm, 0, rfl⟩
abbrev main_v3_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v2 : BitVec 1 := Scalar.cmpi .slt v1 c28_i32
  let v3 : BitVec 32 := Scalar.extui v2
  let c0_i32 : BitVec 32 := 0#32
  let v4 : BitVec 1 := Scalar.cmpi .ne v3 c0_i32
  v4

def k0_off1 (i : grid0.Coords) (c0_i32_11 : BitVec 32) : Fin 4 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v16 : BitVec 1 := Scalar.cmpi .sgt v1 c0_i32_5
  let v17 : BitVec 32 := Scalar.extui v16
  let c0_i32_6 : BitVec 32 := 0#32
  let v18 : BitVec 1 := Scalar.cmpi .slt v1 c0_i32_6
  let v19 : BitVec 32 := Scalar.extui v18
  let v20 : BitVec 32 := Scalar.subi v17 v19
  let c14_i32_4 : BitVec 32 := 14#32
  let c0_i32_7 : BitVec 32 := 0#32
  let v21 : BitVec 1 := Scalar.cmpi .sgt c14_i32_4 c0_i32_7
  let v22 : BitVec 32 := Scalar.extui v21
  let c0_i32_8 : BitVec 32 := 0#32
  let v23 : BitVec 1 := Scalar.cmpi .slt c14_i32_4 c0_i32_8
  let v24 : BitVec 32 := Scalar.extui v23
  let v25 : BitVec 32 := Scalar.subi v22 v24
  let v26 : BitVec 1 := Scalar.cmpi .ne v20 v25
  let v27 : BitVec 32 := Scalar.remsi v1 c14_i32_4
  let c0_i32_9 : BitVec 32 := 0#32
  let v28 : BitVec 1 := Scalar.cmpi .ne v27 c0_i32_9
  let v29 : BitVec 1 := Scalar.andi v26 v28
  let v15 : BitVec 32 := Scalar.divsi v1 c14_i32_4
  let c1_i32_10 : BitVec 32 := 1#32
  let v30 : BitVec 32 := Scalar.subi v15 c1_i32_10
  let v31 : BitVec 32 := Scalar.select v29 v30 v15
  let v32 : BitVec 32 := Scalar.muli c8_i32 v31
  let v33 : BitVec 32 := Scalar.addi v32 c0_i32_11
  let c0_i32_17 : BitVec 32 := 0#32
  let c14_i32 : BitVec 32 := 14#32
  let c0_i32_0 : BitVec 32 := 0#32
  let v5 : BitVec 1 := Scalar.cmpi .eq c14_i32 c0_i32_0
  let c1_i32 : BitVec 32 := 1#32
  let v6 : BitVec 32 := Scalar.select v5 c1_i32 c14_i32
  let v7 : BitVec 32 := Scalar.remsi v1 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let c16_i32 : BitVec 32 := 16#32
  let v34 : BitVec 32 := Scalar.muli v14 c16_i32
  let c0_i32_18 : BitVec 32 := 0#32
  ![v33.toNat, 0, v34.toNat, 0]
@[reducible] def k0_t1_loop : Scf.Loop 32 :=
  let c0_i32_67 : BitVec 32 := 0#32
  let c14_i32_68 : BitVec 32 := 14#32
  let v81 : BitVec 32 := Scalar.addi c0_i32_67 c14_i32_68
  let c1_i32_69 : BitVec 32 := 1#32
  ⟨c0_i32_67, v81, c1_i32_69⟩
def k0_off2 (k0_t1 : Fin k0_t1_loop.trips) : Fin 4 → Nat :=
  let c0_i32_267 : BitVec 32 := 0#32
  let v231 : Index := Scalar.indexCast c0_i32_267
  let c0_i32_268 : BitVec 32 := 0#32
  let v232 : Index := Scalar.indexCast c0_i32_268
  let c0_i32_269 : BitVec 32 := 0#32
  let v233 : Index := Scalar.indexCast c0_i32_269
  let c0_i32_67 : BitVec 32 := 0#32
  let c1_i32_69 : BitVec 32 := 1#32
  let arg8 : BitVec 32 := Scf.iv c0_i32_67 c1_i32_69 k0_t1
  let c16_i32_266 : BitVec 32 := 16#32
  let v230 : BitVec 32 := Scalar.muli arg8 c16_i32_266
  let v234 : Index := Scalar.indexCast v230
  ![0, 0, 0, v234.toNat]
def k0_off3 (k0_t1 : Fin k0_t1_loop.trips) : Fin 4 → Nat :=
  let c0_i32_271 : BitVec 32 := 0#32
  let v238 : Index := Scalar.indexCast c0_i32_271
  let c0_i32_272 : BitVec 32 := 0#32
  let v239 : Index := Scalar.indexCast c0_i32_272
  let c1_i32_273 : BitVec 32 := 1#32
  let v240 : Index := Scalar.indexCast c1_i32_273
  let c0_i32_67 : BitVec 32 := 0#32
  let c1_i32_69 : BitVec 32 := 1#32
  let arg8 : BitVec 32 := Scf.iv c0_i32_67 c1_i32_69 k0_t1
  let c16_i32_270 : BitVec 32 := 16#32
  let v237 : BitVec 32 := Scalar.muli arg8 c16_i32_270
  let v241 : Index := Scalar.indexCast v237
  ![0, 0, 1, v241.toNat]
def k0_off4 (k0_t1 : Fin k0_t1_loop.trips) : Fin 4 → Nat :=
  let c0_i32_275 : BitVec 32 := 0#32
  let v245 : Index := Scalar.indexCast c0_i32_275
  let c0_i32_276 : BitVec 32 := 0#32
  let v246 : Index := Scalar.indexCast c0_i32_276
  let c2_i32_277 : BitVec 32 := 2#32
  let v247 : Index := Scalar.indexCast c2_i32_277
  let c0_i32_67 : BitVec 32 := 0#32
  let c1_i32_69 : BitVec 32 := 1#32
  let arg8 : BitVec 32 := Scf.iv c0_i32_67 c1_i32_69 k0_t1
  let c16_i32_274 : BitVec 32 := 16#32
  let v244 : BitVec 32 := Scalar.muli arg8 c16_i32_274
  let v248 : Index := Scalar.indexCast v244
  ![0, 0, 2, v248.toNat]
def k0_off5 (k0_t1 : Fin k0_t1_loop.trips) : Fin 4 → Nat :=
  let c0_i32_279 : BitVec 32 := 0#32
  let v252 : Index := Scalar.indexCast c0_i32_279
  let c0_i32_280 : BitVec 32 := 0#32
  let v253 : Index := Scalar.indexCast c0_i32_280
  let c3_i32_281 : BitVec 32 := 3#32
  let v254 : Index := Scalar.indexCast c3_i32_281
  let c0_i32_67 : BitVec 32 := 0#32
  let c1_i32_69 : BitVec 32 := 1#32
  let arg8 : BitVec 32 := Scf.iv c0_i32_67 c1_i32_69 k0_t1
  let c16_i32_278 : BitVec 32 := 16#32
  let v251 : BitVec 32 := Scalar.muli arg8 c16_i32_278
  let v255 : Index := Scalar.indexCast v251
  ![0, 0, 3, v255.toNat]
def k0_off6 (k0_t1 : Fin k0_t1_loop.trips) : Fin 4 → Nat :=
  let c0_i32_283 : BitVec 32 := 0#32
  let v259 : Index := Scalar.indexCast c0_i32_283
  let c0_i32_284 : BitVec 32 := 0#32
  let v260 : Index := Scalar.indexCast c0_i32_284
  let c4_i32_285 : BitVec 32 := 4#32
  let v261 : Index := Scalar.indexCast c4_i32_285
  let c0_i32_67 : BitVec 32 := 0#32
  let c1_i32_69 : BitVec 32 := 1#32
  let arg8 : BitVec 32 := Scf.iv c0_i32_67 c1_i32_69 k0_t1
  let c16_i32_282 : BitVec 32 := 16#32
  let v258 : BitVec 32 := Scalar.muli arg8 c16_i32_282
  let v262 : Index := Scalar.indexCast v258
  ![0, 0, 4, v262.toNat]
def k0_off7 (k0_t1 : Fin k0_t1_loop.trips) : Fin 4 → Nat :=
  let c0_i32_287 : BitVec 32 := 0#32
  let v266 : Index := Scalar.indexCast c0_i32_287
  let c0_i32_288 : BitVec 32 := 0#32
  let v267 : Index := Scalar.indexCast c0_i32_288
  let c5_i32_289 : BitVec 32 := 5#32
  let v268 : Index := Scalar.indexCast c5_i32_289
  let c0_i32_67 : BitVec 32 := 0#32
  let c1_i32_69 : BitVec 32 := 1#32
  let arg8 : BitVec 32 := Scf.iv c0_i32_67 c1_i32_69 k0_t1
  let c16_i32_286 : BitVec 32 := 16#32
  let v265 : BitVec 32 := Scalar.muli arg8 c16_i32_286
  let v269 : Index := Scalar.indexCast v265
  ![0, 0, 5, v269.toNat]
def k0_off8 (k0_t1 : Fin k0_t1_loop.trips) : Fin 4 → Nat :=
  let c0_i32_291 : BitVec 32 := 0#32
  let v273 : Index := Scalar.indexCast c0_i32_291
  let c0_i32_292 : BitVec 32 := 0#32
  let v274 : Index := Scalar.indexCast c0_i32_292
  let c6_i32_293 : BitVec 32 := 6#32
  let v275 : Index := Scalar.indexCast c6_i32_293
  let c0_i32_67 : BitVec 32 := 0#32
  let c1_i32_69 : BitVec 32 := 1#32
  let arg8 : BitVec 32 := Scf.iv c0_i32_67 c1_i32_69 k0_t1
  let c16_i32_290 : BitVec 32 := 16#32
  let v272 : BitVec 32 := Scalar.muli arg8 c16_i32_290
  let v276 : Index := Scalar.indexCast v272
  ![0, 0, 6, v276.toNat]
def k0_off9 (k0_t1 : Fin k0_t1_loop.trips) : Fin 4 → Nat :=
  let c0_i32_295 : BitVec 32 := 0#32
  let v280 : Index := Scalar.indexCast c0_i32_295
  let c0_i32_296 : BitVec 32 := 0#32
  let v281 : Index := Scalar.indexCast c0_i32_296
  let c7_i32_297 : BitVec 32 := 7#32
  let v282 : Index := Scalar.indexCast c7_i32_297
  let c0_i32_67 : BitVec 32 := 0#32
  let c1_i32_69 : BitVec 32 := 1#32
  let arg8 : BitVec 32 := Scf.iv c0_i32_67 c1_i32_69 k0_t1
  let c16_i32_294 : BitVec 32 := 16#32
  let v279 : BitVec 32 := Scalar.muli arg8 c16_i32_294
  let v283 : Index := Scalar.indexCast v279
  ![0, 0, 7, v283.toNat]
def k0_off10 (k0_t1 : Fin k0_t1_loop.trips) : Fin 4 → Nat :=
  let c0_i32_299 : BitVec 32 := 0#32
  let v287 : Index := Scalar.indexCast c0_i32_299
  let c0_i32_300 : BitVec 32 := 0#32
  let v288 : Index := Scalar.indexCast c0_i32_300
  let c8_i32_301 : BitVec 32 := 8#32
  let v289 : Index := Scalar.indexCast c8_i32_301
  let c0_i32_67 : BitVec 32 := 0#32
  let c1_i32_69 : BitVec 32 := 1#32
  let arg8 : BitVec 32 := Scf.iv c0_i32_67 c1_i32_69 k0_t1
  let c16_i32_298 : BitVec 32 := 16#32
  let v286 : BitVec 32 := Scalar.muli arg8 c16_i32_298
  let v290 : Index := Scalar.indexCast v286
  ![0, 0, 8, v290.toNat]
def k0_off11 (k0_t1 : Fin k0_t1_loop.trips) : Fin 4 → Nat :=
  let c0_i32_303 : BitVec 32 := 0#32
  let v294 : Index := Scalar.indexCast c0_i32_303
  let c0_i32_304 : BitVec 32 := 0#32
  let v295 : Index := Scalar.indexCast c0_i32_304
  let c9_i32 : BitVec 32 := 9#32
  let v296 : Index := Scalar.indexCast c9_i32
  let c0_i32_67 : BitVec 32 := 0#32
  let c1_i32_69 : BitVec 32 := 1#32
  let arg8 : BitVec 32 := Scf.iv c0_i32_67 c1_i32_69 k0_t1
  let c16_i32_302 : BitVec 32 := 16#32
  let v293 : BitVec 32 := Scalar.muli arg8 c16_i32_302
  let v297 : Index := Scalar.indexCast v293
  ![0, 0, 9, v297.toNat]
def k0_off12 (k0_t1 : Fin k0_t1_loop.trips) : Fin 4 → Nat :=
  let c0_i32_306 : BitVec 32 := 0#32
  let v301 : Index := Scalar.indexCast c0_i32_306
  let c0_i32_307 : BitVec 32 := 0#32
  let v302 : Index := Scalar.indexCast c0_i32_307
  let c10_i32 : BitVec 32 := 10#32
  let v303 : Index := Scalar.indexCast c10_i32
  let c0_i32_67 : BitVec 32 := 0#32
  let c1_i32_69 : BitVec 32 := 1#32
  let arg8 : BitVec 32 := Scf.iv c0_i32_67 c1_i32_69 k0_t1
  let c16_i32_305 : BitVec 32 := 16#32
  let v300 : BitVec 32 := Scalar.muli arg8 c16_i32_305
  let v304 : Index := Scalar.indexCast v300
  ![0, 0, 10, v304.toNat]
def k0_off13 (k0_t1 : Fin k0_t1_loop.trips) : Fin 4 → Nat :=
  let c0_i32_309 : BitVec 32 := 0#32
  let v308 : Index := Scalar.indexCast c0_i32_309
  let c0_i32_310 : BitVec 32 := 0#32
  let v309 : Index := Scalar.indexCast c0_i32_310
  let c11_i32 : BitVec 32 := 11#32
  let v310 : Index := Scalar.indexCast c11_i32
  let c0_i32_67 : BitVec 32 := 0#32
  let c1_i32_69 : BitVec 32 := 1#32
  let arg8 : BitVec 32 := Scf.iv c0_i32_67 c1_i32_69 k0_t1
  let c16_i32_308 : BitVec 32 := 16#32
  let v307 : BitVec 32 := Scalar.muli arg8 c16_i32_308
  let v311 : Index := Scalar.indexCast v307
  ![0, 0, 11, v311.toNat]
def k0_off14 (k0_t1 : Fin k0_t1_loop.trips) : Fin 4 → Nat :=
  let c0_i32_312 : BitVec 32 := 0#32
  let v315 : Index := Scalar.indexCast c0_i32_312
  let c0_i32_313 : BitVec 32 := 0#32
  let v316 : Index := Scalar.indexCast c0_i32_313
  let c12_i32 : BitVec 32 := 12#32
  let v317 : Index := Scalar.indexCast c12_i32
  let c0_i32_67 : BitVec 32 := 0#32
  let c1_i32_69 : BitVec 32 := 1#32
  let arg8 : BitVec 32 := Scf.iv c0_i32_67 c1_i32_69 k0_t1
  let c16_i32_311 : BitVec 32 := 16#32
  let v314 : BitVec 32 := Scalar.muli arg8 c16_i32_311
  let v318 : Index := Scalar.indexCast v314
  ![0, 0, 12, v318.toNat]
def k0_off15 (k0_t1 : Fin k0_t1_loop.trips) : Fin 4 → Nat :=
  let c0_i32_315 : BitVec 32 := 0#32
  let v322 : Index := Scalar.indexCast c0_i32_315
  let c0_i32_316 : BitVec 32 := 0#32
  let v323 : Index := Scalar.indexCast c0_i32_316
  let c13_i32 : BitVec 32 := 13#32
  let v324 : Index := Scalar.indexCast c13_i32
  let c0_i32_67 : BitVec 32 := 0#32
  let c1_i32_69 : BitVec 32 := 1#32
  let arg8 : BitVec 32 := Scf.iv c0_i32_67 c1_i32_69 k0_t1
  let c16_i32_314 : BitVec 32 := 16#32
  let v321 : BitVec 32 := Scalar.muli arg8 c16_i32_314
  let v325 : Index := Scalar.indexCast v321
  ![0, 0, 13, v325.toNat]
def k0_off16 (k0_t1 : Fin k0_t1_loop.trips) : Fin 4 → Nat :=
  let c0_i32_318 : BitVec 32 := 0#32
  let v329 : Index := Scalar.indexCast c0_i32_318
  let c0_i32_319 : BitVec 32 := 0#32
  let v330 : Index := Scalar.indexCast c0_i32_319
  let c14_i32_320 : BitVec 32 := 14#32
  let v331 : Index := Scalar.indexCast c14_i32_320
  let c0_i32_67 : BitVec 32 := 0#32
  let c1_i32_69 : BitVec 32 := 1#32
  let arg8 : BitVec 32 := Scf.iv c0_i32_67 c1_i32_69 k0_t1
  let c16_i32_317 : BitVec 32 := 16#32
  let v328 : BitVec 32 := Scalar.muli arg8 c16_i32_317
  let v332 : Index := Scalar.indexCast v328
  ![0, 0, 14, v332.toNat]
def k0_off17 (k0_t1 : Fin k0_t1_loop.trips) : Fin 4 → Nat :=
  let c0_i32_322 : BitVec 32 := 0#32
  let v336 : Index := Scalar.indexCast c0_i32_322
  let c0_i32_323 : BitVec 32 := 0#32
  let v337 : Index := Scalar.indexCast c0_i32_323
  let c15_i32 : BitVec 32 := 15#32
  let v338 : Index := Scalar.indexCast c15_i32
  let c0_i32_67 : BitVec 32 := 0#32
  let c1_i32_69 : BitVec 32 := 1#32
  let arg8 : BitVec 32 := Scf.iv c0_i32_67 c1_i32_69 k0_t1
  let c16_i32_321 : BitVec 32 := 16#32
  let v335 : BitVec 32 := Scalar.muli arg8 c16_i32_321
  let v339 : Index := Scalar.indexCast v335
  ![0, 0, 15, v339.toNat]
def k0_off18 (k0_t1 : Fin k0_t1_loop.trips) : Fin 4 → Nat :=
  let c0_i32_325 : BitVec 32 := 0#32
  let v343 : Index := Scalar.indexCast c0_i32_325
  let c1_i32_326 : BitVec 32 := 1#32
  let v344 : Index := Scalar.indexCast c1_i32_326
  let c0_i32_327 : BitVec 32 := 0#32
  let v345 : Index := Scalar.indexCast c0_i32_327
  let c0_i32_67 : BitVec 32 := 0#32
  let c1_i32_69 : BitVec 32 := 1#32
  let arg8 : BitVec 32 := Scf.iv c0_i32_67 c1_i32_69 k0_t1
  let c16_i32_324 : BitVec 32 := 16#32
  let v342 : BitVec 32 := Scalar.muli arg8 c16_i32_324
  let v346 : Index := Scalar.indexCast v342
  ![0, 1, 0, v346.toNat]
def k0_off19 (k0_t1 : Fin k0_t1_loop.trips) : Fin 4 → Nat :=
  let c0_i32_329 : BitVec 32 := 0#32
  let v350 : Index := Scalar.indexCast c0_i32_329
  let c1_i32_330 : BitVec 32 := 1#32
  let v351 : Index := Scalar.indexCast c1_i32_330
  let c1_i32_331 : BitVec 32 := 1#32
  let v352 : Index := Scalar.indexCast c1_i32_331
  let c0_i32_67 : BitVec 32 := 0#32
  let c1_i32_69 : BitVec 32 := 1#32
  let arg8 : BitVec 32 := Scf.iv c0_i32_67 c1_i32_69 k0_t1
  let c16_i32_328 : BitVec 32 := 16#32
  let v349 : BitVec 32 := Scalar.muli arg8 c16_i32_328
  let v353 : Index := Scalar.indexCast v349
  ![0, 1, 1, v353.toNat]
def k0_off20 (k0_t1 : Fin k0_t1_loop.trips) : Fin 4 → Nat :=
  let c0_i32_333 : BitVec 32 := 0#32
  let v357 : Index := Scalar.indexCast c0_i32_333
  let c1_i32_334 : BitVec 32 := 1#32
  let v358 : Index := Scalar.indexCast c1_i32_334
  let c2_i32_335 : BitVec 32 := 2#32
  let v359 : Index := Scalar.indexCast c2_i32_335
  let c0_i32_67 : BitVec 32 := 0#32
  let c1_i32_69 : BitVec 32 := 1#32
  let arg8 : BitVec 32 := Scf.iv c0_i32_67 c1_i32_69 k0_t1
  let c16_i32_332 : BitVec 32 := 16#32
  let v356 : BitVec 32 := Scalar.muli arg8 c16_i32_332
  let v360 : Index := Scalar.indexCast v356
  ![0, 1, 2, v360.toNat]
def k0_off21 (k0_t1 : Fin k0_t1_loop.trips) : Fin 4 → Nat :=
  let c0_i32_337 : BitVec 32 := 0#32
  let v364 : Index := Scalar.indexCast c0_i32_337
  let c1_i32_338 : BitVec 32 := 1#32
  let v365 : Index := Scalar.indexCast c1_i32_338
  let c3_i32_339 : BitVec 32 := 3#32
  let v366 : Index := Scalar.indexCast c3_i32_339
  let c0_i32_67 : BitVec 32 := 0#32
  let c1_i32_69 : BitVec 32 := 1#32
  let arg8 : BitVec 32 := Scf.iv c0_i32_67 c1_i32_69 k0_t1
  let c16_i32_336 : BitVec 32 := 16#32
  let v363 : BitVec 32 := Scalar.muli arg8 c16_i32_336
  let v367 : Index := Scalar.indexCast v363
  ![0, 1, 3, v367.toNat]
def k0_off22 (k0_t1 : Fin k0_t1_loop.trips) : Fin 4 → Nat :=
  let c0_i32_341 : BitVec 32 := 0#32
  let v371 : Index := Scalar.indexCast c0_i32_341
  let c1_i32_342 : BitVec 32 := 1#32
  let v372 : Index := Scalar.indexCast c1_i32_342
  let c4_i32_343 : BitVec 32 := 4#32
  let v373 : Index := Scalar.indexCast c4_i32_343
  let c0_i32_67 : BitVec 32 := 0#32
  let c1_i32_69 : BitVec 32 := 1#32
  let arg8 : BitVec 32 := Scf.iv c0_i32_67 c1_i32_69 k0_t1
  let c16_i32_340 : BitVec 32 := 16#32
  let v370 : BitVec 32 := Scalar.muli arg8 c16_i32_340
  let v374 : Index := Scalar.indexCast v370
  ![0, 1, 4, v374.toNat]
def k0_off23 (k0_t1 : Fin k0_t1_loop.trips) : Fin 4 → Nat :=
  let c0_i32_345 : BitVec 32 := 0#32
  let v378 : Index := Scalar.indexCast c0_i32_345
  let c1_i32_346 : BitVec 32 := 1#32
  let v379 : Index := Scalar.indexCast c1_i32_346
  let c5_i32_347 : BitVec 32 := 5#32
  let v380 : Index := Scalar.indexCast c5_i32_347
  let c0_i32_67 : BitVec 32 := 0#32
  let c1_i32_69 : BitVec 32 := 1#32
  let arg8 : BitVec 32 := Scf.iv c0_i32_67 c1_i32_69 k0_t1
  let c16_i32_344 : BitVec 32 := 16#32
  let v377 : BitVec 32 := Scalar.muli arg8 c16_i32_344
  let v381 : Index := Scalar.indexCast v377
  ![0, 1, 5, v381.toNat]
def k0_off24 (k0_t1 : Fin k0_t1_loop.trips) : Fin 4 → Nat :=
  let c0_i32_349 : BitVec 32 := 0#32
  let v385 : Index := Scalar.indexCast c0_i32_349
  let c1_i32_350 : BitVec 32 := 1#32
  let v386 : Index := Scalar.indexCast c1_i32_350
  let c6_i32_351 : BitVec 32 := 6#32
  let v387 : Index := Scalar.indexCast c6_i32_351
  let c0_i32_67 : BitVec 32 := 0#32
  let c1_i32_69 : BitVec 32 := 1#32
  let arg8 : BitVec 32 := Scf.iv c0_i32_67 c1_i32_69 k0_t1
  let c16_i32_348 : BitVec 32 := 16#32
  let v384 : BitVec 32 := Scalar.muli arg8 c16_i32_348
  let v388 : Index := Scalar.indexCast v384
  ![0, 1, 6, v388.toNat]
def k0_off25 (k0_t1 : Fin k0_t1_loop.trips) : Fin 4 → Nat :=
  let c0_i32_353 : BitVec 32 := 0#32
  let v392 : Index := Scalar.indexCast c0_i32_353
  let c1_i32_354 : BitVec 32 := 1#32
  let v393 : Index := Scalar.indexCast c1_i32_354
  let c7_i32_355 : BitVec 32 := 7#32
  let v394 : Index := Scalar.indexCast c7_i32_355
  let c0_i32_67 : BitVec 32 := 0#32
  let c1_i32_69 : BitVec 32 := 1#32
  let arg8 : BitVec 32 := Scf.iv c0_i32_67 c1_i32_69 k0_t1
  let c16_i32_352 : BitVec 32 := 16#32
  let v391 : BitVec 32 := Scalar.muli arg8 c16_i32_352
  let v395 : Index := Scalar.indexCast v391
  ![0, 1, 7, v395.toNat]
def k0_off26 (k0_t1 : Fin k0_t1_loop.trips) : Fin 4 → Nat :=
  let c0_i32_357 : BitVec 32 := 0#32
  let v399 : Index := Scalar.indexCast c0_i32_357
  let c1_i32_358 : BitVec 32 := 1#32
  let v400 : Index := Scalar.indexCast c1_i32_358
  let c8_i32_359 : BitVec 32 := 8#32
  let v401 : Index := Scalar.indexCast c8_i32_359
  let c0_i32_67 : BitVec 32 := 0#32
  let c1_i32_69 : BitVec 32 := 1#32
  let arg8 : BitVec 32 := Scf.iv c0_i32_67 c1_i32_69 k0_t1
  let c16_i32_356 : BitVec 32 := 16#32
  let v398 : BitVec 32 := Scalar.muli arg8 c16_i32_356
  let v402 : Index := Scalar.indexCast v398
  ![0, 1, 8, v402.toNat]
def k0_off27 (k0_t1 : Fin k0_t1_loop.trips) : Fin 4 → Nat :=
  let c0_i32_361 : BitVec 32 := 0#32
  let v406 : Index := Scalar.indexCast c0_i32_361
  let c1_i32_362 : BitVec 32 := 1#32
  let v407 : Index := Scalar.indexCast c1_i32_362
  let c9_i32_363 : BitVec 32 := 9#32
  let v408 : Index := Scalar.indexCast c9_i32_363
  let c0_i32_67 : BitVec 32 := 0#32
  let c1_i32_69 : BitVec 32 := 1#32
  let arg8 : BitVec 32 := Scf.iv c0_i32_67 c1_i32_69 k0_t1
  let c16_i32_360 : BitVec 32 := 16#32
  let v405 : BitVec 32 := Scalar.muli arg8 c16_i32_360
  let v409 : Index := Scalar.indexCast v405
  ![0, 1, 9, v409.toNat]
def k0_off28 (k0_t1 : Fin k0_t1_loop.trips) : Fin 4 → Nat :=
  let c0_i32_365 : BitVec 32 := 0#32
  let v413 : Index := Scalar.indexCast c0_i32_365
  let c1_i32_366 : BitVec 32 := 1#32
  let v414 : Index := Scalar.indexCast c1_i32_366
  let c10_i32_367 : BitVec 32 := 10#32
  let v415 : Index := Scalar.indexCast c10_i32_367
  let c0_i32_67 : BitVec 32 := 0#32
  let c1_i32_69 : BitVec 32 := 1#32
  let arg8 : BitVec 32 := Scf.iv c0_i32_67 c1_i32_69 k0_t1
  let c16_i32_364 : BitVec 32 := 16#32
  let v412 : BitVec 32 := Scalar.muli arg8 c16_i32_364
  let v416 : Index := Scalar.indexCast v412
  ![0, 1, 10, v416.toNat]
def k0_off29 (k0_t1 : Fin k0_t1_loop.trips) : Fin 4 → Nat :=
  let c0_i32_369 : BitVec 32 := 0#32
  let v420 : Index := Scalar.indexCast c0_i32_369
  let c1_i32_370 : BitVec 32 := 1#32
  let v421 : Index := Scalar.indexCast c1_i32_370
  let c11_i32_371 : BitVec 32 := 11#32
  let v422 : Index := Scalar.indexCast c11_i32_371
  let c0_i32_67 : BitVec 32 := 0#32
  let c1_i32_69 : BitVec 32 := 1#32
  let arg8 : BitVec 32 := Scf.iv c0_i32_67 c1_i32_69 k0_t1
  let c16_i32_368 : BitVec 32 := 16#32
  let v419 : BitVec 32 := Scalar.muli arg8 c16_i32_368
  let v423 : Index := Scalar.indexCast v419
  ![0, 1, 11, v423.toNat]
def k0_off30 (k0_t1 : Fin k0_t1_loop.trips) : Fin 4 → Nat :=
  let c0_i32_373 : BitVec 32 := 0#32
  let v427 : Index := Scalar.indexCast c0_i32_373
  let c1_i32_374 : BitVec 32 := 1#32
  let v428 : Index := Scalar.indexCast c1_i32_374
  let c12_i32_375 : BitVec 32 := 12#32
  let v429 : Index := Scalar.indexCast c12_i32_375
  let c0_i32_67 : BitVec 32 := 0#32
  let c1_i32_69 : BitVec 32 := 1#32
  let arg8 : BitVec 32 := Scf.iv c0_i32_67 c1_i32_69 k0_t1
  let c16_i32_372 : BitVec 32 := 16#32
  let v426 : BitVec 32 := Scalar.muli arg8 c16_i32_372
  let v430 : Index := Scalar.indexCast v426
  ![0, 1, 12, v430.toNat]
def k0_off31 (k0_t1 : Fin k0_t1_loop.trips) : Fin 4 → Nat :=
  let c0_i32_377 : BitVec 32 := 0#32
  let v434 : Index := Scalar.indexCast c0_i32_377
  let c1_i32_378 : BitVec 32 := 1#32
  let v435 : Index := Scalar.indexCast c1_i32_378
  let c13_i32_379 : BitVec 32 := 13#32
  let v436 : Index := Scalar.indexCast c13_i32_379
  let c0_i32_67 : BitVec 32 := 0#32
  let c1_i32_69 : BitVec 32 := 1#32
  let arg8 : BitVec 32 := Scf.iv c0_i32_67 c1_i32_69 k0_t1
  let c16_i32_376 : BitVec 32 := 16#32
  let v433 : BitVec 32 := Scalar.muli arg8 c16_i32_376
  let v437 : Index := Scalar.indexCast v433
  ![0, 1, 13, v437.toNat]
def k0_off32 (k0_t1 : Fin k0_t1_loop.trips) : Fin 4 → Nat :=
  let c0_i32_381 : BitVec 32 := 0#32
  let v441 : Index := Scalar.indexCast c0_i32_381
  let c1_i32_382 : BitVec 32 := 1#32
  let v442 : Index := Scalar.indexCast c1_i32_382
  let c14_i32_383 : BitVec 32 := 14#32
  let v443 : Index := Scalar.indexCast c14_i32_383
  let c0_i32_67 : BitVec 32 := 0#32
  let c1_i32_69 : BitVec 32 := 1#32
  let arg8 : BitVec 32 := Scf.iv c0_i32_67 c1_i32_69 k0_t1
  let c16_i32_380 : BitVec 32 := 16#32
  let v440 : BitVec 32 := Scalar.muli arg8 c16_i32_380
  let v444 : Index := Scalar.indexCast v440
  ![0, 1, 14, v444.toNat]
def k0_off33 (k0_t1 : Fin k0_t1_loop.trips) : Fin 4 → Nat :=
  let c0_i32_385 : BitVec 32 := 0#32
  let v448 : Index := Scalar.indexCast c0_i32_385
  let c1_i32_386 : BitVec 32 := 1#32
  let v449 : Index := Scalar.indexCast c1_i32_386
  let c15_i32_387 : BitVec 32 := 15#32
  let v450 : Index := Scalar.indexCast c15_i32_387
  let c0_i32_67 : BitVec 32 := 0#32
  let c1_i32_69 : BitVec 32 := 1#32
  let arg8 : BitVec 32 := Scf.iv c0_i32_67 c1_i32_69 k0_t1
  let c16_i32_384 : BitVec 32 := 16#32
  let v447 : BitVec 32 := Scalar.muli arg8 c16_i32_384
  let v451 : Index := Scalar.indexCast v447
  ![0, 1, 15, v451.toNat]
def k0_off34 (k0_t1 : Fin k0_t1_loop.trips) : Fin 4 → Nat :=
  let c0_i32_389 : BitVec 32 := 0#32
  let v455 : Index := Scalar.indexCast c0_i32_389
  let c2_i32_390 : BitVec 32 := 2#32
  let v456 : Index := Scalar.indexCast c2_i32_390
  let c0_i32_391 : BitVec 32 := 0#32
  let v457 : Index := Scalar.indexCast c0_i32_391
  let c0_i32_67 : BitVec 32 := 0#32
  let c1_i32_69 : BitVec 32 := 1#32
  let arg8 : BitVec 32 := Scf.iv c0_i32_67 c1_i32_69 k0_t1
  let c16_i32_388 : BitVec 32 := 16#32
  let v454 : BitVec 32 := Scalar.muli arg8 c16_i32_388
  let v458 : Index := Scalar.indexCast v454
  ![0, 2, 0, v458.toNat]
def k0_off35 (k0_t1 : Fin k0_t1_loop.trips) : Fin 4 → Nat :=
  let c0_i32_393 : BitVec 32 := 0#32
  let v462 : Index := Scalar.indexCast c0_i32_393
  let c2_i32_394 : BitVec 32 := 2#32
  let v463 : Index := Scalar.indexCast c2_i32_394
  let c1_i32_395 : BitVec 32 := 1#32
  let v464 : Index := Scalar.indexCast c1_i32_395
  let c0_i32_67 : BitVec 32 := 0#32
  let c1_i32_69 : BitVec 32 := 1#32
  let arg8 : BitVec 32 := Scf.iv c0_i32_67 c1_i32_69 k0_t1
  let c16_i32_392 : BitVec 32 := 16#32
  let v461 : BitVec 32 := Scalar.muli arg8 c16_i32_392
  let v465 : Index := Scalar.indexCast v461
  ![0, 2, 1, v465.toNat]
def k0_off36 (k0_t1 : Fin k0_t1_loop.trips) : Fin 4 → Nat :=
  let c0_i32_397 : BitVec 32 := 0#32
  let v469 : Index := Scalar.indexCast c0_i32_397
  let c2_i32_398 : BitVec 32 := 2#32
  let v470 : Index := Scalar.indexCast c2_i32_398
  let c2_i32_399 : BitVec 32 := 2#32
  let v471 : Index := Scalar.indexCast c2_i32_399
  let c0_i32_67 : BitVec 32 := 0#32
  let c1_i32_69 : BitVec 32 := 1#32
  let arg8 : BitVec 32 := Scf.iv c0_i32_67 c1_i32_69 k0_t1
  let c16_i32_396 : BitVec 32 := 16#32
  let v468 : BitVec 32 := Scalar.muli arg8 c16_i32_396
  let v472 : Index := Scalar.indexCast v468
  ![0, 2, 2, v472.toNat]
def k0_off37 (k0_t1 : Fin k0_t1_loop.trips) : Fin 4 → Nat :=
  let c0_i32_401 : BitVec 32 := 0#32
  let v476 : Index := Scalar.indexCast c0_i32_401
  let c2_i32_402 : BitVec 32 := 2#32
  let v477 : Index := Scalar.indexCast c2_i32_402
  let c3_i32_403 : BitVec 32 := 3#32
  let v478 : Index := Scalar.indexCast c3_i32_403
  let c0_i32_67 : BitVec 32 := 0#32
  let c1_i32_69 : BitVec 32 := 1#32
  let arg8 : BitVec 32 := Scf.iv c0_i32_67 c1_i32_69 k0_t1
  let c16_i32_400 : BitVec 32 := 16#32
  let v475 : BitVec 32 := Scalar.muli arg8 c16_i32_400
  let v479 : Index := Scalar.indexCast v475
  ![0, 2, 3, v479.toNat]
def k0_off38 (k0_t1 : Fin k0_t1_loop.trips) : Fin 4 → Nat :=
  let c0_i32_405 : BitVec 32 := 0#32
  let v483 : Index := Scalar.indexCast c0_i32_405
  let c2_i32_406 : BitVec 32 := 2#32
  let v484 : Index := Scalar.indexCast c2_i32_406
  let c4_i32_407 : BitVec 32 := 4#32
  let v485 : Index := Scalar.indexCast c4_i32_407
  let c0_i32_67 : BitVec 32 := 0#32
  let c1_i32_69 : BitVec 32 := 1#32
  let arg8 : BitVec 32 := Scf.iv c0_i32_67 c1_i32_69 k0_t1
  let c16_i32_404 : BitVec 32 := 16#32
  let v482 : BitVec 32 := Scalar.muli arg8 c16_i32_404
  let v486 : Index := Scalar.indexCast v482
  ![0, 2, 4, v486.toNat]
def k0_off39 (k0_t1 : Fin k0_t1_loop.trips) : Fin 4 → Nat :=
  let c0_i32_409 : BitVec 32 := 0#32
  let v490 : Index := Scalar.indexCast c0_i32_409
  let c2_i32_410 : BitVec 32 := 2#32
  let v491 : Index := Scalar.indexCast c2_i32_410
  let c5_i32_411 : BitVec 32 := 5#32
  let v492 : Index := Scalar.indexCast c5_i32_411
  let c0_i32_67 : BitVec 32 := 0#32
  let c1_i32_69 : BitVec 32 := 1#32
  let arg8 : BitVec 32 := Scf.iv c0_i32_67 c1_i32_69 k0_t1
  let c16_i32_408 : BitVec 32 := 16#32
  let v489 : BitVec 32 := Scalar.muli arg8 c16_i32_408
  let v493 : Index := Scalar.indexCast v489
  ![0, 2, 5, v493.toNat]
def k0_off40 (k0_t1 : Fin k0_t1_loop.trips) : Fin 4 → Nat :=
  let c0_i32_413 : BitVec 32 := 0#32
  let v497 : Index := Scalar.indexCast c0_i32_413
  let c2_i32_414 : BitVec 32 := 2#32
  let v498 : Index := Scalar.indexCast c2_i32_414
  let c6_i32_415 : BitVec 32 := 6#32
  let v499 : Index := Scalar.indexCast c6_i32_415
  let c0_i32_67 : BitVec 32 := 0#32
  let c1_i32_69 : BitVec 32 := 1#32
  let arg8 : BitVec 32 := Scf.iv c0_i32_67 c1_i32_69 k0_t1
  let c16_i32_412 : BitVec 32 := 16#32
  let v496 : BitVec 32 := Scalar.muli arg8 c16_i32_412
  let v500 : Index := Scalar.indexCast v496
  ![0, 2, 6, v500.toNat]
def k0_off41 (k0_t1 : Fin k0_t1_loop.trips) : Fin 4 → Nat :=
  let c0_i32_417 : BitVec 32 := 0#32
  let v504 : Index := Scalar.indexCast c0_i32_417
  let c2_i32_418 : BitVec 32 := 2#32
  let v505 : Index := Scalar.indexCast c2_i32_418
  let c7_i32_419 : BitVec 32 := 7#32
  let v506 : Index := Scalar.indexCast c7_i32_419
  let c0_i32_67 : BitVec 32 := 0#32
  let c1_i32_69 : BitVec 32 := 1#32
  let arg8 : BitVec 32 := Scf.iv c0_i32_67 c1_i32_69 k0_t1
  let c16_i32_416 : BitVec 32 := 16#32
  let v503 : BitVec 32 := Scalar.muli arg8 c16_i32_416
  let v507 : Index := Scalar.indexCast v503
  ![0, 2, 7, v507.toNat]
def k0_off42 (k0_t1 : Fin k0_t1_loop.trips) : Fin 4 → Nat :=
  let c0_i32_421 : BitVec 32 := 0#32
  let v511 : Index := Scalar.indexCast c0_i32_421
  let c2_i32_422 : BitVec 32 := 2#32
  let v512 : Index := Scalar.indexCast c2_i32_422
  let c8_i32_423 : BitVec 32 := 8#32
  let v513 : Index := Scalar.indexCast c8_i32_423
  let c0_i32_67 : BitVec 32 := 0#32
  let c1_i32_69 : BitVec 32 := 1#32
  let arg8 : BitVec 32 := Scf.iv c0_i32_67 c1_i32_69 k0_t1
  let c16_i32_420 : BitVec 32 := 16#32
  let v510 : BitVec 32 := Scalar.muli arg8 c16_i32_420
  let v514 : Index := Scalar.indexCast v510
  ![0, 2, 8, v514.toNat]
def k0_off43 (k0_t1 : Fin k0_t1_loop.trips) : Fin 4 → Nat :=
  let c0_i32_425 : BitVec 32 := 0#32
  let v518 : Index := Scalar.indexCast c0_i32_425
  let c2_i32_426 : BitVec 32 := 2#32
  let v519 : Index := Scalar.indexCast c2_i32_426
  let c9_i32_427 : BitVec 32 := 9#32
  let v520 : Index := Scalar.indexCast c9_i32_427
  let c0_i32_67 : BitVec 32 := 0#32
  let c1_i32_69 : BitVec 32 := 1#32
  let arg8 : BitVec 32 := Scf.iv c0_i32_67 c1_i32_69 k0_t1
  let c16_i32_424 : BitVec 32 := 16#32
  let v517 : BitVec 32 := Scalar.muli arg8 c16_i32_424
  let v521 : Index := Scalar.indexCast v517
  ![0, 2, 9, v521.toNat]
def k0_off44 (k0_t1 : Fin k0_t1_loop.trips) : Fin 4 → Nat :=
  let c0_i32_429 : BitVec 32 := 0#32
  let v525 : Index := Scalar.indexCast c0_i32_429
  let c2_i32_430 : BitVec 32 := 2#32
  let v526 : Index := Scalar.indexCast c2_i32_430
  let c10_i32_431 : BitVec 32 := 10#32
  let v527 : Index := Scalar.indexCast c10_i32_431
  let c0_i32_67 : BitVec 32 := 0#32
  let c1_i32_69 : BitVec 32 := 1#32
  let arg8 : BitVec 32 := Scf.iv c0_i32_67 c1_i32_69 k0_t1
  let c16_i32_428 : BitVec 32 := 16#32
  let v524 : BitVec 32 := Scalar.muli arg8 c16_i32_428
  let v528 : Index := Scalar.indexCast v524
  ![0, 2, 10, v528.toNat]
def k0_off45 (k0_t1 : Fin k0_t1_loop.trips) : Fin 4 → Nat :=
  let c0_i32_433 : BitVec 32 := 0#32
  let v532 : Index := Scalar.indexCast c0_i32_433
  let c2_i32_434 : BitVec 32 := 2#32
  let v533 : Index := Scalar.indexCast c2_i32_434
  let c11_i32_435 : BitVec 32 := 11#32
  let v534 : Index := Scalar.indexCast c11_i32_435
  let c0_i32_67 : BitVec 32 := 0#32
  let c1_i32_69 : BitVec 32 := 1#32
  let arg8 : BitVec 32 := Scf.iv c0_i32_67 c1_i32_69 k0_t1
  let c16_i32_432 : BitVec 32 := 16#32
  let v531 : BitVec 32 := Scalar.muli arg8 c16_i32_432
  let v535 : Index := Scalar.indexCast v531
  ![0, 2, 11, v535.toNat]
def k0_off46 (k0_t1 : Fin k0_t1_loop.trips) : Fin 4 → Nat :=
  let c0_i32_437 : BitVec 32 := 0#32
  let v539 : Index := Scalar.indexCast c0_i32_437
  let c2_i32_438 : BitVec 32 := 2#32
  let v540 : Index := Scalar.indexCast c2_i32_438
  let c12_i32_439 : BitVec 32 := 12#32
  let v541 : Index := Scalar.indexCast c12_i32_439
  let c0_i32_67 : BitVec 32 := 0#32
  let c1_i32_69 : BitVec 32 := 1#32
  let arg8 : BitVec 32 := Scf.iv c0_i32_67 c1_i32_69 k0_t1
  let c16_i32_436 : BitVec 32 := 16#32
  let v538 : BitVec 32 := Scalar.muli arg8 c16_i32_436
  let v542 : Index := Scalar.indexCast v538
  ![0, 2, 12, v542.toNat]
def k0_off47 (k0_t1 : Fin k0_t1_loop.trips) : Fin 4 → Nat :=
  let c0_i32_441 : BitVec 32 := 0#32
  let v546 : Index := Scalar.indexCast c0_i32_441
  let c2_i32_442 : BitVec 32 := 2#32
  let v547 : Index := Scalar.indexCast c2_i32_442
  let c13_i32_443 : BitVec 32 := 13#32
  let v548 : Index := Scalar.indexCast c13_i32_443
  let c0_i32_67 : BitVec 32 := 0#32
  let c1_i32_69 : BitVec 32 := 1#32
  let arg8 : BitVec 32 := Scf.iv c0_i32_67 c1_i32_69 k0_t1
  let c16_i32_440 : BitVec 32 := 16#32
  let v545 : BitVec 32 := Scalar.muli arg8 c16_i32_440
  let v549 : Index := Scalar.indexCast v545
  ![0, 2, 13, v549.toNat]
def k0_off48 (k0_t1 : Fin k0_t1_loop.trips) : Fin 4 → Nat :=
  let c0_i32_445 : BitVec 32 := 0#32
  let v553 : Index := Scalar.indexCast c0_i32_445
  let c2_i32_446 : BitVec 32 := 2#32
  let v554 : Index := Scalar.indexCast c2_i32_446
  let c14_i32_447 : BitVec 32 := 14#32
  let v555 : Index := Scalar.indexCast c14_i32_447
  let c0_i32_67 : BitVec 32 := 0#32
  let c1_i32_69 : BitVec 32 := 1#32
  let arg8 : BitVec 32 := Scf.iv c0_i32_67 c1_i32_69 k0_t1
  let c16_i32_444 : BitVec 32 := 16#32
  let v552 : BitVec 32 := Scalar.muli arg8 c16_i32_444
  let v556 : Index := Scalar.indexCast v552
  ![0, 2, 14, v556.toNat]
def k0_off49 (k0_t1 : Fin k0_t1_loop.trips) : Fin 4 → Nat :=
  let c0_i32_449 : BitVec 32 := 0#32
  let v560 : Index := Scalar.indexCast c0_i32_449
  let c2_i32_450 : BitVec 32 := 2#32
  let v561 : Index := Scalar.indexCast c2_i32_450
  let c15_i32_451 : BitVec 32 := 15#32
  let v562 : Index := Scalar.indexCast c15_i32_451
  let c0_i32_67 : BitVec 32 := 0#32
  let c1_i32_69 : BitVec 32 := 1#32
  let arg8 : BitVec 32 := Scf.iv c0_i32_67 c1_i32_69 k0_t1
  let c16_i32_448 : BitVec 32 := 16#32
  let v559 : BitVec 32 := Scalar.muli arg8 c16_i32_448
  let v563 : Index := Scalar.indexCast v559
  ![0, 2, 15, v563.toNat]
def k0_off50 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v566 : Index := Scalar.indexCast arg8
  let c0_i32_452 : BitVec 32 := 0#32
  let v567 : Index := Scalar.indexCast c0_i32_452
  let c0 : Index := 0#32
  ![v566.toNat, 0, 0]
def k0_off51 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v571 : Index := Scalar.indexCast arg8
  let c0_i32_453 : BitVec 32 := 0#32
  let v572 : Index := Scalar.indexCast c0_i32_453
  let c16 : Index := 16#32
  ![v571.toNat, 0, 16]
def k0_off52 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v576 : Index := Scalar.indexCast arg8
  let c0_i32_454 : BitVec 32 := 0#32
  let v577 : Index := Scalar.indexCast c0_i32_454
  let c32 : Index := 32#32
  ![v576.toNat, 0, 32]
def k0_off53 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v581 : Index := Scalar.indexCast arg8
  let c0_i32_455 : BitVec 32 := 0#32
  let v582 : Index := Scalar.indexCast c0_i32_455
  let c48 : Index := 48#32
  ![v581.toNat, 0, 48]
def k0_off54 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v586 : Index := Scalar.indexCast arg8
  let c0_i32_456 : BitVec 32 := 0#32
  let v587 : Index := Scalar.indexCast c0_i32_456
  let c64 : Index := 64#32
  ![v586.toNat, 0, 64]
def k0_off55 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v591 : Index := Scalar.indexCast arg8
  let c0_i32_457 : BitVec 32 := 0#32
  let v592 : Index := Scalar.indexCast c0_i32_457
  let c80 : Index := 80#32
  ![v591.toNat, 0, 80]
def k0_off56 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v596 : Index := Scalar.indexCast arg8
  let c0_i32_458 : BitVec 32 := 0#32
  let v597 : Index := Scalar.indexCast c0_i32_458
  let c96 : Index := 96#32
  ![v596.toNat, 0, 96]
def k0_off57 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v601 : Index := Scalar.indexCast arg8
  let c0_i32_459 : BitVec 32 := 0#32
  let v602 : Index := Scalar.indexCast c0_i32_459
  let c112 : Index := 112#32
  ![v601.toNat, 0, 112]
def k0_off58 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v606 : Index := Scalar.indexCast arg8
  let c0_i32_460 : BitVec 32 := 0#32
  let v607 : Index := Scalar.indexCast c0_i32_460
  let c128 : Index := 128#32
  ![v606.toNat, 0, 128]
def k0_off59 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v611 : Index := Scalar.indexCast arg8
  let c0_i32_461 : BitVec 32 := 0#32
  let v612 : Index := Scalar.indexCast c0_i32_461
  let c144 : Index := 144#32
  ![v611.toNat, 0, 144]
def k0_off60 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v616 : Index := Scalar.indexCast arg8
  let c0_i32_462 : BitVec 32 := 0#32
  let v617 : Index := Scalar.indexCast c0_i32_462
  let c160 : Index := 160#32
  ![v616.toNat, 0, 160]
def k0_off61 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v621 : Index := Scalar.indexCast arg8
  let c0_i32_463 : BitVec 32 := 0#32
  let v622 : Index := Scalar.indexCast c0_i32_463
  let c176 : Index := 176#32
  ![v621.toNat, 0, 176]
def k0_off62 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v626 : Index := Scalar.indexCast arg8
  let c0_i32_464 : BitVec 32 := 0#32
  let v627 : Index := Scalar.indexCast c0_i32_464
  let c192 : Index := 192#32
  ![v626.toNat, 0, 192]
def k0_off63 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v631 : Index := Scalar.indexCast arg8
  let c0_i32_465 : BitVec 32 := 0#32
  let v632 : Index := Scalar.indexCast c0_i32_465
  let c208 : Index := 208#32
  ![v631.toNat, 0, 208]
def k0_off64 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v636 : Index := Scalar.indexCast arg8
  let c0_i32_466 : BitVec 32 := 0#32
  let v637 : Index := Scalar.indexCast c0_i32_466
  let c224 : Index := 224#32
  ![v636.toNat, 0, 224]
def k0_off65 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v641 : Index := Scalar.indexCast arg8
  let c0_i32_467 : BitVec 32 := 0#32
  let v642 : Index := Scalar.indexCast c0_i32_467
  let c240 : Index := 240#32
  ![v641.toNat, 0, 240]
def k0_off66 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v646 : Index := Scalar.indexCast arg8
  let c0_i32_468 : BitVec 32 := 0#32
  let v647 : Index := Scalar.indexCast c0_i32_468
  let c256 : Index := 256#32
  ![v646.toNat, 0, 256]
def k0_off67 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v651 : Index := Scalar.indexCast arg8
  let c0_i32_469 : BitVec 32 := 0#32
  let v652 : Index := Scalar.indexCast c0_i32_469
  let c272 : Index := 272#32
  ![v651.toNat, 0, 272]
def k0_off68 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v656 : Index := Scalar.indexCast arg8
  let c0_i32_470 : BitVec 32 := 0#32
  let v657 : Index := Scalar.indexCast c0_i32_470
  let c288 : Index := 288#32
  ![v656.toNat, 0, 288]
def k0_off69 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v661 : Index := Scalar.indexCast arg8
  let c0_i32_471 : BitVec 32 := 0#32
  let v662 : Index := Scalar.indexCast c0_i32_471
  let c304 : Index := 304#32
  ![v661.toNat, 0, 304]
def k0_off70 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v666 : Index := Scalar.indexCast arg8
  let c0_i32_472 : BitVec 32 := 0#32
  let v667 : Index := Scalar.indexCast c0_i32_472
  let c320 : Index := 320#32
  ![v666.toNat, 0, 320]
def k0_off71 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v671 : Index := Scalar.indexCast arg8
  let c0_i32_473 : BitVec 32 := 0#32
  let v672 : Index := Scalar.indexCast c0_i32_473
  let c336 : Index := 336#32
  ![v671.toNat, 0, 336]
def k0_off72 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v676 : Index := Scalar.indexCast arg8
  let c0_i32_474 : BitVec 32 := 0#32
  let v677 : Index := Scalar.indexCast c0_i32_474
  let c352 : Index := 352#32
  ![v676.toNat, 0, 352]
def k0_off73 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v681 : Index := Scalar.indexCast arg8
  let c0_i32_475 : BitVec 32 := 0#32
  let v682 : Index := Scalar.indexCast c0_i32_475
  let c368 : Index := 368#32
  ![v681.toNat, 0, 368]
def k0_off74 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v686 : Index := Scalar.indexCast arg8
  let c0_i32_476 : BitVec 32 := 0#32
  let v687 : Index := Scalar.indexCast c0_i32_476
  let c384 : Index := 384#32
  ![v686.toNat, 0, 384]
def k0_off75 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v691 : Index := Scalar.indexCast arg8
  let c0_i32_477 : BitVec 32 := 0#32
  let v692 : Index := Scalar.indexCast c0_i32_477
  let c400 : Index := 400#32
  ![v691.toNat, 0, 400]
def k0_off76 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v696 : Index := Scalar.indexCast arg8
  let c0_i32_478 : BitVec 32 := 0#32
  let v697 : Index := Scalar.indexCast c0_i32_478
  let c416 : Index := 416#32
  ![v696.toNat, 0, 416]
def k0_off77 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v701 : Index := Scalar.indexCast arg8
  let c0_i32_479 : BitVec 32 := 0#32
  let v702 : Index := Scalar.indexCast c0_i32_479
  let c432 : Index := 432#32
  ![v701.toNat, 0, 432]
def k0_off78 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v706 : Index := Scalar.indexCast arg8
  let c0_i32_480 : BitVec 32 := 0#32
  let v707 : Index := Scalar.indexCast c0_i32_480
  let c448 : Index := 448#32
  ![v706.toNat, 0, 448]
def k0_off79 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v711 : Index := Scalar.indexCast arg8
  let c0_i32_481 : BitVec 32 := 0#32
  let v712 : Index := Scalar.indexCast c0_i32_481
  let c464 : Index := 464#32
  ![v711.toNat, 0, 464]
def k0_off80 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v716 : Index := Scalar.indexCast arg8
  let c0_i32_482 : BitVec 32 := 0#32
  let v717 : Index := Scalar.indexCast c0_i32_482
  let c480 : Index := 480#32
  ![v716.toNat, 0, 480]
def k0_off81 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v721 : Index := Scalar.indexCast arg8
  let c0_i32_483 : BitVec 32 := 0#32
  let v722 : Index := Scalar.indexCast c0_i32_483
  let c496 : Index := 496#32
  ![v721.toNat, 0, 496]
def k0_off82 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v726 : Index := Scalar.indexCast arg8
  let c0_i32_484 : BitVec 32 := 0#32
  let v727 : Index := Scalar.indexCast c0_i32_484
  let c512 : Index := 512#32
  ![v726.toNat, 0, 512]
def k0_off83 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v731 : Index := Scalar.indexCast arg8
  let c0_i32_485 : BitVec 32 := 0#32
  let v732 : Index := Scalar.indexCast c0_i32_485
  let c528 : Index := 528#32
  ![v731.toNat, 0, 528]
def k0_off84 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v736 : Index := Scalar.indexCast arg8
  let c0_i32_486 : BitVec 32 := 0#32
  let v737 : Index := Scalar.indexCast c0_i32_486
  let c544 : Index := 544#32
  ![v736.toNat, 0, 544]
def k0_off85 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v741 : Index := Scalar.indexCast arg8
  let c0_i32_487 : BitVec 32 := 0#32
  let v742 : Index := Scalar.indexCast c0_i32_487
  let c560 : Index := 560#32
  ![v741.toNat, 0, 560]
def k0_off86 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v746 : Index := Scalar.indexCast arg8
  let c0_i32_488 : BitVec 32 := 0#32
  let v747 : Index := Scalar.indexCast c0_i32_488
  let c576 : Index := 576#32
  ![v746.toNat, 0, 576]
def k0_off87 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v751 : Index := Scalar.indexCast arg8
  let c0_i32_489 : BitVec 32 := 0#32
  let v752 : Index := Scalar.indexCast c0_i32_489
  let c592 : Index := 592#32
  ![v751.toNat, 0, 592]
def k0_off88 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v756 : Index := Scalar.indexCast arg8
  let c0_i32_490 : BitVec 32 := 0#32
  let v757 : Index := Scalar.indexCast c0_i32_490
  let c608 : Index := 608#32
  ![v756.toNat, 0, 608]
def k0_off89 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v761 : Index := Scalar.indexCast arg8
  let c0_i32_491 : BitVec 32 := 0#32
  let v762 : Index := Scalar.indexCast c0_i32_491
  let c624 : Index := 624#32
  ![v761.toNat, 0, 624]
def k0_off90 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v766 : Index := Scalar.indexCast arg8
  let c0_i32_492 : BitVec 32 := 0#32
  let v767 : Index := Scalar.indexCast c0_i32_492
  let c640 : Index := 640#32
  ![v766.toNat, 0, 640]
def k0_off91 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v771 : Index := Scalar.indexCast arg8
  let c0_i32_493 : BitVec 32 := 0#32
  let v772 : Index := Scalar.indexCast c0_i32_493
  let c656 : Index := 656#32
  ![v771.toNat, 0, 656]
def k0_off92 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v776 : Index := Scalar.indexCast arg8
  let c0_i32_494 : BitVec 32 := 0#32
  let v777 : Index := Scalar.indexCast c0_i32_494
  let c672 : Index := 672#32
  ![v776.toNat, 0, 672]
def k0_off93 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v781 : Index := Scalar.indexCast arg8
  let c0_i32_495 : BitVec 32 := 0#32
  let v782 : Index := Scalar.indexCast c0_i32_495
  let c688 : Index := 688#32
  ![v781.toNat, 0, 688]
def k0_off94 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v786 : Index := Scalar.indexCast arg8
  let c0_i32_496 : BitVec 32 := 0#32
  let v787 : Index := Scalar.indexCast c0_i32_496
  let c704 : Index := 704#32
  ![v786.toNat, 0, 704]
def k0_off95 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v791 : Index := Scalar.indexCast arg8
  let c0_i32_497 : BitVec 32 := 0#32
  let v792 : Index := Scalar.indexCast c0_i32_497
  let c720 : Index := 720#32
  ![v791.toNat, 0, 720]
def k0_off96 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v796 : Index := Scalar.indexCast arg8
  let c0_i32_498 : BitVec 32 := 0#32
  let v797 : Index := Scalar.indexCast c0_i32_498
  let c736 : Index := 736#32
  ![v796.toNat, 0, 736]
def k0_off97 (k0_t1 : Fin k0_t1_loop.trips) : Fin 3 → Nat :=
  let c0_i32_67 : BitVec 32 := 0#32
  let c1_i32_69 : BitVec 32 := 1#32
  let arg8 : BitVec 32 := Scf.iv c0_i32_67 c1_i32_69 k0_t1
  let v801 : Index := Scalar.indexCast arg8
  let c0_i32_499 : BitVec 32 := 0#32
  let v802 : Index := Scalar.indexCast c0_i32_499
  let c752 : Index := 752#32
  ![v801.toNat, 0, 752]
@[reducible] def k0_t2_loop : Scf.Loop 32 :=
  let c0_i32_98 : BitVec 32 := 0#32
  let c14_i32_99 : BitVec 32 := 14#32
  let v105 : BitVec 32 := Scalar.addi c0_i32_98 c14_i32_99
  let c1_i32_100 : BitVec 32 := 1#32
  ⟨c0_i32_98, v105, c1_i32_100⟩
def k0_off98 (k0_t2 : Fin k0_t2_loop.trips) : Fin 4 → Nat :=
  let c1_i32_267 : BitVec 32 := 1#32
  let v231 : Index := Scalar.indexCast c1_i32_267
  let c0_i32_268 : BitVec 32 := 0#32
  let v232 : Index := Scalar.indexCast c0_i32_268
  let c0_i32_269 : BitVec 32 := 0#32
  let v233 : Index := Scalar.indexCast c0_i32_269
  let c0_i32_98 : BitVec 32 := 0#32
  let c1_i32_100 : BitVec 32 := 1#32
  let arg8 : BitVec 32 := Scf.iv c0_i32_98 c1_i32_100 k0_t2
  let c16_i32_266 : BitVec 32 := 16#32
  let v230 : BitVec 32 := Scalar.muli arg8 c16_i32_266
  let v234 : Index := Scalar.indexCast v230
  ![1, 0, 0, v234.toNat]
def k0_off99 (k0_t2 : Fin k0_t2_loop.trips) : Fin 4 → Nat :=
  let c1_i32_271 : BitVec 32 := 1#32
  let v238 : Index := Scalar.indexCast c1_i32_271
  let c0_i32_272 : BitVec 32 := 0#32
  let v239 : Index := Scalar.indexCast c0_i32_272
  let c1_i32_273 : BitVec 32 := 1#32
  let v240 : Index := Scalar.indexCast c1_i32_273
  let c0_i32_98 : BitVec 32 := 0#32
  let c1_i32_100 : BitVec 32 := 1#32
  let arg8 : BitVec 32 := Scf.iv c0_i32_98 c1_i32_100 k0_t2
  let c16_i32_270 : BitVec 32 := 16#32
  let v237 : BitVec 32 := Scalar.muli arg8 c16_i32_270
  let v241 : Index := Scalar.indexCast v237
  ![1, 0, 1, v241.toNat]
def k0_off100 (k0_t2 : Fin k0_t2_loop.trips) : Fin 4 → Nat :=
  let c1_i32_275 : BitVec 32 := 1#32
  let v245 : Index := Scalar.indexCast c1_i32_275
  let c0_i32_276 : BitVec 32 := 0#32
  let v246 : Index := Scalar.indexCast c0_i32_276
  let c2_i32_277 : BitVec 32 := 2#32
  let v247 : Index := Scalar.indexCast c2_i32_277
  let c0_i32_98 : BitVec 32 := 0#32
  let c1_i32_100 : BitVec 32 := 1#32
  let arg8 : BitVec 32 := Scf.iv c0_i32_98 c1_i32_100 k0_t2
  let c16_i32_274 : BitVec 32 := 16#32
  let v244 : BitVec 32 := Scalar.muli arg8 c16_i32_274
  let v248 : Index := Scalar.indexCast v244
  ![1, 0, 2, v248.toNat]
def k0_off101 (k0_t2 : Fin k0_t2_loop.trips) : Fin 4 → Nat :=
  let c1_i32_279 : BitVec 32 := 1#32
  let v252 : Index := Scalar.indexCast c1_i32_279
  let c0_i32_280 : BitVec 32 := 0#32
  let v253 : Index := Scalar.indexCast c0_i32_280
  let c3_i32_281 : BitVec 32 := 3#32
  let v254 : Index := Scalar.indexCast c3_i32_281
  let c0_i32_98 : BitVec 32 := 0#32
  let c1_i32_100 : BitVec 32 := 1#32
  let arg8 : BitVec 32 := Scf.iv c0_i32_98 c1_i32_100 k0_t2
  let c16_i32_278 : BitVec 32 := 16#32
  let v251 : BitVec 32 := Scalar.muli arg8 c16_i32_278
  let v255 : Index := Scalar.indexCast v251
  ![1, 0, 3, v255.toNat]
def k0_off102 (k0_t2 : Fin k0_t2_loop.trips) : Fin 4 → Nat :=
  let c1_i32_283 : BitVec 32 := 1#32
  let v259 : Index := Scalar.indexCast c1_i32_283
  let c0_i32_284 : BitVec 32 := 0#32
  let v260 : Index := Scalar.indexCast c0_i32_284
  let c4_i32_285 : BitVec 32 := 4#32
  let v261 : Index := Scalar.indexCast c4_i32_285
  let c0_i32_98 : BitVec 32 := 0#32
  let c1_i32_100 : BitVec 32 := 1#32
  let arg8 : BitVec 32 := Scf.iv c0_i32_98 c1_i32_100 k0_t2
  let c16_i32_282 : BitVec 32 := 16#32
  let v258 : BitVec 32 := Scalar.muli arg8 c16_i32_282
  let v262 : Index := Scalar.indexCast v258
  ![1, 0, 4, v262.toNat]
def k0_off103 (k0_t2 : Fin k0_t2_loop.trips) : Fin 4 → Nat :=
  let c1_i32_287 : BitVec 32 := 1#32
  let v266 : Index := Scalar.indexCast c1_i32_287
  let c0_i32_288 : BitVec 32 := 0#32
  let v267 : Index := Scalar.indexCast c0_i32_288
  let c5_i32_289 : BitVec 32 := 5#32
  let v268 : Index := Scalar.indexCast c5_i32_289
  let c0_i32_98 : BitVec 32 := 0#32
  let c1_i32_100 : BitVec 32 := 1#32
  let arg8 : BitVec 32 := Scf.iv c0_i32_98 c1_i32_100 k0_t2
  let c16_i32_286 : BitVec 32 := 16#32
  let v265 : BitVec 32 := Scalar.muli arg8 c16_i32_286
  let v269 : Index := Scalar.indexCast v265
  ![1, 0, 5, v269.toNat]
def k0_off104 (k0_t2 : Fin k0_t2_loop.trips) : Fin 4 → Nat :=
  let c1_i32_291 : BitVec 32 := 1#32
  let v273 : Index := Scalar.indexCast c1_i32_291
  let c0_i32_292 : BitVec 32 := 0#32
  let v274 : Index := Scalar.indexCast c0_i32_292
  let c6_i32_293 : BitVec 32 := 6#32
  let v275 : Index := Scalar.indexCast c6_i32_293
  let c0_i32_98 : BitVec 32 := 0#32
  let c1_i32_100 : BitVec 32 := 1#32
  let arg8 : BitVec 32 := Scf.iv c0_i32_98 c1_i32_100 k0_t2
  let c16_i32_290 : BitVec 32 := 16#32
  let v272 : BitVec 32 := Scalar.muli arg8 c16_i32_290
  let v276 : Index := Scalar.indexCast v272
  ![1, 0, 6, v276.toNat]
def k0_off105 (k0_t2 : Fin k0_t2_loop.trips) : Fin 4 → Nat :=
  let c1_i32_295 : BitVec 32 := 1#32
  let v280 : Index := Scalar.indexCast c1_i32_295
  let c0_i32_296 : BitVec 32 := 0#32
  let v281 : Index := Scalar.indexCast c0_i32_296
  let c7_i32_297 : BitVec 32 := 7#32
  let v282 : Index := Scalar.indexCast c7_i32_297
  let c0_i32_98 : BitVec 32 := 0#32
  let c1_i32_100 : BitVec 32 := 1#32
  let arg8 : BitVec 32 := Scf.iv c0_i32_98 c1_i32_100 k0_t2
  let c16_i32_294 : BitVec 32 := 16#32
  let v279 : BitVec 32 := Scalar.muli arg8 c16_i32_294
  let v283 : Index := Scalar.indexCast v279
  ![1, 0, 7, v283.toNat]
def k0_off106 (k0_t2 : Fin k0_t2_loop.trips) : Fin 4 → Nat :=
  let c1_i32_299 : BitVec 32 := 1#32
  let v287 : Index := Scalar.indexCast c1_i32_299
  let c0_i32_300 : BitVec 32 := 0#32
  let v288 : Index := Scalar.indexCast c0_i32_300
  let c8_i32_301 : BitVec 32 := 8#32
  let v289 : Index := Scalar.indexCast c8_i32_301
  let c0_i32_98 : BitVec 32 := 0#32
  let c1_i32_100 : BitVec 32 := 1#32
  let arg8 : BitVec 32 := Scf.iv c0_i32_98 c1_i32_100 k0_t2
  let c16_i32_298 : BitVec 32 := 16#32
  let v286 : BitVec 32 := Scalar.muli arg8 c16_i32_298
  let v290 : Index := Scalar.indexCast v286
  ![1, 0, 8, v290.toNat]
def k0_off107 (k0_t2 : Fin k0_t2_loop.trips) : Fin 4 → Nat :=
  let c1_i32_303 : BitVec 32 := 1#32
  let v294 : Index := Scalar.indexCast c1_i32_303
  let c0_i32_304 : BitVec 32 := 0#32
  let v295 : Index := Scalar.indexCast c0_i32_304
  let c9_i32 : BitVec 32 := 9#32
  let v296 : Index := Scalar.indexCast c9_i32
  let c0_i32_98 : BitVec 32 := 0#32
  let c1_i32_100 : BitVec 32 := 1#32
  let arg8 : BitVec 32 := Scf.iv c0_i32_98 c1_i32_100 k0_t2
  let c16_i32_302 : BitVec 32 := 16#32
  let v293 : BitVec 32 := Scalar.muli arg8 c16_i32_302
  let v297 : Index := Scalar.indexCast v293
  ![1, 0, 9, v297.toNat]
def k0_off108 (k0_t2 : Fin k0_t2_loop.trips) : Fin 4 → Nat :=
  let c1_i32_306 : BitVec 32 := 1#32
  let v301 : Index := Scalar.indexCast c1_i32_306
  let c0_i32_307 : BitVec 32 := 0#32
  let v302 : Index := Scalar.indexCast c0_i32_307
  let c10_i32 : BitVec 32 := 10#32
  let v303 : Index := Scalar.indexCast c10_i32
  let c0_i32_98 : BitVec 32 := 0#32
  let c1_i32_100 : BitVec 32 := 1#32
  let arg8 : BitVec 32 := Scf.iv c0_i32_98 c1_i32_100 k0_t2
  let c16_i32_305 : BitVec 32 := 16#32
  let v300 : BitVec 32 := Scalar.muli arg8 c16_i32_305
  let v304 : Index := Scalar.indexCast v300
  ![1, 0, 10, v304.toNat]
def k0_off109 (k0_t2 : Fin k0_t2_loop.trips) : Fin 4 → Nat :=
  let c1_i32_309 : BitVec 32 := 1#32
  let v308 : Index := Scalar.indexCast c1_i32_309
  let c0_i32_310 : BitVec 32 := 0#32
  let v309 : Index := Scalar.indexCast c0_i32_310
  let c11_i32 : BitVec 32 := 11#32
  let v310 : Index := Scalar.indexCast c11_i32
  let c0_i32_98 : BitVec 32 := 0#32
  let c1_i32_100 : BitVec 32 := 1#32
  let arg8 : BitVec 32 := Scf.iv c0_i32_98 c1_i32_100 k0_t2
  let c16_i32_308 : BitVec 32 := 16#32
  let v307 : BitVec 32 := Scalar.muli arg8 c16_i32_308
  let v311 : Index := Scalar.indexCast v307
  ![1, 0, 11, v311.toNat]
def k0_off110 (k0_t2 : Fin k0_t2_loop.trips) : Fin 4 → Nat :=
  let c1_i32_312 : BitVec 32 := 1#32
  let v315 : Index := Scalar.indexCast c1_i32_312
  let c0_i32_313 : BitVec 32 := 0#32
  let v316 : Index := Scalar.indexCast c0_i32_313
  let c12_i32 : BitVec 32 := 12#32
  let v317 : Index := Scalar.indexCast c12_i32
  let c0_i32_98 : BitVec 32 := 0#32
  let c1_i32_100 : BitVec 32 := 1#32
  let arg8 : BitVec 32 := Scf.iv c0_i32_98 c1_i32_100 k0_t2
  let c16_i32_311 : BitVec 32 := 16#32
  let v314 : BitVec 32 := Scalar.muli arg8 c16_i32_311
  let v318 : Index := Scalar.indexCast v314
  ![1, 0, 12, v318.toNat]
def k0_off111 (k0_t2 : Fin k0_t2_loop.trips) : Fin 4 → Nat :=
  let c1_i32_315 : BitVec 32 := 1#32
  let v322 : Index := Scalar.indexCast c1_i32_315
  let c0_i32_316 : BitVec 32 := 0#32
  let v323 : Index := Scalar.indexCast c0_i32_316
  let c13_i32 : BitVec 32 := 13#32
  let v324 : Index := Scalar.indexCast c13_i32
  let c0_i32_98 : BitVec 32 := 0#32
  let c1_i32_100 : BitVec 32 := 1#32
  let arg8 : BitVec 32 := Scf.iv c0_i32_98 c1_i32_100 k0_t2
  let c16_i32_314 : BitVec 32 := 16#32
  let v321 : BitVec 32 := Scalar.muli arg8 c16_i32_314
  let v325 : Index := Scalar.indexCast v321
  ![1, 0, 13, v325.toNat]
def k0_off112 (k0_t2 : Fin k0_t2_loop.trips) : Fin 4 → Nat :=
  let c1_i32_318 : BitVec 32 := 1#32
  let v329 : Index := Scalar.indexCast c1_i32_318
  let c0_i32_319 : BitVec 32 := 0#32
  let v330 : Index := Scalar.indexCast c0_i32_319
  let c14_i32_320 : BitVec 32 := 14#32
  let v331 : Index := Scalar.indexCast c14_i32_320
  let c0_i32_98 : BitVec 32 := 0#32
  let c1_i32_100 : BitVec 32 := 1#32
  let arg8 : BitVec 32 := Scf.iv c0_i32_98 c1_i32_100 k0_t2
  let c16_i32_317 : BitVec 32 := 16#32
  let v328 : BitVec 32 := Scalar.muli arg8 c16_i32_317
  let v332 : Index := Scalar.indexCast v328
  ![1, 0, 14, v332.toNat]
def k0_off113 (k0_t2 : Fin k0_t2_loop.trips) : Fin 4 → Nat :=
  let c1_i32_322 : BitVec 32 := 1#32
  let v336 : Index := Scalar.indexCast c1_i32_322
  let c0_i32_323 : BitVec 32 := 0#32
  let v337 : Index := Scalar.indexCast c0_i32_323
  let c15_i32 : BitVec 32 := 15#32
  let v338 : Index := Scalar.indexCast c15_i32
  let c0_i32_98 : BitVec 32 := 0#32
  let c1_i32_100 : BitVec 32 := 1#32
  let arg8 : BitVec 32 := Scf.iv c0_i32_98 c1_i32_100 k0_t2
  let c16_i32_321 : BitVec 32 := 16#32
  let v335 : BitVec 32 := Scalar.muli arg8 c16_i32_321
  let v339 : Index := Scalar.indexCast v335
  ![1, 0, 15, v339.toNat]
def k0_off114 (k0_t2 : Fin k0_t2_loop.trips) : Fin 4 → Nat :=
  let c1_i32_325 : BitVec 32 := 1#32
  let v343 : Index := Scalar.indexCast c1_i32_325
  let c1_i32_326 : BitVec 32 := 1#32
  let v344 : Index := Scalar.indexCast c1_i32_326
  let c0_i32_327 : BitVec 32 := 0#32
  let v345 : Index := Scalar.indexCast c0_i32_327
  let c0_i32_98 : BitVec 32 := 0#32
  let c1_i32_100 : BitVec 32 := 1#32
  let arg8 : BitVec 32 := Scf.iv c0_i32_98 c1_i32_100 k0_t2
  let c16_i32_324 : BitVec 32 := 16#32
  let v342 : BitVec 32 := Scalar.muli arg8 c16_i32_324
  let v346 : Index := Scalar.indexCast v342
  ![1, 1, 0, v346.toNat]
def k0_off115 (k0_t2 : Fin k0_t2_loop.trips) : Fin 4 → Nat :=
  let c1_i32_329 : BitVec 32 := 1#32
  let v350 : Index := Scalar.indexCast c1_i32_329
  let c1_i32_330 : BitVec 32 := 1#32
  let v351 : Index := Scalar.indexCast c1_i32_330
  let c1_i32_331 : BitVec 32 := 1#32
  let v352 : Index := Scalar.indexCast c1_i32_331
  let c0_i32_98 : BitVec 32 := 0#32
  let c1_i32_100 : BitVec 32 := 1#32
  let arg8 : BitVec 32 := Scf.iv c0_i32_98 c1_i32_100 k0_t2
  let c16_i32_328 : BitVec 32 := 16#32
  let v349 : BitVec 32 := Scalar.muli arg8 c16_i32_328
  let v353 : Index := Scalar.indexCast v349
  ![1, 1, 1, v353.toNat]
def k0_off116 (k0_t2 : Fin k0_t2_loop.trips) : Fin 4 → Nat :=
  let c1_i32_333 : BitVec 32 := 1#32
  let v357 : Index := Scalar.indexCast c1_i32_333
  let c1_i32_334 : BitVec 32 := 1#32
  let v358 : Index := Scalar.indexCast c1_i32_334
  let c2_i32_335 : BitVec 32 := 2#32
  let v359 : Index := Scalar.indexCast c2_i32_335
  let c0_i32_98 : BitVec 32 := 0#32
  let c1_i32_100 : BitVec 32 := 1#32
  let arg8 : BitVec 32 := Scf.iv c0_i32_98 c1_i32_100 k0_t2
  let c16_i32_332 : BitVec 32 := 16#32
  let v356 : BitVec 32 := Scalar.muli arg8 c16_i32_332
  let v360 : Index := Scalar.indexCast v356
  ![1, 1, 2, v360.toNat]
def k0_off117 (k0_t2 : Fin k0_t2_loop.trips) : Fin 4 → Nat :=
  let c1_i32_337 : BitVec 32 := 1#32
  let v364 : Index := Scalar.indexCast c1_i32_337
  let c1_i32_338 : BitVec 32 := 1#32
  let v365 : Index := Scalar.indexCast c1_i32_338
  let c3_i32_339 : BitVec 32 := 3#32
  let v366 : Index := Scalar.indexCast c3_i32_339
  let c0_i32_98 : BitVec 32 := 0#32
  let c1_i32_100 : BitVec 32 := 1#32
  let arg8 : BitVec 32 := Scf.iv c0_i32_98 c1_i32_100 k0_t2
  let c16_i32_336 : BitVec 32 := 16#32
  let v363 : BitVec 32 := Scalar.muli arg8 c16_i32_336
  let v367 : Index := Scalar.indexCast v363
  ![1, 1, 3, v367.toNat]
def k0_off118 (k0_t2 : Fin k0_t2_loop.trips) : Fin 4 → Nat :=
  let c1_i32_341 : BitVec 32 := 1#32
  let v371 : Index := Scalar.indexCast c1_i32_341
  let c1_i32_342 : BitVec 32 := 1#32
  let v372 : Index := Scalar.indexCast c1_i32_342
  let c4_i32_343 : BitVec 32 := 4#32
  let v373 : Index := Scalar.indexCast c4_i32_343
  let c0_i32_98 : BitVec 32 := 0#32
  let c1_i32_100 : BitVec 32 := 1#32
  let arg8 : BitVec 32 := Scf.iv c0_i32_98 c1_i32_100 k0_t2
  let c16_i32_340 : BitVec 32 := 16#32
  let v370 : BitVec 32 := Scalar.muli arg8 c16_i32_340
  let v374 : Index := Scalar.indexCast v370
  ![1, 1, 4, v374.toNat]
def k0_off119 (k0_t2 : Fin k0_t2_loop.trips) : Fin 4 → Nat :=
  let c1_i32_345 : BitVec 32 := 1#32
  let v378 : Index := Scalar.indexCast c1_i32_345
  let c1_i32_346 : BitVec 32 := 1#32
  let v379 : Index := Scalar.indexCast c1_i32_346
  let c5_i32_347 : BitVec 32 := 5#32
  let v380 : Index := Scalar.indexCast c5_i32_347
  let c0_i32_98 : BitVec 32 := 0#32
  let c1_i32_100 : BitVec 32 := 1#32
  let arg8 : BitVec 32 := Scf.iv c0_i32_98 c1_i32_100 k0_t2
  let c16_i32_344 : BitVec 32 := 16#32
  let v377 : BitVec 32 := Scalar.muli arg8 c16_i32_344
  let v381 : Index := Scalar.indexCast v377
  ![1, 1, 5, v381.toNat]
def k0_off120 (k0_t2 : Fin k0_t2_loop.trips) : Fin 4 → Nat :=
  let c1_i32_349 : BitVec 32 := 1#32
  let v385 : Index := Scalar.indexCast c1_i32_349
  let c1_i32_350 : BitVec 32 := 1#32
  let v386 : Index := Scalar.indexCast c1_i32_350
  let c6_i32_351 : BitVec 32 := 6#32
  let v387 : Index := Scalar.indexCast c6_i32_351
  let c0_i32_98 : BitVec 32 := 0#32
  let c1_i32_100 : BitVec 32 := 1#32
  let arg8 : BitVec 32 := Scf.iv c0_i32_98 c1_i32_100 k0_t2
  let c16_i32_348 : BitVec 32 := 16#32
  let v384 : BitVec 32 := Scalar.muli arg8 c16_i32_348
  let v388 : Index := Scalar.indexCast v384
  ![1, 1, 6, v388.toNat]
def k0_off121 (k0_t2 : Fin k0_t2_loop.trips) : Fin 4 → Nat :=
  let c1_i32_353 : BitVec 32 := 1#32
  let v392 : Index := Scalar.indexCast c1_i32_353
  let c1_i32_354 : BitVec 32 := 1#32
  let v393 : Index := Scalar.indexCast c1_i32_354
  let c7_i32_355 : BitVec 32 := 7#32
  let v394 : Index := Scalar.indexCast c7_i32_355
  let c0_i32_98 : BitVec 32 := 0#32
  let c1_i32_100 : BitVec 32 := 1#32
  let arg8 : BitVec 32 := Scf.iv c0_i32_98 c1_i32_100 k0_t2
  let c16_i32_352 : BitVec 32 := 16#32
  let v391 : BitVec 32 := Scalar.muli arg8 c16_i32_352
  let v395 : Index := Scalar.indexCast v391
  ![1, 1, 7, v395.toNat]
def k0_off122 (k0_t2 : Fin k0_t2_loop.trips) : Fin 4 → Nat :=
  let c1_i32_357 : BitVec 32 := 1#32
  let v399 : Index := Scalar.indexCast c1_i32_357
  let c1_i32_358 : BitVec 32 := 1#32
  let v400 : Index := Scalar.indexCast c1_i32_358
  let c8_i32_359 : BitVec 32 := 8#32
  let v401 : Index := Scalar.indexCast c8_i32_359
  let c0_i32_98 : BitVec 32 := 0#32
  let c1_i32_100 : BitVec 32 := 1#32
  let arg8 : BitVec 32 := Scf.iv c0_i32_98 c1_i32_100 k0_t2
  let c16_i32_356 : BitVec 32 := 16#32
  let v398 : BitVec 32 := Scalar.muli arg8 c16_i32_356
  let v402 : Index := Scalar.indexCast v398
  ![1, 1, 8, v402.toNat]
def k0_off123 (k0_t2 : Fin k0_t2_loop.trips) : Fin 4 → Nat :=
  let c1_i32_361 : BitVec 32 := 1#32
  let v406 : Index := Scalar.indexCast c1_i32_361
  let c1_i32_362 : BitVec 32 := 1#32
  let v407 : Index := Scalar.indexCast c1_i32_362
  let c9_i32_363 : BitVec 32 := 9#32
  let v408 : Index := Scalar.indexCast c9_i32_363
  let c0_i32_98 : BitVec 32 := 0#32
  let c1_i32_100 : BitVec 32 := 1#32
  let arg8 : BitVec 32 := Scf.iv c0_i32_98 c1_i32_100 k0_t2
  let c16_i32_360 : BitVec 32 := 16#32
  let v405 : BitVec 32 := Scalar.muli arg8 c16_i32_360
  let v409 : Index := Scalar.indexCast v405
  ![1, 1, 9, v409.toNat]
def k0_off124 (k0_t2 : Fin k0_t2_loop.trips) : Fin 4 → Nat :=
  let c1_i32_365 : BitVec 32 := 1#32
  let v413 : Index := Scalar.indexCast c1_i32_365
  let c1_i32_366 : BitVec 32 := 1#32
  let v414 : Index := Scalar.indexCast c1_i32_366
  let c10_i32_367 : BitVec 32 := 10#32
  let v415 : Index := Scalar.indexCast c10_i32_367
  let c0_i32_98 : BitVec 32 := 0#32
  let c1_i32_100 : BitVec 32 := 1#32
  let arg8 : BitVec 32 := Scf.iv c0_i32_98 c1_i32_100 k0_t2
  let c16_i32_364 : BitVec 32 := 16#32
  let v412 : BitVec 32 := Scalar.muli arg8 c16_i32_364
  let v416 : Index := Scalar.indexCast v412
  ![1, 1, 10, v416.toNat]
def k0_off125 (k0_t2 : Fin k0_t2_loop.trips) : Fin 4 → Nat :=
  let c1_i32_369 : BitVec 32 := 1#32
  let v420 : Index := Scalar.indexCast c1_i32_369
  let c1_i32_370 : BitVec 32 := 1#32
  let v421 : Index := Scalar.indexCast c1_i32_370
  let c11_i32_371 : BitVec 32 := 11#32
  let v422 : Index := Scalar.indexCast c11_i32_371
  let c0_i32_98 : BitVec 32 := 0#32
  let c1_i32_100 : BitVec 32 := 1#32
  let arg8 : BitVec 32 := Scf.iv c0_i32_98 c1_i32_100 k0_t2
  let c16_i32_368 : BitVec 32 := 16#32
  let v419 : BitVec 32 := Scalar.muli arg8 c16_i32_368
  let v423 : Index := Scalar.indexCast v419
  ![1, 1, 11, v423.toNat]
def k0_off126 (k0_t2 : Fin k0_t2_loop.trips) : Fin 4 → Nat :=
  let c1_i32_373 : BitVec 32 := 1#32
  let v427 : Index := Scalar.indexCast c1_i32_373
  let c1_i32_374 : BitVec 32 := 1#32
  let v428 : Index := Scalar.indexCast c1_i32_374
  let c12_i32_375 : BitVec 32 := 12#32
  let v429 : Index := Scalar.indexCast c12_i32_375
  let c0_i32_98 : BitVec 32 := 0#32
  let c1_i32_100 : BitVec 32 := 1#32
  let arg8 : BitVec 32 := Scf.iv c0_i32_98 c1_i32_100 k0_t2
  let c16_i32_372 : BitVec 32 := 16#32
  let v426 : BitVec 32 := Scalar.muli arg8 c16_i32_372
  let v430 : Index := Scalar.indexCast v426
  ![1, 1, 12, v430.toNat]
def k0_off127 (k0_t2 : Fin k0_t2_loop.trips) : Fin 4 → Nat :=
  let c1_i32_377 : BitVec 32 := 1#32
  let v434 : Index := Scalar.indexCast c1_i32_377
  let c1_i32_378 : BitVec 32 := 1#32
  let v435 : Index := Scalar.indexCast c1_i32_378
  let c13_i32_379 : BitVec 32 := 13#32
  let v436 : Index := Scalar.indexCast c13_i32_379
  let c0_i32_98 : BitVec 32 := 0#32
  let c1_i32_100 : BitVec 32 := 1#32
  let arg8 : BitVec 32 := Scf.iv c0_i32_98 c1_i32_100 k0_t2
  let c16_i32_376 : BitVec 32 := 16#32
  let v433 : BitVec 32 := Scalar.muli arg8 c16_i32_376
  let v437 : Index := Scalar.indexCast v433
  ![1, 1, 13, v437.toNat]
def k0_off128 (k0_t2 : Fin k0_t2_loop.trips) : Fin 4 → Nat :=
  let c1_i32_381 : BitVec 32 := 1#32
  let v441 : Index := Scalar.indexCast c1_i32_381
  let c1_i32_382 : BitVec 32 := 1#32
  let v442 : Index := Scalar.indexCast c1_i32_382
  let c14_i32_383 : BitVec 32 := 14#32
  let v443 : Index := Scalar.indexCast c14_i32_383
  let c0_i32_98 : BitVec 32 := 0#32
  let c1_i32_100 : BitVec 32 := 1#32
  let arg8 : BitVec 32 := Scf.iv c0_i32_98 c1_i32_100 k0_t2
  let c16_i32_380 : BitVec 32 := 16#32
  let v440 : BitVec 32 := Scalar.muli arg8 c16_i32_380
  let v444 : Index := Scalar.indexCast v440
  ![1, 1, 14, v444.toNat]
def k0_off129 (k0_t2 : Fin k0_t2_loop.trips) : Fin 4 → Nat :=
  let c1_i32_385 : BitVec 32 := 1#32
  let v448 : Index := Scalar.indexCast c1_i32_385
  let c1_i32_386 : BitVec 32 := 1#32
  let v449 : Index := Scalar.indexCast c1_i32_386
  let c15_i32_387 : BitVec 32 := 15#32
  let v450 : Index := Scalar.indexCast c15_i32_387
  let c0_i32_98 : BitVec 32 := 0#32
  let c1_i32_100 : BitVec 32 := 1#32
  let arg8 : BitVec 32 := Scf.iv c0_i32_98 c1_i32_100 k0_t2
  let c16_i32_384 : BitVec 32 := 16#32
  let v447 : BitVec 32 := Scalar.muli arg8 c16_i32_384
  let v451 : Index := Scalar.indexCast v447
  ![1, 1, 15, v451.toNat]
def k0_off130 (k0_t2 : Fin k0_t2_loop.trips) : Fin 4 → Nat :=
  let c1_i32_389 : BitVec 32 := 1#32
  let v455 : Index := Scalar.indexCast c1_i32_389
  let c2_i32_390 : BitVec 32 := 2#32
  let v456 : Index := Scalar.indexCast c2_i32_390
  let c0_i32_391 : BitVec 32 := 0#32
  let v457 : Index := Scalar.indexCast c0_i32_391
  let c0_i32_98 : BitVec 32 := 0#32
  let c1_i32_100 : BitVec 32 := 1#32
  let arg8 : BitVec 32 := Scf.iv c0_i32_98 c1_i32_100 k0_t2
  let c16_i32_388 : BitVec 32 := 16#32
  let v454 : BitVec 32 := Scalar.muli arg8 c16_i32_388
  let v458 : Index := Scalar.indexCast v454
  ![1, 2, 0, v458.toNat]
def k0_off131 (k0_t2 : Fin k0_t2_loop.trips) : Fin 4 → Nat :=
  let c1_i32_393 : BitVec 32 := 1#32
  let v462 : Index := Scalar.indexCast c1_i32_393
  let c2_i32_394 : BitVec 32 := 2#32
  let v463 : Index := Scalar.indexCast c2_i32_394
  let c1_i32_395 : BitVec 32 := 1#32
  let v464 : Index := Scalar.indexCast c1_i32_395
  let c0_i32_98 : BitVec 32 := 0#32
  let c1_i32_100 : BitVec 32 := 1#32
  let arg8 : BitVec 32 := Scf.iv c0_i32_98 c1_i32_100 k0_t2
  let c16_i32_392 : BitVec 32 := 16#32
  let v461 : BitVec 32 := Scalar.muli arg8 c16_i32_392
  let v465 : Index := Scalar.indexCast v461
  ![1, 2, 1, v465.toNat]
def k0_off132 (k0_t2 : Fin k0_t2_loop.trips) : Fin 4 → Nat :=
  let c1_i32_397 : BitVec 32 := 1#32
  let v469 : Index := Scalar.indexCast c1_i32_397
  let c2_i32_398 : BitVec 32 := 2#32
  let v470 : Index := Scalar.indexCast c2_i32_398
  let c2_i32_399 : BitVec 32 := 2#32
  let v471 : Index := Scalar.indexCast c2_i32_399
  let c0_i32_98 : BitVec 32 := 0#32
  let c1_i32_100 : BitVec 32 := 1#32
  let arg8 : BitVec 32 := Scf.iv c0_i32_98 c1_i32_100 k0_t2
  let c16_i32_396 : BitVec 32 := 16#32
  let v468 : BitVec 32 := Scalar.muli arg8 c16_i32_396
  let v472 : Index := Scalar.indexCast v468
  ![1, 2, 2, v472.toNat]
def k0_off133 (k0_t2 : Fin k0_t2_loop.trips) : Fin 4 → Nat :=
  let c1_i32_401 : BitVec 32 := 1#32
  let v476 : Index := Scalar.indexCast c1_i32_401
  let c2_i32_402 : BitVec 32 := 2#32
  let v477 : Index := Scalar.indexCast c2_i32_402
  let c3_i32_403 : BitVec 32 := 3#32
  let v478 : Index := Scalar.indexCast c3_i32_403
  let c0_i32_98 : BitVec 32 := 0#32
  let c1_i32_100 : BitVec 32 := 1#32
  let arg8 : BitVec 32 := Scf.iv c0_i32_98 c1_i32_100 k0_t2
  let c16_i32_400 : BitVec 32 := 16#32
  let v475 : BitVec 32 := Scalar.muli arg8 c16_i32_400
  let v479 : Index := Scalar.indexCast v475
  ![1, 2, 3, v479.toNat]
def k0_off134 (k0_t2 : Fin k0_t2_loop.trips) : Fin 4 → Nat :=
  let c1_i32_405 : BitVec 32 := 1#32
  let v483 : Index := Scalar.indexCast c1_i32_405
  let c2_i32_406 : BitVec 32 := 2#32
  let v484 : Index := Scalar.indexCast c2_i32_406
  let c4_i32_407 : BitVec 32 := 4#32
  let v485 : Index := Scalar.indexCast c4_i32_407
  let c0_i32_98 : BitVec 32 := 0#32
  let c1_i32_100 : BitVec 32 := 1#32
  let arg8 : BitVec 32 := Scf.iv c0_i32_98 c1_i32_100 k0_t2
  let c16_i32_404 : BitVec 32 := 16#32
  let v482 : BitVec 32 := Scalar.muli arg8 c16_i32_404
  let v486 : Index := Scalar.indexCast v482
  ![1, 2, 4, v486.toNat]
def k0_off135 (k0_t2 : Fin k0_t2_loop.trips) : Fin 4 → Nat :=
  let c1_i32_409 : BitVec 32 := 1#32
  let v490 : Index := Scalar.indexCast c1_i32_409
  let c2_i32_410 : BitVec 32 := 2#32
  let v491 : Index := Scalar.indexCast c2_i32_410
  let c5_i32_411 : BitVec 32 := 5#32
  let v492 : Index := Scalar.indexCast c5_i32_411
  let c0_i32_98 : BitVec 32 := 0#32
  let c1_i32_100 : BitVec 32 := 1#32
  let arg8 : BitVec 32 := Scf.iv c0_i32_98 c1_i32_100 k0_t2
  let c16_i32_408 : BitVec 32 := 16#32
  let v489 : BitVec 32 := Scalar.muli arg8 c16_i32_408
  let v493 : Index := Scalar.indexCast v489
  ![1, 2, 5, v493.toNat]
def k0_off136 (k0_t2 : Fin k0_t2_loop.trips) : Fin 4 → Nat :=
  let c1_i32_413 : BitVec 32 := 1#32
  let v497 : Index := Scalar.indexCast c1_i32_413
  let c2_i32_414 : BitVec 32 := 2#32
  let v498 : Index := Scalar.indexCast c2_i32_414
  let c6_i32_415 : BitVec 32 := 6#32
  let v499 : Index := Scalar.indexCast c6_i32_415
  let c0_i32_98 : BitVec 32 := 0#32
  let c1_i32_100 : BitVec 32 := 1#32
  let arg8 : BitVec 32 := Scf.iv c0_i32_98 c1_i32_100 k0_t2
  let c16_i32_412 : BitVec 32 := 16#32
  let v496 : BitVec 32 := Scalar.muli arg8 c16_i32_412
  let v500 : Index := Scalar.indexCast v496
  ![1, 2, 6, v500.toNat]
def k0_off137 (k0_t2 : Fin k0_t2_loop.trips) : Fin 4 → Nat :=
  let c1_i32_417 : BitVec 32 := 1#32
  let v504 : Index := Scalar.indexCast c1_i32_417
  let c2_i32_418 : BitVec 32 := 2#32
  let v505 : Index := Scalar.indexCast c2_i32_418
  let c7_i32_419 : BitVec 32 := 7#32
  let v506 : Index := Scalar.indexCast c7_i32_419
  let c0_i32_98 : BitVec 32 := 0#32
  let c1_i32_100 : BitVec 32 := 1#32
  let arg8 : BitVec 32 := Scf.iv c0_i32_98 c1_i32_100 k0_t2
  let c16_i32_416 : BitVec 32 := 16#32
  let v503 : BitVec 32 := Scalar.muli arg8 c16_i32_416
  let v507 : Index := Scalar.indexCast v503
  ![1, 2, 7, v507.toNat]
def k0_off138 (k0_t2 : Fin k0_t2_loop.trips) : Fin 4 → Nat :=
  let c1_i32_421 : BitVec 32 := 1#32
  let v511 : Index := Scalar.indexCast c1_i32_421
  let c2_i32_422 : BitVec 32 := 2#32
  let v512 : Index := Scalar.indexCast c2_i32_422
  let c8_i32_423 : BitVec 32 := 8#32
  let v513 : Index := Scalar.indexCast c8_i32_423
  let c0_i32_98 : BitVec 32 := 0#32
  let c1_i32_100 : BitVec 32 := 1#32
  let arg8 : BitVec 32 := Scf.iv c0_i32_98 c1_i32_100 k0_t2
  let c16_i32_420 : BitVec 32 := 16#32
  let v510 : BitVec 32 := Scalar.muli arg8 c16_i32_420
  let v514 : Index := Scalar.indexCast v510
  ![1, 2, 8, v514.toNat]
def k0_off139 (k0_t2 : Fin k0_t2_loop.trips) : Fin 4 → Nat :=
  let c1_i32_425 : BitVec 32 := 1#32
  let v518 : Index := Scalar.indexCast c1_i32_425
  let c2_i32_426 : BitVec 32 := 2#32
  let v519 : Index := Scalar.indexCast c2_i32_426
  let c9_i32_427 : BitVec 32 := 9#32
  let v520 : Index := Scalar.indexCast c9_i32_427
  let c0_i32_98 : BitVec 32 := 0#32
  let c1_i32_100 : BitVec 32 := 1#32
  let arg8 : BitVec 32 := Scf.iv c0_i32_98 c1_i32_100 k0_t2
  let c16_i32_424 : BitVec 32 := 16#32
  let v517 : BitVec 32 := Scalar.muli arg8 c16_i32_424
  let v521 : Index := Scalar.indexCast v517
  ![1, 2, 9, v521.toNat]
def k0_off140 (k0_t2 : Fin k0_t2_loop.trips) : Fin 4 → Nat :=
  let c1_i32_429 : BitVec 32 := 1#32
  let v525 : Index := Scalar.indexCast c1_i32_429
  let c2_i32_430 : BitVec 32 := 2#32
  let v526 : Index := Scalar.indexCast c2_i32_430
  let c10_i32_431 : BitVec 32 := 10#32
  let v527 : Index := Scalar.indexCast c10_i32_431
  let c0_i32_98 : BitVec 32 := 0#32
  let c1_i32_100 : BitVec 32 := 1#32
  let arg8 : BitVec 32 := Scf.iv c0_i32_98 c1_i32_100 k0_t2
  let c16_i32_428 : BitVec 32 := 16#32
  let v524 : BitVec 32 := Scalar.muli arg8 c16_i32_428
  let v528 : Index := Scalar.indexCast v524
  ![1, 2, 10, v528.toNat]
def k0_off141 (k0_t2 : Fin k0_t2_loop.trips) : Fin 4 → Nat :=
  let c1_i32_433 : BitVec 32 := 1#32
  let v532 : Index := Scalar.indexCast c1_i32_433
  let c2_i32_434 : BitVec 32 := 2#32
  let v533 : Index := Scalar.indexCast c2_i32_434
  let c11_i32_435 : BitVec 32 := 11#32
  let v534 : Index := Scalar.indexCast c11_i32_435
  let c0_i32_98 : BitVec 32 := 0#32
  let c1_i32_100 : BitVec 32 := 1#32
  let arg8 : BitVec 32 := Scf.iv c0_i32_98 c1_i32_100 k0_t2
  let c16_i32_432 : BitVec 32 := 16#32
  let v531 : BitVec 32 := Scalar.muli arg8 c16_i32_432
  let v535 : Index := Scalar.indexCast v531
  ![1, 2, 11, v535.toNat]
def k0_off142 (k0_t2 : Fin k0_t2_loop.trips) : Fin 4 → Nat :=
  let c1_i32_437 : BitVec 32 := 1#32
  let v539 : Index := Scalar.indexCast c1_i32_437
  let c2_i32_438 : BitVec 32 := 2#32
  let v540 : Index := Scalar.indexCast c2_i32_438
  let c12_i32_439 : BitVec 32 := 12#32
  let v541 : Index := Scalar.indexCast c12_i32_439
  let c0_i32_98 : BitVec 32 := 0#32
  let c1_i32_100 : BitVec 32 := 1#32
  let arg8 : BitVec 32 := Scf.iv c0_i32_98 c1_i32_100 k0_t2
  let c16_i32_436 : BitVec 32 := 16#32
  let v538 : BitVec 32 := Scalar.muli arg8 c16_i32_436
  let v542 : Index := Scalar.indexCast v538
  ![1, 2, 12, v542.toNat]
def k0_off143 (k0_t2 : Fin k0_t2_loop.trips) : Fin 4 → Nat :=
  let c1_i32_441 : BitVec 32 := 1#32
  let v546 : Index := Scalar.indexCast c1_i32_441
  let c2_i32_442 : BitVec 32 := 2#32
  let v547 : Index := Scalar.indexCast c2_i32_442
  let c13_i32_443 : BitVec 32 := 13#32
  let v548 : Index := Scalar.indexCast c13_i32_443
  let c0_i32_98 : BitVec 32 := 0#32
  let c1_i32_100 : BitVec 32 := 1#32
  let arg8 : BitVec 32 := Scf.iv c0_i32_98 c1_i32_100 k0_t2
  let c16_i32_440 : BitVec 32 := 16#32
  let v545 : BitVec 32 := Scalar.muli arg8 c16_i32_440
  let v549 : Index := Scalar.indexCast v545
  ![1, 2, 13, v549.toNat]
def k0_off144 (k0_t2 : Fin k0_t2_loop.trips) : Fin 4 → Nat :=
  let c1_i32_445 : BitVec 32 := 1#32
  let v553 : Index := Scalar.indexCast c1_i32_445
  let c2_i32_446 : BitVec 32 := 2#32
  let v554 : Index := Scalar.indexCast c2_i32_446
  let c14_i32_447 : BitVec 32 := 14#32
  let v555 : Index := Scalar.indexCast c14_i32_447
  let c0_i32_98 : BitVec 32 := 0#32
  let c1_i32_100 : BitVec 32 := 1#32
  let arg8 : BitVec 32 := Scf.iv c0_i32_98 c1_i32_100 k0_t2
  let c16_i32_444 : BitVec 32 := 16#32
  let v552 : BitVec 32 := Scalar.muli arg8 c16_i32_444
  let v556 : Index := Scalar.indexCast v552
  ![1, 2, 14, v556.toNat]
def k0_off145 (k0_t2 : Fin k0_t2_loop.trips) : Fin 4 → Nat :=
  let c1_i32_449 : BitVec 32 := 1#32
  let v560 : Index := Scalar.indexCast c1_i32_449
  let c2_i32_450 : BitVec 32 := 2#32
  let v561 : Index := Scalar.indexCast c2_i32_450
  let c15_i32_451 : BitVec 32 := 15#32
  let v562 : Index := Scalar.indexCast c15_i32_451
  let c0_i32_98 : BitVec 32 := 0#32
  let c1_i32_100 : BitVec 32 := 1#32
  let arg8 : BitVec 32 := Scf.iv c0_i32_98 c1_i32_100 k0_t2
  let c16_i32_448 : BitVec 32 := 16#32
  let v559 : BitVec 32 := Scalar.muli arg8 c16_i32_448
  let v563 : Index := Scalar.indexCast v559
  ![1, 2, 15, v563.toNat]
def k0_off146 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v566 : Index := Scalar.indexCast arg8
  let c1_i32_452 : BitVec 32 := 1#32
  let v567 : Index := Scalar.indexCast c1_i32_452
  let c0 : Index := 0#32
  ![v566.toNat, 1, 0]
def k0_off147 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v571 : Index := Scalar.indexCast arg8
  let c1_i32_453 : BitVec 32 := 1#32
  let v572 : Index := Scalar.indexCast c1_i32_453
  let c16 : Index := 16#32
  ![v571.toNat, 1, 16]
def k0_off148 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v576 : Index := Scalar.indexCast arg8
  let c1_i32_454 : BitVec 32 := 1#32
  let v577 : Index := Scalar.indexCast c1_i32_454
  let c32 : Index := 32#32
  ![v576.toNat, 1, 32]
def k0_off149 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v581 : Index := Scalar.indexCast arg8
  let c1_i32_455 : BitVec 32 := 1#32
  let v582 : Index := Scalar.indexCast c1_i32_455
  let c48 : Index := 48#32
  ![v581.toNat, 1, 48]
def k0_off150 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v586 : Index := Scalar.indexCast arg8
  let c1_i32_456 : BitVec 32 := 1#32
  let v587 : Index := Scalar.indexCast c1_i32_456
  let c64 : Index := 64#32
  ![v586.toNat, 1, 64]
def k0_off151 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v591 : Index := Scalar.indexCast arg8
  let c1_i32_457 : BitVec 32 := 1#32
  let v592 : Index := Scalar.indexCast c1_i32_457
  let c80 : Index := 80#32
  ![v591.toNat, 1, 80]
def k0_off152 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v596 : Index := Scalar.indexCast arg8
  let c1_i32_458 : BitVec 32 := 1#32
  let v597 : Index := Scalar.indexCast c1_i32_458
  let c96 : Index := 96#32
  ![v596.toNat, 1, 96]
def k0_off153 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v601 : Index := Scalar.indexCast arg8
  let c1_i32_459 : BitVec 32 := 1#32
  let v602 : Index := Scalar.indexCast c1_i32_459
  let c112 : Index := 112#32
  ![v601.toNat, 1, 112]
def k0_off154 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v606 : Index := Scalar.indexCast arg8
  let c1_i32_460 : BitVec 32 := 1#32
  let v607 : Index := Scalar.indexCast c1_i32_460
  let c128 : Index := 128#32
  ![v606.toNat, 1, 128]
def k0_off155 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v611 : Index := Scalar.indexCast arg8
  let c1_i32_461 : BitVec 32 := 1#32
  let v612 : Index := Scalar.indexCast c1_i32_461
  let c144 : Index := 144#32
  ![v611.toNat, 1, 144]
def k0_off156 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v616 : Index := Scalar.indexCast arg8
  let c1_i32_462 : BitVec 32 := 1#32
  let v617 : Index := Scalar.indexCast c1_i32_462
  let c160 : Index := 160#32
  ![v616.toNat, 1, 160]
def k0_off157 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v621 : Index := Scalar.indexCast arg8
  let c1_i32_463 : BitVec 32 := 1#32
  let v622 : Index := Scalar.indexCast c1_i32_463
  let c176 : Index := 176#32
  ![v621.toNat, 1, 176]
def k0_off158 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v626 : Index := Scalar.indexCast arg8
  let c1_i32_464 : BitVec 32 := 1#32
  let v627 : Index := Scalar.indexCast c1_i32_464
  let c192 : Index := 192#32
  ![v626.toNat, 1, 192]
def k0_off159 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v631 : Index := Scalar.indexCast arg8
  let c1_i32_465 : BitVec 32 := 1#32
  let v632 : Index := Scalar.indexCast c1_i32_465
  let c208 : Index := 208#32
  ![v631.toNat, 1, 208]
def k0_off160 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v636 : Index := Scalar.indexCast arg8
  let c1_i32_466 : BitVec 32 := 1#32
  let v637 : Index := Scalar.indexCast c1_i32_466
  let c224 : Index := 224#32
  ![v636.toNat, 1, 224]
def k0_off161 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v641 : Index := Scalar.indexCast arg8
  let c1_i32_467 : BitVec 32 := 1#32
  let v642 : Index := Scalar.indexCast c1_i32_467
  let c240 : Index := 240#32
  ![v641.toNat, 1, 240]
def k0_off162 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v646 : Index := Scalar.indexCast arg8
  let c1_i32_468 : BitVec 32 := 1#32
  let v647 : Index := Scalar.indexCast c1_i32_468
  let c256 : Index := 256#32
  ![v646.toNat, 1, 256]
def k0_off163 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v651 : Index := Scalar.indexCast arg8
  let c1_i32_469 : BitVec 32 := 1#32
  let v652 : Index := Scalar.indexCast c1_i32_469
  let c272 : Index := 272#32
  ![v651.toNat, 1, 272]
def k0_off164 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v656 : Index := Scalar.indexCast arg8
  let c1_i32_470 : BitVec 32 := 1#32
  let v657 : Index := Scalar.indexCast c1_i32_470
  let c288 : Index := 288#32
  ![v656.toNat, 1, 288]
def k0_off165 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v661 : Index := Scalar.indexCast arg8
  let c1_i32_471 : BitVec 32 := 1#32
  let v662 : Index := Scalar.indexCast c1_i32_471
  let c304 : Index := 304#32
  ![v661.toNat, 1, 304]
def k0_off166 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v666 : Index := Scalar.indexCast arg8
  let c1_i32_472 : BitVec 32 := 1#32
  let v667 : Index := Scalar.indexCast c1_i32_472
  let c320 : Index := 320#32
  ![v666.toNat, 1, 320]
def k0_off167 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v671 : Index := Scalar.indexCast arg8
  let c1_i32_473 : BitVec 32 := 1#32
  let v672 : Index := Scalar.indexCast c1_i32_473
  let c336 : Index := 336#32
  ![v671.toNat, 1, 336]
def k0_off168 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v676 : Index := Scalar.indexCast arg8
  let c1_i32_474 : BitVec 32 := 1#32
  let v677 : Index := Scalar.indexCast c1_i32_474
  let c352 : Index := 352#32
  ![v676.toNat, 1, 352]
def k0_off169 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v681 : Index := Scalar.indexCast arg8
  let c1_i32_475 : BitVec 32 := 1#32
  let v682 : Index := Scalar.indexCast c1_i32_475
  let c368 : Index := 368#32
  ![v681.toNat, 1, 368]
def k0_off170 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v686 : Index := Scalar.indexCast arg8
  let c1_i32_476 : BitVec 32 := 1#32
  let v687 : Index := Scalar.indexCast c1_i32_476
  let c384 : Index := 384#32
  ![v686.toNat, 1, 384]
def k0_off171 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v691 : Index := Scalar.indexCast arg8
  let c1_i32_477 : BitVec 32 := 1#32
  let v692 : Index := Scalar.indexCast c1_i32_477
  let c400 : Index := 400#32
  ![v691.toNat, 1, 400]
def k0_off172 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v696 : Index := Scalar.indexCast arg8
  let c1_i32_478 : BitVec 32 := 1#32
  let v697 : Index := Scalar.indexCast c1_i32_478
  let c416 : Index := 416#32
  ![v696.toNat, 1, 416]
def k0_off173 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v701 : Index := Scalar.indexCast arg8
  let c1_i32_479 : BitVec 32 := 1#32
  let v702 : Index := Scalar.indexCast c1_i32_479
  let c432 : Index := 432#32
  ![v701.toNat, 1, 432]
def k0_off174 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v706 : Index := Scalar.indexCast arg8
  let c1_i32_480 : BitVec 32 := 1#32
  let v707 : Index := Scalar.indexCast c1_i32_480
  let c448 : Index := 448#32
  ![v706.toNat, 1, 448]
def k0_off175 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v711 : Index := Scalar.indexCast arg8
  let c1_i32_481 : BitVec 32 := 1#32
  let v712 : Index := Scalar.indexCast c1_i32_481
  let c464 : Index := 464#32
  ![v711.toNat, 1, 464]
def k0_off176 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v716 : Index := Scalar.indexCast arg8
  let c1_i32_482 : BitVec 32 := 1#32
  let v717 : Index := Scalar.indexCast c1_i32_482
  let c480 : Index := 480#32
  ![v716.toNat, 1, 480]
def k0_off177 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v721 : Index := Scalar.indexCast arg8
  let c1_i32_483 : BitVec 32 := 1#32
  let v722 : Index := Scalar.indexCast c1_i32_483
  let c496 : Index := 496#32
  ![v721.toNat, 1, 496]
def k0_off178 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v726 : Index := Scalar.indexCast arg8
  let c1_i32_484 : BitVec 32 := 1#32
  let v727 : Index := Scalar.indexCast c1_i32_484
  let c512 : Index := 512#32
  ![v726.toNat, 1, 512]
def k0_off179 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v731 : Index := Scalar.indexCast arg8
  let c1_i32_485 : BitVec 32 := 1#32
  let v732 : Index := Scalar.indexCast c1_i32_485
  let c528 : Index := 528#32
  ![v731.toNat, 1, 528]
def k0_off180 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v736 : Index := Scalar.indexCast arg8
  let c1_i32_486 : BitVec 32 := 1#32
  let v737 : Index := Scalar.indexCast c1_i32_486
  let c544 : Index := 544#32
  ![v736.toNat, 1, 544]
def k0_off181 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v741 : Index := Scalar.indexCast arg8
  let c1_i32_487 : BitVec 32 := 1#32
  let v742 : Index := Scalar.indexCast c1_i32_487
  let c560 : Index := 560#32
  ![v741.toNat, 1, 560]
def k0_off182 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v746 : Index := Scalar.indexCast arg8
  let c1_i32_488 : BitVec 32 := 1#32
  let v747 : Index := Scalar.indexCast c1_i32_488
  let c576 : Index := 576#32
  ![v746.toNat, 1, 576]
def k0_off183 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v751 : Index := Scalar.indexCast arg8
  let c1_i32_489 : BitVec 32 := 1#32
  let v752 : Index := Scalar.indexCast c1_i32_489
  let c592 : Index := 592#32
  ![v751.toNat, 1, 592]
def k0_off184 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v756 : Index := Scalar.indexCast arg8
  let c1_i32_490 : BitVec 32 := 1#32
  let v757 : Index := Scalar.indexCast c1_i32_490
  let c608 : Index := 608#32
  ![v756.toNat, 1, 608]
def k0_off185 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v761 : Index := Scalar.indexCast arg8
  let c1_i32_491 : BitVec 32 := 1#32
  let v762 : Index := Scalar.indexCast c1_i32_491
  let c624 : Index := 624#32
  ![v761.toNat, 1, 624]
def k0_off186 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v766 : Index := Scalar.indexCast arg8
  let c1_i32_492 : BitVec 32 := 1#32
  let v767 : Index := Scalar.indexCast c1_i32_492
  let c640 : Index := 640#32
  ![v766.toNat, 1, 640]
def k0_off187 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v771 : Index := Scalar.indexCast arg8
  let c1_i32_493 : BitVec 32 := 1#32
  let v772 : Index := Scalar.indexCast c1_i32_493
  let c656 : Index := 656#32
  ![v771.toNat, 1, 656]
def k0_off188 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v776 : Index := Scalar.indexCast arg8
  let c1_i32_494 : BitVec 32 := 1#32
  let v777 : Index := Scalar.indexCast c1_i32_494
  let c672 : Index := 672#32
  ![v776.toNat, 1, 672]
def k0_off189 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v781 : Index := Scalar.indexCast arg8
  let c1_i32_495 : BitVec 32 := 1#32
  let v782 : Index := Scalar.indexCast c1_i32_495
  let c688 : Index := 688#32
  ![v781.toNat, 1, 688]
def k0_off190 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v786 : Index := Scalar.indexCast arg8
  let c1_i32_496 : BitVec 32 := 1#32
  let v787 : Index := Scalar.indexCast c1_i32_496
  let c704 : Index := 704#32
  ![v786.toNat, 1, 704]
def k0_off191 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v791 : Index := Scalar.indexCast arg8
  let c1_i32_497 : BitVec 32 := 1#32
  let v792 : Index := Scalar.indexCast c1_i32_497
  let c720 : Index := 720#32
  ![v791.toNat, 1, 720]
def k0_off192 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v796 : Index := Scalar.indexCast arg8
  let c1_i32_498 : BitVec 32 := 1#32
  let v797 : Index := Scalar.indexCast c1_i32_498
  let c736 : Index := 736#32
  ![v796.toNat, 1, 736]
def k0_off193 (k0_t2 : Fin k0_t2_loop.trips) : Fin 3 → Nat :=
  let c0_i32_98 : BitVec 32 := 0#32
  let c1_i32_100 : BitVec 32 := 1#32
  let arg8 : BitVec 32 := Scf.iv c0_i32_98 c1_i32_100 k0_t2
  let v801 : Index := Scalar.indexCast arg8
  let c1_i32_499 : BitVec 32 := 1#32
  let v802 : Index := Scalar.indexCast c1_i32_499
  let c752 : Index := 752#32
  ![v801.toNat, 1, 752]
@[reducible] def k0_t3_loop : Scf.Loop 32 :=
  let c0_i32_129 : BitVec 32 := 0#32
  let c14_i32_130 : BitVec 32 := 14#32
  let v129 : BitVec 32 := Scalar.addi c0_i32_129 c14_i32_130
  let c1_i32_131 : BitVec 32 := 1#32
  ⟨c0_i32_129, v129, c1_i32_131⟩
def k0_off194 (k0_t3 : Fin k0_t3_loop.trips) : Fin 4 → Nat :=
  let c2_i32_267 : BitVec 32 := 2#32
  let v231 : Index := Scalar.indexCast c2_i32_267
  let c0_i32_268 : BitVec 32 := 0#32
  let v232 : Index := Scalar.indexCast c0_i32_268
  let c0_i32_269 : BitVec 32 := 0#32
  let v233 : Index := Scalar.indexCast c0_i32_269
  let c0_i32_129 : BitVec 32 := 0#32
  let c1_i32_131 : BitVec 32 := 1#32
  let arg8 : BitVec 32 := Scf.iv c0_i32_129 c1_i32_131 k0_t3
  let c16_i32_266 : BitVec 32 := 16#32
  let v230 : BitVec 32 := Scalar.muli arg8 c16_i32_266
  let v234 : Index := Scalar.indexCast v230
  ![2, 0, 0, v234.toNat]
def k0_off195 (k0_t3 : Fin k0_t3_loop.trips) : Fin 4 → Nat :=
  let c2_i32_271 : BitVec 32 := 2#32
  let v238 : Index := Scalar.indexCast c2_i32_271
  let c0_i32_272 : BitVec 32 := 0#32
  let v239 : Index := Scalar.indexCast c0_i32_272
  let c1_i32_273 : BitVec 32 := 1#32
  let v240 : Index := Scalar.indexCast c1_i32_273
  let c0_i32_129 : BitVec 32 := 0#32
  let c1_i32_131 : BitVec 32 := 1#32
  let arg8 : BitVec 32 := Scf.iv c0_i32_129 c1_i32_131 k0_t3
  let c16_i32_270 : BitVec 32 := 16#32
  let v237 : BitVec 32 := Scalar.muli arg8 c16_i32_270
  let v241 : Index := Scalar.indexCast v237
  ![2, 0, 1, v241.toNat]
def k0_off196 (k0_t3 : Fin k0_t3_loop.trips) : Fin 4 → Nat :=
  let c2_i32_275 : BitVec 32 := 2#32
  let v245 : Index := Scalar.indexCast c2_i32_275
  let c0_i32_276 : BitVec 32 := 0#32
  let v246 : Index := Scalar.indexCast c0_i32_276
  let c2_i32_277 : BitVec 32 := 2#32
  let v247 : Index := Scalar.indexCast c2_i32_277
  let c0_i32_129 : BitVec 32 := 0#32
  let c1_i32_131 : BitVec 32 := 1#32
  let arg8 : BitVec 32 := Scf.iv c0_i32_129 c1_i32_131 k0_t3
  let c16_i32_274 : BitVec 32 := 16#32
  let v244 : BitVec 32 := Scalar.muli arg8 c16_i32_274
  let v248 : Index := Scalar.indexCast v244
  ![2, 0, 2, v248.toNat]
def k0_off197 (k0_t3 : Fin k0_t3_loop.trips) : Fin 4 → Nat :=
  let c2_i32_279 : BitVec 32 := 2#32
  let v252 : Index := Scalar.indexCast c2_i32_279
  let c0_i32_280 : BitVec 32 := 0#32
  let v253 : Index := Scalar.indexCast c0_i32_280
  let c3_i32_281 : BitVec 32 := 3#32
  let v254 : Index := Scalar.indexCast c3_i32_281
  let c0_i32_129 : BitVec 32 := 0#32
  let c1_i32_131 : BitVec 32 := 1#32
  let arg8 : BitVec 32 := Scf.iv c0_i32_129 c1_i32_131 k0_t3
  let c16_i32_278 : BitVec 32 := 16#32
  let v251 : BitVec 32 := Scalar.muli arg8 c16_i32_278
  let v255 : Index := Scalar.indexCast v251
  ![2, 0, 3, v255.toNat]
def k0_off198 (k0_t3 : Fin k0_t3_loop.trips) : Fin 4 → Nat :=
  let c2_i32_283 : BitVec 32 := 2#32
  let v259 : Index := Scalar.indexCast c2_i32_283
  let c0_i32_284 : BitVec 32 := 0#32
  let v260 : Index := Scalar.indexCast c0_i32_284
  let c4_i32_285 : BitVec 32 := 4#32
  let v261 : Index := Scalar.indexCast c4_i32_285
  let c0_i32_129 : BitVec 32 := 0#32
  let c1_i32_131 : BitVec 32 := 1#32
  let arg8 : BitVec 32 := Scf.iv c0_i32_129 c1_i32_131 k0_t3
  let c16_i32_282 : BitVec 32 := 16#32
  let v258 : BitVec 32 := Scalar.muli arg8 c16_i32_282
  let v262 : Index := Scalar.indexCast v258
  ![2, 0, 4, v262.toNat]
def k0_off199 (k0_t3 : Fin k0_t3_loop.trips) : Fin 4 → Nat :=
  let c2_i32_287 : BitVec 32 := 2#32
  let v266 : Index := Scalar.indexCast c2_i32_287
  let c0_i32_288 : BitVec 32 := 0#32
  let v267 : Index := Scalar.indexCast c0_i32_288
  let c5_i32_289 : BitVec 32 := 5#32
  let v268 : Index := Scalar.indexCast c5_i32_289
  let c0_i32_129 : BitVec 32 := 0#32
  let c1_i32_131 : BitVec 32 := 1#32
  let arg8 : BitVec 32 := Scf.iv c0_i32_129 c1_i32_131 k0_t3
  let c16_i32_286 : BitVec 32 := 16#32
  let v265 : BitVec 32 := Scalar.muli arg8 c16_i32_286
  let v269 : Index := Scalar.indexCast v265
  ![2, 0, 5, v269.toNat]
def k0_off200 (k0_t3 : Fin k0_t3_loop.trips) : Fin 4 → Nat :=
  let c2_i32_291 : BitVec 32 := 2#32
  let v273 : Index := Scalar.indexCast c2_i32_291
  let c0_i32_292 : BitVec 32 := 0#32
  let v274 : Index := Scalar.indexCast c0_i32_292
  let c6_i32_293 : BitVec 32 := 6#32
  let v275 : Index := Scalar.indexCast c6_i32_293
  let c0_i32_129 : BitVec 32 := 0#32
  let c1_i32_131 : BitVec 32 := 1#32
  let arg8 : BitVec 32 := Scf.iv c0_i32_129 c1_i32_131 k0_t3
  let c16_i32_290 : BitVec 32 := 16#32
  let v272 : BitVec 32 := Scalar.muli arg8 c16_i32_290
  let v276 : Index := Scalar.indexCast v272
  ![2, 0, 6, v276.toNat]
def k0_off201 (k0_t3 : Fin k0_t3_loop.trips) : Fin 4 → Nat :=
  let c2_i32_295 : BitVec 32 := 2#32
  let v280 : Index := Scalar.indexCast c2_i32_295
  let c0_i32_296 : BitVec 32 := 0#32
  let v281 : Index := Scalar.indexCast c0_i32_296
  let c7_i32_297 : BitVec 32 := 7#32
  let v282 : Index := Scalar.indexCast c7_i32_297
  let c0_i32_129 : BitVec 32 := 0#32
  let c1_i32_131 : BitVec 32 := 1#32
  let arg8 : BitVec 32 := Scf.iv c0_i32_129 c1_i32_131 k0_t3
  let c16_i32_294 : BitVec 32 := 16#32
  let v279 : BitVec 32 := Scalar.muli arg8 c16_i32_294
  let v283 : Index := Scalar.indexCast v279
  ![2, 0, 7, v283.toNat]
def k0_off202 (k0_t3 : Fin k0_t3_loop.trips) : Fin 4 → Nat :=
  let c2_i32_299 : BitVec 32 := 2#32
  let v287 : Index := Scalar.indexCast c2_i32_299
  let c0_i32_300 : BitVec 32 := 0#32
  let v288 : Index := Scalar.indexCast c0_i32_300
  let c8_i32_301 : BitVec 32 := 8#32
  let v289 : Index := Scalar.indexCast c8_i32_301
  let c0_i32_129 : BitVec 32 := 0#32
  let c1_i32_131 : BitVec 32 := 1#32
  let arg8 : BitVec 32 := Scf.iv c0_i32_129 c1_i32_131 k0_t3
  let c16_i32_298 : BitVec 32 := 16#32
  let v286 : BitVec 32 := Scalar.muli arg8 c16_i32_298
  let v290 : Index := Scalar.indexCast v286
  ![2, 0, 8, v290.toNat]
def k0_off203 (k0_t3 : Fin k0_t3_loop.trips) : Fin 4 → Nat :=
  let c2_i32_303 : BitVec 32 := 2#32
  let v294 : Index := Scalar.indexCast c2_i32_303
  let c0_i32_304 : BitVec 32 := 0#32
  let v295 : Index := Scalar.indexCast c0_i32_304
  let c9_i32 : BitVec 32 := 9#32
  let v296 : Index := Scalar.indexCast c9_i32
  let c0_i32_129 : BitVec 32 := 0#32
  let c1_i32_131 : BitVec 32 := 1#32
  let arg8 : BitVec 32 := Scf.iv c0_i32_129 c1_i32_131 k0_t3
  let c16_i32_302 : BitVec 32 := 16#32
  let v293 : BitVec 32 := Scalar.muli arg8 c16_i32_302
  let v297 : Index := Scalar.indexCast v293
  ![2, 0, 9, v297.toNat]
def k0_off204 (k0_t3 : Fin k0_t3_loop.trips) : Fin 4 → Nat :=
  let c2_i32_306 : BitVec 32 := 2#32
  let v301 : Index := Scalar.indexCast c2_i32_306
  let c0_i32_307 : BitVec 32 := 0#32
  let v302 : Index := Scalar.indexCast c0_i32_307
  let c10_i32 : BitVec 32 := 10#32
  let v303 : Index := Scalar.indexCast c10_i32
  let c0_i32_129 : BitVec 32 := 0#32
  let c1_i32_131 : BitVec 32 := 1#32
  let arg8 : BitVec 32 := Scf.iv c0_i32_129 c1_i32_131 k0_t3
  let c16_i32_305 : BitVec 32 := 16#32
  let v300 : BitVec 32 := Scalar.muli arg8 c16_i32_305
  let v304 : Index := Scalar.indexCast v300
  ![2, 0, 10, v304.toNat]
def k0_off205 (k0_t3 : Fin k0_t3_loop.trips) : Fin 4 → Nat :=
  let c2_i32_309 : BitVec 32 := 2#32
  let v308 : Index := Scalar.indexCast c2_i32_309
  let c0_i32_310 : BitVec 32 := 0#32
  let v309 : Index := Scalar.indexCast c0_i32_310
  let c11_i32 : BitVec 32 := 11#32
  let v310 : Index := Scalar.indexCast c11_i32
  let c0_i32_129 : BitVec 32 := 0#32
  let c1_i32_131 : BitVec 32 := 1#32
  let arg8 : BitVec 32 := Scf.iv c0_i32_129 c1_i32_131 k0_t3
  let c16_i32_308 : BitVec 32 := 16#32
  let v307 : BitVec 32 := Scalar.muli arg8 c16_i32_308
  let v311 : Index := Scalar.indexCast v307
  ![2, 0, 11, v311.toNat]
def k0_off206 (k0_t3 : Fin k0_t3_loop.trips) : Fin 4 → Nat :=
  let c2_i32_312 : BitVec 32 := 2#32
  let v315 : Index := Scalar.indexCast c2_i32_312
  let c0_i32_313 : BitVec 32 := 0#32
  let v316 : Index := Scalar.indexCast c0_i32_313
  let c12_i32 : BitVec 32 := 12#32
  let v317 : Index := Scalar.indexCast c12_i32
  let c0_i32_129 : BitVec 32 := 0#32
  let c1_i32_131 : BitVec 32 := 1#32
  let arg8 : BitVec 32 := Scf.iv c0_i32_129 c1_i32_131 k0_t3
  let c16_i32_311 : BitVec 32 := 16#32
  let v314 : BitVec 32 := Scalar.muli arg8 c16_i32_311
  let v318 : Index := Scalar.indexCast v314
  ![2, 0, 12, v318.toNat]
def k0_off207 (k0_t3 : Fin k0_t3_loop.trips) : Fin 4 → Nat :=
  let c2_i32_315 : BitVec 32 := 2#32
  let v322 : Index := Scalar.indexCast c2_i32_315
  let c0_i32_316 : BitVec 32 := 0#32
  let v323 : Index := Scalar.indexCast c0_i32_316
  let c13_i32 : BitVec 32 := 13#32
  let v324 : Index := Scalar.indexCast c13_i32
  let c0_i32_129 : BitVec 32 := 0#32
  let c1_i32_131 : BitVec 32 := 1#32
  let arg8 : BitVec 32 := Scf.iv c0_i32_129 c1_i32_131 k0_t3
  let c16_i32_314 : BitVec 32 := 16#32
  let v321 : BitVec 32 := Scalar.muli arg8 c16_i32_314
  let v325 : Index := Scalar.indexCast v321
  ![2, 0, 13, v325.toNat]
def k0_off208 (k0_t3 : Fin k0_t3_loop.trips) : Fin 4 → Nat :=
  let c2_i32_318 : BitVec 32 := 2#32
  let v329 : Index := Scalar.indexCast c2_i32_318
  let c0_i32_319 : BitVec 32 := 0#32
  let v330 : Index := Scalar.indexCast c0_i32_319
  let c14_i32_320 : BitVec 32 := 14#32
  let v331 : Index := Scalar.indexCast c14_i32_320
  let c0_i32_129 : BitVec 32 := 0#32
  let c1_i32_131 : BitVec 32 := 1#32
  let arg8 : BitVec 32 := Scf.iv c0_i32_129 c1_i32_131 k0_t3
  let c16_i32_317 : BitVec 32 := 16#32
  let v328 : BitVec 32 := Scalar.muli arg8 c16_i32_317
  let v332 : Index := Scalar.indexCast v328
  ![2, 0, 14, v332.toNat]
def k0_off209 (k0_t3 : Fin k0_t3_loop.trips) : Fin 4 → Nat :=
  let c2_i32_322 : BitVec 32 := 2#32
  let v336 : Index := Scalar.indexCast c2_i32_322
  let c0_i32_323 : BitVec 32 := 0#32
  let v337 : Index := Scalar.indexCast c0_i32_323
  let c15_i32 : BitVec 32 := 15#32
  let v338 : Index := Scalar.indexCast c15_i32
  let c0_i32_129 : BitVec 32 := 0#32
  let c1_i32_131 : BitVec 32 := 1#32
  let arg8 : BitVec 32 := Scf.iv c0_i32_129 c1_i32_131 k0_t3
  let c16_i32_321 : BitVec 32 := 16#32
  let v335 : BitVec 32 := Scalar.muli arg8 c16_i32_321
  let v339 : Index := Scalar.indexCast v335
  ![2, 0, 15, v339.toNat]
def k0_off210 (k0_t3 : Fin k0_t3_loop.trips) : Fin 4 → Nat :=
  let c2_i32_325 : BitVec 32 := 2#32
  let v343 : Index := Scalar.indexCast c2_i32_325
  let c1_i32_326 : BitVec 32 := 1#32
  let v344 : Index := Scalar.indexCast c1_i32_326
  let c0_i32_327 : BitVec 32 := 0#32
  let v345 : Index := Scalar.indexCast c0_i32_327
  let c0_i32_129 : BitVec 32 := 0#32
  let c1_i32_131 : BitVec 32 := 1#32
  let arg8 : BitVec 32 := Scf.iv c0_i32_129 c1_i32_131 k0_t3
  let c16_i32_324 : BitVec 32 := 16#32
  let v342 : BitVec 32 := Scalar.muli arg8 c16_i32_324
  let v346 : Index := Scalar.indexCast v342
  ![2, 1, 0, v346.toNat]
def k0_off211 (k0_t3 : Fin k0_t3_loop.trips) : Fin 4 → Nat :=
  let c2_i32_329 : BitVec 32 := 2#32
  let v350 : Index := Scalar.indexCast c2_i32_329
  let c1_i32_330 : BitVec 32 := 1#32
  let v351 : Index := Scalar.indexCast c1_i32_330
  let c1_i32_331 : BitVec 32 := 1#32
  let v352 : Index := Scalar.indexCast c1_i32_331
  let c0_i32_129 : BitVec 32 := 0#32
  let c1_i32_131 : BitVec 32 := 1#32
  let arg8 : BitVec 32 := Scf.iv c0_i32_129 c1_i32_131 k0_t3
  let c16_i32_328 : BitVec 32 := 16#32
  let v349 : BitVec 32 := Scalar.muli arg8 c16_i32_328
  let v353 : Index := Scalar.indexCast v349
  ![2, 1, 1, v353.toNat]
def k0_off212 (k0_t3 : Fin k0_t3_loop.trips) : Fin 4 → Nat :=
  let c2_i32_333 : BitVec 32 := 2#32
  let v357 : Index := Scalar.indexCast c2_i32_333
  let c1_i32_334 : BitVec 32 := 1#32
  let v358 : Index := Scalar.indexCast c1_i32_334
  let c2_i32_335 : BitVec 32 := 2#32
  let v359 : Index := Scalar.indexCast c2_i32_335
  let c0_i32_129 : BitVec 32 := 0#32
  let c1_i32_131 : BitVec 32 := 1#32
  let arg8 : BitVec 32 := Scf.iv c0_i32_129 c1_i32_131 k0_t3
  let c16_i32_332 : BitVec 32 := 16#32
  let v356 : BitVec 32 := Scalar.muli arg8 c16_i32_332
  let v360 : Index := Scalar.indexCast v356
  ![2, 1, 2, v360.toNat]
def k0_off213 (k0_t3 : Fin k0_t3_loop.trips) : Fin 4 → Nat :=
  let c2_i32_337 : BitVec 32 := 2#32
  let v364 : Index := Scalar.indexCast c2_i32_337
  let c1_i32_338 : BitVec 32 := 1#32
  let v365 : Index := Scalar.indexCast c1_i32_338
  let c3_i32_339 : BitVec 32 := 3#32
  let v366 : Index := Scalar.indexCast c3_i32_339
  let c0_i32_129 : BitVec 32 := 0#32
  let c1_i32_131 : BitVec 32 := 1#32
  let arg8 : BitVec 32 := Scf.iv c0_i32_129 c1_i32_131 k0_t3
  let c16_i32_336 : BitVec 32 := 16#32
  let v363 : BitVec 32 := Scalar.muli arg8 c16_i32_336
  let v367 : Index := Scalar.indexCast v363
  ![2, 1, 3, v367.toNat]
def k0_off214 (k0_t3 : Fin k0_t3_loop.trips) : Fin 4 → Nat :=
  let c2_i32_341 : BitVec 32 := 2#32
  let v371 : Index := Scalar.indexCast c2_i32_341
  let c1_i32_342 : BitVec 32 := 1#32
  let v372 : Index := Scalar.indexCast c1_i32_342
  let c4_i32_343 : BitVec 32 := 4#32
  let v373 : Index := Scalar.indexCast c4_i32_343
  let c0_i32_129 : BitVec 32 := 0#32
  let c1_i32_131 : BitVec 32 := 1#32
  let arg8 : BitVec 32 := Scf.iv c0_i32_129 c1_i32_131 k0_t3
  let c16_i32_340 : BitVec 32 := 16#32
  let v370 : BitVec 32 := Scalar.muli arg8 c16_i32_340
  let v374 : Index := Scalar.indexCast v370
  ![2, 1, 4, v374.toNat]
def k0_off215 (k0_t3 : Fin k0_t3_loop.trips) : Fin 4 → Nat :=
  let c2_i32_345 : BitVec 32 := 2#32
  let v378 : Index := Scalar.indexCast c2_i32_345
  let c1_i32_346 : BitVec 32 := 1#32
  let v379 : Index := Scalar.indexCast c1_i32_346
  let c5_i32_347 : BitVec 32 := 5#32
  let v380 : Index := Scalar.indexCast c5_i32_347
  let c0_i32_129 : BitVec 32 := 0#32
  let c1_i32_131 : BitVec 32 := 1#32
  let arg8 : BitVec 32 := Scf.iv c0_i32_129 c1_i32_131 k0_t3
  let c16_i32_344 : BitVec 32 := 16#32
  let v377 : BitVec 32 := Scalar.muli arg8 c16_i32_344
  let v381 : Index := Scalar.indexCast v377
  ![2, 1, 5, v381.toNat]
def k0_off216 (k0_t3 : Fin k0_t3_loop.trips) : Fin 4 → Nat :=
  let c2_i32_349 : BitVec 32 := 2#32
  let v385 : Index := Scalar.indexCast c2_i32_349
  let c1_i32_350 : BitVec 32 := 1#32
  let v386 : Index := Scalar.indexCast c1_i32_350
  let c6_i32_351 : BitVec 32 := 6#32
  let v387 : Index := Scalar.indexCast c6_i32_351
  let c0_i32_129 : BitVec 32 := 0#32
  let c1_i32_131 : BitVec 32 := 1#32
  let arg8 : BitVec 32 := Scf.iv c0_i32_129 c1_i32_131 k0_t3
  let c16_i32_348 : BitVec 32 := 16#32
  let v384 : BitVec 32 := Scalar.muli arg8 c16_i32_348
  let v388 : Index := Scalar.indexCast v384
  ![2, 1, 6, v388.toNat]
def k0_off217 (k0_t3 : Fin k0_t3_loop.trips) : Fin 4 → Nat :=
  let c2_i32_353 : BitVec 32 := 2#32
  let v392 : Index := Scalar.indexCast c2_i32_353
  let c1_i32_354 : BitVec 32 := 1#32
  let v393 : Index := Scalar.indexCast c1_i32_354
  let c7_i32_355 : BitVec 32 := 7#32
  let v394 : Index := Scalar.indexCast c7_i32_355
  let c0_i32_129 : BitVec 32 := 0#32
  let c1_i32_131 : BitVec 32 := 1#32
  let arg8 : BitVec 32 := Scf.iv c0_i32_129 c1_i32_131 k0_t3
  let c16_i32_352 : BitVec 32 := 16#32
  let v391 : BitVec 32 := Scalar.muli arg8 c16_i32_352
  let v395 : Index := Scalar.indexCast v391
  ![2, 1, 7, v395.toNat]
def k0_off218 (k0_t3 : Fin k0_t3_loop.trips) : Fin 4 → Nat :=
  let c2_i32_357 : BitVec 32 := 2#32
  let v399 : Index := Scalar.indexCast c2_i32_357
  let c1_i32_358 : BitVec 32 := 1#32
  let v400 : Index := Scalar.indexCast c1_i32_358
  let c8_i32_359 : BitVec 32 := 8#32
  let v401 : Index := Scalar.indexCast c8_i32_359
  let c0_i32_129 : BitVec 32 := 0#32
  let c1_i32_131 : BitVec 32 := 1#32
  let arg8 : BitVec 32 := Scf.iv c0_i32_129 c1_i32_131 k0_t3
  let c16_i32_356 : BitVec 32 := 16#32
  let v398 : BitVec 32 := Scalar.muli arg8 c16_i32_356
  let v402 : Index := Scalar.indexCast v398
  ![2, 1, 8, v402.toNat]
def k0_off219 (k0_t3 : Fin k0_t3_loop.trips) : Fin 4 → Nat :=
  let c2_i32_361 : BitVec 32 := 2#32
  let v406 : Index := Scalar.indexCast c2_i32_361
  let c1_i32_362 : BitVec 32 := 1#32
  let v407 : Index := Scalar.indexCast c1_i32_362
  let c9_i32_363 : BitVec 32 := 9#32
  let v408 : Index := Scalar.indexCast c9_i32_363
  let c0_i32_129 : BitVec 32 := 0#32
  let c1_i32_131 : BitVec 32 := 1#32
  let arg8 : BitVec 32 := Scf.iv c0_i32_129 c1_i32_131 k0_t3
  let c16_i32_360 : BitVec 32 := 16#32
  let v405 : BitVec 32 := Scalar.muli arg8 c16_i32_360
  let v409 : Index := Scalar.indexCast v405
  ![2, 1, 9, v409.toNat]
def k0_off220 (k0_t3 : Fin k0_t3_loop.trips) : Fin 4 → Nat :=
  let c2_i32_365 : BitVec 32 := 2#32
  let v413 : Index := Scalar.indexCast c2_i32_365
  let c1_i32_366 : BitVec 32 := 1#32
  let v414 : Index := Scalar.indexCast c1_i32_366
  let c10_i32_367 : BitVec 32 := 10#32
  let v415 : Index := Scalar.indexCast c10_i32_367
  let c0_i32_129 : BitVec 32 := 0#32
  let c1_i32_131 : BitVec 32 := 1#32
  let arg8 : BitVec 32 := Scf.iv c0_i32_129 c1_i32_131 k0_t3
  let c16_i32_364 : BitVec 32 := 16#32
  let v412 : BitVec 32 := Scalar.muli arg8 c16_i32_364
  let v416 : Index := Scalar.indexCast v412
  ![2, 1, 10, v416.toNat]
def k0_off221 (k0_t3 : Fin k0_t3_loop.trips) : Fin 4 → Nat :=
  let c2_i32_369 : BitVec 32 := 2#32
  let v420 : Index := Scalar.indexCast c2_i32_369
  let c1_i32_370 : BitVec 32 := 1#32
  let v421 : Index := Scalar.indexCast c1_i32_370
  let c11_i32_371 : BitVec 32 := 11#32
  let v422 : Index := Scalar.indexCast c11_i32_371
  let c0_i32_129 : BitVec 32 := 0#32
  let c1_i32_131 : BitVec 32 := 1#32
  let arg8 : BitVec 32 := Scf.iv c0_i32_129 c1_i32_131 k0_t3
  let c16_i32_368 : BitVec 32 := 16#32
  let v419 : BitVec 32 := Scalar.muli arg8 c16_i32_368
  let v423 : Index := Scalar.indexCast v419
  ![2, 1, 11, v423.toNat]
def k0_off222 (k0_t3 : Fin k0_t3_loop.trips) : Fin 4 → Nat :=
  let c2_i32_373 : BitVec 32 := 2#32
  let v427 : Index := Scalar.indexCast c2_i32_373
  let c1_i32_374 : BitVec 32 := 1#32
  let v428 : Index := Scalar.indexCast c1_i32_374
  let c12_i32_375 : BitVec 32 := 12#32
  let v429 : Index := Scalar.indexCast c12_i32_375
  let c0_i32_129 : BitVec 32 := 0#32
  let c1_i32_131 : BitVec 32 := 1#32
  let arg8 : BitVec 32 := Scf.iv c0_i32_129 c1_i32_131 k0_t3
  let c16_i32_372 : BitVec 32 := 16#32
  let v426 : BitVec 32 := Scalar.muli arg8 c16_i32_372
  let v430 : Index := Scalar.indexCast v426
  ![2, 1, 12, v430.toNat]
def k0_off223 (k0_t3 : Fin k0_t3_loop.trips) : Fin 4 → Nat :=
  let c2_i32_377 : BitVec 32 := 2#32
  let v434 : Index := Scalar.indexCast c2_i32_377
  let c1_i32_378 : BitVec 32 := 1#32
  let v435 : Index := Scalar.indexCast c1_i32_378
  let c13_i32_379 : BitVec 32 := 13#32
  let v436 : Index := Scalar.indexCast c13_i32_379
  let c0_i32_129 : BitVec 32 := 0#32
  let c1_i32_131 : BitVec 32 := 1#32
  let arg8 : BitVec 32 := Scf.iv c0_i32_129 c1_i32_131 k0_t3
  let c16_i32_376 : BitVec 32 := 16#32
  let v433 : BitVec 32 := Scalar.muli arg8 c16_i32_376
  let v437 : Index := Scalar.indexCast v433
  ![2, 1, 13, v437.toNat]
def k0_off224 (k0_t3 : Fin k0_t3_loop.trips) : Fin 4 → Nat :=
  let c2_i32_381 : BitVec 32 := 2#32
  let v441 : Index := Scalar.indexCast c2_i32_381
  let c1_i32_382 : BitVec 32 := 1#32
  let v442 : Index := Scalar.indexCast c1_i32_382
  let c14_i32_383 : BitVec 32 := 14#32
  let v443 : Index := Scalar.indexCast c14_i32_383
  let c0_i32_129 : BitVec 32 := 0#32
  let c1_i32_131 : BitVec 32 := 1#32
  let arg8 : BitVec 32 := Scf.iv c0_i32_129 c1_i32_131 k0_t3
  let c16_i32_380 : BitVec 32 := 16#32
  let v440 : BitVec 32 := Scalar.muli arg8 c16_i32_380
  let v444 : Index := Scalar.indexCast v440
  ![2, 1, 14, v444.toNat]
def k0_off225 (k0_t3 : Fin k0_t3_loop.trips) : Fin 4 → Nat :=
  let c2_i32_385 : BitVec 32 := 2#32
  let v448 : Index := Scalar.indexCast c2_i32_385
  let c1_i32_386 : BitVec 32 := 1#32
  let v449 : Index := Scalar.indexCast c1_i32_386
  let c15_i32_387 : BitVec 32 := 15#32
  let v450 : Index := Scalar.indexCast c15_i32_387
  let c0_i32_129 : BitVec 32 := 0#32
  let c1_i32_131 : BitVec 32 := 1#32
  let arg8 : BitVec 32 := Scf.iv c0_i32_129 c1_i32_131 k0_t3
  let c16_i32_384 : BitVec 32 := 16#32
  let v447 : BitVec 32 := Scalar.muli arg8 c16_i32_384
  let v451 : Index := Scalar.indexCast v447
  ![2, 1, 15, v451.toNat]
def k0_off226 (k0_t3 : Fin k0_t3_loop.trips) : Fin 4 → Nat :=
  let c2_i32_389 : BitVec 32 := 2#32
  let v455 : Index := Scalar.indexCast c2_i32_389
  let c2_i32_390 : BitVec 32 := 2#32
  let v456 : Index := Scalar.indexCast c2_i32_390
  let c0_i32_391 : BitVec 32 := 0#32
  let v457 : Index := Scalar.indexCast c0_i32_391
  let c0_i32_129 : BitVec 32 := 0#32
  let c1_i32_131 : BitVec 32 := 1#32
  let arg8 : BitVec 32 := Scf.iv c0_i32_129 c1_i32_131 k0_t3
  let c16_i32_388 : BitVec 32 := 16#32
  let v454 : BitVec 32 := Scalar.muli arg8 c16_i32_388
  let v458 : Index := Scalar.indexCast v454
  ![2, 2, 0, v458.toNat]
def k0_off227 (k0_t3 : Fin k0_t3_loop.trips) : Fin 4 → Nat :=
  let c2_i32_393 : BitVec 32 := 2#32
  let v462 : Index := Scalar.indexCast c2_i32_393
  let c2_i32_394 : BitVec 32 := 2#32
  let v463 : Index := Scalar.indexCast c2_i32_394
  let c1_i32_395 : BitVec 32 := 1#32
  let v464 : Index := Scalar.indexCast c1_i32_395
  let c0_i32_129 : BitVec 32 := 0#32
  let c1_i32_131 : BitVec 32 := 1#32
  let arg8 : BitVec 32 := Scf.iv c0_i32_129 c1_i32_131 k0_t3
  let c16_i32_392 : BitVec 32 := 16#32
  let v461 : BitVec 32 := Scalar.muli arg8 c16_i32_392
  let v465 : Index := Scalar.indexCast v461
  ![2, 2, 1, v465.toNat]
def k0_off228 (k0_t3 : Fin k0_t3_loop.trips) : Fin 4 → Nat :=
  let c2_i32_397 : BitVec 32 := 2#32
  let v469 : Index := Scalar.indexCast c2_i32_397
  let c2_i32_398 : BitVec 32 := 2#32
  let v470 : Index := Scalar.indexCast c2_i32_398
  let c2_i32_399 : BitVec 32 := 2#32
  let v471 : Index := Scalar.indexCast c2_i32_399
  let c0_i32_129 : BitVec 32 := 0#32
  let c1_i32_131 : BitVec 32 := 1#32
  let arg8 : BitVec 32 := Scf.iv c0_i32_129 c1_i32_131 k0_t3
  let c16_i32_396 : BitVec 32 := 16#32
  let v468 : BitVec 32 := Scalar.muli arg8 c16_i32_396
  let v472 : Index := Scalar.indexCast v468
  ![2, 2, 2, v472.toNat]
def k0_off229 (k0_t3 : Fin k0_t3_loop.trips) : Fin 4 → Nat :=
  let c2_i32_401 : BitVec 32 := 2#32
  let v476 : Index := Scalar.indexCast c2_i32_401
  let c2_i32_402 : BitVec 32 := 2#32
  let v477 : Index := Scalar.indexCast c2_i32_402
  let c3_i32_403 : BitVec 32 := 3#32
  let v478 : Index := Scalar.indexCast c3_i32_403
  let c0_i32_129 : BitVec 32 := 0#32
  let c1_i32_131 : BitVec 32 := 1#32
  let arg8 : BitVec 32 := Scf.iv c0_i32_129 c1_i32_131 k0_t3
  let c16_i32_400 : BitVec 32 := 16#32
  let v475 : BitVec 32 := Scalar.muli arg8 c16_i32_400
  let v479 : Index := Scalar.indexCast v475
  ![2, 2, 3, v479.toNat]
def k0_off230 (k0_t3 : Fin k0_t3_loop.trips) : Fin 4 → Nat :=
  let c2_i32_405 : BitVec 32 := 2#32
  let v483 : Index := Scalar.indexCast c2_i32_405
  let c2_i32_406 : BitVec 32 := 2#32
  let v484 : Index := Scalar.indexCast c2_i32_406
  let c4_i32_407 : BitVec 32 := 4#32
  let v485 : Index := Scalar.indexCast c4_i32_407
  let c0_i32_129 : BitVec 32 := 0#32
  let c1_i32_131 : BitVec 32 := 1#32
  let arg8 : BitVec 32 := Scf.iv c0_i32_129 c1_i32_131 k0_t3
  let c16_i32_404 : BitVec 32 := 16#32
  let v482 : BitVec 32 := Scalar.muli arg8 c16_i32_404
  let v486 : Index := Scalar.indexCast v482
  ![2, 2, 4, v486.toNat]
def k0_off231 (k0_t3 : Fin k0_t3_loop.trips) : Fin 4 → Nat :=
  let c2_i32_409 : BitVec 32 := 2#32
  let v490 : Index := Scalar.indexCast c2_i32_409
  let c2_i32_410 : BitVec 32 := 2#32
  let v491 : Index := Scalar.indexCast c2_i32_410
  let c5_i32_411 : BitVec 32 := 5#32
  let v492 : Index := Scalar.indexCast c5_i32_411
  let c0_i32_129 : BitVec 32 := 0#32
  let c1_i32_131 : BitVec 32 := 1#32
  let arg8 : BitVec 32 := Scf.iv c0_i32_129 c1_i32_131 k0_t3
  let c16_i32_408 : BitVec 32 := 16#32
  let v489 : BitVec 32 := Scalar.muli arg8 c16_i32_408
  let v493 : Index := Scalar.indexCast v489
  ![2, 2, 5, v493.toNat]
def k0_off232 (k0_t3 : Fin k0_t3_loop.trips) : Fin 4 → Nat :=
  let c2_i32_413 : BitVec 32 := 2#32
  let v497 : Index := Scalar.indexCast c2_i32_413
  let c2_i32_414 : BitVec 32 := 2#32
  let v498 : Index := Scalar.indexCast c2_i32_414
  let c6_i32_415 : BitVec 32 := 6#32
  let v499 : Index := Scalar.indexCast c6_i32_415
  let c0_i32_129 : BitVec 32 := 0#32
  let c1_i32_131 : BitVec 32 := 1#32
  let arg8 : BitVec 32 := Scf.iv c0_i32_129 c1_i32_131 k0_t3
  let c16_i32_412 : BitVec 32 := 16#32
  let v496 : BitVec 32 := Scalar.muli arg8 c16_i32_412
  let v500 : Index := Scalar.indexCast v496
  ![2, 2, 6, v500.toNat]
def k0_off233 (k0_t3 : Fin k0_t3_loop.trips) : Fin 4 → Nat :=
  let c2_i32_417 : BitVec 32 := 2#32
  let v504 : Index := Scalar.indexCast c2_i32_417
  let c2_i32_418 : BitVec 32 := 2#32
  let v505 : Index := Scalar.indexCast c2_i32_418
  let c7_i32_419 : BitVec 32 := 7#32
  let v506 : Index := Scalar.indexCast c7_i32_419
  let c0_i32_129 : BitVec 32 := 0#32
  let c1_i32_131 : BitVec 32 := 1#32
  let arg8 : BitVec 32 := Scf.iv c0_i32_129 c1_i32_131 k0_t3
  let c16_i32_416 : BitVec 32 := 16#32
  let v503 : BitVec 32 := Scalar.muli arg8 c16_i32_416
  let v507 : Index := Scalar.indexCast v503
  ![2, 2, 7, v507.toNat]
def k0_off234 (k0_t3 : Fin k0_t3_loop.trips) : Fin 4 → Nat :=
  let c2_i32_421 : BitVec 32 := 2#32
  let v511 : Index := Scalar.indexCast c2_i32_421
  let c2_i32_422 : BitVec 32 := 2#32
  let v512 : Index := Scalar.indexCast c2_i32_422
  let c8_i32_423 : BitVec 32 := 8#32
  let v513 : Index := Scalar.indexCast c8_i32_423
  let c0_i32_129 : BitVec 32 := 0#32
  let c1_i32_131 : BitVec 32 := 1#32
  let arg8 : BitVec 32 := Scf.iv c0_i32_129 c1_i32_131 k0_t3
  let c16_i32_420 : BitVec 32 := 16#32
  let v510 : BitVec 32 := Scalar.muli arg8 c16_i32_420
  let v514 : Index := Scalar.indexCast v510
  ![2, 2, 8, v514.toNat]
def k0_off235 (k0_t3 : Fin k0_t3_loop.trips) : Fin 4 → Nat :=
  let c2_i32_425 : BitVec 32 := 2#32
  let v518 : Index := Scalar.indexCast c2_i32_425
  let c2_i32_426 : BitVec 32 := 2#32
  let v519 : Index := Scalar.indexCast c2_i32_426
  let c9_i32_427 : BitVec 32 := 9#32
  let v520 : Index := Scalar.indexCast c9_i32_427
  let c0_i32_129 : BitVec 32 := 0#32
  let c1_i32_131 : BitVec 32 := 1#32
  let arg8 : BitVec 32 := Scf.iv c0_i32_129 c1_i32_131 k0_t3
  let c16_i32_424 : BitVec 32 := 16#32
  let v517 : BitVec 32 := Scalar.muli arg8 c16_i32_424
  let v521 : Index := Scalar.indexCast v517
  ![2, 2, 9, v521.toNat]
def k0_off236 (k0_t3 : Fin k0_t3_loop.trips) : Fin 4 → Nat :=
  let c2_i32_429 : BitVec 32 := 2#32
  let v525 : Index := Scalar.indexCast c2_i32_429
  let c2_i32_430 : BitVec 32 := 2#32
  let v526 : Index := Scalar.indexCast c2_i32_430
  let c10_i32_431 : BitVec 32 := 10#32
  let v527 : Index := Scalar.indexCast c10_i32_431
  let c0_i32_129 : BitVec 32 := 0#32
  let c1_i32_131 : BitVec 32 := 1#32
  let arg8 : BitVec 32 := Scf.iv c0_i32_129 c1_i32_131 k0_t3
  let c16_i32_428 : BitVec 32 := 16#32
  let v524 : BitVec 32 := Scalar.muli arg8 c16_i32_428
  let v528 : Index := Scalar.indexCast v524
  ![2, 2, 10, v528.toNat]
def k0_off237 (k0_t3 : Fin k0_t3_loop.trips) : Fin 4 → Nat :=
  let c2_i32_433 : BitVec 32 := 2#32
  let v532 : Index := Scalar.indexCast c2_i32_433
  let c2_i32_434 : BitVec 32 := 2#32
  let v533 : Index := Scalar.indexCast c2_i32_434
  let c11_i32_435 : BitVec 32 := 11#32
  let v534 : Index := Scalar.indexCast c11_i32_435
  let c0_i32_129 : BitVec 32 := 0#32
  let c1_i32_131 : BitVec 32 := 1#32
  let arg8 : BitVec 32 := Scf.iv c0_i32_129 c1_i32_131 k0_t3
  let c16_i32_432 : BitVec 32 := 16#32
  let v531 : BitVec 32 := Scalar.muli arg8 c16_i32_432
  let v535 : Index := Scalar.indexCast v531
  ![2, 2, 11, v535.toNat]
def k0_off238 (k0_t3 : Fin k0_t3_loop.trips) : Fin 4 → Nat :=
  let c2_i32_437 : BitVec 32 := 2#32
  let v539 : Index := Scalar.indexCast c2_i32_437
  let c2_i32_438 : BitVec 32 := 2#32
  let v540 : Index := Scalar.indexCast c2_i32_438
  let c12_i32_439 : BitVec 32 := 12#32
  let v541 : Index := Scalar.indexCast c12_i32_439
  let c0_i32_129 : BitVec 32 := 0#32
  let c1_i32_131 : BitVec 32 := 1#32
  let arg8 : BitVec 32 := Scf.iv c0_i32_129 c1_i32_131 k0_t3
  let c16_i32_436 : BitVec 32 := 16#32
  let v538 : BitVec 32 := Scalar.muli arg8 c16_i32_436
  let v542 : Index := Scalar.indexCast v538
  ![2, 2, 12, v542.toNat]
def k0_off239 (k0_t3 : Fin k0_t3_loop.trips) : Fin 4 → Nat :=
  let c2_i32_441 : BitVec 32 := 2#32
  let v546 : Index := Scalar.indexCast c2_i32_441
  let c2_i32_442 : BitVec 32 := 2#32
  let v547 : Index := Scalar.indexCast c2_i32_442
  let c13_i32_443 : BitVec 32 := 13#32
  let v548 : Index := Scalar.indexCast c13_i32_443
  let c0_i32_129 : BitVec 32 := 0#32
  let c1_i32_131 : BitVec 32 := 1#32
  let arg8 : BitVec 32 := Scf.iv c0_i32_129 c1_i32_131 k0_t3
  let c16_i32_440 : BitVec 32 := 16#32
  let v545 : BitVec 32 := Scalar.muli arg8 c16_i32_440
  let v549 : Index := Scalar.indexCast v545
  ![2, 2, 13, v549.toNat]
def k0_off240 (k0_t3 : Fin k0_t3_loop.trips) : Fin 4 → Nat :=
  let c2_i32_445 : BitVec 32 := 2#32
  let v553 : Index := Scalar.indexCast c2_i32_445
  let c2_i32_446 : BitVec 32 := 2#32
  let v554 : Index := Scalar.indexCast c2_i32_446
  let c14_i32_447 : BitVec 32 := 14#32
  let v555 : Index := Scalar.indexCast c14_i32_447
  let c0_i32_129 : BitVec 32 := 0#32
  let c1_i32_131 : BitVec 32 := 1#32
  let arg8 : BitVec 32 := Scf.iv c0_i32_129 c1_i32_131 k0_t3
  let c16_i32_444 : BitVec 32 := 16#32
  let v552 : BitVec 32 := Scalar.muli arg8 c16_i32_444
  let v556 : Index := Scalar.indexCast v552
  ![2, 2, 14, v556.toNat]
def k0_off241 (k0_t3 : Fin k0_t3_loop.trips) : Fin 4 → Nat :=
  let c2_i32_449 : BitVec 32 := 2#32
  let v560 : Index := Scalar.indexCast c2_i32_449
  let c2_i32_450 : BitVec 32 := 2#32
  let v561 : Index := Scalar.indexCast c2_i32_450
  let c15_i32_451 : BitVec 32 := 15#32
  let v562 : Index := Scalar.indexCast c15_i32_451
  let c0_i32_129 : BitVec 32 := 0#32
  let c1_i32_131 : BitVec 32 := 1#32
  let arg8 : BitVec 32 := Scf.iv c0_i32_129 c1_i32_131 k0_t3
  let c16_i32_448 : BitVec 32 := 16#32
  let v559 : BitVec 32 := Scalar.muli arg8 c16_i32_448
  let v563 : Index := Scalar.indexCast v559
  ![2, 2, 15, v563.toNat]
def k0_off242 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v566 : Index := Scalar.indexCast arg8
  let c2_i32_452 : BitVec 32 := 2#32
  let v567 : Index := Scalar.indexCast c2_i32_452
  let c0 : Index := 0#32
  ![v566.toNat, 2, 0]
def k0_off243 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v571 : Index := Scalar.indexCast arg8
  let c2_i32_453 : BitVec 32 := 2#32
  let v572 : Index := Scalar.indexCast c2_i32_453
  let c16 : Index := 16#32
  ![v571.toNat, 2, 16]
def k0_off244 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v576 : Index := Scalar.indexCast arg8
  let c2_i32_454 : BitVec 32 := 2#32
  let v577 : Index := Scalar.indexCast c2_i32_454
  let c32 : Index := 32#32
  ![v576.toNat, 2, 32]
def k0_off245 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v581 : Index := Scalar.indexCast arg8
  let c2_i32_455 : BitVec 32 := 2#32
  let v582 : Index := Scalar.indexCast c2_i32_455
  let c48 : Index := 48#32
  ![v581.toNat, 2, 48]
def k0_off246 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v586 : Index := Scalar.indexCast arg8
  let c2_i32_456 : BitVec 32 := 2#32
  let v587 : Index := Scalar.indexCast c2_i32_456
  let c64 : Index := 64#32
  ![v586.toNat, 2, 64]
def k0_off247 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v591 : Index := Scalar.indexCast arg8
  let c2_i32_457 : BitVec 32 := 2#32
  let v592 : Index := Scalar.indexCast c2_i32_457
  let c80 : Index := 80#32
  ![v591.toNat, 2, 80]
def k0_off248 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v596 : Index := Scalar.indexCast arg8
  let c2_i32_458 : BitVec 32 := 2#32
  let v597 : Index := Scalar.indexCast c2_i32_458
  let c96 : Index := 96#32
  ![v596.toNat, 2, 96]
def k0_off249 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v601 : Index := Scalar.indexCast arg8
  let c2_i32_459 : BitVec 32 := 2#32
  let v602 : Index := Scalar.indexCast c2_i32_459
  let c112 : Index := 112#32
  ![v601.toNat, 2, 112]
def k0_off250 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v606 : Index := Scalar.indexCast arg8
  let c2_i32_460 : BitVec 32 := 2#32
  let v607 : Index := Scalar.indexCast c2_i32_460
  let c128 : Index := 128#32
  ![v606.toNat, 2, 128]
def k0_off251 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v611 : Index := Scalar.indexCast arg8
  let c2_i32_461 : BitVec 32 := 2#32
  let v612 : Index := Scalar.indexCast c2_i32_461
  let c144 : Index := 144#32
  ![v611.toNat, 2, 144]
def k0_off252 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v616 : Index := Scalar.indexCast arg8
  let c2_i32_462 : BitVec 32 := 2#32
  let v617 : Index := Scalar.indexCast c2_i32_462
  let c160 : Index := 160#32
  ![v616.toNat, 2, 160]
def k0_off253 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v621 : Index := Scalar.indexCast arg8
  let c2_i32_463 : BitVec 32 := 2#32
  let v622 : Index := Scalar.indexCast c2_i32_463
  let c176 : Index := 176#32
  ![v621.toNat, 2, 176]
def k0_off254 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v626 : Index := Scalar.indexCast arg8
  let c2_i32_464 : BitVec 32 := 2#32
  let v627 : Index := Scalar.indexCast c2_i32_464
  let c192 : Index := 192#32
  ![v626.toNat, 2, 192]
def k0_off255 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v631 : Index := Scalar.indexCast arg8
  let c2_i32_465 : BitVec 32 := 2#32
  let v632 : Index := Scalar.indexCast c2_i32_465
  let c208 : Index := 208#32
  ![v631.toNat, 2, 208]
def k0_off256 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v636 : Index := Scalar.indexCast arg8
  let c2_i32_466 : BitVec 32 := 2#32
  let v637 : Index := Scalar.indexCast c2_i32_466
  let c224 : Index := 224#32
  ![v636.toNat, 2, 224]
def k0_off257 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v641 : Index := Scalar.indexCast arg8
  let c2_i32_467 : BitVec 32 := 2#32
  let v642 : Index := Scalar.indexCast c2_i32_467
  let c240 : Index := 240#32
  ![v641.toNat, 2, 240]
def k0_off258 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v646 : Index := Scalar.indexCast arg8
  let c2_i32_468 : BitVec 32 := 2#32
  let v647 : Index := Scalar.indexCast c2_i32_468
  let c256 : Index := 256#32
  ![v646.toNat, 2, 256]
def k0_off259 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v651 : Index := Scalar.indexCast arg8
  let c2_i32_469 : BitVec 32 := 2#32
  let v652 : Index := Scalar.indexCast c2_i32_469
  let c272 : Index := 272#32
  ![v651.toNat, 2, 272]
def k0_off260 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v656 : Index := Scalar.indexCast arg8
  let c2_i32_470 : BitVec 32 := 2#32
  let v657 : Index := Scalar.indexCast c2_i32_470
  let c288 : Index := 288#32
  ![v656.toNat, 2, 288]
def k0_off261 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v661 : Index := Scalar.indexCast arg8
  let c2_i32_471 : BitVec 32 := 2#32
  let v662 : Index := Scalar.indexCast c2_i32_471
  let c304 : Index := 304#32
  ![v661.toNat, 2, 304]
def k0_off262 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v666 : Index := Scalar.indexCast arg8
  let c2_i32_472 : BitVec 32 := 2#32
  let v667 : Index := Scalar.indexCast c2_i32_472
  let c320 : Index := 320#32
  ![v666.toNat, 2, 320]
def k0_off263 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v671 : Index := Scalar.indexCast arg8
  let c2_i32_473 : BitVec 32 := 2#32
  let v672 : Index := Scalar.indexCast c2_i32_473
  let c336 : Index := 336#32
  ![v671.toNat, 2, 336]
def k0_off264 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v676 : Index := Scalar.indexCast arg8
  let c2_i32_474 : BitVec 32 := 2#32
  let v677 : Index := Scalar.indexCast c2_i32_474
  let c352 : Index := 352#32
  ![v676.toNat, 2, 352]
def k0_off265 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v681 : Index := Scalar.indexCast arg8
  let c2_i32_475 : BitVec 32 := 2#32
  let v682 : Index := Scalar.indexCast c2_i32_475
  let c368 : Index := 368#32
  ![v681.toNat, 2, 368]
def k0_off266 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v686 : Index := Scalar.indexCast arg8
  let c2_i32_476 : BitVec 32 := 2#32
  let v687 : Index := Scalar.indexCast c2_i32_476
  let c384 : Index := 384#32
  ![v686.toNat, 2, 384]
def k0_off267 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v691 : Index := Scalar.indexCast arg8
  let c2_i32_477 : BitVec 32 := 2#32
  let v692 : Index := Scalar.indexCast c2_i32_477
  let c400 : Index := 400#32
  ![v691.toNat, 2, 400]
def k0_off268 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v696 : Index := Scalar.indexCast arg8
  let c2_i32_478 : BitVec 32 := 2#32
  let v697 : Index := Scalar.indexCast c2_i32_478
  let c416 : Index := 416#32
  ![v696.toNat, 2, 416]
def k0_off269 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v701 : Index := Scalar.indexCast arg8
  let c2_i32_479 : BitVec 32 := 2#32
  let v702 : Index := Scalar.indexCast c2_i32_479
  let c432 : Index := 432#32
  ![v701.toNat, 2, 432]
def k0_off270 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v706 : Index := Scalar.indexCast arg8
  let c2_i32_480 : BitVec 32 := 2#32
  let v707 : Index := Scalar.indexCast c2_i32_480
  let c448 : Index := 448#32
  ![v706.toNat, 2, 448]
def k0_off271 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v711 : Index := Scalar.indexCast arg8
  let c2_i32_481 : BitVec 32 := 2#32
  let v712 : Index := Scalar.indexCast c2_i32_481
  let c464 : Index := 464#32
  ![v711.toNat, 2, 464]
def k0_off272 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v716 : Index := Scalar.indexCast arg8
  let c2_i32_482 : BitVec 32 := 2#32
  let v717 : Index := Scalar.indexCast c2_i32_482
  let c480 : Index := 480#32
  ![v716.toNat, 2, 480]
def k0_off273 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v721 : Index := Scalar.indexCast arg8
  let c2_i32_483 : BitVec 32 := 2#32
  let v722 : Index := Scalar.indexCast c2_i32_483
  let c496 : Index := 496#32
  ![v721.toNat, 2, 496]
def k0_off274 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v726 : Index := Scalar.indexCast arg8
  let c2_i32_484 : BitVec 32 := 2#32
  let v727 : Index := Scalar.indexCast c2_i32_484
  let c512 : Index := 512#32
  ![v726.toNat, 2, 512]
def k0_off275 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v731 : Index := Scalar.indexCast arg8
  let c2_i32_485 : BitVec 32 := 2#32
  let v732 : Index := Scalar.indexCast c2_i32_485
  let c528 : Index := 528#32
  ![v731.toNat, 2, 528]
def k0_off276 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v736 : Index := Scalar.indexCast arg8
  let c2_i32_486 : BitVec 32 := 2#32
  let v737 : Index := Scalar.indexCast c2_i32_486
  let c544 : Index := 544#32
  ![v736.toNat, 2, 544]
def k0_off277 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v741 : Index := Scalar.indexCast arg8
  let c2_i32_487 : BitVec 32 := 2#32
  let v742 : Index := Scalar.indexCast c2_i32_487
  let c560 : Index := 560#32
  ![v741.toNat, 2, 560]
def k0_off278 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v746 : Index := Scalar.indexCast arg8
  let c2_i32_488 : BitVec 32 := 2#32
  let v747 : Index := Scalar.indexCast c2_i32_488
  let c576 : Index := 576#32
  ![v746.toNat, 2, 576]
def k0_off279 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v751 : Index := Scalar.indexCast arg8
  let c2_i32_489 : BitVec 32 := 2#32
  let v752 : Index := Scalar.indexCast c2_i32_489
  let c592 : Index := 592#32
  ![v751.toNat, 2, 592]
def k0_off280 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v756 : Index := Scalar.indexCast arg8
  let c2_i32_490 : BitVec 32 := 2#32
  let v757 : Index := Scalar.indexCast c2_i32_490
  let c608 : Index := 608#32
  ![v756.toNat, 2, 608]
def k0_off281 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v761 : Index := Scalar.indexCast arg8
  let c2_i32_491 : BitVec 32 := 2#32
  let v762 : Index := Scalar.indexCast c2_i32_491
  let c624 : Index := 624#32
  ![v761.toNat, 2, 624]
def k0_off282 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v766 : Index := Scalar.indexCast arg8
  let c2_i32_492 : BitVec 32 := 2#32
  let v767 : Index := Scalar.indexCast c2_i32_492
  let c640 : Index := 640#32
  ![v766.toNat, 2, 640]
def k0_off283 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v771 : Index := Scalar.indexCast arg8
  let c2_i32_493 : BitVec 32 := 2#32
  let v772 : Index := Scalar.indexCast c2_i32_493
  let c656 : Index := 656#32
  ![v771.toNat, 2, 656]
def k0_off284 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v776 : Index := Scalar.indexCast arg8
  let c2_i32_494 : BitVec 32 := 2#32
  let v777 : Index := Scalar.indexCast c2_i32_494
  let c672 : Index := 672#32
  ![v776.toNat, 2, 672]
def k0_off285 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v781 : Index := Scalar.indexCast arg8
  let c2_i32_495 : BitVec 32 := 2#32
  let v782 : Index := Scalar.indexCast c2_i32_495
  let c688 : Index := 688#32
  ![v781.toNat, 2, 688]
def k0_off286 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v786 : Index := Scalar.indexCast arg8
  let c2_i32_496 : BitVec 32 := 2#32
  let v787 : Index := Scalar.indexCast c2_i32_496
  let c704 : Index := 704#32
  ![v786.toNat, 2, 704]
def k0_off287 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v791 : Index := Scalar.indexCast arg8
  let c2_i32_497 : BitVec 32 := 2#32
  let v792 : Index := Scalar.indexCast c2_i32_497
  let c720 : Index := 720#32
  ![v791.toNat, 2, 720]
def k0_off288 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v796 : Index := Scalar.indexCast arg8
  let c2_i32_498 : BitVec 32 := 2#32
  let v797 : Index := Scalar.indexCast c2_i32_498
  let c736 : Index := 736#32
  ![v796.toNat, 2, 736]
def k0_off289 (k0_t3 : Fin k0_t3_loop.trips) : Fin 3 → Nat :=
  let c0_i32_129 : BitVec 32 := 0#32
  let c1_i32_131 : BitVec 32 := 1#32
  let arg8 : BitVec 32 := Scf.iv c0_i32_129 c1_i32_131 k0_t3
  let v801 : Index := Scalar.indexCast arg8
  let c2_i32_499 : BitVec 32 := 2#32
  let v802 : Index := Scalar.indexCast c2_i32_499
  let c752 : Index := 752#32
  ![v801.toNat, 2, 752]
@[reducible] def k0_t4_loop : Scf.Loop 32 :=
  let c0_i32_160 : BitVec 32 := 0#32
  let c14_i32_161 : BitVec 32 := 14#32
  let v153 : BitVec 32 := Scalar.addi c0_i32_160 c14_i32_161
  let c1_i32_162 : BitVec 32 := 1#32
  ⟨c0_i32_160, v153, c1_i32_162⟩
def k0_off290 (k0_t4 : Fin k0_t4_loop.trips) : Fin 4 → Nat :=
  let c0_i32_267 : BitVec 32 := 0#32
  let v231 : Index := Scalar.indexCast c0_i32_267
  let c0_i32_268 : BitVec 32 := 0#32
  let v232 : Index := Scalar.indexCast c0_i32_268
  let c0_i32_269 : BitVec 32 := 0#32
  let v233 : Index := Scalar.indexCast c0_i32_269
  let c0_i32_160 : BitVec 32 := 0#32
  let c1_i32_162 : BitVec 32 := 1#32
  let arg8 : BitVec 32 := Scf.iv c0_i32_160 c1_i32_162 k0_t4
  let c16_i32_266 : BitVec 32 := 16#32
  let v230 : BitVec 32 := Scalar.muli arg8 c16_i32_266
  let v234 : Index := Scalar.indexCast v230
  ![0, 0, 0, v234.toNat]
def k0_off291 (k0_t4 : Fin k0_t4_loop.trips) : Fin 4 → Nat :=
  let c0_i32_271 : BitVec 32 := 0#32
  let v238 : Index := Scalar.indexCast c0_i32_271
  let c0_i32_272 : BitVec 32 := 0#32
  let v239 : Index := Scalar.indexCast c0_i32_272
  let c1_i32_273 : BitVec 32 := 1#32
  let v240 : Index := Scalar.indexCast c1_i32_273
  let c0_i32_160 : BitVec 32 := 0#32
  let c1_i32_162 : BitVec 32 := 1#32
  let arg8 : BitVec 32 := Scf.iv c0_i32_160 c1_i32_162 k0_t4
  let c16_i32_270 : BitVec 32 := 16#32
  let v237 : BitVec 32 := Scalar.muli arg8 c16_i32_270
  let v241 : Index := Scalar.indexCast v237
  ![0, 0, 1, v241.toNat]
def k0_off292 (k0_t4 : Fin k0_t4_loop.trips) : Fin 4 → Nat :=
  let c0_i32_275 : BitVec 32 := 0#32
  let v245 : Index := Scalar.indexCast c0_i32_275
  let c0_i32_276 : BitVec 32 := 0#32
  let v246 : Index := Scalar.indexCast c0_i32_276
  let c2_i32_277 : BitVec 32 := 2#32
  let v247 : Index := Scalar.indexCast c2_i32_277
  let c0_i32_160 : BitVec 32 := 0#32
  let c1_i32_162 : BitVec 32 := 1#32
  let arg8 : BitVec 32 := Scf.iv c0_i32_160 c1_i32_162 k0_t4
  let c16_i32_274 : BitVec 32 := 16#32
  let v244 : BitVec 32 := Scalar.muli arg8 c16_i32_274
  let v248 : Index := Scalar.indexCast v244
  ![0, 0, 2, v248.toNat]
def k0_off293 (k0_t4 : Fin k0_t4_loop.trips) : Fin 4 → Nat :=
  let c0_i32_279 : BitVec 32 := 0#32
  let v252 : Index := Scalar.indexCast c0_i32_279
  let c0_i32_280 : BitVec 32 := 0#32
  let v253 : Index := Scalar.indexCast c0_i32_280
  let c3_i32_281 : BitVec 32 := 3#32
  let v254 : Index := Scalar.indexCast c3_i32_281
  let c0_i32_160 : BitVec 32 := 0#32
  let c1_i32_162 : BitVec 32 := 1#32
  let arg8 : BitVec 32 := Scf.iv c0_i32_160 c1_i32_162 k0_t4
  let c16_i32_278 : BitVec 32 := 16#32
  let v251 : BitVec 32 := Scalar.muli arg8 c16_i32_278
  let v255 : Index := Scalar.indexCast v251
  ![0, 0, 3, v255.toNat]
def k0_off294 (k0_t4 : Fin k0_t4_loop.trips) : Fin 4 → Nat :=
  let c0_i32_283 : BitVec 32 := 0#32
  let v259 : Index := Scalar.indexCast c0_i32_283
  let c0_i32_284 : BitVec 32 := 0#32
  let v260 : Index := Scalar.indexCast c0_i32_284
  let c4_i32_285 : BitVec 32 := 4#32
  let v261 : Index := Scalar.indexCast c4_i32_285
  let c0_i32_160 : BitVec 32 := 0#32
  let c1_i32_162 : BitVec 32 := 1#32
  let arg8 : BitVec 32 := Scf.iv c0_i32_160 c1_i32_162 k0_t4
  let c16_i32_282 : BitVec 32 := 16#32
  let v258 : BitVec 32 := Scalar.muli arg8 c16_i32_282
  let v262 : Index := Scalar.indexCast v258
  ![0, 0, 4, v262.toNat]
def k0_off295 (k0_t4 : Fin k0_t4_loop.trips) : Fin 4 → Nat :=
  let c0_i32_287 : BitVec 32 := 0#32
  let v266 : Index := Scalar.indexCast c0_i32_287
  let c0_i32_288 : BitVec 32 := 0#32
  let v267 : Index := Scalar.indexCast c0_i32_288
  let c5_i32_289 : BitVec 32 := 5#32
  let v268 : Index := Scalar.indexCast c5_i32_289
  let c0_i32_160 : BitVec 32 := 0#32
  let c1_i32_162 : BitVec 32 := 1#32
  let arg8 : BitVec 32 := Scf.iv c0_i32_160 c1_i32_162 k0_t4
  let c16_i32_286 : BitVec 32 := 16#32
  let v265 : BitVec 32 := Scalar.muli arg8 c16_i32_286
  let v269 : Index := Scalar.indexCast v265
  ![0, 0, 5, v269.toNat]
def k0_off296 (k0_t4 : Fin k0_t4_loop.trips) : Fin 4 → Nat :=
  let c0_i32_291 : BitVec 32 := 0#32
  let v273 : Index := Scalar.indexCast c0_i32_291
  let c0_i32_292 : BitVec 32 := 0#32
  let v274 : Index := Scalar.indexCast c0_i32_292
  let c6_i32_293 : BitVec 32 := 6#32
  let v275 : Index := Scalar.indexCast c6_i32_293
  let c0_i32_160 : BitVec 32 := 0#32
  let c1_i32_162 : BitVec 32 := 1#32
  let arg8 : BitVec 32 := Scf.iv c0_i32_160 c1_i32_162 k0_t4
  let c16_i32_290 : BitVec 32 := 16#32
  let v272 : BitVec 32 := Scalar.muli arg8 c16_i32_290
  let v276 : Index := Scalar.indexCast v272
  ![0, 0, 6, v276.toNat]
def k0_off297 (k0_t4 : Fin k0_t4_loop.trips) : Fin 4 → Nat :=
  let c0_i32_295 : BitVec 32 := 0#32
  let v280 : Index := Scalar.indexCast c0_i32_295
  let c0_i32_296 : BitVec 32 := 0#32
  let v281 : Index := Scalar.indexCast c0_i32_296
  let c7_i32_297 : BitVec 32 := 7#32
  let v282 : Index := Scalar.indexCast c7_i32_297
  let c0_i32_160 : BitVec 32 := 0#32
  let c1_i32_162 : BitVec 32 := 1#32
  let arg8 : BitVec 32 := Scf.iv c0_i32_160 c1_i32_162 k0_t4
  let c16_i32_294 : BitVec 32 := 16#32
  let v279 : BitVec 32 := Scalar.muli arg8 c16_i32_294
  let v283 : Index := Scalar.indexCast v279
  ![0, 0, 7, v283.toNat]
def k0_off298 (k0_t4 : Fin k0_t4_loop.trips) : Fin 4 → Nat :=
  let c0_i32_299 : BitVec 32 := 0#32
  let v287 : Index := Scalar.indexCast c0_i32_299
  let c0_i32_300 : BitVec 32 := 0#32
  let v288 : Index := Scalar.indexCast c0_i32_300
  let c8_i32_301 : BitVec 32 := 8#32
  let v289 : Index := Scalar.indexCast c8_i32_301
  let c0_i32_160 : BitVec 32 := 0#32
  let c1_i32_162 : BitVec 32 := 1#32
  let arg8 : BitVec 32 := Scf.iv c0_i32_160 c1_i32_162 k0_t4
  let c16_i32_298 : BitVec 32 := 16#32
  let v286 : BitVec 32 := Scalar.muli arg8 c16_i32_298
  let v290 : Index := Scalar.indexCast v286
  ![0, 0, 8, v290.toNat]
def k0_off299 (k0_t4 : Fin k0_t4_loop.trips) : Fin 4 → Nat :=
  let c0_i32_303 : BitVec 32 := 0#32
  let v294 : Index := Scalar.indexCast c0_i32_303
  let c0_i32_304 : BitVec 32 := 0#32
  let v295 : Index := Scalar.indexCast c0_i32_304
  let c9_i32 : BitVec 32 := 9#32
  let v296 : Index := Scalar.indexCast c9_i32
  let c0_i32_160 : BitVec 32 := 0#32
  let c1_i32_162 : BitVec 32 := 1#32
  let arg8 : BitVec 32 := Scf.iv c0_i32_160 c1_i32_162 k0_t4
  let c16_i32_302 : BitVec 32 := 16#32
  let v293 : BitVec 32 := Scalar.muli arg8 c16_i32_302
  let v297 : Index := Scalar.indexCast v293
  ![0, 0, 9, v297.toNat]
def k0_off300 (k0_t4 : Fin k0_t4_loop.trips) : Fin 4 → Nat :=
  let c0_i32_306 : BitVec 32 := 0#32
  let v301 : Index := Scalar.indexCast c0_i32_306
  let c0_i32_307 : BitVec 32 := 0#32
  let v302 : Index := Scalar.indexCast c0_i32_307
  let c10_i32 : BitVec 32 := 10#32
  let v303 : Index := Scalar.indexCast c10_i32
  let c0_i32_160 : BitVec 32 := 0#32
  let c1_i32_162 : BitVec 32 := 1#32
  let arg8 : BitVec 32 := Scf.iv c0_i32_160 c1_i32_162 k0_t4
  let c16_i32_305 : BitVec 32 := 16#32
  let v300 : BitVec 32 := Scalar.muli arg8 c16_i32_305
  let v304 : Index := Scalar.indexCast v300
  ![0, 0, 10, v304.toNat]
def k0_off301 (k0_t4 : Fin k0_t4_loop.trips) : Fin 4 → Nat :=
  let c0_i32_309 : BitVec 32 := 0#32
  let v308 : Index := Scalar.indexCast c0_i32_309
  let c0_i32_310 : BitVec 32 := 0#32
  let v309 : Index := Scalar.indexCast c0_i32_310
  let c11_i32 : BitVec 32 := 11#32
  let v310 : Index := Scalar.indexCast c11_i32
  let c0_i32_160 : BitVec 32 := 0#32
  let c1_i32_162 : BitVec 32 := 1#32
  let arg8 : BitVec 32 := Scf.iv c0_i32_160 c1_i32_162 k0_t4
  let c16_i32_308 : BitVec 32 := 16#32
  let v307 : BitVec 32 := Scalar.muli arg8 c16_i32_308
  let v311 : Index := Scalar.indexCast v307
  ![0, 0, 11, v311.toNat]
def k0_off302 (k0_t4 : Fin k0_t4_loop.trips) : Fin 4 → Nat :=
  let c0_i32_312 : BitVec 32 := 0#32
  let v315 : Index := Scalar.indexCast c0_i32_312
  let c0_i32_313 : BitVec 32 := 0#32
  let v316 : Index := Scalar.indexCast c0_i32_313
  let c12_i32 : BitVec 32 := 12#32
  let v317 : Index := Scalar.indexCast c12_i32
  let c0_i32_160 : BitVec 32 := 0#32
  let c1_i32_162 : BitVec 32 := 1#32
  let arg8 : BitVec 32 := Scf.iv c0_i32_160 c1_i32_162 k0_t4
  let c16_i32_311 : BitVec 32 := 16#32
  let v314 : BitVec 32 := Scalar.muli arg8 c16_i32_311
  let v318 : Index := Scalar.indexCast v314
  ![0, 0, 12, v318.toNat]
def k0_off303 (k0_t4 : Fin k0_t4_loop.trips) : Fin 4 → Nat :=
  let c0_i32_315 : BitVec 32 := 0#32
  let v322 : Index := Scalar.indexCast c0_i32_315
  let c0_i32_316 : BitVec 32 := 0#32
  let v323 : Index := Scalar.indexCast c0_i32_316
  let c13_i32 : BitVec 32 := 13#32
  let v324 : Index := Scalar.indexCast c13_i32
  let c0_i32_160 : BitVec 32 := 0#32
  let c1_i32_162 : BitVec 32 := 1#32
  let arg8 : BitVec 32 := Scf.iv c0_i32_160 c1_i32_162 k0_t4
  let c16_i32_314 : BitVec 32 := 16#32
  let v321 : BitVec 32 := Scalar.muli arg8 c16_i32_314
  let v325 : Index := Scalar.indexCast v321
  ![0, 0, 13, v325.toNat]
def k0_off304 (k0_t4 : Fin k0_t4_loop.trips) : Fin 4 → Nat :=
  let c0_i32_318 : BitVec 32 := 0#32
  let v329 : Index := Scalar.indexCast c0_i32_318
  let c0_i32_319 : BitVec 32 := 0#32
  let v330 : Index := Scalar.indexCast c0_i32_319
  let c14_i32_320 : BitVec 32 := 14#32
  let v331 : Index := Scalar.indexCast c14_i32_320
  let c0_i32_160 : BitVec 32 := 0#32
  let c1_i32_162 : BitVec 32 := 1#32
  let arg8 : BitVec 32 := Scf.iv c0_i32_160 c1_i32_162 k0_t4
  let c16_i32_317 : BitVec 32 := 16#32
  let v328 : BitVec 32 := Scalar.muli arg8 c16_i32_317
  let v332 : Index := Scalar.indexCast v328
  ![0, 0, 14, v332.toNat]
def k0_off305 (k0_t4 : Fin k0_t4_loop.trips) : Fin 4 → Nat :=
  let c0_i32_322 : BitVec 32 := 0#32
  let v336 : Index := Scalar.indexCast c0_i32_322
  let c0_i32_323 : BitVec 32 := 0#32
  let v337 : Index := Scalar.indexCast c0_i32_323
  let c15_i32 : BitVec 32 := 15#32
  let v338 : Index := Scalar.indexCast c15_i32
  let c0_i32_160 : BitVec 32 := 0#32
  let c1_i32_162 : BitVec 32 := 1#32
  let arg8 : BitVec 32 := Scf.iv c0_i32_160 c1_i32_162 k0_t4
  let c16_i32_321 : BitVec 32 := 16#32
  let v335 : BitVec 32 := Scalar.muli arg8 c16_i32_321
  let v339 : Index := Scalar.indexCast v335
  ![0, 0, 15, v339.toNat]
def k0_off306 (k0_t4 : Fin k0_t4_loop.trips) : Fin 4 → Nat :=
  let c0_i32_325 : BitVec 32 := 0#32
  let v343 : Index := Scalar.indexCast c0_i32_325
  let c1_i32_326 : BitVec 32 := 1#32
  let v344 : Index := Scalar.indexCast c1_i32_326
  let c0_i32_327 : BitVec 32 := 0#32
  let v345 : Index := Scalar.indexCast c0_i32_327
  let c0_i32_160 : BitVec 32 := 0#32
  let c1_i32_162 : BitVec 32 := 1#32
  let arg8 : BitVec 32 := Scf.iv c0_i32_160 c1_i32_162 k0_t4
  let c16_i32_324 : BitVec 32 := 16#32
  let v342 : BitVec 32 := Scalar.muli arg8 c16_i32_324
  let v346 : Index := Scalar.indexCast v342
  ![0, 1, 0, v346.toNat]
def k0_off307 (k0_t4 : Fin k0_t4_loop.trips) : Fin 4 → Nat :=
  let c0_i32_329 : BitVec 32 := 0#32
  let v350 : Index := Scalar.indexCast c0_i32_329
  let c1_i32_330 : BitVec 32 := 1#32
  let v351 : Index := Scalar.indexCast c1_i32_330
  let c1_i32_331 : BitVec 32 := 1#32
  let v352 : Index := Scalar.indexCast c1_i32_331
  let c0_i32_160 : BitVec 32 := 0#32
  let c1_i32_162 : BitVec 32 := 1#32
  let arg8 : BitVec 32 := Scf.iv c0_i32_160 c1_i32_162 k0_t4
  let c16_i32_328 : BitVec 32 := 16#32
  let v349 : BitVec 32 := Scalar.muli arg8 c16_i32_328
  let v353 : Index := Scalar.indexCast v349
  ![0, 1, 1, v353.toNat]
def k0_off308 (k0_t4 : Fin k0_t4_loop.trips) : Fin 4 → Nat :=
  let c0_i32_333 : BitVec 32 := 0#32
  let v357 : Index := Scalar.indexCast c0_i32_333
  let c1_i32_334 : BitVec 32 := 1#32
  let v358 : Index := Scalar.indexCast c1_i32_334
  let c2_i32_335 : BitVec 32 := 2#32
  let v359 : Index := Scalar.indexCast c2_i32_335
  let c0_i32_160 : BitVec 32 := 0#32
  let c1_i32_162 : BitVec 32 := 1#32
  let arg8 : BitVec 32 := Scf.iv c0_i32_160 c1_i32_162 k0_t4
  let c16_i32_332 : BitVec 32 := 16#32
  let v356 : BitVec 32 := Scalar.muli arg8 c16_i32_332
  let v360 : Index := Scalar.indexCast v356
  ![0, 1, 2, v360.toNat]
def k0_off309 (k0_t4 : Fin k0_t4_loop.trips) : Fin 4 → Nat :=
  let c0_i32_337 : BitVec 32 := 0#32
  let v364 : Index := Scalar.indexCast c0_i32_337
  let c1_i32_338 : BitVec 32 := 1#32
  let v365 : Index := Scalar.indexCast c1_i32_338
  let c3_i32_339 : BitVec 32 := 3#32
  let v366 : Index := Scalar.indexCast c3_i32_339
  let c0_i32_160 : BitVec 32 := 0#32
  let c1_i32_162 : BitVec 32 := 1#32
  let arg8 : BitVec 32 := Scf.iv c0_i32_160 c1_i32_162 k0_t4
  let c16_i32_336 : BitVec 32 := 16#32
  let v363 : BitVec 32 := Scalar.muli arg8 c16_i32_336
  let v367 : Index := Scalar.indexCast v363
  ![0, 1, 3, v367.toNat]
def k0_off310 (k0_t4 : Fin k0_t4_loop.trips) : Fin 4 → Nat :=
  let c0_i32_341 : BitVec 32 := 0#32
  let v371 : Index := Scalar.indexCast c0_i32_341
  let c1_i32_342 : BitVec 32 := 1#32
  let v372 : Index := Scalar.indexCast c1_i32_342
  let c4_i32_343 : BitVec 32 := 4#32
  let v373 : Index := Scalar.indexCast c4_i32_343
  let c0_i32_160 : BitVec 32 := 0#32
  let c1_i32_162 : BitVec 32 := 1#32
  let arg8 : BitVec 32 := Scf.iv c0_i32_160 c1_i32_162 k0_t4
  let c16_i32_340 : BitVec 32 := 16#32
  let v370 : BitVec 32 := Scalar.muli arg8 c16_i32_340
  let v374 : Index := Scalar.indexCast v370
  ![0, 1, 4, v374.toNat]
def k0_off311 (k0_t4 : Fin k0_t4_loop.trips) : Fin 4 → Nat :=
  let c0_i32_345 : BitVec 32 := 0#32
  let v378 : Index := Scalar.indexCast c0_i32_345
  let c1_i32_346 : BitVec 32 := 1#32
  let v379 : Index := Scalar.indexCast c1_i32_346
  let c5_i32_347 : BitVec 32 := 5#32
  let v380 : Index := Scalar.indexCast c5_i32_347
  let c0_i32_160 : BitVec 32 := 0#32
  let c1_i32_162 : BitVec 32 := 1#32
  let arg8 : BitVec 32 := Scf.iv c0_i32_160 c1_i32_162 k0_t4
  let c16_i32_344 : BitVec 32 := 16#32
  let v377 : BitVec 32 := Scalar.muli arg8 c16_i32_344
  let v381 : Index := Scalar.indexCast v377
  ![0, 1, 5, v381.toNat]
def k0_off312 (k0_t4 : Fin k0_t4_loop.trips) : Fin 4 → Nat :=
  let c0_i32_349 : BitVec 32 := 0#32
  let v385 : Index := Scalar.indexCast c0_i32_349
  let c1_i32_350 : BitVec 32 := 1#32
  let v386 : Index := Scalar.indexCast c1_i32_350
  let c6_i32_351 : BitVec 32 := 6#32
  let v387 : Index := Scalar.indexCast c6_i32_351
  let c0_i32_160 : BitVec 32 := 0#32
  let c1_i32_162 : BitVec 32 := 1#32
  let arg8 : BitVec 32 := Scf.iv c0_i32_160 c1_i32_162 k0_t4
  let c16_i32_348 : BitVec 32 := 16#32
  let v384 : BitVec 32 := Scalar.muli arg8 c16_i32_348
  let v388 : Index := Scalar.indexCast v384
  ![0, 1, 6, v388.toNat]
def k0_off313 (k0_t4 : Fin k0_t4_loop.trips) : Fin 4 → Nat :=
  let c0_i32_353 : BitVec 32 := 0#32
  let v392 : Index := Scalar.indexCast c0_i32_353
  let c1_i32_354 : BitVec 32 := 1#32
  let v393 : Index := Scalar.indexCast c1_i32_354
  let c7_i32_355 : BitVec 32 := 7#32
  let v394 : Index := Scalar.indexCast c7_i32_355
  let c0_i32_160 : BitVec 32 := 0#32
  let c1_i32_162 : BitVec 32 := 1#32
  let arg8 : BitVec 32 := Scf.iv c0_i32_160 c1_i32_162 k0_t4
  let c16_i32_352 : BitVec 32 := 16#32
  let v391 : BitVec 32 := Scalar.muli arg8 c16_i32_352
  let v395 : Index := Scalar.indexCast v391
  ![0, 1, 7, v395.toNat]
def k0_off314 (k0_t4 : Fin k0_t4_loop.trips) : Fin 4 → Nat :=
  let c0_i32_357 : BitVec 32 := 0#32
  let v399 : Index := Scalar.indexCast c0_i32_357
  let c1_i32_358 : BitVec 32 := 1#32
  let v400 : Index := Scalar.indexCast c1_i32_358
  let c8_i32_359 : BitVec 32 := 8#32
  let v401 : Index := Scalar.indexCast c8_i32_359
  let c0_i32_160 : BitVec 32 := 0#32
  let c1_i32_162 : BitVec 32 := 1#32
  let arg8 : BitVec 32 := Scf.iv c0_i32_160 c1_i32_162 k0_t4
  let c16_i32_356 : BitVec 32 := 16#32
  let v398 : BitVec 32 := Scalar.muli arg8 c16_i32_356
  let v402 : Index := Scalar.indexCast v398
  ![0, 1, 8, v402.toNat]
def k0_off315 (k0_t4 : Fin k0_t4_loop.trips) : Fin 4 → Nat :=
  let c0_i32_361 : BitVec 32 := 0#32
  let v406 : Index := Scalar.indexCast c0_i32_361
  let c1_i32_362 : BitVec 32 := 1#32
  let v407 : Index := Scalar.indexCast c1_i32_362
  let c9_i32_363 : BitVec 32 := 9#32
  let v408 : Index := Scalar.indexCast c9_i32_363
  let c0_i32_160 : BitVec 32 := 0#32
  let c1_i32_162 : BitVec 32 := 1#32
  let arg8 : BitVec 32 := Scf.iv c0_i32_160 c1_i32_162 k0_t4
  let c16_i32_360 : BitVec 32 := 16#32
  let v405 : BitVec 32 := Scalar.muli arg8 c16_i32_360
  let v409 : Index := Scalar.indexCast v405
  ![0, 1, 9, v409.toNat]
def k0_off316 (k0_t4 : Fin k0_t4_loop.trips) : Fin 4 → Nat :=
  let c0_i32_365 : BitVec 32 := 0#32
  let v413 : Index := Scalar.indexCast c0_i32_365
  let c1_i32_366 : BitVec 32 := 1#32
  let v414 : Index := Scalar.indexCast c1_i32_366
  let c10_i32_367 : BitVec 32 := 10#32
  let v415 : Index := Scalar.indexCast c10_i32_367
  let c0_i32_160 : BitVec 32 := 0#32
  let c1_i32_162 : BitVec 32 := 1#32
  let arg8 : BitVec 32 := Scf.iv c0_i32_160 c1_i32_162 k0_t4
  let c16_i32_364 : BitVec 32 := 16#32
  let v412 : BitVec 32 := Scalar.muli arg8 c16_i32_364
  let v416 : Index := Scalar.indexCast v412
  ![0, 1, 10, v416.toNat]
def k0_off317 (k0_t4 : Fin k0_t4_loop.trips) : Fin 4 → Nat :=
  let c0_i32_369 : BitVec 32 := 0#32
  let v420 : Index := Scalar.indexCast c0_i32_369
  let c1_i32_370 : BitVec 32 := 1#32
  let v421 : Index := Scalar.indexCast c1_i32_370
  let c11_i32_371 : BitVec 32 := 11#32
  let v422 : Index := Scalar.indexCast c11_i32_371
  let c0_i32_160 : BitVec 32 := 0#32
  let c1_i32_162 : BitVec 32 := 1#32
  let arg8 : BitVec 32 := Scf.iv c0_i32_160 c1_i32_162 k0_t4
  let c16_i32_368 : BitVec 32 := 16#32
  let v419 : BitVec 32 := Scalar.muli arg8 c16_i32_368
  let v423 : Index := Scalar.indexCast v419
  ![0, 1, 11, v423.toNat]
def k0_off318 (k0_t4 : Fin k0_t4_loop.trips) : Fin 4 → Nat :=
  let c0_i32_373 : BitVec 32 := 0#32
  let v427 : Index := Scalar.indexCast c0_i32_373
  let c1_i32_374 : BitVec 32 := 1#32
  let v428 : Index := Scalar.indexCast c1_i32_374
  let c12_i32_375 : BitVec 32 := 12#32
  let v429 : Index := Scalar.indexCast c12_i32_375
  let c0_i32_160 : BitVec 32 := 0#32
  let c1_i32_162 : BitVec 32 := 1#32
  let arg8 : BitVec 32 := Scf.iv c0_i32_160 c1_i32_162 k0_t4
  let c16_i32_372 : BitVec 32 := 16#32
  let v426 : BitVec 32 := Scalar.muli arg8 c16_i32_372
  let v430 : Index := Scalar.indexCast v426
  ![0, 1, 12, v430.toNat]
def k0_off319 (k0_t4 : Fin k0_t4_loop.trips) : Fin 4 → Nat :=
  let c0_i32_377 : BitVec 32 := 0#32
  let v434 : Index := Scalar.indexCast c0_i32_377
  let c1_i32_378 : BitVec 32 := 1#32
  let v435 : Index := Scalar.indexCast c1_i32_378
  let c13_i32_379 : BitVec 32 := 13#32
  let v436 : Index := Scalar.indexCast c13_i32_379
  let c0_i32_160 : BitVec 32 := 0#32
  let c1_i32_162 : BitVec 32 := 1#32
  let arg8 : BitVec 32 := Scf.iv c0_i32_160 c1_i32_162 k0_t4
  let c16_i32_376 : BitVec 32 := 16#32
  let v433 : BitVec 32 := Scalar.muli arg8 c16_i32_376
  let v437 : Index := Scalar.indexCast v433
  ![0, 1, 13, v437.toNat]
def k0_off320 (k0_t4 : Fin k0_t4_loop.trips) : Fin 4 → Nat :=
  let c0_i32_381 : BitVec 32 := 0#32
  let v441 : Index := Scalar.indexCast c0_i32_381
  let c1_i32_382 : BitVec 32 := 1#32
  let v442 : Index := Scalar.indexCast c1_i32_382
  let c14_i32_383 : BitVec 32 := 14#32
  let v443 : Index := Scalar.indexCast c14_i32_383
  let c0_i32_160 : BitVec 32 := 0#32
  let c1_i32_162 : BitVec 32 := 1#32
  let arg8 : BitVec 32 := Scf.iv c0_i32_160 c1_i32_162 k0_t4
  let c16_i32_380 : BitVec 32 := 16#32
  let v440 : BitVec 32 := Scalar.muli arg8 c16_i32_380
  let v444 : Index := Scalar.indexCast v440
  ![0, 1, 14, v444.toNat]
def k0_off321 (k0_t4 : Fin k0_t4_loop.trips) : Fin 4 → Nat :=
  let c0_i32_385 : BitVec 32 := 0#32
  let v448 : Index := Scalar.indexCast c0_i32_385
  let c1_i32_386 : BitVec 32 := 1#32
  let v449 : Index := Scalar.indexCast c1_i32_386
  let c15_i32_387 : BitVec 32 := 15#32
  let v450 : Index := Scalar.indexCast c15_i32_387
  let c0_i32_160 : BitVec 32 := 0#32
  let c1_i32_162 : BitVec 32 := 1#32
  let arg8 : BitVec 32 := Scf.iv c0_i32_160 c1_i32_162 k0_t4
  let c16_i32_384 : BitVec 32 := 16#32
  let v447 : BitVec 32 := Scalar.muli arg8 c16_i32_384
  let v451 : Index := Scalar.indexCast v447
  ![0, 1, 15, v451.toNat]
def k0_off322 (k0_t4 : Fin k0_t4_loop.trips) : Fin 4 → Nat :=
  let c0_i32_389 : BitVec 32 := 0#32
  let v455 : Index := Scalar.indexCast c0_i32_389
  let c2_i32_390 : BitVec 32 := 2#32
  let v456 : Index := Scalar.indexCast c2_i32_390
  let c0_i32_391 : BitVec 32 := 0#32
  let v457 : Index := Scalar.indexCast c0_i32_391
  let c0_i32_160 : BitVec 32 := 0#32
  let c1_i32_162 : BitVec 32 := 1#32
  let arg8 : BitVec 32 := Scf.iv c0_i32_160 c1_i32_162 k0_t4
  let c16_i32_388 : BitVec 32 := 16#32
  let v454 : BitVec 32 := Scalar.muli arg8 c16_i32_388
  let v458 : Index := Scalar.indexCast v454
  ![0, 2, 0, v458.toNat]
def k0_off323 (k0_t4 : Fin k0_t4_loop.trips) : Fin 4 → Nat :=
  let c0_i32_393 : BitVec 32 := 0#32
  let v462 : Index := Scalar.indexCast c0_i32_393
  let c2_i32_394 : BitVec 32 := 2#32
  let v463 : Index := Scalar.indexCast c2_i32_394
  let c1_i32_395 : BitVec 32 := 1#32
  let v464 : Index := Scalar.indexCast c1_i32_395
  let c0_i32_160 : BitVec 32 := 0#32
  let c1_i32_162 : BitVec 32 := 1#32
  let arg8 : BitVec 32 := Scf.iv c0_i32_160 c1_i32_162 k0_t4
  let c16_i32_392 : BitVec 32 := 16#32
  let v461 : BitVec 32 := Scalar.muli arg8 c16_i32_392
  let v465 : Index := Scalar.indexCast v461
  ![0, 2, 1, v465.toNat]
def k0_off324 (k0_t4 : Fin k0_t4_loop.trips) : Fin 4 → Nat :=
  let c0_i32_397 : BitVec 32 := 0#32
  let v469 : Index := Scalar.indexCast c0_i32_397
  let c2_i32_398 : BitVec 32 := 2#32
  let v470 : Index := Scalar.indexCast c2_i32_398
  let c2_i32_399 : BitVec 32 := 2#32
  let v471 : Index := Scalar.indexCast c2_i32_399
  let c0_i32_160 : BitVec 32 := 0#32
  let c1_i32_162 : BitVec 32 := 1#32
  let arg8 : BitVec 32 := Scf.iv c0_i32_160 c1_i32_162 k0_t4
  let c16_i32_396 : BitVec 32 := 16#32
  let v468 : BitVec 32 := Scalar.muli arg8 c16_i32_396
  let v472 : Index := Scalar.indexCast v468
  ![0, 2, 2, v472.toNat]
def k0_off325 (k0_t4 : Fin k0_t4_loop.trips) : Fin 4 → Nat :=
  let c0_i32_401 : BitVec 32 := 0#32
  let v476 : Index := Scalar.indexCast c0_i32_401
  let c2_i32_402 : BitVec 32 := 2#32
  let v477 : Index := Scalar.indexCast c2_i32_402
  let c3_i32_403 : BitVec 32 := 3#32
  let v478 : Index := Scalar.indexCast c3_i32_403
  let c0_i32_160 : BitVec 32 := 0#32
  let c1_i32_162 : BitVec 32 := 1#32
  let arg8 : BitVec 32 := Scf.iv c0_i32_160 c1_i32_162 k0_t4
  let c16_i32_400 : BitVec 32 := 16#32
  let v475 : BitVec 32 := Scalar.muli arg8 c16_i32_400
  let v479 : Index := Scalar.indexCast v475
  ![0, 2, 3, v479.toNat]
def k0_off326 (k0_t4 : Fin k0_t4_loop.trips) : Fin 4 → Nat :=
  let c0_i32_405 : BitVec 32 := 0#32
  let v483 : Index := Scalar.indexCast c0_i32_405
  let c2_i32_406 : BitVec 32 := 2#32
  let v484 : Index := Scalar.indexCast c2_i32_406
  let c4_i32_407 : BitVec 32 := 4#32
  let v485 : Index := Scalar.indexCast c4_i32_407
  let c0_i32_160 : BitVec 32 := 0#32
  let c1_i32_162 : BitVec 32 := 1#32
  let arg8 : BitVec 32 := Scf.iv c0_i32_160 c1_i32_162 k0_t4
  let c16_i32_404 : BitVec 32 := 16#32
  let v482 : BitVec 32 := Scalar.muli arg8 c16_i32_404
  let v486 : Index := Scalar.indexCast v482
  ![0, 2, 4, v486.toNat]
def k0_off327 (k0_t4 : Fin k0_t4_loop.trips) : Fin 4 → Nat :=
  let c0_i32_409 : BitVec 32 := 0#32
  let v490 : Index := Scalar.indexCast c0_i32_409
  let c2_i32_410 : BitVec 32 := 2#32
  let v491 : Index := Scalar.indexCast c2_i32_410
  let c5_i32_411 : BitVec 32 := 5#32
  let v492 : Index := Scalar.indexCast c5_i32_411
  let c0_i32_160 : BitVec 32 := 0#32
  let c1_i32_162 : BitVec 32 := 1#32
  let arg8 : BitVec 32 := Scf.iv c0_i32_160 c1_i32_162 k0_t4
  let c16_i32_408 : BitVec 32 := 16#32
  let v489 : BitVec 32 := Scalar.muli arg8 c16_i32_408
  let v493 : Index := Scalar.indexCast v489
  ![0, 2, 5, v493.toNat]
def k0_off328 (k0_t4 : Fin k0_t4_loop.trips) : Fin 4 → Nat :=
  let c0_i32_413 : BitVec 32 := 0#32
  let v497 : Index := Scalar.indexCast c0_i32_413
  let c2_i32_414 : BitVec 32 := 2#32
  let v498 : Index := Scalar.indexCast c2_i32_414
  let c6_i32_415 : BitVec 32 := 6#32
  let v499 : Index := Scalar.indexCast c6_i32_415
  let c0_i32_160 : BitVec 32 := 0#32
  let c1_i32_162 : BitVec 32 := 1#32
  let arg8 : BitVec 32 := Scf.iv c0_i32_160 c1_i32_162 k0_t4
  let c16_i32_412 : BitVec 32 := 16#32
  let v496 : BitVec 32 := Scalar.muli arg8 c16_i32_412
  let v500 : Index := Scalar.indexCast v496
  ![0, 2, 6, v500.toNat]
def k0_off329 (k0_t4 : Fin k0_t4_loop.trips) : Fin 4 → Nat :=
  let c0_i32_417 : BitVec 32 := 0#32
  let v504 : Index := Scalar.indexCast c0_i32_417
  let c2_i32_418 : BitVec 32 := 2#32
  let v505 : Index := Scalar.indexCast c2_i32_418
  let c7_i32_419 : BitVec 32 := 7#32
  let v506 : Index := Scalar.indexCast c7_i32_419
  let c0_i32_160 : BitVec 32 := 0#32
  let c1_i32_162 : BitVec 32 := 1#32
  let arg8 : BitVec 32 := Scf.iv c0_i32_160 c1_i32_162 k0_t4
  let c16_i32_416 : BitVec 32 := 16#32
  let v503 : BitVec 32 := Scalar.muli arg8 c16_i32_416
  let v507 : Index := Scalar.indexCast v503
  ![0, 2, 7, v507.toNat]
def k0_off330 (k0_t4 : Fin k0_t4_loop.trips) : Fin 4 → Nat :=
  let c0_i32_421 : BitVec 32 := 0#32
  let v511 : Index := Scalar.indexCast c0_i32_421
  let c2_i32_422 : BitVec 32 := 2#32
  let v512 : Index := Scalar.indexCast c2_i32_422
  let c8_i32_423 : BitVec 32 := 8#32
  let v513 : Index := Scalar.indexCast c8_i32_423
  let c0_i32_160 : BitVec 32 := 0#32
  let c1_i32_162 : BitVec 32 := 1#32
  let arg8 : BitVec 32 := Scf.iv c0_i32_160 c1_i32_162 k0_t4
  let c16_i32_420 : BitVec 32 := 16#32
  let v510 : BitVec 32 := Scalar.muli arg8 c16_i32_420
  let v514 : Index := Scalar.indexCast v510
  ![0, 2, 8, v514.toNat]
def k0_off331 (k0_t4 : Fin k0_t4_loop.trips) : Fin 4 → Nat :=
  let c0_i32_425 : BitVec 32 := 0#32
  let v518 : Index := Scalar.indexCast c0_i32_425
  let c2_i32_426 : BitVec 32 := 2#32
  let v519 : Index := Scalar.indexCast c2_i32_426
  let c9_i32_427 : BitVec 32 := 9#32
  let v520 : Index := Scalar.indexCast c9_i32_427
  let c0_i32_160 : BitVec 32 := 0#32
  let c1_i32_162 : BitVec 32 := 1#32
  let arg8 : BitVec 32 := Scf.iv c0_i32_160 c1_i32_162 k0_t4
  let c16_i32_424 : BitVec 32 := 16#32
  let v517 : BitVec 32 := Scalar.muli arg8 c16_i32_424
  let v521 : Index := Scalar.indexCast v517
  ![0, 2, 9, v521.toNat]
def k0_off332 (k0_t4 : Fin k0_t4_loop.trips) : Fin 4 → Nat :=
  let c0_i32_429 : BitVec 32 := 0#32
  let v525 : Index := Scalar.indexCast c0_i32_429
  let c2_i32_430 : BitVec 32 := 2#32
  let v526 : Index := Scalar.indexCast c2_i32_430
  let c10_i32_431 : BitVec 32 := 10#32
  let v527 : Index := Scalar.indexCast c10_i32_431
  let c0_i32_160 : BitVec 32 := 0#32
  let c1_i32_162 : BitVec 32 := 1#32
  let arg8 : BitVec 32 := Scf.iv c0_i32_160 c1_i32_162 k0_t4
  let c16_i32_428 : BitVec 32 := 16#32
  let v524 : BitVec 32 := Scalar.muli arg8 c16_i32_428
  let v528 : Index := Scalar.indexCast v524
  ![0, 2, 10, v528.toNat]
def k0_off333 (k0_t4 : Fin k0_t4_loop.trips) : Fin 4 → Nat :=
  let c0_i32_433 : BitVec 32 := 0#32
  let v532 : Index := Scalar.indexCast c0_i32_433
  let c2_i32_434 : BitVec 32 := 2#32
  let v533 : Index := Scalar.indexCast c2_i32_434
  let c11_i32_435 : BitVec 32 := 11#32
  let v534 : Index := Scalar.indexCast c11_i32_435
  let c0_i32_160 : BitVec 32 := 0#32
  let c1_i32_162 : BitVec 32 := 1#32
  let arg8 : BitVec 32 := Scf.iv c0_i32_160 c1_i32_162 k0_t4
  let c16_i32_432 : BitVec 32 := 16#32
  let v531 : BitVec 32 := Scalar.muli arg8 c16_i32_432
  let v535 : Index := Scalar.indexCast v531
  ![0, 2, 11, v535.toNat]
def k0_off334 (k0_t4 : Fin k0_t4_loop.trips) : Fin 4 → Nat :=
  let c0_i32_437 : BitVec 32 := 0#32
  let v539 : Index := Scalar.indexCast c0_i32_437
  let c2_i32_438 : BitVec 32 := 2#32
  let v540 : Index := Scalar.indexCast c2_i32_438
  let c12_i32_439 : BitVec 32 := 12#32
  let v541 : Index := Scalar.indexCast c12_i32_439
  let c0_i32_160 : BitVec 32 := 0#32
  let c1_i32_162 : BitVec 32 := 1#32
  let arg8 : BitVec 32 := Scf.iv c0_i32_160 c1_i32_162 k0_t4
  let c16_i32_436 : BitVec 32 := 16#32
  let v538 : BitVec 32 := Scalar.muli arg8 c16_i32_436
  let v542 : Index := Scalar.indexCast v538
  ![0, 2, 12, v542.toNat]
def k0_off335 (k0_t4 : Fin k0_t4_loop.trips) : Fin 4 → Nat :=
  let c0_i32_441 : BitVec 32 := 0#32
  let v546 : Index := Scalar.indexCast c0_i32_441
  let c2_i32_442 : BitVec 32 := 2#32
  let v547 : Index := Scalar.indexCast c2_i32_442
  let c13_i32_443 : BitVec 32 := 13#32
  let v548 : Index := Scalar.indexCast c13_i32_443
  let c0_i32_160 : BitVec 32 := 0#32
  let c1_i32_162 : BitVec 32 := 1#32
  let arg8 : BitVec 32 := Scf.iv c0_i32_160 c1_i32_162 k0_t4
  let c16_i32_440 : BitVec 32 := 16#32
  let v545 : BitVec 32 := Scalar.muli arg8 c16_i32_440
  let v549 : Index := Scalar.indexCast v545
  ![0, 2, 13, v549.toNat]
def k0_off336 (k0_t4 : Fin k0_t4_loop.trips) : Fin 4 → Nat :=
  let c0_i32_445 : BitVec 32 := 0#32
  let v553 : Index := Scalar.indexCast c0_i32_445
  let c2_i32_446 : BitVec 32 := 2#32
  let v554 : Index := Scalar.indexCast c2_i32_446
  let c14_i32_447 : BitVec 32 := 14#32
  let v555 : Index := Scalar.indexCast c14_i32_447
  let c0_i32_160 : BitVec 32 := 0#32
  let c1_i32_162 : BitVec 32 := 1#32
  let arg8 : BitVec 32 := Scf.iv c0_i32_160 c1_i32_162 k0_t4
  let c16_i32_444 : BitVec 32 := 16#32
  let v552 : BitVec 32 := Scalar.muli arg8 c16_i32_444
  let v556 : Index := Scalar.indexCast v552
  ![0, 2, 14, v556.toNat]
def k0_off337 (k0_t4 : Fin k0_t4_loop.trips) : Fin 4 → Nat :=
  let c0_i32_449 : BitVec 32 := 0#32
  let v560 : Index := Scalar.indexCast c0_i32_449
  let c2_i32_450 : BitVec 32 := 2#32
  let v561 : Index := Scalar.indexCast c2_i32_450
  let c15_i32_451 : BitVec 32 := 15#32
  let v562 : Index := Scalar.indexCast c15_i32_451
  let c0_i32_160 : BitVec 32 := 0#32
  let c1_i32_162 : BitVec 32 := 1#32
  let arg8 : BitVec 32 := Scf.iv c0_i32_160 c1_i32_162 k0_t4
  let c16_i32_448 : BitVec 32 := 16#32
  let v559 : BitVec 32 := Scalar.muli arg8 c16_i32_448
  let v563 : Index := Scalar.indexCast v559
  ![0, 2, 15, v563.toNat]
def k0_off338 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v566 : Index := Scalar.indexCast arg8
  let c3_i32_452 : BitVec 32 := 3#32
  let v567 : Index := Scalar.indexCast c3_i32_452
  let c0 : Index := 0#32
  ![v566.toNat, 3, 0]
def k0_off339 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v571 : Index := Scalar.indexCast arg8
  let c3_i32_453 : BitVec 32 := 3#32
  let v572 : Index := Scalar.indexCast c3_i32_453
  let c16 : Index := 16#32
  ![v571.toNat, 3, 16]
def k0_off340 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v576 : Index := Scalar.indexCast arg8
  let c3_i32_454 : BitVec 32 := 3#32
  let v577 : Index := Scalar.indexCast c3_i32_454
  let c32 : Index := 32#32
  ![v576.toNat, 3, 32]
def k0_off341 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v581 : Index := Scalar.indexCast arg8
  let c3_i32_455 : BitVec 32 := 3#32
  let v582 : Index := Scalar.indexCast c3_i32_455
  let c48 : Index := 48#32
  ![v581.toNat, 3, 48]
def k0_off342 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v586 : Index := Scalar.indexCast arg8
  let c3_i32_456 : BitVec 32 := 3#32
  let v587 : Index := Scalar.indexCast c3_i32_456
  let c64 : Index := 64#32
  ![v586.toNat, 3, 64]
def k0_off343 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v591 : Index := Scalar.indexCast arg8
  let c3_i32_457 : BitVec 32 := 3#32
  let v592 : Index := Scalar.indexCast c3_i32_457
  let c80 : Index := 80#32
  ![v591.toNat, 3, 80]
def k0_off344 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v596 : Index := Scalar.indexCast arg8
  let c3_i32_458 : BitVec 32 := 3#32
  let v597 : Index := Scalar.indexCast c3_i32_458
  let c96 : Index := 96#32
  ![v596.toNat, 3, 96]
def k0_off345 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v601 : Index := Scalar.indexCast arg8
  let c3_i32_459 : BitVec 32 := 3#32
  let v602 : Index := Scalar.indexCast c3_i32_459
  let c112 : Index := 112#32
  ![v601.toNat, 3, 112]
def k0_off346 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v606 : Index := Scalar.indexCast arg8
  let c3_i32_460 : BitVec 32 := 3#32
  let v607 : Index := Scalar.indexCast c3_i32_460
  let c128 : Index := 128#32
  ![v606.toNat, 3, 128]
def k0_off347 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v611 : Index := Scalar.indexCast arg8
  let c3_i32_461 : BitVec 32 := 3#32
  let v612 : Index := Scalar.indexCast c3_i32_461
  let c144 : Index := 144#32
  ![v611.toNat, 3, 144]
def k0_off348 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v616 : Index := Scalar.indexCast arg8
  let c3_i32_462 : BitVec 32 := 3#32
  let v617 : Index := Scalar.indexCast c3_i32_462
  let c160 : Index := 160#32
  ![v616.toNat, 3, 160]
def k0_off349 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v621 : Index := Scalar.indexCast arg8
  let c3_i32_463 : BitVec 32 := 3#32
  let v622 : Index := Scalar.indexCast c3_i32_463
  let c176 : Index := 176#32
  ![v621.toNat, 3, 176]
def k0_off350 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v626 : Index := Scalar.indexCast arg8
  let c3_i32_464 : BitVec 32 := 3#32
  let v627 : Index := Scalar.indexCast c3_i32_464
  let c192 : Index := 192#32
  ![v626.toNat, 3, 192]
def k0_off351 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v631 : Index := Scalar.indexCast arg8
  let c3_i32_465 : BitVec 32 := 3#32
  let v632 : Index := Scalar.indexCast c3_i32_465
  let c208 : Index := 208#32
  ![v631.toNat, 3, 208]
def k0_off352 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v636 : Index := Scalar.indexCast arg8
  let c3_i32_466 : BitVec 32 := 3#32
  let v637 : Index := Scalar.indexCast c3_i32_466
  let c224 : Index := 224#32
  ![v636.toNat, 3, 224]
def k0_off353 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v641 : Index := Scalar.indexCast arg8
  let c3_i32_467 : BitVec 32 := 3#32
  let v642 : Index := Scalar.indexCast c3_i32_467
  let c240 : Index := 240#32
  ![v641.toNat, 3, 240]
def k0_off354 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v646 : Index := Scalar.indexCast arg8
  let c3_i32_468 : BitVec 32 := 3#32
  let v647 : Index := Scalar.indexCast c3_i32_468
  let c256 : Index := 256#32
  ![v646.toNat, 3, 256]
def k0_off355 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v651 : Index := Scalar.indexCast arg8
  let c3_i32_469 : BitVec 32 := 3#32
  let v652 : Index := Scalar.indexCast c3_i32_469
  let c272 : Index := 272#32
  ![v651.toNat, 3, 272]
def k0_off356 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v656 : Index := Scalar.indexCast arg8
  let c3_i32_470 : BitVec 32 := 3#32
  let v657 : Index := Scalar.indexCast c3_i32_470
  let c288 : Index := 288#32
  ![v656.toNat, 3, 288]
def k0_off357 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v661 : Index := Scalar.indexCast arg8
  let c3_i32_471 : BitVec 32 := 3#32
  let v662 : Index := Scalar.indexCast c3_i32_471
  let c304 : Index := 304#32
  ![v661.toNat, 3, 304]
def k0_off358 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v666 : Index := Scalar.indexCast arg8
  let c3_i32_472 : BitVec 32 := 3#32
  let v667 : Index := Scalar.indexCast c3_i32_472
  let c320 : Index := 320#32
  ![v666.toNat, 3, 320]
def k0_off359 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v671 : Index := Scalar.indexCast arg8
  let c3_i32_473 : BitVec 32 := 3#32
  let v672 : Index := Scalar.indexCast c3_i32_473
  let c336 : Index := 336#32
  ![v671.toNat, 3, 336]
def k0_off360 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v676 : Index := Scalar.indexCast arg8
  let c3_i32_474 : BitVec 32 := 3#32
  let v677 : Index := Scalar.indexCast c3_i32_474
  let c352 : Index := 352#32
  ![v676.toNat, 3, 352]
def k0_off361 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v681 : Index := Scalar.indexCast arg8
  let c3_i32_475 : BitVec 32 := 3#32
  let v682 : Index := Scalar.indexCast c3_i32_475
  let c368 : Index := 368#32
  ![v681.toNat, 3, 368]
def k0_off362 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v686 : Index := Scalar.indexCast arg8
  let c3_i32_476 : BitVec 32 := 3#32
  let v687 : Index := Scalar.indexCast c3_i32_476
  let c384 : Index := 384#32
  ![v686.toNat, 3, 384]
def k0_off363 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v691 : Index := Scalar.indexCast arg8
  let c3_i32_477 : BitVec 32 := 3#32
  let v692 : Index := Scalar.indexCast c3_i32_477
  let c400 : Index := 400#32
  ![v691.toNat, 3, 400]
def k0_off364 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v696 : Index := Scalar.indexCast arg8
  let c3_i32_478 : BitVec 32 := 3#32
  let v697 : Index := Scalar.indexCast c3_i32_478
  let c416 : Index := 416#32
  ![v696.toNat, 3, 416]
def k0_off365 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v701 : Index := Scalar.indexCast arg8
  let c3_i32_479 : BitVec 32 := 3#32
  let v702 : Index := Scalar.indexCast c3_i32_479
  let c432 : Index := 432#32
  ![v701.toNat, 3, 432]
def k0_off366 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v706 : Index := Scalar.indexCast arg8
  let c3_i32_480 : BitVec 32 := 3#32
  let v707 : Index := Scalar.indexCast c3_i32_480
  let c448 : Index := 448#32
  ![v706.toNat, 3, 448]
def k0_off367 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v711 : Index := Scalar.indexCast arg8
  let c3_i32_481 : BitVec 32 := 3#32
  let v712 : Index := Scalar.indexCast c3_i32_481
  let c464 : Index := 464#32
  ![v711.toNat, 3, 464]
def k0_off368 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v716 : Index := Scalar.indexCast arg8
  let c3_i32_482 : BitVec 32 := 3#32
  let v717 : Index := Scalar.indexCast c3_i32_482
  let c480 : Index := 480#32
  ![v716.toNat, 3, 480]
def k0_off369 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v721 : Index := Scalar.indexCast arg8
  let c3_i32_483 : BitVec 32 := 3#32
  let v722 : Index := Scalar.indexCast c3_i32_483
  let c496 : Index := 496#32
  ![v721.toNat, 3, 496]
def k0_off370 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v726 : Index := Scalar.indexCast arg8
  let c3_i32_484 : BitVec 32 := 3#32
  let v727 : Index := Scalar.indexCast c3_i32_484
  let c512 : Index := 512#32
  ![v726.toNat, 3, 512]
def k0_off371 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v731 : Index := Scalar.indexCast arg8
  let c3_i32_485 : BitVec 32 := 3#32
  let v732 : Index := Scalar.indexCast c3_i32_485
  let c528 : Index := 528#32
  ![v731.toNat, 3, 528]
def k0_off372 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v736 : Index := Scalar.indexCast arg8
  let c3_i32_486 : BitVec 32 := 3#32
  let v737 : Index := Scalar.indexCast c3_i32_486
  let c544 : Index := 544#32
  ![v736.toNat, 3, 544]
def k0_off373 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v741 : Index := Scalar.indexCast arg8
  let c3_i32_487 : BitVec 32 := 3#32
  let v742 : Index := Scalar.indexCast c3_i32_487
  let c560 : Index := 560#32
  ![v741.toNat, 3, 560]
def k0_off374 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v746 : Index := Scalar.indexCast arg8
  let c3_i32_488 : BitVec 32 := 3#32
  let v747 : Index := Scalar.indexCast c3_i32_488
  let c576 : Index := 576#32
  ![v746.toNat, 3, 576]
def k0_off375 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v751 : Index := Scalar.indexCast arg8
  let c3_i32_489 : BitVec 32 := 3#32
  let v752 : Index := Scalar.indexCast c3_i32_489
  let c592 : Index := 592#32
  ![v751.toNat, 3, 592]
def k0_off376 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v756 : Index := Scalar.indexCast arg8
  let c3_i32_490 : BitVec 32 := 3#32
  let v757 : Index := Scalar.indexCast c3_i32_490
  let c608 : Index := 608#32
  ![v756.toNat, 3, 608]
def k0_off377 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v761 : Index := Scalar.indexCast arg8
  let c3_i32_491 : BitVec 32 := 3#32
  let v762 : Index := Scalar.indexCast c3_i32_491
  let c624 : Index := 624#32
  ![v761.toNat, 3, 624]
def k0_off378 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v766 : Index := Scalar.indexCast arg8
  let c3_i32_492 : BitVec 32 := 3#32
  let v767 : Index := Scalar.indexCast c3_i32_492
  let c640 : Index := 640#32
  ![v766.toNat, 3, 640]
def k0_off379 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v771 : Index := Scalar.indexCast arg8
  let c3_i32_493 : BitVec 32 := 3#32
  let v772 : Index := Scalar.indexCast c3_i32_493
  let c656 : Index := 656#32
  ![v771.toNat, 3, 656]
def k0_off380 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v776 : Index := Scalar.indexCast arg8
  let c3_i32_494 : BitVec 32 := 3#32
  let v777 : Index := Scalar.indexCast c3_i32_494
  let c672 : Index := 672#32
  ![v776.toNat, 3, 672]
def k0_off381 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v781 : Index := Scalar.indexCast arg8
  let c3_i32_495 : BitVec 32 := 3#32
  let v782 : Index := Scalar.indexCast c3_i32_495
  let c688 : Index := 688#32
  ![v781.toNat, 3, 688]
def k0_off382 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v786 : Index := Scalar.indexCast arg8
  let c3_i32_496 : BitVec 32 := 3#32
  let v787 : Index := Scalar.indexCast c3_i32_496
  let c704 : Index := 704#32
  ![v786.toNat, 3, 704]
def k0_off383 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v791 : Index := Scalar.indexCast arg8
  let c3_i32_497 : BitVec 32 := 3#32
  let v792 : Index := Scalar.indexCast c3_i32_497
  let c720 : Index := 720#32
  ![v791.toNat, 3, 720]
def k0_off384 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v796 : Index := Scalar.indexCast arg8
  let c3_i32_498 : BitVec 32 := 3#32
  let v797 : Index := Scalar.indexCast c3_i32_498
  let c736 : Index := 736#32
  ![v796.toNat, 3, 736]
def k0_off385 (k0_t4 : Fin k0_t4_loop.trips) : Fin 3 → Nat :=
  let c0_i32_160 : BitVec 32 := 0#32
  let c1_i32_162 : BitVec 32 := 1#32
  let arg8 : BitVec 32 := Scf.iv c0_i32_160 c1_i32_162 k0_t4
  let v801 : Index := Scalar.indexCast arg8
  let c3_i32_499 : BitVec 32 := 3#32
  let v802 : Index := Scalar.indexCast c3_i32_499
  let c752 : Index := 752#32
  ![v801.toNat, 3, 752]
@[reducible] def k0_t5_loop : Scf.Loop 32 :=
  let c0_i32_191 : BitVec 32 := 0#32
  let c14_i32_192 : BitVec 32 := 14#32
  let v177 : BitVec 32 := Scalar.addi c0_i32_191 c14_i32_192
  let c1_i32_193 : BitVec 32 := 1#32
  ⟨c0_i32_191, v177, c1_i32_193⟩
def k0_off386 (k0_t5 : Fin k0_t5_loop.trips) : Fin 4 → Nat :=
  let c1_i32_267 : BitVec 32 := 1#32
  let v231 : Index := Scalar.indexCast c1_i32_267
  let c0_i32_268 : BitVec 32 := 0#32
  let v232 : Index := Scalar.indexCast c0_i32_268
  let c0_i32_269 : BitVec 32 := 0#32
  let v233 : Index := Scalar.indexCast c0_i32_269
  let c0_i32_191 : BitVec 32 := 0#32
  let c1_i32_193 : BitVec 32 := 1#32
  let arg8 : BitVec 32 := Scf.iv c0_i32_191 c1_i32_193 k0_t5
  let c16_i32_266 : BitVec 32 := 16#32
  let v230 : BitVec 32 := Scalar.muli arg8 c16_i32_266
  let v234 : Index := Scalar.indexCast v230
  ![1, 0, 0, v234.toNat]
def k0_off387 (k0_t5 : Fin k0_t5_loop.trips) : Fin 4 → Nat :=
  let c1_i32_271 : BitVec 32 := 1#32
  let v238 : Index := Scalar.indexCast c1_i32_271
  let c0_i32_272 : BitVec 32 := 0#32
  let v239 : Index := Scalar.indexCast c0_i32_272
  let c1_i32_273 : BitVec 32 := 1#32
  let v240 : Index := Scalar.indexCast c1_i32_273
  let c0_i32_191 : BitVec 32 := 0#32
  let c1_i32_193 : BitVec 32 := 1#32
  let arg8 : BitVec 32 := Scf.iv c0_i32_191 c1_i32_193 k0_t5
  let c16_i32_270 : BitVec 32 := 16#32
  let v237 : BitVec 32 := Scalar.muli arg8 c16_i32_270
  let v241 : Index := Scalar.indexCast v237
  ![1, 0, 1, v241.toNat]
def k0_off388 (k0_t5 : Fin k0_t5_loop.trips) : Fin 4 → Nat :=
  let c1_i32_275 : BitVec 32 := 1#32
  let v245 : Index := Scalar.indexCast c1_i32_275
  let c0_i32_276 : BitVec 32 := 0#32
  let v246 : Index := Scalar.indexCast c0_i32_276
  let c2_i32_277 : BitVec 32 := 2#32
  let v247 : Index := Scalar.indexCast c2_i32_277
  let c0_i32_191 : BitVec 32 := 0#32
  let c1_i32_193 : BitVec 32 := 1#32
  let arg8 : BitVec 32 := Scf.iv c0_i32_191 c1_i32_193 k0_t5
  let c16_i32_274 : BitVec 32 := 16#32
  let v244 : BitVec 32 := Scalar.muli arg8 c16_i32_274
  let v248 : Index := Scalar.indexCast v244
  ![1, 0, 2, v248.toNat]
def k0_off389 (k0_t5 : Fin k0_t5_loop.trips) : Fin 4 → Nat :=
  let c1_i32_279 : BitVec 32 := 1#32
  let v252 : Index := Scalar.indexCast c1_i32_279
  let c0_i32_280 : BitVec 32 := 0#32
  let v253 : Index := Scalar.indexCast c0_i32_280
  let c3_i32_281 : BitVec 32 := 3#32
  let v254 : Index := Scalar.indexCast c3_i32_281
  let c0_i32_191 : BitVec 32 := 0#32
  let c1_i32_193 : BitVec 32 := 1#32
  let arg8 : BitVec 32 := Scf.iv c0_i32_191 c1_i32_193 k0_t5
  let c16_i32_278 : BitVec 32 := 16#32
  let v251 : BitVec 32 := Scalar.muli arg8 c16_i32_278
  let v255 : Index := Scalar.indexCast v251
  ![1, 0, 3, v255.toNat]
def k0_off390 (k0_t5 : Fin k0_t5_loop.trips) : Fin 4 → Nat :=
  let c1_i32_283 : BitVec 32 := 1#32
  let v259 : Index := Scalar.indexCast c1_i32_283
  let c0_i32_284 : BitVec 32 := 0#32
  let v260 : Index := Scalar.indexCast c0_i32_284
  let c4_i32_285 : BitVec 32 := 4#32
  let v261 : Index := Scalar.indexCast c4_i32_285
  let c0_i32_191 : BitVec 32 := 0#32
  let c1_i32_193 : BitVec 32 := 1#32
  let arg8 : BitVec 32 := Scf.iv c0_i32_191 c1_i32_193 k0_t5
  let c16_i32_282 : BitVec 32 := 16#32
  let v258 : BitVec 32 := Scalar.muli arg8 c16_i32_282
  let v262 : Index := Scalar.indexCast v258
  ![1, 0, 4, v262.toNat]
def k0_off391 (k0_t5 : Fin k0_t5_loop.trips) : Fin 4 → Nat :=
  let c1_i32_287 : BitVec 32 := 1#32
  let v266 : Index := Scalar.indexCast c1_i32_287
  let c0_i32_288 : BitVec 32 := 0#32
  let v267 : Index := Scalar.indexCast c0_i32_288
  let c5_i32_289 : BitVec 32 := 5#32
  let v268 : Index := Scalar.indexCast c5_i32_289
  let c0_i32_191 : BitVec 32 := 0#32
  let c1_i32_193 : BitVec 32 := 1#32
  let arg8 : BitVec 32 := Scf.iv c0_i32_191 c1_i32_193 k0_t5
  let c16_i32_286 : BitVec 32 := 16#32
  let v265 : BitVec 32 := Scalar.muli arg8 c16_i32_286
  let v269 : Index := Scalar.indexCast v265
  ![1, 0, 5, v269.toNat]
def k0_off392 (k0_t5 : Fin k0_t5_loop.trips) : Fin 4 → Nat :=
  let c1_i32_291 : BitVec 32 := 1#32
  let v273 : Index := Scalar.indexCast c1_i32_291
  let c0_i32_292 : BitVec 32 := 0#32
  let v274 : Index := Scalar.indexCast c0_i32_292
  let c6_i32_293 : BitVec 32 := 6#32
  let v275 : Index := Scalar.indexCast c6_i32_293
  let c0_i32_191 : BitVec 32 := 0#32
  let c1_i32_193 : BitVec 32 := 1#32
  let arg8 : BitVec 32 := Scf.iv c0_i32_191 c1_i32_193 k0_t5
  let c16_i32_290 : BitVec 32 := 16#32
  let v272 : BitVec 32 := Scalar.muli arg8 c16_i32_290
  let v276 : Index := Scalar.indexCast v272
  ![1, 0, 6, v276.toNat]
def k0_off393 (k0_t5 : Fin k0_t5_loop.trips) : Fin 4 → Nat :=
  let c1_i32_295 : BitVec 32 := 1#32
  let v280 : Index := Scalar.indexCast c1_i32_295
  let c0_i32_296 : BitVec 32 := 0#32
  let v281 : Index := Scalar.indexCast c0_i32_296
  let c7_i32_297 : BitVec 32 := 7#32
  let v282 : Index := Scalar.indexCast c7_i32_297
  let c0_i32_191 : BitVec 32 := 0#32
  let c1_i32_193 : BitVec 32 := 1#32
  let arg8 : BitVec 32 := Scf.iv c0_i32_191 c1_i32_193 k0_t5
  let c16_i32_294 : BitVec 32 := 16#32
  let v279 : BitVec 32 := Scalar.muli arg8 c16_i32_294
  let v283 : Index := Scalar.indexCast v279
  ![1, 0, 7, v283.toNat]
def k0_off394 (k0_t5 : Fin k0_t5_loop.trips) : Fin 4 → Nat :=
  let c1_i32_299 : BitVec 32 := 1#32
  let v287 : Index := Scalar.indexCast c1_i32_299
  let c0_i32_300 : BitVec 32 := 0#32
  let v288 : Index := Scalar.indexCast c0_i32_300
  let c8_i32_301 : BitVec 32 := 8#32
  let v289 : Index := Scalar.indexCast c8_i32_301
  let c0_i32_191 : BitVec 32 := 0#32
  let c1_i32_193 : BitVec 32 := 1#32
  let arg8 : BitVec 32 := Scf.iv c0_i32_191 c1_i32_193 k0_t5
  let c16_i32_298 : BitVec 32 := 16#32
  let v286 : BitVec 32 := Scalar.muli arg8 c16_i32_298
  let v290 : Index := Scalar.indexCast v286
  ![1, 0, 8, v290.toNat]
def k0_off395 (k0_t5 : Fin k0_t5_loop.trips) : Fin 4 → Nat :=
  let c1_i32_303 : BitVec 32 := 1#32
  let v294 : Index := Scalar.indexCast c1_i32_303
  let c0_i32_304 : BitVec 32 := 0#32
  let v295 : Index := Scalar.indexCast c0_i32_304
  let c9_i32 : BitVec 32 := 9#32
  let v296 : Index := Scalar.indexCast c9_i32
  let c0_i32_191 : BitVec 32 := 0#32
  let c1_i32_193 : BitVec 32 := 1#32
  let arg8 : BitVec 32 := Scf.iv c0_i32_191 c1_i32_193 k0_t5
  let c16_i32_302 : BitVec 32 := 16#32
  let v293 : BitVec 32 := Scalar.muli arg8 c16_i32_302
  let v297 : Index := Scalar.indexCast v293
  ![1, 0, 9, v297.toNat]
def k0_off396 (k0_t5 : Fin k0_t5_loop.trips) : Fin 4 → Nat :=
  let c1_i32_306 : BitVec 32 := 1#32
  let v301 : Index := Scalar.indexCast c1_i32_306
  let c0_i32_307 : BitVec 32 := 0#32
  let v302 : Index := Scalar.indexCast c0_i32_307
  let c10_i32 : BitVec 32 := 10#32
  let v303 : Index := Scalar.indexCast c10_i32
  let c0_i32_191 : BitVec 32 := 0#32
  let c1_i32_193 : BitVec 32 := 1#32
  let arg8 : BitVec 32 := Scf.iv c0_i32_191 c1_i32_193 k0_t5
  let c16_i32_305 : BitVec 32 := 16#32
  let v300 : BitVec 32 := Scalar.muli arg8 c16_i32_305
  let v304 : Index := Scalar.indexCast v300
  ![1, 0, 10, v304.toNat]
def k0_off397 (k0_t5 : Fin k0_t5_loop.trips) : Fin 4 → Nat :=
  let c1_i32_309 : BitVec 32 := 1#32
  let v308 : Index := Scalar.indexCast c1_i32_309
  let c0_i32_310 : BitVec 32 := 0#32
  let v309 : Index := Scalar.indexCast c0_i32_310
  let c11_i32 : BitVec 32 := 11#32
  let v310 : Index := Scalar.indexCast c11_i32
  let c0_i32_191 : BitVec 32 := 0#32
  let c1_i32_193 : BitVec 32 := 1#32
  let arg8 : BitVec 32 := Scf.iv c0_i32_191 c1_i32_193 k0_t5
  let c16_i32_308 : BitVec 32 := 16#32
  let v307 : BitVec 32 := Scalar.muli arg8 c16_i32_308
  let v311 : Index := Scalar.indexCast v307
  ![1, 0, 11, v311.toNat]
def k0_off398 (k0_t5 : Fin k0_t5_loop.trips) : Fin 4 → Nat :=
  let c1_i32_312 : BitVec 32 := 1#32
  let v315 : Index := Scalar.indexCast c1_i32_312
  let c0_i32_313 : BitVec 32 := 0#32
  let v316 : Index := Scalar.indexCast c0_i32_313
  let c12_i32 : BitVec 32 := 12#32
  let v317 : Index := Scalar.indexCast c12_i32
  let c0_i32_191 : BitVec 32 := 0#32
  let c1_i32_193 : BitVec 32 := 1#32
  let arg8 : BitVec 32 := Scf.iv c0_i32_191 c1_i32_193 k0_t5
  let c16_i32_311 : BitVec 32 := 16#32
  let v314 : BitVec 32 := Scalar.muli arg8 c16_i32_311
  let v318 : Index := Scalar.indexCast v314
  ![1, 0, 12, v318.toNat]
def k0_off399 (k0_t5 : Fin k0_t5_loop.trips) : Fin 4 → Nat :=
  let c1_i32_315 : BitVec 32 := 1#32
  let v322 : Index := Scalar.indexCast c1_i32_315
  let c0_i32_316 : BitVec 32 := 0#32
  let v323 : Index := Scalar.indexCast c0_i32_316
  let c13_i32 : BitVec 32 := 13#32
  let v324 : Index := Scalar.indexCast c13_i32
  let c0_i32_191 : BitVec 32 := 0#32
  let c1_i32_193 : BitVec 32 := 1#32
  let arg8 : BitVec 32 := Scf.iv c0_i32_191 c1_i32_193 k0_t5
  let c16_i32_314 : BitVec 32 := 16#32
  let v321 : BitVec 32 := Scalar.muli arg8 c16_i32_314
  let v325 : Index := Scalar.indexCast v321
  ![1, 0, 13, v325.toNat]
def k0_off400 (k0_t5 : Fin k0_t5_loop.trips) : Fin 4 → Nat :=
  let c1_i32_318 : BitVec 32 := 1#32
  let v329 : Index := Scalar.indexCast c1_i32_318
  let c0_i32_319 : BitVec 32 := 0#32
  let v330 : Index := Scalar.indexCast c0_i32_319
  let c14_i32_320 : BitVec 32 := 14#32
  let v331 : Index := Scalar.indexCast c14_i32_320
  let c0_i32_191 : BitVec 32 := 0#32
  let c1_i32_193 : BitVec 32 := 1#32
  let arg8 : BitVec 32 := Scf.iv c0_i32_191 c1_i32_193 k0_t5
  let c16_i32_317 : BitVec 32 := 16#32
  let v328 : BitVec 32 := Scalar.muli arg8 c16_i32_317
  let v332 : Index := Scalar.indexCast v328
  ![1, 0, 14, v332.toNat]
def k0_off401 (k0_t5 : Fin k0_t5_loop.trips) : Fin 4 → Nat :=
  let c1_i32_322 : BitVec 32 := 1#32
  let v336 : Index := Scalar.indexCast c1_i32_322
  let c0_i32_323 : BitVec 32 := 0#32
  let v337 : Index := Scalar.indexCast c0_i32_323
  let c15_i32 : BitVec 32 := 15#32
  let v338 : Index := Scalar.indexCast c15_i32
  let c0_i32_191 : BitVec 32 := 0#32
  let c1_i32_193 : BitVec 32 := 1#32
  let arg8 : BitVec 32 := Scf.iv c0_i32_191 c1_i32_193 k0_t5
  let c16_i32_321 : BitVec 32 := 16#32
  let v335 : BitVec 32 := Scalar.muli arg8 c16_i32_321
  let v339 : Index := Scalar.indexCast v335
  ![1, 0, 15, v339.toNat]
def k0_off402 (k0_t5 : Fin k0_t5_loop.trips) : Fin 4 → Nat :=
  let c1_i32_325 : BitVec 32 := 1#32
  let v343 : Index := Scalar.indexCast c1_i32_325
  let c1_i32_326 : BitVec 32 := 1#32
  let v344 : Index := Scalar.indexCast c1_i32_326
  let c0_i32_327 : BitVec 32 := 0#32
  let v345 : Index := Scalar.indexCast c0_i32_327
  let c0_i32_191 : BitVec 32 := 0#32
  let c1_i32_193 : BitVec 32 := 1#32
  let arg8 : BitVec 32 := Scf.iv c0_i32_191 c1_i32_193 k0_t5
  let c16_i32_324 : BitVec 32 := 16#32
  let v342 : BitVec 32 := Scalar.muli arg8 c16_i32_324
  let v346 : Index := Scalar.indexCast v342
  ![1, 1, 0, v346.toNat]
def k0_off403 (k0_t5 : Fin k0_t5_loop.trips) : Fin 4 → Nat :=
  let c1_i32_329 : BitVec 32 := 1#32
  let v350 : Index := Scalar.indexCast c1_i32_329
  let c1_i32_330 : BitVec 32 := 1#32
  let v351 : Index := Scalar.indexCast c1_i32_330
  let c1_i32_331 : BitVec 32 := 1#32
  let v352 : Index := Scalar.indexCast c1_i32_331
  let c0_i32_191 : BitVec 32 := 0#32
  let c1_i32_193 : BitVec 32 := 1#32
  let arg8 : BitVec 32 := Scf.iv c0_i32_191 c1_i32_193 k0_t5
  let c16_i32_328 : BitVec 32 := 16#32
  let v349 : BitVec 32 := Scalar.muli arg8 c16_i32_328
  let v353 : Index := Scalar.indexCast v349
  ![1, 1, 1, v353.toNat]
def k0_off404 (k0_t5 : Fin k0_t5_loop.trips) : Fin 4 → Nat :=
  let c1_i32_333 : BitVec 32 := 1#32
  let v357 : Index := Scalar.indexCast c1_i32_333
  let c1_i32_334 : BitVec 32 := 1#32
  let v358 : Index := Scalar.indexCast c1_i32_334
  let c2_i32_335 : BitVec 32 := 2#32
  let v359 : Index := Scalar.indexCast c2_i32_335
  let c0_i32_191 : BitVec 32 := 0#32
  let c1_i32_193 : BitVec 32 := 1#32
  let arg8 : BitVec 32 := Scf.iv c0_i32_191 c1_i32_193 k0_t5
  let c16_i32_332 : BitVec 32 := 16#32
  let v356 : BitVec 32 := Scalar.muli arg8 c16_i32_332
  let v360 : Index := Scalar.indexCast v356
  ![1, 1, 2, v360.toNat]
def k0_off405 (k0_t5 : Fin k0_t5_loop.trips) : Fin 4 → Nat :=
  let c1_i32_337 : BitVec 32 := 1#32
  let v364 : Index := Scalar.indexCast c1_i32_337
  let c1_i32_338 : BitVec 32 := 1#32
  let v365 : Index := Scalar.indexCast c1_i32_338
  let c3_i32_339 : BitVec 32 := 3#32
  let v366 : Index := Scalar.indexCast c3_i32_339
  let c0_i32_191 : BitVec 32 := 0#32
  let c1_i32_193 : BitVec 32 := 1#32
  let arg8 : BitVec 32 := Scf.iv c0_i32_191 c1_i32_193 k0_t5
  let c16_i32_336 : BitVec 32 := 16#32
  let v363 : BitVec 32 := Scalar.muli arg8 c16_i32_336
  let v367 : Index := Scalar.indexCast v363
  ![1, 1, 3, v367.toNat]
def k0_off406 (k0_t5 : Fin k0_t5_loop.trips) : Fin 4 → Nat :=
  let c1_i32_341 : BitVec 32 := 1#32
  let v371 : Index := Scalar.indexCast c1_i32_341
  let c1_i32_342 : BitVec 32 := 1#32
  let v372 : Index := Scalar.indexCast c1_i32_342
  let c4_i32_343 : BitVec 32 := 4#32
  let v373 : Index := Scalar.indexCast c4_i32_343
  let c0_i32_191 : BitVec 32 := 0#32
  let c1_i32_193 : BitVec 32 := 1#32
  let arg8 : BitVec 32 := Scf.iv c0_i32_191 c1_i32_193 k0_t5
  let c16_i32_340 : BitVec 32 := 16#32
  let v370 : BitVec 32 := Scalar.muli arg8 c16_i32_340
  let v374 : Index := Scalar.indexCast v370
  ![1, 1, 4, v374.toNat]
def k0_off407 (k0_t5 : Fin k0_t5_loop.trips) : Fin 4 → Nat :=
  let c1_i32_345 : BitVec 32 := 1#32
  let v378 : Index := Scalar.indexCast c1_i32_345
  let c1_i32_346 : BitVec 32 := 1#32
  let v379 : Index := Scalar.indexCast c1_i32_346
  let c5_i32_347 : BitVec 32 := 5#32
  let v380 : Index := Scalar.indexCast c5_i32_347
  let c0_i32_191 : BitVec 32 := 0#32
  let c1_i32_193 : BitVec 32 := 1#32
  let arg8 : BitVec 32 := Scf.iv c0_i32_191 c1_i32_193 k0_t5
  let c16_i32_344 : BitVec 32 := 16#32
  let v377 : BitVec 32 := Scalar.muli arg8 c16_i32_344
  let v381 : Index := Scalar.indexCast v377
  ![1, 1, 5, v381.toNat]
def k0_off408 (k0_t5 : Fin k0_t5_loop.trips) : Fin 4 → Nat :=
  let c1_i32_349 : BitVec 32 := 1#32
  let v385 : Index := Scalar.indexCast c1_i32_349
  let c1_i32_350 : BitVec 32 := 1#32
  let v386 : Index := Scalar.indexCast c1_i32_350
  let c6_i32_351 : BitVec 32 := 6#32
  let v387 : Index := Scalar.indexCast c6_i32_351
  let c0_i32_191 : BitVec 32 := 0#32
  let c1_i32_193 : BitVec 32 := 1#32
  let arg8 : BitVec 32 := Scf.iv c0_i32_191 c1_i32_193 k0_t5
  let c16_i32_348 : BitVec 32 := 16#32
  let v384 : BitVec 32 := Scalar.muli arg8 c16_i32_348
  let v388 : Index := Scalar.indexCast v384
  ![1, 1, 6, v388.toNat]
def k0_off409 (k0_t5 : Fin k0_t5_loop.trips) : Fin 4 → Nat :=
  let c1_i32_353 : BitVec 32 := 1#32
  let v392 : Index := Scalar.indexCast c1_i32_353
  let c1_i32_354 : BitVec 32 := 1#32
  let v393 : Index := Scalar.indexCast c1_i32_354
  let c7_i32_355 : BitVec 32 := 7#32
  let v394 : Index := Scalar.indexCast c7_i32_355
  let c0_i32_191 : BitVec 32 := 0#32
  let c1_i32_193 : BitVec 32 := 1#32
  let arg8 : BitVec 32 := Scf.iv c0_i32_191 c1_i32_193 k0_t5
  let c16_i32_352 : BitVec 32 := 16#32
  let v391 : BitVec 32 := Scalar.muli arg8 c16_i32_352
  let v395 : Index := Scalar.indexCast v391
  ![1, 1, 7, v395.toNat]
def k0_off410 (k0_t5 : Fin k0_t5_loop.trips) : Fin 4 → Nat :=
  let c1_i32_357 : BitVec 32 := 1#32
  let v399 : Index := Scalar.indexCast c1_i32_357
  let c1_i32_358 : BitVec 32 := 1#32
  let v400 : Index := Scalar.indexCast c1_i32_358
  let c8_i32_359 : BitVec 32 := 8#32
  let v401 : Index := Scalar.indexCast c8_i32_359
  let c0_i32_191 : BitVec 32 := 0#32
  let c1_i32_193 : BitVec 32 := 1#32
  let arg8 : BitVec 32 := Scf.iv c0_i32_191 c1_i32_193 k0_t5
  let c16_i32_356 : BitVec 32 := 16#32
  let v398 : BitVec 32 := Scalar.muli arg8 c16_i32_356
  let v402 : Index := Scalar.indexCast v398
  ![1, 1, 8, v402.toNat]
def k0_off411 (k0_t5 : Fin k0_t5_loop.trips) : Fin 4 → Nat :=
  let c1_i32_361 : BitVec 32 := 1#32
  let v406 : Index := Scalar.indexCast c1_i32_361
  let c1_i32_362 : BitVec 32 := 1#32
  let v407 : Index := Scalar.indexCast c1_i32_362
  let c9_i32_363 : BitVec 32 := 9#32
  let v408 : Index := Scalar.indexCast c9_i32_363
  let c0_i32_191 : BitVec 32 := 0#32
  let c1_i32_193 : BitVec 32 := 1#32
  let arg8 : BitVec 32 := Scf.iv c0_i32_191 c1_i32_193 k0_t5
  let c16_i32_360 : BitVec 32 := 16#32
  let v405 : BitVec 32 := Scalar.muli arg8 c16_i32_360
  let v409 : Index := Scalar.indexCast v405
  ![1, 1, 9, v409.toNat]
def k0_off412 (k0_t5 : Fin k0_t5_loop.trips) : Fin 4 → Nat :=
  let c1_i32_365 : BitVec 32 := 1#32
  let v413 : Index := Scalar.indexCast c1_i32_365
  let c1_i32_366 : BitVec 32 := 1#32
  let v414 : Index := Scalar.indexCast c1_i32_366
  let c10_i32_367 : BitVec 32 := 10#32
  let v415 : Index := Scalar.indexCast c10_i32_367
  let c0_i32_191 : BitVec 32 := 0#32
  let c1_i32_193 : BitVec 32 := 1#32
  let arg8 : BitVec 32 := Scf.iv c0_i32_191 c1_i32_193 k0_t5
  let c16_i32_364 : BitVec 32 := 16#32
  let v412 : BitVec 32 := Scalar.muli arg8 c16_i32_364
  let v416 : Index := Scalar.indexCast v412
  ![1, 1, 10, v416.toNat]
def k0_off413 (k0_t5 : Fin k0_t5_loop.trips) : Fin 4 → Nat :=
  let c1_i32_369 : BitVec 32 := 1#32
  let v420 : Index := Scalar.indexCast c1_i32_369
  let c1_i32_370 : BitVec 32 := 1#32
  let v421 : Index := Scalar.indexCast c1_i32_370
  let c11_i32_371 : BitVec 32 := 11#32
  let v422 : Index := Scalar.indexCast c11_i32_371
  let c0_i32_191 : BitVec 32 := 0#32
  let c1_i32_193 : BitVec 32 := 1#32
  let arg8 : BitVec 32 := Scf.iv c0_i32_191 c1_i32_193 k0_t5
  let c16_i32_368 : BitVec 32 := 16#32
  let v419 : BitVec 32 := Scalar.muli arg8 c16_i32_368
  let v423 : Index := Scalar.indexCast v419
  ![1, 1, 11, v423.toNat]
def k0_off414 (k0_t5 : Fin k0_t5_loop.trips) : Fin 4 → Nat :=
  let c1_i32_373 : BitVec 32 := 1#32
  let v427 : Index := Scalar.indexCast c1_i32_373
  let c1_i32_374 : BitVec 32 := 1#32
  let v428 : Index := Scalar.indexCast c1_i32_374
  let c12_i32_375 : BitVec 32 := 12#32
  let v429 : Index := Scalar.indexCast c12_i32_375
  let c0_i32_191 : BitVec 32 := 0#32
  let c1_i32_193 : BitVec 32 := 1#32
  let arg8 : BitVec 32 := Scf.iv c0_i32_191 c1_i32_193 k0_t5
  let c16_i32_372 : BitVec 32 := 16#32
  let v426 : BitVec 32 := Scalar.muli arg8 c16_i32_372
  let v430 : Index := Scalar.indexCast v426
  ![1, 1, 12, v430.toNat]
def k0_off415 (k0_t5 : Fin k0_t5_loop.trips) : Fin 4 → Nat :=
  let c1_i32_377 : BitVec 32 := 1#32
  let v434 : Index := Scalar.indexCast c1_i32_377
  let c1_i32_378 : BitVec 32 := 1#32
  let v435 : Index := Scalar.indexCast c1_i32_378
  let c13_i32_379 : BitVec 32 := 13#32
  let v436 : Index := Scalar.indexCast c13_i32_379
  let c0_i32_191 : BitVec 32 := 0#32
  let c1_i32_193 : BitVec 32 := 1#32
  let arg8 : BitVec 32 := Scf.iv c0_i32_191 c1_i32_193 k0_t5
  let c16_i32_376 : BitVec 32 := 16#32
  let v433 : BitVec 32 := Scalar.muli arg8 c16_i32_376
  let v437 : Index := Scalar.indexCast v433
  ![1, 1, 13, v437.toNat]
def k0_off416 (k0_t5 : Fin k0_t5_loop.trips) : Fin 4 → Nat :=
  let c1_i32_381 : BitVec 32 := 1#32
  let v441 : Index := Scalar.indexCast c1_i32_381
  let c1_i32_382 : BitVec 32 := 1#32
  let v442 : Index := Scalar.indexCast c1_i32_382
  let c14_i32_383 : BitVec 32 := 14#32
  let v443 : Index := Scalar.indexCast c14_i32_383
  let c0_i32_191 : BitVec 32 := 0#32
  let c1_i32_193 : BitVec 32 := 1#32
  let arg8 : BitVec 32 := Scf.iv c0_i32_191 c1_i32_193 k0_t5
  let c16_i32_380 : BitVec 32 := 16#32
  let v440 : BitVec 32 := Scalar.muli arg8 c16_i32_380
  let v444 : Index := Scalar.indexCast v440
  ![1, 1, 14, v444.toNat]
def k0_off417 (k0_t5 : Fin k0_t5_loop.trips) : Fin 4 → Nat :=
  let c1_i32_385 : BitVec 32 := 1#32
  let v448 : Index := Scalar.indexCast c1_i32_385
  let c1_i32_386 : BitVec 32 := 1#32
  let v449 : Index := Scalar.indexCast c1_i32_386
  let c15_i32_387 : BitVec 32 := 15#32
  let v450 : Index := Scalar.indexCast c15_i32_387
  let c0_i32_191 : BitVec 32 := 0#32
  let c1_i32_193 : BitVec 32 := 1#32
  let arg8 : BitVec 32 := Scf.iv c0_i32_191 c1_i32_193 k0_t5
  let c16_i32_384 : BitVec 32 := 16#32
  let v447 : BitVec 32 := Scalar.muli arg8 c16_i32_384
  let v451 : Index := Scalar.indexCast v447
  ![1, 1, 15, v451.toNat]
def k0_off418 (k0_t5 : Fin k0_t5_loop.trips) : Fin 4 → Nat :=
  let c1_i32_389 : BitVec 32 := 1#32
  let v455 : Index := Scalar.indexCast c1_i32_389
  let c2_i32_390 : BitVec 32 := 2#32
  let v456 : Index := Scalar.indexCast c2_i32_390
  let c0_i32_391 : BitVec 32 := 0#32
  let v457 : Index := Scalar.indexCast c0_i32_391
  let c0_i32_191 : BitVec 32 := 0#32
  let c1_i32_193 : BitVec 32 := 1#32
  let arg8 : BitVec 32 := Scf.iv c0_i32_191 c1_i32_193 k0_t5
  let c16_i32_388 : BitVec 32 := 16#32
  let v454 : BitVec 32 := Scalar.muli arg8 c16_i32_388
  let v458 : Index := Scalar.indexCast v454
  ![1, 2, 0, v458.toNat]
def k0_off419 (k0_t5 : Fin k0_t5_loop.trips) : Fin 4 → Nat :=
  let c1_i32_393 : BitVec 32 := 1#32
  let v462 : Index := Scalar.indexCast c1_i32_393
  let c2_i32_394 : BitVec 32 := 2#32
  let v463 : Index := Scalar.indexCast c2_i32_394
  let c1_i32_395 : BitVec 32 := 1#32
  let v464 : Index := Scalar.indexCast c1_i32_395
  let c0_i32_191 : BitVec 32 := 0#32
  let c1_i32_193 : BitVec 32 := 1#32
  let arg8 : BitVec 32 := Scf.iv c0_i32_191 c1_i32_193 k0_t5
  let c16_i32_392 : BitVec 32 := 16#32
  let v461 : BitVec 32 := Scalar.muli arg8 c16_i32_392
  let v465 : Index := Scalar.indexCast v461
  ![1, 2, 1, v465.toNat]
def k0_off420 (k0_t5 : Fin k0_t5_loop.trips) : Fin 4 → Nat :=
  let c1_i32_397 : BitVec 32 := 1#32
  let v469 : Index := Scalar.indexCast c1_i32_397
  let c2_i32_398 : BitVec 32 := 2#32
  let v470 : Index := Scalar.indexCast c2_i32_398
  let c2_i32_399 : BitVec 32 := 2#32
  let v471 : Index := Scalar.indexCast c2_i32_399
  let c0_i32_191 : BitVec 32 := 0#32
  let c1_i32_193 : BitVec 32 := 1#32
  let arg8 : BitVec 32 := Scf.iv c0_i32_191 c1_i32_193 k0_t5
  let c16_i32_396 : BitVec 32 := 16#32
  let v468 : BitVec 32 := Scalar.muli arg8 c16_i32_396
  let v472 : Index := Scalar.indexCast v468
  ![1, 2, 2, v472.toNat]
def k0_off421 (k0_t5 : Fin k0_t5_loop.trips) : Fin 4 → Nat :=
  let c1_i32_401 : BitVec 32 := 1#32
  let v476 : Index := Scalar.indexCast c1_i32_401
  let c2_i32_402 : BitVec 32 := 2#32
  let v477 : Index := Scalar.indexCast c2_i32_402
  let c3_i32_403 : BitVec 32 := 3#32
  let v478 : Index := Scalar.indexCast c3_i32_403
  let c0_i32_191 : BitVec 32 := 0#32
  let c1_i32_193 : BitVec 32 := 1#32
  let arg8 : BitVec 32 := Scf.iv c0_i32_191 c1_i32_193 k0_t5
  let c16_i32_400 : BitVec 32 := 16#32
  let v475 : BitVec 32 := Scalar.muli arg8 c16_i32_400
  let v479 : Index := Scalar.indexCast v475
  ![1, 2, 3, v479.toNat]
def k0_off422 (k0_t5 : Fin k0_t5_loop.trips) : Fin 4 → Nat :=
  let c1_i32_405 : BitVec 32 := 1#32
  let v483 : Index := Scalar.indexCast c1_i32_405
  let c2_i32_406 : BitVec 32 := 2#32
  let v484 : Index := Scalar.indexCast c2_i32_406
  let c4_i32_407 : BitVec 32 := 4#32
  let v485 : Index := Scalar.indexCast c4_i32_407
  let c0_i32_191 : BitVec 32 := 0#32
  let c1_i32_193 : BitVec 32 := 1#32
  let arg8 : BitVec 32 := Scf.iv c0_i32_191 c1_i32_193 k0_t5
  let c16_i32_404 : BitVec 32 := 16#32
  let v482 : BitVec 32 := Scalar.muli arg8 c16_i32_404
  let v486 : Index := Scalar.indexCast v482
  ![1, 2, 4, v486.toNat]
def k0_off423 (k0_t5 : Fin k0_t5_loop.trips) : Fin 4 → Nat :=
  let c1_i32_409 : BitVec 32 := 1#32
  let v490 : Index := Scalar.indexCast c1_i32_409
  let c2_i32_410 : BitVec 32 := 2#32
  let v491 : Index := Scalar.indexCast c2_i32_410
  let c5_i32_411 : BitVec 32 := 5#32
  let v492 : Index := Scalar.indexCast c5_i32_411
  let c0_i32_191 : BitVec 32 := 0#32
  let c1_i32_193 : BitVec 32 := 1#32
  let arg8 : BitVec 32 := Scf.iv c0_i32_191 c1_i32_193 k0_t5
  let c16_i32_408 : BitVec 32 := 16#32
  let v489 : BitVec 32 := Scalar.muli arg8 c16_i32_408
  let v493 : Index := Scalar.indexCast v489
  ![1, 2, 5, v493.toNat]
def k0_off424 (k0_t5 : Fin k0_t5_loop.trips) : Fin 4 → Nat :=
  let c1_i32_413 : BitVec 32 := 1#32
  let v497 : Index := Scalar.indexCast c1_i32_413
  let c2_i32_414 : BitVec 32 := 2#32
  let v498 : Index := Scalar.indexCast c2_i32_414
  let c6_i32_415 : BitVec 32 := 6#32
  let v499 : Index := Scalar.indexCast c6_i32_415
  let c0_i32_191 : BitVec 32 := 0#32
  let c1_i32_193 : BitVec 32 := 1#32
  let arg8 : BitVec 32 := Scf.iv c0_i32_191 c1_i32_193 k0_t5
  let c16_i32_412 : BitVec 32 := 16#32
  let v496 : BitVec 32 := Scalar.muli arg8 c16_i32_412
  let v500 : Index := Scalar.indexCast v496
  ![1, 2, 6, v500.toNat]
def k0_off425 (k0_t5 : Fin k0_t5_loop.trips) : Fin 4 → Nat :=
  let c1_i32_417 : BitVec 32 := 1#32
  let v504 : Index := Scalar.indexCast c1_i32_417
  let c2_i32_418 : BitVec 32 := 2#32
  let v505 : Index := Scalar.indexCast c2_i32_418
  let c7_i32_419 : BitVec 32 := 7#32
  let v506 : Index := Scalar.indexCast c7_i32_419
  let c0_i32_191 : BitVec 32 := 0#32
  let c1_i32_193 : BitVec 32 := 1#32
  let arg8 : BitVec 32 := Scf.iv c0_i32_191 c1_i32_193 k0_t5
  let c16_i32_416 : BitVec 32 := 16#32
  let v503 : BitVec 32 := Scalar.muli arg8 c16_i32_416
  let v507 : Index := Scalar.indexCast v503
  ![1, 2, 7, v507.toNat]
def k0_off426 (k0_t5 : Fin k0_t5_loop.trips) : Fin 4 → Nat :=
  let c1_i32_421 : BitVec 32 := 1#32
  let v511 : Index := Scalar.indexCast c1_i32_421
  let c2_i32_422 : BitVec 32 := 2#32
  let v512 : Index := Scalar.indexCast c2_i32_422
  let c8_i32_423 : BitVec 32 := 8#32
  let v513 : Index := Scalar.indexCast c8_i32_423
  let c0_i32_191 : BitVec 32 := 0#32
  let c1_i32_193 : BitVec 32 := 1#32
  let arg8 : BitVec 32 := Scf.iv c0_i32_191 c1_i32_193 k0_t5
  let c16_i32_420 : BitVec 32 := 16#32
  let v510 : BitVec 32 := Scalar.muli arg8 c16_i32_420
  let v514 : Index := Scalar.indexCast v510
  ![1, 2, 8, v514.toNat]
def k0_off427 (k0_t5 : Fin k0_t5_loop.trips) : Fin 4 → Nat :=
  let c1_i32_425 : BitVec 32 := 1#32
  let v518 : Index := Scalar.indexCast c1_i32_425
  let c2_i32_426 : BitVec 32 := 2#32
  let v519 : Index := Scalar.indexCast c2_i32_426
  let c9_i32_427 : BitVec 32 := 9#32
  let v520 : Index := Scalar.indexCast c9_i32_427
  let c0_i32_191 : BitVec 32 := 0#32
  let c1_i32_193 : BitVec 32 := 1#32
  let arg8 : BitVec 32 := Scf.iv c0_i32_191 c1_i32_193 k0_t5
  let c16_i32_424 : BitVec 32 := 16#32
  let v517 : BitVec 32 := Scalar.muli arg8 c16_i32_424
  let v521 : Index := Scalar.indexCast v517
  ![1, 2, 9, v521.toNat]
def k0_off428 (k0_t5 : Fin k0_t5_loop.trips) : Fin 4 → Nat :=
  let c1_i32_429 : BitVec 32 := 1#32
  let v525 : Index := Scalar.indexCast c1_i32_429
  let c2_i32_430 : BitVec 32 := 2#32
  let v526 : Index := Scalar.indexCast c2_i32_430
  let c10_i32_431 : BitVec 32 := 10#32
  let v527 : Index := Scalar.indexCast c10_i32_431
  let c0_i32_191 : BitVec 32 := 0#32
  let c1_i32_193 : BitVec 32 := 1#32
  let arg8 : BitVec 32 := Scf.iv c0_i32_191 c1_i32_193 k0_t5
  let c16_i32_428 : BitVec 32 := 16#32
  let v524 : BitVec 32 := Scalar.muli arg8 c16_i32_428
  let v528 : Index := Scalar.indexCast v524
  ![1, 2, 10, v528.toNat]
def k0_off429 (k0_t5 : Fin k0_t5_loop.trips) : Fin 4 → Nat :=
  let c1_i32_433 : BitVec 32 := 1#32
  let v532 : Index := Scalar.indexCast c1_i32_433
  let c2_i32_434 : BitVec 32 := 2#32
  let v533 : Index := Scalar.indexCast c2_i32_434
  let c11_i32_435 : BitVec 32 := 11#32
  let v534 : Index := Scalar.indexCast c11_i32_435
  let c0_i32_191 : BitVec 32 := 0#32
  let c1_i32_193 : BitVec 32 := 1#32
  let arg8 : BitVec 32 := Scf.iv c0_i32_191 c1_i32_193 k0_t5
  let c16_i32_432 : BitVec 32 := 16#32
  let v531 : BitVec 32 := Scalar.muli arg8 c16_i32_432
  let v535 : Index := Scalar.indexCast v531
  ![1, 2, 11, v535.toNat]
def k0_off430 (k0_t5 : Fin k0_t5_loop.trips) : Fin 4 → Nat :=
  let c1_i32_437 : BitVec 32 := 1#32
  let v539 : Index := Scalar.indexCast c1_i32_437
  let c2_i32_438 : BitVec 32 := 2#32
  let v540 : Index := Scalar.indexCast c2_i32_438
  let c12_i32_439 : BitVec 32 := 12#32
  let v541 : Index := Scalar.indexCast c12_i32_439
  let c0_i32_191 : BitVec 32 := 0#32
  let c1_i32_193 : BitVec 32 := 1#32
  let arg8 : BitVec 32 := Scf.iv c0_i32_191 c1_i32_193 k0_t5
  let c16_i32_436 : BitVec 32 := 16#32
  let v538 : BitVec 32 := Scalar.muli arg8 c16_i32_436
  let v542 : Index := Scalar.indexCast v538
  ![1, 2, 12, v542.toNat]
def k0_off431 (k0_t5 : Fin k0_t5_loop.trips) : Fin 4 → Nat :=
  let c1_i32_441 : BitVec 32 := 1#32
  let v546 : Index := Scalar.indexCast c1_i32_441
  let c2_i32_442 : BitVec 32 := 2#32
  let v547 : Index := Scalar.indexCast c2_i32_442
  let c13_i32_443 : BitVec 32 := 13#32
  let v548 : Index := Scalar.indexCast c13_i32_443
  let c0_i32_191 : BitVec 32 := 0#32
  let c1_i32_193 : BitVec 32 := 1#32
  let arg8 : BitVec 32 := Scf.iv c0_i32_191 c1_i32_193 k0_t5
  let c16_i32_440 : BitVec 32 := 16#32
  let v545 : BitVec 32 := Scalar.muli arg8 c16_i32_440
  let v549 : Index := Scalar.indexCast v545
  ![1, 2, 13, v549.toNat]
def k0_off432 (k0_t5 : Fin k0_t5_loop.trips) : Fin 4 → Nat :=
  let c1_i32_445 : BitVec 32 := 1#32
  let v553 : Index := Scalar.indexCast c1_i32_445
  let c2_i32_446 : BitVec 32 := 2#32
  let v554 : Index := Scalar.indexCast c2_i32_446
  let c14_i32_447 : BitVec 32 := 14#32
  let v555 : Index := Scalar.indexCast c14_i32_447
  let c0_i32_191 : BitVec 32 := 0#32
  let c1_i32_193 : BitVec 32 := 1#32
  let arg8 : BitVec 32 := Scf.iv c0_i32_191 c1_i32_193 k0_t5
  let c16_i32_444 : BitVec 32 := 16#32
  let v552 : BitVec 32 := Scalar.muli arg8 c16_i32_444
  let v556 : Index := Scalar.indexCast v552
  ![1, 2, 14, v556.toNat]
def k0_off433 (k0_t5 : Fin k0_t5_loop.trips) : Fin 4 → Nat :=
  let c1_i32_449 : BitVec 32 := 1#32
  let v560 : Index := Scalar.indexCast c1_i32_449
  let c2_i32_450 : BitVec 32 := 2#32
  let v561 : Index := Scalar.indexCast c2_i32_450
  let c15_i32_451 : BitVec 32 := 15#32
  let v562 : Index := Scalar.indexCast c15_i32_451
  let c0_i32_191 : BitVec 32 := 0#32
  let c1_i32_193 : BitVec 32 := 1#32
  let arg8 : BitVec 32 := Scf.iv c0_i32_191 c1_i32_193 k0_t5
  let c16_i32_448 : BitVec 32 := 16#32
  let v559 : BitVec 32 := Scalar.muli arg8 c16_i32_448
  let v563 : Index := Scalar.indexCast v559
  ![1, 2, 15, v563.toNat]
def k0_off434 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v566 : Index := Scalar.indexCast arg8
  let c4_i32_452 : BitVec 32 := 4#32
  let v567 : Index := Scalar.indexCast c4_i32_452
  let c0 : Index := 0#32
  ![v566.toNat, 4, 0]
def k0_off435 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v571 : Index := Scalar.indexCast arg8
  let c4_i32_453 : BitVec 32 := 4#32
  let v572 : Index := Scalar.indexCast c4_i32_453
  let c16 : Index := 16#32
  ![v571.toNat, 4, 16]
def k0_off436 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v576 : Index := Scalar.indexCast arg8
  let c4_i32_454 : BitVec 32 := 4#32
  let v577 : Index := Scalar.indexCast c4_i32_454
  let c32 : Index := 32#32
  ![v576.toNat, 4, 32]
def k0_off437 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v581 : Index := Scalar.indexCast arg8
  let c4_i32_455 : BitVec 32 := 4#32
  let v582 : Index := Scalar.indexCast c4_i32_455
  let c48 : Index := 48#32
  ![v581.toNat, 4, 48]
def k0_off438 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v586 : Index := Scalar.indexCast arg8
  let c4_i32_456 : BitVec 32 := 4#32
  let v587 : Index := Scalar.indexCast c4_i32_456
  let c64 : Index := 64#32
  ![v586.toNat, 4, 64]
def k0_off439 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v591 : Index := Scalar.indexCast arg8
  let c4_i32_457 : BitVec 32 := 4#32
  let v592 : Index := Scalar.indexCast c4_i32_457
  let c80 : Index := 80#32
  ![v591.toNat, 4, 80]
def k0_off440 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v596 : Index := Scalar.indexCast arg8
  let c4_i32_458 : BitVec 32 := 4#32
  let v597 : Index := Scalar.indexCast c4_i32_458
  let c96 : Index := 96#32
  ![v596.toNat, 4, 96]
def k0_off441 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v601 : Index := Scalar.indexCast arg8
  let c4_i32_459 : BitVec 32 := 4#32
  let v602 : Index := Scalar.indexCast c4_i32_459
  let c112 : Index := 112#32
  ![v601.toNat, 4, 112]
def k0_off442 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v606 : Index := Scalar.indexCast arg8
  let c4_i32_460 : BitVec 32 := 4#32
  let v607 : Index := Scalar.indexCast c4_i32_460
  let c128 : Index := 128#32
  ![v606.toNat, 4, 128]
def k0_off443 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v611 : Index := Scalar.indexCast arg8
  let c4_i32_461 : BitVec 32 := 4#32
  let v612 : Index := Scalar.indexCast c4_i32_461
  let c144 : Index := 144#32
  ![v611.toNat, 4, 144]
def k0_off444 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v616 : Index := Scalar.indexCast arg8
  let c4_i32_462 : BitVec 32 := 4#32
  let v617 : Index := Scalar.indexCast c4_i32_462
  let c160 : Index := 160#32
  ![v616.toNat, 4, 160]
def k0_off445 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v621 : Index := Scalar.indexCast arg8
  let c4_i32_463 : BitVec 32 := 4#32
  let v622 : Index := Scalar.indexCast c4_i32_463
  let c176 : Index := 176#32
  ![v621.toNat, 4, 176]
def k0_off446 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v626 : Index := Scalar.indexCast arg8
  let c4_i32_464 : BitVec 32 := 4#32
  let v627 : Index := Scalar.indexCast c4_i32_464
  let c192 : Index := 192#32
  ![v626.toNat, 4, 192]
def k0_off447 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v631 : Index := Scalar.indexCast arg8
  let c4_i32_465 : BitVec 32 := 4#32
  let v632 : Index := Scalar.indexCast c4_i32_465
  let c208 : Index := 208#32
  ![v631.toNat, 4, 208]
def k0_off448 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v636 : Index := Scalar.indexCast arg8
  let c4_i32_466 : BitVec 32 := 4#32
  let v637 : Index := Scalar.indexCast c4_i32_466
  let c224 : Index := 224#32
  ![v636.toNat, 4, 224]
def k0_off449 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v641 : Index := Scalar.indexCast arg8
  let c4_i32_467 : BitVec 32 := 4#32
  let v642 : Index := Scalar.indexCast c4_i32_467
  let c240 : Index := 240#32
  ![v641.toNat, 4, 240]
def k0_off450 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v646 : Index := Scalar.indexCast arg8
  let c4_i32_468 : BitVec 32 := 4#32
  let v647 : Index := Scalar.indexCast c4_i32_468
  let c256 : Index := 256#32
  ![v646.toNat, 4, 256]
def k0_off451 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v651 : Index := Scalar.indexCast arg8
  let c4_i32_469 : BitVec 32 := 4#32
  let v652 : Index := Scalar.indexCast c4_i32_469
  let c272 : Index := 272#32
  ![v651.toNat, 4, 272]
def k0_off452 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v656 : Index := Scalar.indexCast arg8
  let c4_i32_470 : BitVec 32 := 4#32
  let v657 : Index := Scalar.indexCast c4_i32_470
  let c288 : Index := 288#32
  ![v656.toNat, 4, 288]
def k0_off453 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v661 : Index := Scalar.indexCast arg8
  let c4_i32_471 : BitVec 32 := 4#32
  let v662 : Index := Scalar.indexCast c4_i32_471
  let c304 : Index := 304#32
  ![v661.toNat, 4, 304]
def k0_off454 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v666 : Index := Scalar.indexCast arg8
  let c4_i32_472 : BitVec 32 := 4#32
  let v667 : Index := Scalar.indexCast c4_i32_472
  let c320 : Index := 320#32
  ![v666.toNat, 4, 320]
def k0_off455 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v671 : Index := Scalar.indexCast arg8
  let c4_i32_473 : BitVec 32 := 4#32
  let v672 : Index := Scalar.indexCast c4_i32_473
  let c336 : Index := 336#32
  ![v671.toNat, 4, 336]
def k0_off456 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v676 : Index := Scalar.indexCast arg8
  let c4_i32_474 : BitVec 32 := 4#32
  let v677 : Index := Scalar.indexCast c4_i32_474
  let c352 : Index := 352#32
  ![v676.toNat, 4, 352]
def k0_off457 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v681 : Index := Scalar.indexCast arg8
  let c4_i32_475 : BitVec 32 := 4#32
  let v682 : Index := Scalar.indexCast c4_i32_475
  let c368 : Index := 368#32
  ![v681.toNat, 4, 368]
def k0_off458 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v686 : Index := Scalar.indexCast arg8
  let c4_i32_476 : BitVec 32 := 4#32
  let v687 : Index := Scalar.indexCast c4_i32_476
  let c384 : Index := 384#32
  ![v686.toNat, 4, 384]
def k0_off459 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v691 : Index := Scalar.indexCast arg8
  let c4_i32_477 : BitVec 32 := 4#32
  let v692 : Index := Scalar.indexCast c4_i32_477
  let c400 : Index := 400#32
  ![v691.toNat, 4, 400]
def k0_off460 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v696 : Index := Scalar.indexCast arg8
  let c4_i32_478 : BitVec 32 := 4#32
  let v697 : Index := Scalar.indexCast c4_i32_478
  let c416 : Index := 416#32
  ![v696.toNat, 4, 416]
def k0_off461 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v701 : Index := Scalar.indexCast arg8
  let c4_i32_479 : BitVec 32 := 4#32
  let v702 : Index := Scalar.indexCast c4_i32_479
  let c432 : Index := 432#32
  ![v701.toNat, 4, 432]
def k0_off462 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v706 : Index := Scalar.indexCast arg8
  let c4_i32_480 : BitVec 32 := 4#32
  let v707 : Index := Scalar.indexCast c4_i32_480
  let c448 : Index := 448#32
  ![v706.toNat, 4, 448]
def k0_off463 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v711 : Index := Scalar.indexCast arg8
  let c4_i32_481 : BitVec 32 := 4#32
  let v712 : Index := Scalar.indexCast c4_i32_481
  let c464 : Index := 464#32
  ![v711.toNat, 4, 464]
def k0_off464 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v716 : Index := Scalar.indexCast arg8
  let c4_i32_482 : BitVec 32 := 4#32
  let v717 : Index := Scalar.indexCast c4_i32_482
  let c480 : Index := 480#32
  ![v716.toNat, 4, 480]
def k0_off465 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v721 : Index := Scalar.indexCast arg8
  let c4_i32_483 : BitVec 32 := 4#32
  let v722 : Index := Scalar.indexCast c4_i32_483
  let c496 : Index := 496#32
  ![v721.toNat, 4, 496]
def k0_off466 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v726 : Index := Scalar.indexCast arg8
  let c4_i32_484 : BitVec 32 := 4#32
  let v727 : Index := Scalar.indexCast c4_i32_484
  let c512 : Index := 512#32
  ![v726.toNat, 4, 512]
def k0_off467 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v731 : Index := Scalar.indexCast arg8
  let c4_i32_485 : BitVec 32 := 4#32
  let v732 : Index := Scalar.indexCast c4_i32_485
  let c528 : Index := 528#32
  ![v731.toNat, 4, 528]
def k0_off468 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v736 : Index := Scalar.indexCast arg8
  let c4_i32_486 : BitVec 32 := 4#32
  let v737 : Index := Scalar.indexCast c4_i32_486
  let c544 : Index := 544#32
  ![v736.toNat, 4, 544]
def k0_off469 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v741 : Index := Scalar.indexCast arg8
  let c4_i32_487 : BitVec 32 := 4#32
  let v742 : Index := Scalar.indexCast c4_i32_487
  let c560 : Index := 560#32
  ![v741.toNat, 4, 560]
def k0_off470 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v746 : Index := Scalar.indexCast arg8
  let c4_i32_488 : BitVec 32 := 4#32
  let v747 : Index := Scalar.indexCast c4_i32_488
  let c576 : Index := 576#32
  ![v746.toNat, 4, 576]
def k0_off471 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v751 : Index := Scalar.indexCast arg8
  let c4_i32_489 : BitVec 32 := 4#32
  let v752 : Index := Scalar.indexCast c4_i32_489
  let c592 : Index := 592#32
  ![v751.toNat, 4, 592]
def k0_off472 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v756 : Index := Scalar.indexCast arg8
  let c4_i32_490 : BitVec 32 := 4#32
  let v757 : Index := Scalar.indexCast c4_i32_490
  let c608 : Index := 608#32
  ![v756.toNat, 4, 608]
def k0_off473 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v761 : Index := Scalar.indexCast arg8
  let c4_i32_491 : BitVec 32 := 4#32
  let v762 : Index := Scalar.indexCast c4_i32_491
  let c624 : Index := 624#32
  ![v761.toNat, 4, 624]
def k0_off474 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v766 : Index := Scalar.indexCast arg8
  let c4_i32_492 : BitVec 32 := 4#32
  let v767 : Index := Scalar.indexCast c4_i32_492
  let c640 : Index := 640#32
  ![v766.toNat, 4, 640]
def k0_off475 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v771 : Index := Scalar.indexCast arg8
  let c4_i32_493 : BitVec 32 := 4#32
  let v772 : Index := Scalar.indexCast c4_i32_493
  let c656 : Index := 656#32
  ![v771.toNat, 4, 656]
def k0_off476 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v776 : Index := Scalar.indexCast arg8
  let c4_i32_494 : BitVec 32 := 4#32
  let v777 : Index := Scalar.indexCast c4_i32_494
  let c672 : Index := 672#32
  ![v776.toNat, 4, 672]
def k0_off477 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v781 : Index := Scalar.indexCast arg8
  let c4_i32_495 : BitVec 32 := 4#32
  let v782 : Index := Scalar.indexCast c4_i32_495
  let c688 : Index := 688#32
  ![v781.toNat, 4, 688]
def k0_off478 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v786 : Index := Scalar.indexCast arg8
  let c4_i32_496 : BitVec 32 := 4#32
  let v787 : Index := Scalar.indexCast c4_i32_496
  let c704 : Index := 704#32
  ![v786.toNat, 4, 704]
def k0_off479 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v791 : Index := Scalar.indexCast arg8
  let c4_i32_497 : BitVec 32 := 4#32
  let v792 : Index := Scalar.indexCast c4_i32_497
  let c720 : Index := 720#32
  ![v791.toNat, 4, 720]
def k0_off480 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v796 : Index := Scalar.indexCast arg8
  let c4_i32_498 : BitVec 32 := 4#32
  let v797 : Index := Scalar.indexCast c4_i32_498
  let c736 : Index := 736#32
  ![v796.toNat, 4, 736]
def k0_off481 (k0_t5 : Fin k0_t5_loop.trips) : Fin 3 → Nat :=
  let c0_i32_191 : BitVec 32 := 0#32
  let c1_i32_193 : BitVec 32 := 1#32
  let arg8 : BitVec 32 := Scf.iv c0_i32_191 c1_i32_193 k0_t5
  let v801 : Index := Scalar.indexCast arg8
  let c4_i32_499 : BitVec 32 := 4#32
  let v802 : Index := Scalar.indexCast c4_i32_499
  let c752 : Index := 752#32
  ![v801.toNat, 4, 752]
@[reducible] def k0_t6_loop : Scf.Loop 32 :=
  let c0_i32_222 : BitVec 32 := 0#32
  let c14_i32_223 : BitVec 32 := 14#32
  let v201 : BitVec 32 := Scalar.addi c0_i32_222 c14_i32_223
  let c1_i32_224 : BitVec 32 := 1#32
  ⟨c0_i32_222, v201, c1_i32_224⟩
def k0_off482 (k0_t6 : Fin k0_t6_loop.trips) : Fin 4 → Nat :=
  let c2_i32_267 : BitVec 32 := 2#32
  let v231 : Index := Scalar.indexCast c2_i32_267
  let c0_i32_268 : BitVec 32 := 0#32
  let v232 : Index := Scalar.indexCast c0_i32_268
  let c0_i32_269 : BitVec 32 := 0#32
  let v233 : Index := Scalar.indexCast c0_i32_269
  let c0_i32_222 : BitVec 32 := 0#32
  let c1_i32_224 : BitVec 32 := 1#32
  let arg8 : BitVec 32 := Scf.iv c0_i32_222 c1_i32_224 k0_t6
  let c16_i32_266 : BitVec 32 := 16#32
  let v230 : BitVec 32 := Scalar.muli arg8 c16_i32_266
  let v234 : Index := Scalar.indexCast v230
  ![2, 0, 0, v234.toNat]
def k0_off483 (k0_t6 : Fin k0_t6_loop.trips) : Fin 4 → Nat :=
  let c2_i32_271 : BitVec 32 := 2#32
  let v238 : Index := Scalar.indexCast c2_i32_271
  let c0_i32_272 : BitVec 32 := 0#32
  let v239 : Index := Scalar.indexCast c0_i32_272
  let c1_i32_273 : BitVec 32 := 1#32
  let v240 : Index := Scalar.indexCast c1_i32_273
  let c0_i32_222 : BitVec 32 := 0#32
  let c1_i32_224 : BitVec 32 := 1#32
  let arg8 : BitVec 32 := Scf.iv c0_i32_222 c1_i32_224 k0_t6
  let c16_i32_270 : BitVec 32 := 16#32
  let v237 : BitVec 32 := Scalar.muli arg8 c16_i32_270
  let v241 : Index := Scalar.indexCast v237
  ![2, 0, 1, v241.toNat]
def k0_off484 (k0_t6 : Fin k0_t6_loop.trips) : Fin 4 → Nat :=
  let c2_i32_275 : BitVec 32 := 2#32
  let v245 : Index := Scalar.indexCast c2_i32_275
  let c0_i32_276 : BitVec 32 := 0#32
  let v246 : Index := Scalar.indexCast c0_i32_276
  let c2_i32_277 : BitVec 32 := 2#32
  let v247 : Index := Scalar.indexCast c2_i32_277
  let c0_i32_222 : BitVec 32 := 0#32
  let c1_i32_224 : BitVec 32 := 1#32
  let arg8 : BitVec 32 := Scf.iv c0_i32_222 c1_i32_224 k0_t6
  let c16_i32_274 : BitVec 32 := 16#32
  let v244 : BitVec 32 := Scalar.muli arg8 c16_i32_274
  let v248 : Index := Scalar.indexCast v244
  ![2, 0, 2, v248.toNat]
def k0_off485 (k0_t6 : Fin k0_t6_loop.trips) : Fin 4 → Nat :=
  let c2_i32_279 : BitVec 32 := 2#32
  let v252 : Index := Scalar.indexCast c2_i32_279
  let c0_i32_280 : BitVec 32 := 0#32
  let v253 : Index := Scalar.indexCast c0_i32_280
  let c3_i32_281 : BitVec 32 := 3#32
  let v254 : Index := Scalar.indexCast c3_i32_281
  let c0_i32_222 : BitVec 32 := 0#32
  let c1_i32_224 : BitVec 32 := 1#32
  let arg8 : BitVec 32 := Scf.iv c0_i32_222 c1_i32_224 k0_t6
  let c16_i32_278 : BitVec 32 := 16#32
  let v251 : BitVec 32 := Scalar.muli arg8 c16_i32_278
  let v255 : Index := Scalar.indexCast v251
  ![2, 0, 3, v255.toNat]
def k0_off486 (k0_t6 : Fin k0_t6_loop.trips) : Fin 4 → Nat :=
  let c2_i32_283 : BitVec 32 := 2#32
  let v259 : Index := Scalar.indexCast c2_i32_283
  let c0_i32_284 : BitVec 32 := 0#32
  let v260 : Index := Scalar.indexCast c0_i32_284
  let c4_i32_285 : BitVec 32 := 4#32
  let v261 : Index := Scalar.indexCast c4_i32_285
  let c0_i32_222 : BitVec 32 := 0#32
  let c1_i32_224 : BitVec 32 := 1#32
  let arg8 : BitVec 32 := Scf.iv c0_i32_222 c1_i32_224 k0_t6
  let c16_i32_282 : BitVec 32 := 16#32
  let v258 : BitVec 32 := Scalar.muli arg8 c16_i32_282
  let v262 : Index := Scalar.indexCast v258
  ![2, 0, 4, v262.toNat]
def k0_off487 (k0_t6 : Fin k0_t6_loop.trips) : Fin 4 → Nat :=
  let c2_i32_287 : BitVec 32 := 2#32
  let v266 : Index := Scalar.indexCast c2_i32_287
  let c0_i32_288 : BitVec 32 := 0#32
  let v267 : Index := Scalar.indexCast c0_i32_288
  let c5_i32_289 : BitVec 32 := 5#32
  let v268 : Index := Scalar.indexCast c5_i32_289
  let c0_i32_222 : BitVec 32 := 0#32
  let c1_i32_224 : BitVec 32 := 1#32
  let arg8 : BitVec 32 := Scf.iv c0_i32_222 c1_i32_224 k0_t6
  let c16_i32_286 : BitVec 32 := 16#32
  let v265 : BitVec 32 := Scalar.muli arg8 c16_i32_286
  let v269 : Index := Scalar.indexCast v265
  ![2, 0, 5, v269.toNat]
def k0_off488 (k0_t6 : Fin k0_t6_loop.trips) : Fin 4 → Nat :=
  let c2_i32_291 : BitVec 32 := 2#32
  let v273 : Index := Scalar.indexCast c2_i32_291
  let c0_i32_292 : BitVec 32 := 0#32
  let v274 : Index := Scalar.indexCast c0_i32_292
  let c6_i32_293 : BitVec 32 := 6#32
  let v275 : Index := Scalar.indexCast c6_i32_293
  let c0_i32_222 : BitVec 32 := 0#32
  let c1_i32_224 : BitVec 32 := 1#32
  let arg8 : BitVec 32 := Scf.iv c0_i32_222 c1_i32_224 k0_t6
  let c16_i32_290 : BitVec 32 := 16#32
  let v272 : BitVec 32 := Scalar.muli arg8 c16_i32_290
  let v276 : Index := Scalar.indexCast v272
  ![2, 0, 6, v276.toNat]
def k0_off489 (k0_t6 : Fin k0_t6_loop.trips) : Fin 4 → Nat :=
  let c2_i32_295 : BitVec 32 := 2#32
  let v280 : Index := Scalar.indexCast c2_i32_295
  let c0_i32_296 : BitVec 32 := 0#32
  let v281 : Index := Scalar.indexCast c0_i32_296
  let c7_i32_297 : BitVec 32 := 7#32
  let v282 : Index := Scalar.indexCast c7_i32_297
  let c0_i32_222 : BitVec 32 := 0#32
  let c1_i32_224 : BitVec 32 := 1#32
  let arg8 : BitVec 32 := Scf.iv c0_i32_222 c1_i32_224 k0_t6
  let c16_i32_294 : BitVec 32 := 16#32
  let v279 : BitVec 32 := Scalar.muli arg8 c16_i32_294
  let v283 : Index := Scalar.indexCast v279
  ![2, 0, 7, v283.toNat]
def k0_off490 (k0_t6 : Fin k0_t6_loop.trips) : Fin 4 → Nat :=
  let c2_i32_299 : BitVec 32 := 2#32
  let v287 : Index := Scalar.indexCast c2_i32_299
  let c0_i32_300 : BitVec 32 := 0#32
  let v288 : Index := Scalar.indexCast c0_i32_300
  let c8_i32_301 : BitVec 32 := 8#32
  let v289 : Index := Scalar.indexCast c8_i32_301
  let c0_i32_222 : BitVec 32 := 0#32
  let c1_i32_224 : BitVec 32 := 1#32
  let arg8 : BitVec 32 := Scf.iv c0_i32_222 c1_i32_224 k0_t6
  let c16_i32_298 : BitVec 32 := 16#32
  let v286 : BitVec 32 := Scalar.muli arg8 c16_i32_298
  let v290 : Index := Scalar.indexCast v286
  ![2, 0, 8, v290.toNat]
def k0_off491 (k0_t6 : Fin k0_t6_loop.trips) : Fin 4 → Nat :=
  let c2_i32_303 : BitVec 32 := 2#32
  let v294 : Index := Scalar.indexCast c2_i32_303
  let c0_i32_304 : BitVec 32 := 0#32
  let v295 : Index := Scalar.indexCast c0_i32_304
  let c9_i32 : BitVec 32 := 9#32
  let v296 : Index := Scalar.indexCast c9_i32
  let c0_i32_222 : BitVec 32 := 0#32
  let c1_i32_224 : BitVec 32 := 1#32
  let arg8 : BitVec 32 := Scf.iv c0_i32_222 c1_i32_224 k0_t6
  let c16_i32_302 : BitVec 32 := 16#32
  let v293 : BitVec 32 := Scalar.muli arg8 c16_i32_302
  let v297 : Index := Scalar.indexCast v293
  ![2, 0, 9, v297.toNat]
def k0_off492 (k0_t6 : Fin k0_t6_loop.trips) : Fin 4 → Nat :=
  let c2_i32_306 : BitVec 32 := 2#32
  let v301 : Index := Scalar.indexCast c2_i32_306
  let c0_i32_307 : BitVec 32 := 0#32
  let v302 : Index := Scalar.indexCast c0_i32_307
  let c10_i32 : BitVec 32 := 10#32
  let v303 : Index := Scalar.indexCast c10_i32
  let c0_i32_222 : BitVec 32 := 0#32
  let c1_i32_224 : BitVec 32 := 1#32
  let arg8 : BitVec 32 := Scf.iv c0_i32_222 c1_i32_224 k0_t6
  let c16_i32_305 : BitVec 32 := 16#32
  let v300 : BitVec 32 := Scalar.muli arg8 c16_i32_305
  let v304 : Index := Scalar.indexCast v300
  ![2, 0, 10, v304.toNat]
def k0_off493 (k0_t6 : Fin k0_t6_loop.trips) : Fin 4 → Nat :=
  let c2_i32_309 : BitVec 32 := 2#32
  let v308 : Index := Scalar.indexCast c2_i32_309
  let c0_i32_310 : BitVec 32 := 0#32
  let v309 : Index := Scalar.indexCast c0_i32_310
  let c11_i32 : BitVec 32 := 11#32
  let v310 : Index := Scalar.indexCast c11_i32
  let c0_i32_222 : BitVec 32 := 0#32
  let c1_i32_224 : BitVec 32 := 1#32
  let arg8 : BitVec 32 := Scf.iv c0_i32_222 c1_i32_224 k0_t6
  let c16_i32_308 : BitVec 32 := 16#32
  let v307 : BitVec 32 := Scalar.muli arg8 c16_i32_308
  let v311 : Index := Scalar.indexCast v307
  ![2, 0, 11, v311.toNat]
def k0_off494 (k0_t6 : Fin k0_t6_loop.trips) : Fin 4 → Nat :=
  let c2_i32_312 : BitVec 32 := 2#32
  let v315 : Index := Scalar.indexCast c2_i32_312
  let c0_i32_313 : BitVec 32 := 0#32
  let v316 : Index := Scalar.indexCast c0_i32_313
  let c12_i32 : BitVec 32 := 12#32
  let v317 : Index := Scalar.indexCast c12_i32
  let c0_i32_222 : BitVec 32 := 0#32
  let c1_i32_224 : BitVec 32 := 1#32
  let arg8 : BitVec 32 := Scf.iv c0_i32_222 c1_i32_224 k0_t6
  let c16_i32_311 : BitVec 32 := 16#32
  let v314 : BitVec 32 := Scalar.muli arg8 c16_i32_311
  let v318 : Index := Scalar.indexCast v314
  ![2, 0, 12, v318.toNat]
def k0_off495 (k0_t6 : Fin k0_t6_loop.trips) : Fin 4 → Nat :=
  let c2_i32_315 : BitVec 32 := 2#32
  let v322 : Index := Scalar.indexCast c2_i32_315
  let c0_i32_316 : BitVec 32 := 0#32
  let v323 : Index := Scalar.indexCast c0_i32_316
  let c13_i32 : BitVec 32 := 13#32
  let v324 : Index := Scalar.indexCast c13_i32
  let c0_i32_222 : BitVec 32 := 0#32
  let c1_i32_224 : BitVec 32 := 1#32
  let arg8 : BitVec 32 := Scf.iv c0_i32_222 c1_i32_224 k0_t6
  let c16_i32_314 : BitVec 32 := 16#32
  let v321 : BitVec 32 := Scalar.muli arg8 c16_i32_314
  let v325 : Index := Scalar.indexCast v321
  ![2, 0, 13, v325.toNat]
def k0_off496 (k0_t6 : Fin k0_t6_loop.trips) : Fin 4 → Nat :=
  let c2_i32_318 : BitVec 32 := 2#32
  let v329 : Index := Scalar.indexCast c2_i32_318
  let c0_i32_319 : BitVec 32 := 0#32
  let v330 : Index := Scalar.indexCast c0_i32_319
  let c14_i32_320 : BitVec 32 := 14#32
  let v331 : Index := Scalar.indexCast c14_i32_320
  let c0_i32_222 : BitVec 32 := 0#32
  let c1_i32_224 : BitVec 32 := 1#32
  let arg8 : BitVec 32 := Scf.iv c0_i32_222 c1_i32_224 k0_t6
  let c16_i32_317 : BitVec 32 := 16#32
  let v328 : BitVec 32 := Scalar.muli arg8 c16_i32_317
  let v332 : Index := Scalar.indexCast v328
  ![2, 0, 14, v332.toNat]
def k0_off497 (k0_t6 : Fin k0_t6_loop.trips) : Fin 4 → Nat :=
  let c2_i32_322 : BitVec 32 := 2#32
  let v336 : Index := Scalar.indexCast c2_i32_322
  let c0_i32_323 : BitVec 32 := 0#32
  let v337 : Index := Scalar.indexCast c0_i32_323
  let c15_i32 : BitVec 32 := 15#32
  let v338 : Index := Scalar.indexCast c15_i32
  let c0_i32_222 : BitVec 32 := 0#32
  let c1_i32_224 : BitVec 32 := 1#32
  let arg8 : BitVec 32 := Scf.iv c0_i32_222 c1_i32_224 k0_t6
  let c16_i32_321 : BitVec 32 := 16#32
  let v335 : BitVec 32 := Scalar.muli arg8 c16_i32_321
  let v339 : Index := Scalar.indexCast v335
  ![2, 0, 15, v339.toNat]
def k0_off498 (k0_t6 : Fin k0_t6_loop.trips) : Fin 4 → Nat :=
  let c2_i32_325 : BitVec 32 := 2#32
  let v343 : Index := Scalar.indexCast c2_i32_325
  let c1_i32_326 : BitVec 32 := 1#32
  let v344 : Index := Scalar.indexCast c1_i32_326
  let c0_i32_327 : BitVec 32 := 0#32
  let v345 : Index := Scalar.indexCast c0_i32_327
  let c0_i32_222 : BitVec 32 := 0#32
  let c1_i32_224 : BitVec 32 := 1#32
  let arg8 : BitVec 32 := Scf.iv c0_i32_222 c1_i32_224 k0_t6
  let c16_i32_324 : BitVec 32 := 16#32
  let v342 : BitVec 32 := Scalar.muli arg8 c16_i32_324
  let v346 : Index := Scalar.indexCast v342
  ![2, 1, 0, v346.toNat]
def k0_off499 (k0_t6 : Fin k0_t6_loop.trips) : Fin 4 → Nat :=
  let c2_i32_329 : BitVec 32 := 2#32
  let v350 : Index := Scalar.indexCast c2_i32_329
  let c1_i32_330 : BitVec 32 := 1#32
  let v351 : Index := Scalar.indexCast c1_i32_330
  let c1_i32_331 : BitVec 32 := 1#32
  let v352 : Index := Scalar.indexCast c1_i32_331
  let c0_i32_222 : BitVec 32 := 0#32
  let c1_i32_224 : BitVec 32 := 1#32
  let arg8 : BitVec 32 := Scf.iv c0_i32_222 c1_i32_224 k0_t6
  let c16_i32_328 : BitVec 32 := 16#32
  let v349 : BitVec 32 := Scalar.muli arg8 c16_i32_328
  let v353 : Index := Scalar.indexCast v349
  ![2, 1, 1, v353.toNat]
def k0_off500 (k0_t6 : Fin k0_t6_loop.trips) : Fin 4 → Nat :=
  let c2_i32_333 : BitVec 32 := 2#32
  let v357 : Index := Scalar.indexCast c2_i32_333
  let c1_i32_334 : BitVec 32 := 1#32
  let v358 : Index := Scalar.indexCast c1_i32_334
  let c2_i32_335 : BitVec 32 := 2#32
  let v359 : Index := Scalar.indexCast c2_i32_335
  let c0_i32_222 : BitVec 32 := 0#32
  let c1_i32_224 : BitVec 32 := 1#32
  let arg8 : BitVec 32 := Scf.iv c0_i32_222 c1_i32_224 k0_t6
  let c16_i32_332 : BitVec 32 := 16#32
  let v356 : BitVec 32 := Scalar.muli arg8 c16_i32_332
  let v360 : Index := Scalar.indexCast v356
  ![2, 1, 2, v360.toNat]
def k0_off501 (k0_t6 : Fin k0_t6_loop.trips) : Fin 4 → Nat :=
  let c2_i32_337 : BitVec 32 := 2#32
  let v364 : Index := Scalar.indexCast c2_i32_337
  let c1_i32_338 : BitVec 32 := 1#32
  let v365 : Index := Scalar.indexCast c1_i32_338
  let c3_i32_339 : BitVec 32 := 3#32
  let v366 : Index := Scalar.indexCast c3_i32_339
  let c0_i32_222 : BitVec 32 := 0#32
  let c1_i32_224 : BitVec 32 := 1#32
  let arg8 : BitVec 32 := Scf.iv c0_i32_222 c1_i32_224 k0_t6
  let c16_i32_336 : BitVec 32 := 16#32
  let v363 : BitVec 32 := Scalar.muli arg8 c16_i32_336
  let v367 : Index := Scalar.indexCast v363
  ![2, 1, 3, v367.toNat]
def k0_off502 (k0_t6 : Fin k0_t6_loop.trips) : Fin 4 → Nat :=
  let c2_i32_341 : BitVec 32 := 2#32
  let v371 : Index := Scalar.indexCast c2_i32_341
  let c1_i32_342 : BitVec 32 := 1#32
  let v372 : Index := Scalar.indexCast c1_i32_342
  let c4_i32_343 : BitVec 32 := 4#32
  let v373 : Index := Scalar.indexCast c4_i32_343
  let c0_i32_222 : BitVec 32 := 0#32
  let c1_i32_224 : BitVec 32 := 1#32
  let arg8 : BitVec 32 := Scf.iv c0_i32_222 c1_i32_224 k0_t6
  let c16_i32_340 : BitVec 32 := 16#32
  let v370 : BitVec 32 := Scalar.muli arg8 c16_i32_340
  let v374 : Index := Scalar.indexCast v370
  ![2, 1, 4, v374.toNat]
def k0_off503 (k0_t6 : Fin k0_t6_loop.trips) : Fin 4 → Nat :=
  let c2_i32_345 : BitVec 32 := 2#32
  let v378 : Index := Scalar.indexCast c2_i32_345
  let c1_i32_346 : BitVec 32 := 1#32
  let v379 : Index := Scalar.indexCast c1_i32_346
  let c5_i32_347 : BitVec 32 := 5#32
  let v380 : Index := Scalar.indexCast c5_i32_347
  let c0_i32_222 : BitVec 32 := 0#32
  let c1_i32_224 : BitVec 32 := 1#32
  let arg8 : BitVec 32 := Scf.iv c0_i32_222 c1_i32_224 k0_t6
  let c16_i32_344 : BitVec 32 := 16#32
  let v377 : BitVec 32 := Scalar.muli arg8 c16_i32_344
  let v381 : Index := Scalar.indexCast v377
  ![2, 1, 5, v381.toNat]
def k0_off504 (k0_t6 : Fin k0_t6_loop.trips) : Fin 4 → Nat :=
  let c2_i32_349 : BitVec 32 := 2#32
  let v385 : Index := Scalar.indexCast c2_i32_349
  let c1_i32_350 : BitVec 32 := 1#32
  let v386 : Index := Scalar.indexCast c1_i32_350
  let c6_i32_351 : BitVec 32 := 6#32
  let v387 : Index := Scalar.indexCast c6_i32_351
  let c0_i32_222 : BitVec 32 := 0#32
  let c1_i32_224 : BitVec 32 := 1#32
  let arg8 : BitVec 32 := Scf.iv c0_i32_222 c1_i32_224 k0_t6
  let c16_i32_348 : BitVec 32 := 16#32
  let v384 : BitVec 32 := Scalar.muli arg8 c16_i32_348
  let v388 : Index := Scalar.indexCast v384
  ![2, 1, 6, v388.toNat]
def k0_off505 (k0_t6 : Fin k0_t6_loop.trips) : Fin 4 → Nat :=
  let c2_i32_353 : BitVec 32 := 2#32
  let v392 : Index := Scalar.indexCast c2_i32_353
  let c1_i32_354 : BitVec 32 := 1#32
  let v393 : Index := Scalar.indexCast c1_i32_354
  let c7_i32_355 : BitVec 32 := 7#32
  let v394 : Index := Scalar.indexCast c7_i32_355
  let c0_i32_222 : BitVec 32 := 0#32
  let c1_i32_224 : BitVec 32 := 1#32
  let arg8 : BitVec 32 := Scf.iv c0_i32_222 c1_i32_224 k0_t6
  let c16_i32_352 : BitVec 32 := 16#32
  let v391 : BitVec 32 := Scalar.muli arg8 c16_i32_352
  let v395 : Index := Scalar.indexCast v391
  ![2, 1, 7, v395.toNat]
def k0_off506 (k0_t6 : Fin k0_t6_loop.trips) : Fin 4 → Nat :=
  let c2_i32_357 : BitVec 32 := 2#32
  let v399 : Index := Scalar.indexCast c2_i32_357
  let c1_i32_358 : BitVec 32 := 1#32
  let v400 : Index := Scalar.indexCast c1_i32_358
  let c8_i32_359 : BitVec 32 := 8#32
  let v401 : Index := Scalar.indexCast c8_i32_359
  let c0_i32_222 : BitVec 32 := 0#32
  let c1_i32_224 : BitVec 32 := 1#32
  let arg8 : BitVec 32 := Scf.iv c0_i32_222 c1_i32_224 k0_t6
  let c16_i32_356 : BitVec 32 := 16#32
  let v398 : BitVec 32 := Scalar.muli arg8 c16_i32_356
  let v402 : Index := Scalar.indexCast v398
  ![2, 1, 8, v402.toNat]
def k0_off507 (k0_t6 : Fin k0_t6_loop.trips) : Fin 4 → Nat :=
  let c2_i32_361 : BitVec 32 := 2#32
  let v406 : Index := Scalar.indexCast c2_i32_361
  let c1_i32_362 : BitVec 32 := 1#32
  let v407 : Index := Scalar.indexCast c1_i32_362
  let c9_i32_363 : BitVec 32 := 9#32
  let v408 : Index := Scalar.indexCast c9_i32_363
  let c0_i32_222 : BitVec 32 := 0#32
  let c1_i32_224 : BitVec 32 := 1#32
  let arg8 : BitVec 32 := Scf.iv c0_i32_222 c1_i32_224 k0_t6
  let c16_i32_360 : BitVec 32 := 16#32
  let v405 : BitVec 32 := Scalar.muli arg8 c16_i32_360
  let v409 : Index := Scalar.indexCast v405
  ![2, 1, 9, v409.toNat]
def k0_off508 (k0_t6 : Fin k0_t6_loop.trips) : Fin 4 → Nat :=
  let c2_i32_365 : BitVec 32 := 2#32
  let v413 : Index := Scalar.indexCast c2_i32_365
  let c1_i32_366 : BitVec 32 := 1#32
  let v414 : Index := Scalar.indexCast c1_i32_366
  let c10_i32_367 : BitVec 32 := 10#32
  let v415 : Index := Scalar.indexCast c10_i32_367
  let c0_i32_222 : BitVec 32 := 0#32
  let c1_i32_224 : BitVec 32 := 1#32
  let arg8 : BitVec 32 := Scf.iv c0_i32_222 c1_i32_224 k0_t6
  let c16_i32_364 : BitVec 32 := 16#32
  let v412 : BitVec 32 := Scalar.muli arg8 c16_i32_364
  let v416 : Index := Scalar.indexCast v412
  ![2, 1, 10, v416.toNat]
def k0_off509 (k0_t6 : Fin k0_t6_loop.trips) : Fin 4 → Nat :=
  let c2_i32_369 : BitVec 32 := 2#32
  let v420 : Index := Scalar.indexCast c2_i32_369
  let c1_i32_370 : BitVec 32 := 1#32
  let v421 : Index := Scalar.indexCast c1_i32_370
  let c11_i32_371 : BitVec 32 := 11#32
  let v422 : Index := Scalar.indexCast c11_i32_371
  let c0_i32_222 : BitVec 32 := 0#32
  let c1_i32_224 : BitVec 32 := 1#32
  let arg8 : BitVec 32 := Scf.iv c0_i32_222 c1_i32_224 k0_t6
  let c16_i32_368 : BitVec 32 := 16#32
  let v419 : BitVec 32 := Scalar.muli arg8 c16_i32_368
  let v423 : Index := Scalar.indexCast v419
  ![2, 1, 11, v423.toNat]
def k0_off510 (k0_t6 : Fin k0_t6_loop.trips) : Fin 4 → Nat :=
  let c2_i32_373 : BitVec 32 := 2#32
  let v427 : Index := Scalar.indexCast c2_i32_373
  let c1_i32_374 : BitVec 32 := 1#32
  let v428 : Index := Scalar.indexCast c1_i32_374
  let c12_i32_375 : BitVec 32 := 12#32
  let v429 : Index := Scalar.indexCast c12_i32_375
  let c0_i32_222 : BitVec 32 := 0#32
  let c1_i32_224 : BitVec 32 := 1#32
  let arg8 : BitVec 32 := Scf.iv c0_i32_222 c1_i32_224 k0_t6
  let c16_i32_372 : BitVec 32 := 16#32
  let v426 : BitVec 32 := Scalar.muli arg8 c16_i32_372
  let v430 : Index := Scalar.indexCast v426
  ![2, 1, 12, v430.toNat]
def k0_off511 (k0_t6 : Fin k0_t6_loop.trips) : Fin 4 → Nat :=
  let c2_i32_377 : BitVec 32 := 2#32
  let v434 : Index := Scalar.indexCast c2_i32_377
  let c1_i32_378 : BitVec 32 := 1#32
  let v435 : Index := Scalar.indexCast c1_i32_378
  let c13_i32_379 : BitVec 32 := 13#32
  let v436 : Index := Scalar.indexCast c13_i32_379
  let c0_i32_222 : BitVec 32 := 0#32
  let c1_i32_224 : BitVec 32 := 1#32
  let arg8 : BitVec 32 := Scf.iv c0_i32_222 c1_i32_224 k0_t6
  let c16_i32_376 : BitVec 32 := 16#32
  let v433 : BitVec 32 := Scalar.muli arg8 c16_i32_376
  let v437 : Index := Scalar.indexCast v433
  ![2, 1, 13, v437.toNat]
def k0_off512 (k0_t6 : Fin k0_t6_loop.trips) : Fin 4 → Nat :=
  let c2_i32_381 : BitVec 32 := 2#32
  let v441 : Index := Scalar.indexCast c2_i32_381
  let c1_i32_382 : BitVec 32 := 1#32
  let v442 : Index := Scalar.indexCast c1_i32_382
  let c14_i32_383 : BitVec 32 := 14#32
  let v443 : Index := Scalar.indexCast c14_i32_383
  let c0_i32_222 : BitVec 32 := 0#32
  let c1_i32_224 : BitVec 32 := 1#32
  let arg8 : BitVec 32 := Scf.iv c0_i32_222 c1_i32_224 k0_t6
  let c16_i32_380 : BitVec 32 := 16#32
  let v440 : BitVec 32 := Scalar.muli arg8 c16_i32_380
  let v444 : Index := Scalar.indexCast v440
  ![2, 1, 14, v444.toNat]
def k0_off513 (k0_t6 : Fin k0_t6_loop.trips) : Fin 4 → Nat :=
  let c2_i32_385 : BitVec 32 := 2#32
  let v448 : Index := Scalar.indexCast c2_i32_385
  let c1_i32_386 : BitVec 32 := 1#32
  let v449 : Index := Scalar.indexCast c1_i32_386
  let c15_i32_387 : BitVec 32 := 15#32
  let v450 : Index := Scalar.indexCast c15_i32_387
  let c0_i32_222 : BitVec 32 := 0#32
  let c1_i32_224 : BitVec 32 := 1#32
  let arg8 : BitVec 32 := Scf.iv c0_i32_222 c1_i32_224 k0_t6
  let c16_i32_384 : BitVec 32 := 16#32
  let v447 : BitVec 32 := Scalar.muli arg8 c16_i32_384
  let v451 : Index := Scalar.indexCast v447
  ![2, 1, 15, v451.toNat]
def k0_off514 (k0_t6 : Fin k0_t6_loop.trips) : Fin 4 → Nat :=
  let c2_i32_389 : BitVec 32 := 2#32
  let v455 : Index := Scalar.indexCast c2_i32_389
  let c2_i32_390 : BitVec 32 := 2#32
  let v456 : Index := Scalar.indexCast c2_i32_390
  let c0_i32_391 : BitVec 32 := 0#32
  let v457 : Index := Scalar.indexCast c0_i32_391
  let c0_i32_222 : BitVec 32 := 0#32
  let c1_i32_224 : BitVec 32 := 1#32
  let arg8 : BitVec 32 := Scf.iv c0_i32_222 c1_i32_224 k0_t6
  let c16_i32_388 : BitVec 32 := 16#32
  let v454 : BitVec 32 := Scalar.muli arg8 c16_i32_388
  let v458 : Index := Scalar.indexCast v454
  ![2, 2, 0, v458.toNat]
def k0_off515 (k0_t6 : Fin k0_t6_loop.trips) : Fin 4 → Nat :=
  let c2_i32_393 : BitVec 32 := 2#32
  let v462 : Index := Scalar.indexCast c2_i32_393
  let c2_i32_394 : BitVec 32 := 2#32
  let v463 : Index := Scalar.indexCast c2_i32_394
  let c1_i32_395 : BitVec 32 := 1#32
  let v464 : Index := Scalar.indexCast c1_i32_395
  let c0_i32_222 : BitVec 32 := 0#32
  let c1_i32_224 : BitVec 32 := 1#32
  let arg8 : BitVec 32 := Scf.iv c0_i32_222 c1_i32_224 k0_t6
  let c16_i32_392 : BitVec 32 := 16#32
  let v461 : BitVec 32 := Scalar.muli arg8 c16_i32_392
  let v465 : Index := Scalar.indexCast v461
  ![2, 2, 1, v465.toNat]
def k0_off516 (k0_t6 : Fin k0_t6_loop.trips) : Fin 4 → Nat :=
  let c2_i32_397 : BitVec 32 := 2#32
  let v469 : Index := Scalar.indexCast c2_i32_397
  let c2_i32_398 : BitVec 32 := 2#32
  let v470 : Index := Scalar.indexCast c2_i32_398
  let c2_i32_399 : BitVec 32 := 2#32
  let v471 : Index := Scalar.indexCast c2_i32_399
  let c0_i32_222 : BitVec 32 := 0#32
  let c1_i32_224 : BitVec 32 := 1#32
  let arg8 : BitVec 32 := Scf.iv c0_i32_222 c1_i32_224 k0_t6
  let c16_i32_396 : BitVec 32 := 16#32
  let v468 : BitVec 32 := Scalar.muli arg8 c16_i32_396
  let v472 : Index := Scalar.indexCast v468
  ![2, 2, 2, v472.toNat]
def k0_off517 (k0_t6 : Fin k0_t6_loop.trips) : Fin 4 → Nat :=
  let c2_i32_401 : BitVec 32 := 2#32
  let v476 : Index := Scalar.indexCast c2_i32_401
  let c2_i32_402 : BitVec 32 := 2#32
  let v477 : Index := Scalar.indexCast c2_i32_402
  let c3_i32_403 : BitVec 32 := 3#32
  let v478 : Index := Scalar.indexCast c3_i32_403
  let c0_i32_222 : BitVec 32 := 0#32
  let c1_i32_224 : BitVec 32 := 1#32
  let arg8 : BitVec 32 := Scf.iv c0_i32_222 c1_i32_224 k0_t6
  let c16_i32_400 : BitVec 32 := 16#32
  let v475 : BitVec 32 := Scalar.muli arg8 c16_i32_400
  let v479 : Index := Scalar.indexCast v475
  ![2, 2, 3, v479.toNat]
def k0_off518 (k0_t6 : Fin k0_t6_loop.trips) : Fin 4 → Nat :=
  let c2_i32_405 : BitVec 32 := 2#32
  let v483 : Index := Scalar.indexCast c2_i32_405
  let c2_i32_406 : BitVec 32 := 2#32
  let v484 : Index := Scalar.indexCast c2_i32_406
  let c4_i32_407 : BitVec 32 := 4#32
  let v485 : Index := Scalar.indexCast c4_i32_407
  let c0_i32_222 : BitVec 32 := 0#32
  let c1_i32_224 : BitVec 32 := 1#32
  let arg8 : BitVec 32 := Scf.iv c0_i32_222 c1_i32_224 k0_t6
  let c16_i32_404 : BitVec 32 := 16#32
  let v482 : BitVec 32 := Scalar.muli arg8 c16_i32_404
  let v486 : Index := Scalar.indexCast v482
  ![2, 2, 4, v486.toNat]
def k0_off519 (k0_t6 : Fin k0_t6_loop.trips) : Fin 4 → Nat :=
  let c2_i32_409 : BitVec 32 := 2#32
  let v490 : Index := Scalar.indexCast c2_i32_409
  let c2_i32_410 : BitVec 32 := 2#32
  let v491 : Index := Scalar.indexCast c2_i32_410
  let c5_i32_411 : BitVec 32 := 5#32
  let v492 : Index := Scalar.indexCast c5_i32_411
  let c0_i32_222 : BitVec 32 := 0#32
  let c1_i32_224 : BitVec 32 := 1#32
  let arg8 : BitVec 32 := Scf.iv c0_i32_222 c1_i32_224 k0_t6
  let c16_i32_408 : BitVec 32 := 16#32
  let v489 : BitVec 32 := Scalar.muli arg8 c16_i32_408
  let v493 : Index := Scalar.indexCast v489
  ![2, 2, 5, v493.toNat]
def k0_off520 (k0_t6 : Fin k0_t6_loop.trips) : Fin 4 → Nat :=
  let c2_i32_413 : BitVec 32 := 2#32
  let v497 : Index := Scalar.indexCast c2_i32_413
  let c2_i32_414 : BitVec 32 := 2#32
  let v498 : Index := Scalar.indexCast c2_i32_414
  let c6_i32_415 : BitVec 32 := 6#32
  let v499 : Index := Scalar.indexCast c6_i32_415
  let c0_i32_222 : BitVec 32 := 0#32
  let c1_i32_224 : BitVec 32 := 1#32
  let arg8 : BitVec 32 := Scf.iv c0_i32_222 c1_i32_224 k0_t6
  let c16_i32_412 : BitVec 32 := 16#32
  let v496 : BitVec 32 := Scalar.muli arg8 c16_i32_412
  let v500 : Index := Scalar.indexCast v496
  ![2, 2, 6, v500.toNat]
def k0_off521 (k0_t6 : Fin k0_t6_loop.trips) : Fin 4 → Nat :=
  let c2_i32_417 : BitVec 32 := 2#32
  let v504 : Index := Scalar.indexCast c2_i32_417
  let c2_i32_418 : BitVec 32 := 2#32
  let v505 : Index := Scalar.indexCast c2_i32_418
  let c7_i32_419 : BitVec 32 := 7#32
  let v506 : Index := Scalar.indexCast c7_i32_419
  let c0_i32_222 : BitVec 32 := 0#32
  let c1_i32_224 : BitVec 32 := 1#32
  let arg8 : BitVec 32 := Scf.iv c0_i32_222 c1_i32_224 k0_t6
  let c16_i32_416 : BitVec 32 := 16#32
  let v503 : BitVec 32 := Scalar.muli arg8 c16_i32_416
  let v507 : Index := Scalar.indexCast v503
  ![2, 2, 7, v507.toNat]
def k0_off522 (k0_t6 : Fin k0_t6_loop.trips) : Fin 4 → Nat :=
  let c2_i32_421 : BitVec 32 := 2#32
  let v511 : Index := Scalar.indexCast c2_i32_421
  let c2_i32_422 : BitVec 32 := 2#32
  let v512 : Index := Scalar.indexCast c2_i32_422
  let c8_i32_423 : BitVec 32 := 8#32
  let v513 : Index := Scalar.indexCast c8_i32_423
  let c0_i32_222 : BitVec 32 := 0#32
  let c1_i32_224 : BitVec 32 := 1#32
  let arg8 : BitVec 32 := Scf.iv c0_i32_222 c1_i32_224 k0_t6
  let c16_i32_420 : BitVec 32 := 16#32
  let v510 : BitVec 32 := Scalar.muli arg8 c16_i32_420
  let v514 : Index := Scalar.indexCast v510
  ![2, 2, 8, v514.toNat]
def k0_off523 (k0_t6 : Fin k0_t6_loop.trips) : Fin 4 → Nat :=
  let c2_i32_425 : BitVec 32 := 2#32
  let v518 : Index := Scalar.indexCast c2_i32_425
  let c2_i32_426 : BitVec 32 := 2#32
  let v519 : Index := Scalar.indexCast c2_i32_426
  let c9_i32_427 : BitVec 32 := 9#32
  let v520 : Index := Scalar.indexCast c9_i32_427
  let c0_i32_222 : BitVec 32 := 0#32
  let c1_i32_224 : BitVec 32 := 1#32
  let arg8 : BitVec 32 := Scf.iv c0_i32_222 c1_i32_224 k0_t6
  let c16_i32_424 : BitVec 32 := 16#32
  let v517 : BitVec 32 := Scalar.muli arg8 c16_i32_424
  let v521 : Index := Scalar.indexCast v517
  ![2, 2, 9, v521.toNat]
def k0_off524 (k0_t6 : Fin k0_t6_loop.trips) : Fin 4 → Nat :=
  let c2_i32_429 : BitVec 32 := 2#32
  let v525 : Index := Scalar.indexCast c2_i32_429
  let c2_i32_430 : BitVec 32 := 2#32
  let v526 : Index := Scalar.indexCast c2_i32_430
  let c10_i32_431 : BitVec 32 := 10#32
  let v527 : Index := Scalar.indexCast c10_i32_431
  let c0_i32_222 : BitVec 32 := 0#32
  let c1_i32_224 : BitVec 32 := 1#32
  let arg8 : BitVec 32 := Scf.iv c0_i32_222 c1_i32_224 k0_t6
  let c16_i32_428 : BitVec 32 := 16#32
  let v524 : BitVec 32 := Scalar.muli arg8 c16_i32_428
  let v528 : Index := Scalar.indexCast v524
  ![2, 2, 10, v528.toNat]
def k0_off525 (k0_t6 : Fin k0_t6_loop.trips) : Fin 4 → Nat :=
  let c2_i32_433 : BitVec 32 := 2#32
  let v532 : Index := Scalar.indexCast c2_i32_433
  let c2_i32_434 : BitVec 32 := 2#32
  let v533 : Index := Scalar.indexCast c2_i32_434
  let c11_i32_435 : BitVec 32 := 11#32
  let v534 : Index := Scalar.indexCast c11_i32_435
  let c0_i32_222 : BitVec 32 := 0#32
  let c1_i32_224 : BitVec 32 := 1#32
  let arg8 : BitVec 32 := Scf.iv c0_i32_222 c1_i32_224 k0_t6
  let c16_i32_432 : BitVec 32 := 16#32
  let v531 : BitVec 32 := Scalar.muli arg8 c16_i32_432
  let v535 : Index := Scalar.indexCast v531
  ![2, 2, 11, v535.toNat]
def k0_off526 (k0_t6 : Fin k0_t6_loop.trips) : Fin 4 → Nat :=
  let c2_i32_437 : BitVec 32 := 2#32
  let v539 : Index := Scalar.indexCast c2_i32_437
  let c2_i32_438 : BitVec 32 := 2#32
  let v540 : Index := Scalar.indexCast c2_i32_438
  let c12_i32_439 : BitVec 32 := 12#32
  let v541 : Index := Scalar.indexCast c12_i32_439
  let c0_i32_222 : BitVec 32 := 0#32
  let c1_i32_224 : BitVec 32 := 1#32
  let arg8 : BitVec 32 := Scf.iv c0_i32_222 c1_i32_224 k0_t6
  let c16_i32_436 : BitVec 32 := 16#32
  let v538 : BitVec 32 := Scalar.muli arg8 c16_i32_436
  let v542 : Index := Scalar.indexCast v538
  ![2, 2, 12, v542.toNat]
def k0_off527 (k0_t6 : Fin k0_t6_loop.trips) : Fin 4 → Nat :=
  let c2_i32_441 : BitVec 32 := 2#32
  let v546 : Index := Scalar.indexCast c2_i32_441
  let c2_i32_442 : BitVec 32 := 2#32
  let v547 : Index := Scalar.indexCast c2_i32_442
  let c13_i32_443 : BitVec 32 := 13#32
  let v548 : Index := Scalar.indexCast c13_i32_443
  let c0_i32_222 : BitVec 32 := 0#32
  let c1_i32_224 : BitVec 32 := 1#32
  let arg8 : BitVec 32 := Scf.iv c0_i32_222 c1_i32_224 k0_t6
  let c16_i32_440 : BitVec 32 := 16#32
  let v545 : BitVec 32 := Scalar.muli arg8 c16_i32_440
  let v549 : Index := Scalar.indexCast v545
  ![2, 2, 13, v549.toNat]
def k0_off528 (k0_t6 : Fin k0_t6_loop.trips) : Fin 4 → Nat :=
  let c2_i32_445 : BitVec 32 := 2#32
  let v553 : Index := Scalar.indexCast c2_i32_445
  let c2_i32_446 : BitVec 32 := 2#32
  let v554 : Index := Scalar.indexCast c2_i32_446
  let c14_i32_447 : BitVec 32 := 14#32
  let v555 : Index := Scalar.indexCast c14_i32_447
  let c0_i32_222 : BitVec 32 := 0#32
  let c1_i32_224 : BitVec 32 := 1#32
  let arg8 : BitVec 32 := Scf.iv c0_i32_222 c1_i32_224 k0_t6
  let c16_i32_444 : BitVec 32 := 16#32
  let v552 : BitVec 32 := Scalar.muli arg8 c16_i32_444
  let v556 : Index := Scalar.indexCast v552
  ![2, 2, 14, v556.toNat]
def k0_off529 (k0_t6 : Fin k0_t6_loop.trips) : Fin 4 → Nat :=
  let c2_i32_449 : BitVec 32 := 2#32
  let v560 : Index := Scalar.indexCast c2_i32_449
  let c2_i32_450 : BitVec 32 := 2#32
  let v561 : Index := Scalar.indexCast c2_i32_450
  let c15_i32_451 : BitVec 32 := 15#32
  let v562 : Index := Scalar.indexCast c15_i32_451
  let c0_i32_222 : BitVec 32 := 0#32
  let c1_i32_224 : BitVec 32 := 1#32
  let arg8 : BitVec 32 := Scf.iv c0_i32_222 c1_i32_224 k0_t6
  let c16_i32_448 : BitVec 32 := 16#32
  let v559 : BitVec 32 := Scalar.muli arg8 c16_i32_448
  let v563 : Index := Scalar.indexCast v559
  ![2, 2, 15, v563.toNat]
def k0_off530 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v566 : Index := Scalar.indexCast arg8
  let c5_i32_452 : BitVec 32 := 5#32
  let v567 : Index := Scalar.indexCast c5_i32_452
  let c0 : Index := 0#32
  ![v566.toNat, 5, 0]
def k0_off531 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v571 : Index := Scalar.indexCast arg8
  let c5_i32_453 : BitVec 32 := 5#32
  let v572 : Index := Scalar.indexCast c5_i32_453
  let c16 : Index := 16#32
  ![v571.toNat, 5, 16]
def k0_off532 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v576 : Index := Scalar.indexCast arg8
  let c5_i32_454 : BitVec 32 := 5#32
  let v577 : Index := Scalar.indexCast c5_i32_454
  let c32 : Index := 32#32
  ![v576.toNat, 5, 32]
def k0_off533 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v581 : Index := Scalar.indexCast arg8
  let c5_i32_455 : BitVec 32 := 5#32
  let v582 : Index := Scalar.indexCast c5_i32_455
  let c48 : Index := 48#32
  ![v581.toNat, 5, 48]
def k0_off534 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v586 : Index := Scalar.indexCast arg8
  let c5_i32_456 : BitVec 32 := 5#32
  let v587 : Index := Scalar.indexCast c5_i32_456
  let c64 : Index := 64#32
  ![v586.toNat, 5, 64]
def k0_off535 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v591 : Index := Scalar.indexCast arg8
  let c5_i32_457 : BitVec 32 := 5#32
  let v592 : Index := Scalar.indexCast c5_i32_457
  let c80 : Index := 80#32
  ![v591.toNat, 5, 80]
def k0_off536 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v596 : Index := Scalar.indexCast arg8
  let c5_i32_458 : BitVec 32 := 5#32
  let v597 : Index := Scalar.indexCast c5_i32_458
  let c96 : Index := 96#32
  ![v596.toNat, 5, 96]
def k0_off537 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v601 : Index := Scalar.indexCast arg8
  let c5_i32_459 : BitVec 32 := 5#32
  let v602 : Index := Scalar.indexCast c5_i32_459
  let c112 : Index := 112#32
  ![v601.toNat, 5, 112]
def k0_off538 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v606 : Index := Scalar.indexCast arg8
  let c5_i32_460 : BitVec 32 := 5#32
  let v607 : Index := Scalar.indexCast c5_i32_460
  let c128 : Index := 128#32
  ![v606.toNat, 5, 128]
def k0_off539 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v611 : Index := Scalar.indexCast arg8
  let c5_i32_461 : BitVec 32 := 5#32
  let v612 : Index := Scalar.indexCast c5_i32_461
  let c144 : Index := 144#32
  ![v611.toNat, 5, 144]
def k0_off540 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v616 : Index := Scalar.indexCast arg8
  let c5_i32_462 : BitVec 32 := 5#32
  let v617 : Index := Scalar.indexCast c5_i32_462
  let c160 : Index := 160#32
  ![v616.toNat, 5, 160]
def k0_off541 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v621 : Index := Scalar.indexCast arg8
  let c5_i32_463 : BitVec 32 := 5#32
  let v622 : Index := Scalar.indexCast c5_i32_463
  let c176 : Index := 176#32
  ![v621.toNat, 5, 176]
def k0_off542 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v626 : Index := Scalar.indexCast arg8
  let c5_i32_464 : BitVec 32 := 5#32
  let v627 : Index := Scalar.indexCast c5_i32_464
  let c192 : Index := 192#32
  ![v626.toNat, 5, 192]
def k0_off543 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v631 : Index := Scalar.indexCast arg8
  let c5_i32_465 : BitVec 32 := 5#32
  let v632 : Index := Scalar.indexCast c5_i32_465
  let c208 : Index := 208#32
  ![v631.toNat, 5, 208]
def k0_off544 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v636 : Index := Scalar.indexCast arg8
  let c5_i32_466 : BitVec 32 := 5#32
  let v637 : Index := Scalar.indexCast c5_i32_466
  let c224 : Index := 224#32
  ![v636.toNat, 5, 224]
def k0_off545 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v641 : Index := Scalar.indexCast arg8
  let c5_i32_467 : BitVec 32 := 5#32
  let v642 : Index := Scalar.indexCast c5_i32_467
  let c240 : Index := 240#32
  ![v641.toNat, 5, 240]
def k0_off546 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v646 : Index := Scalar.indexCast arg8
  let c5_i32_468 : BitVec 32 := 5#32
  let v647 : Index := Scalar.indexCast c5_i32_468
  let c256 : Index := 256#32
  ![v646.toNat, 5, 256]
def k0_off547 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v651 : Index := Scalar.indexCast arg8
  let c5_i32_469 : BitVec 32 := 5#32
  let v652 : Index := Scalar.indexCast c5_i32_469
  let c272 : Index := 272#32
  ![v651.toNat, 5, 272]
def k0_off548 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v656 : Index := Scalar.indexCast arg8
  let c5_i32_470 : BitVec 32 := 5#32
  let v657 : Index := Scalar.indexCast c5_i32_470
  let c288 : Index := 288#32
  ![v656.toNat, 5, 288]
def k0_off549 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v661 : Index := Scalar.indexCast arg8
  let c5_i32_471 : BitVec 32 := 5#32
  let v662 : Index := Scalar.indexCast c5_i32_471
  let c304 : Index := 304#32
  ![v661.toNat, 5, 304]
def k0_off550 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v666 : Index := Scalar.indexCast arg8
  let c5_i32_472 : BitVec 32 := 5#32
  let v667 : Index := Scalar.indexCast c5_i32_472
  let c320 : Index := 320#32
  ![v666.toNat, 5, 320]
def k0_off551 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v671 : Index := Scalar.indexCast arg8
  let c5_i32_473 : BitVec 32 := 5#32
  let v672 : Index := Scalar.indexCast c5_i32_473
  let c336 : Index := 336#32
  ![v671.toNat, 5, 336]
def k0_off552 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v676 : Index := Scalar.indexCast arg8
  let c5_i32_474 : BitVec 32 := 5#32
  let v677 : Index := Scalar.indexCast c5_i32_474
  let c352 : Index := 352#32
  ![v676.toNat, 5, 352]
def k0_off553 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v681 : Index := Scalar.indexCast arg8
  let c5_i32_475 : BitVec 32 := 5#32
  let v682 : Index := Scalar.indexCast c5_i32_475
  let c368 : Index := 368#32
  ![v681.toNat, 5, 368]
def k0_off554 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v686 : Index := Scalar.indexCast arg8
  let c5_i32_476 : BitVec 32 := 5#32
  let v687 : Index := Scalar.indexCast c5_i32_476
  let c384 : Index := 384#32
  ![v686.toNat, 5, 384]
def k0_off555 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v691 : Index := Scalar.indexCast arg8
  let c5_i32_477 : BitVec 32 := 5#32
  let v692 : Index := Scalar.indexCast c5_i32_477
  let c400 : Index := 400#32
  ![v691.toNat, 5, 400]
def k0_off556 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v696 : Index := Scalar.indexCast arg8
  let c5_i32_478 : BitVec 32 := 5#32
  let v697 : Index := Scalar.indexCast c5_i32_478
  let c416 : Index := 416#32
  ![v696.toNat, 5, 416]
def k0_off557 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v701 : Index := Scalar.indexCast arg8
  let c5_i32_479 : BitVec 32 := 5#32
  let v702 : Index := Scalar.indexCast c5_i32_479
  let c432 : Index := 432#32
  ![v701.toNat, 5, 432]
def k0_off558 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v706 : Index := Scalar.indexCast arg8
  let c5_i32_480 : BitVec 32 := 5#32
  let v707 : Index := Scalar.indexCast c5_i32_480
  let c448 : Index := 448#32
  ![v706.toNat, 5, 448]
def k0_off559 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v711 : Index := Scalar.indexCast arg8
  let c5_i32_481 : BitVec 32 := 5#32
  let v712 : Index := Scalar.indexCast c5_i32_481
  let c464 : Index := 464#32
  ![v711.toNat, 5, 464]
def k0_off560 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v716 : Index := Scalar.indexCast arg8
  let c5_i32_482 : BitVec 32 := 5#32
  let v717 : Index := Scalar.indexCast c5_i32_482
  let c480 : Index := 480#32
  ![v716.toNat, 5, 480]
def k0_off561 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v721 : Index := Scalar.indexCast arg8
  let c5_i32_483 : BitVec 32 := 5#32
  let v722 : Index := Scalar.indexCast c5_i32_483
  let c496 : Index := 496#32
  ![v721.toNat, 5, 496]
def k0_off562 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v726 : Index := Scalar.indexCast arg8
  let c5_i32_484 : BitVec 32 := 5#32
  let v727 : Index := Scalar.indexCast c5_i32_484
  let c512 : Index := 512#32
  ![v726.toNat, 5, 512]
def k0_off563 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v731 : Index := Scalar.indexCast arg8
  let c5_i32_485 : BitVec 32 := 5#32
  let v732 : Index := Scalar.indexCast c5_i32_485
  let c528 : Index := 528#32
  ![v731.toNat, 5, 528]
def k0_off564 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v736 : Index := Scalar.indexCast arg8
  let c5_i32_486 : BitVec 32 := 5#32
  let v737 : Index := Scalar.indexCast c5_i32_486
  let c544 : Index := 544#32
  ![v736.toNat, 5, 544]
def k0_off565 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v741 : Index := Scalar.indexCast arg8
  let c5_i32_487 : BitVec 32 := 5#32
  let v742 : Index := Scalar.indexCast c5_i32_487
  let c560 : Index := 560#32
  ![v741.toNat, 5, 560]
def k0_off566 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v746 : Index := Scalar.indexCast arg8
  let c5_i32_488 : BitVec 32 := 5#32
  let v747 : Index := Scalar.indexCast c5_i32_488
  let c576 : Index := 576#32
  ![v746.toNat, 5, 576]
def k0_off567 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v751 : Index := Scalar.indexCast arg8
  let c5_i32_489 : BitVec 32 := 5#32
  let v752 : Index := Scalar.indexCast c5_i32_489
  let c592 : Index := 592#32
  ![v751.toNat, 5, 592]
def k0_off568 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v756 : Index := Scalar.indexCast arg8
  let c5_i32_490 : BitVec 32 := 5#32
  let v757 : Index := Scalar.indexCast c5_i32_490
  let c608 : Index := 608#32
  ![v756.toNat, 5, 608]
def k0_off569 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v761 : Index := Scalar.indexCast arg8
  let c5_i32_491 : BitVec 32 := 5#32
  let v762 : Index := Scalar.indexCast c5_i32_491
  let c624 : Index := 624#32
  ![v761.toNat, 5, 624]
def k0_off570 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v766 : Index := Scalar.indexCast arg8
  let c5_i32_492 : BitVec 32 := 5#32
  let v767 : Index := Scalar.indexCast c5_i32_492
  let c640 : Index := 640#32
  ![v766.toNat, 5, 640]
def k0_off571 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v771 : Index := Scalar.indexCast arg8
  let c5_i32_493 : BitVec 32 := 5#32
  let v772 : Index := Scalar.indexCast c5_i32_493
  let c656 : Index := 656#32
  ![v771.toNat, 5, 656]
def k0_off572 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v776 : Index := Scalar.indexCast arg8
  let c5_i32_494 : BitVec 32 := 5#32
  let v777 : Index := Scalar.indexCast c5_i32_494
  let c672 : Index := 672#32
  ![v776.toNat, 5, 672]
def k0_off573 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v781 : Index := Scalar.indexCast arg8
  let c5_i32_495 : BitVec 32 := 5#32
  let v782 : Index := Scalar.indexCast c5_i32_495
  let c688 : Index := 688#32
  ![v781.toNat, 5, 688]
def k0_off574 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v786 : Index := Scalar.indexCast arg8
  let c5_i32_496 : BitVec 32 := 5#32
  let v787 : Index := Scalar.indexCast c5_i32_496
  let c704 : Index := 704#32
  ![v786.toNat, 5, 704]
def k0_off575 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v791 : Index := Scalar.indexCast arg8
  let c5_i32_497 : BitVec 32 := 5#32
  let v792 : Index := Scalar.indexCast c5_i32_497
  let c720 : Index := 720#32
  ![v791.toNat, 5, 720]
def k0_off576 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v796 : Index := Scalar.indexCast arg8
  let c5_i32_498 : BitVec 32 := 5#32
  let v797 : Index := Scalar.indexCast c5_i32_498
  let c736 : Index := 736#32
  ![v796.toNat, 5, 736]
def k0_off577 (k0_t6 : Fin k0_t6_loop.trips) : Fin 3 → Nat :=
  let c0_i32_222 : BitVec 32 := 0#32
  let c1_i32_224 : BitVec 32 := 1#32
  let arg8 : BitVec 32 := Scf.iv c0_i32_222 c1_i32_224 k0_t6
  let v801 : Index := Scalar.indexCast arg8
  let c5_i32_499 : BitVec 32 := 5#32
  let v802 : Index := Scalar.indexCast c5_i32_499
  let c752 : Index := 752#32
  ![v801.toNat, 5, 752]
@[reducible] def k0_t7_loop : Scf.Loop 32 :=
  let c0_i32_239 : BitVec 32 := 0#32
  let c14_i32_240 : BitVec 32 := 14#32
  let v212 : BitVec 32 := Scalar.addi c0_i32_239 c14_i32_240
  let c1_i32_241 : BitVec 32 := 1#32
  ⟨c0_i32_239, v212, c1_i32_241⟩
def k0_off578 (k0_t7 : Fin k0_t7_loop.trips) : Fin 4 → Nat :=
  let c0_i32_267 : BitVec 32 := 0#32
  let v231 : Index := Scalar.indexCast c0_i32_267
  let c0_i32_268 : BitVec 32 := 0#32
  let v232 : Index := Scalar.indexCast c0_i32_268
  let c0_i32_269 : BitVec 32 := 0#32
  let v233 : Index := Scalar.indexCast c0_i32_269
  let c0_i32_239 : BitVec 32 := 0#32
  let c1_i32_241 : BitVec 32 := 1#32
  let arg8 : BitVec 32 := Scf.iv c0_i32_239 c1_i32_241 k0_t7
  let c16_i32_266 : BitVec 32 := 16#32
  let v230 : BitVec 32 := Scalar.muli arg8 c16_i32_266
  let v234 : Index := Scalar.indexCast v230
  ![0, 0, 0, v234.toNat]
def k0_off579 (k0_t7 : Fin k0_t7_loop.trips) : Fin 4 → Nat :=
  let c0_i32_271 : BitVec 32 := 0#32
  let v238 : Index := Scalar.indexCast c0_i32_271
  let c0_i32_272 : BitVec 32 := 0#32
  let v239 : Index := Scalar.indexCast c0_i32_272
  let c1_i32_273 : BitVec 32 := 1#32
  let v240 : Index := Scalar.indexCast c1_i32_273
  let c0_i32_239 : BitVec 32 := 0#32
  let c1_i32_241 : BitVec 32 := 1#32
  let arg8 : BitVec 32 := Scf.iv c0_i32_239 c1_i32_241 k0_t7
  let c16_i32_270 : BitVec 32 := 16#32
  let v237 : BitVec 32 := Scalar.muli arg8 c16_i32_270
  let v241 : Index := Scalar.indexCast v237
  ![0, 0, 1, v241.toNat]
def k0_off580 (k0_t7 : Fin k0_t7_loop.trips) : Fin 4 → Nat :=
  let c0_i32_275 : BitVec 32 := 0#32
  let v245 : Index := Scalar.indexCast c0_i32_275
  let c0_i32_276 : BitVec 32 := 0#32
  let v246 : Index := Scalar.indexCast c0_i32_276
  let c2_i32_277 : BitVec 32 := 2#32
  let v247 : Index := Scalar.indexCast c2_i32_277
  let c0_i32_239 : BitVec 32 := 0#32
  let c1_i32_241 : BitVec 32 := 1#32
  let arg8 : BitVec 32 := Scf.iv c0_i32_239 c1_i32_241 k0_t7
  let c16_i32_274 : BitVec 32 := 16#32
  let v244 : BitVec 32 := Scalar.muli arg8 c16_i32_274
  let v248 : Index := Scalar.indexCast v244
  ![0, 0, 2, v248.toNat]
def k0_off581 (k0_t7 : Fin k0_t7_loop.trips) : Fin 4 → Nat :=
  let c0_i32_279 : BitVec 32 := 0#32
  let v252 : Index := Scalar.indexCast c0_i32_279
  let c0_i32_280 : BitVec 32 := 0#32
  let v253 : Index := Scalar.indexCast c0_i32_280
  let c3_i32_281 : BitVec 32 := 3#32
  let v254 : Index := Scalar.indexCast c3_i32_281
  let c0_i32_239 : BitVec 32 := 0#32
  let c1_i32_241 : BitVec 32 := 1#32
  let arg8 : BitVec 32 := Scf.iv c0_i32_239 c1_i32_241 k0_t7
  let c16_i32_278 : BitVec 32 := 16#32
  let v251 : BitVec 32 := Scalar.muli arg8 c16_i32_278
  let v255 : Index := Scalar.indexCast v251
  ![0, 0, 3, v255.toNat]
def k0_off582 (k0_t7 : Fin k0_t7_loop.trips) : Fin 4 → Nat :=
  let c0_i32_283 : BitVec 32 := 0#32
  let v259 : Index := Scalar.indexCast c0_i32_283
  let c0_i32_284 : BitVec 32 := 0#32
  let v260 : Index := Scalar.indexCast c0_i32_284
  let c4_i32_285 : BitVec 32 := 4#32
  let v261 : Index := Scalar.indexCast c4_i32_285
  let c0_i32_239 : BitVec 32 := 0#32
  let c1_i32_241 : BitVec 32 := 1#32
  let arg8 : BitVec 32 := Scf.iv c0_i32_239 c1_i32_241 k0_t7
  let c16_i32_282 : BitVec 32 := 16#32
  let v258 : BitVec 32 := Scalar.muli arg8 c16_i32_282
  let v262 : Index := Scalar.indexCast v258
  ![0, 0, 4, v262.toNat]
def k0_off583 (k0_t7 : Fin k0_t7_loop.trips) : Fin 4 → Nat :=
  let c0_i32_287 : BitVec 32 := 0#32
  let v266 : Index := Scalar.indexCast c0_i32_287
  let c0_i32_288 : BitVec 32 := 0#32
  let v267 : Index := Scalar.indexCast c0_i32_288
  let c5_i32_289 : BitVec 32 := 5#32
  let v268 : Index := Scalar.indexCast c5_i32_289
  let c0_i32_239 : BitVec 32 := 0#32
  let c1_i32_241 : BitVec 32 := 1#32
  let arg8 : BitVec 32 := Scf.iv c0_i32_239 c1_i32_241 k0_t7
  let c16_i32_286 : BitVec 32 := 16#32
  let v265 : BitVec 32 := Scalar.muli arg8 c16_i32_286
  let v269 : Index := Scalar.indexCast v265
  ![0, 0, 5, v269.toNat]
def k0_off584 (k0_t7 : Fin k0_t7_loop.trips) : Fin 4 → Nat :=
  let c0_i32_291 : BitVec 32 := 0#32
  let v273 : Index := Scalar.indexCast c0_i32_291
  let c0_i32_292 : BitVec 32 := 0#32
  let v274 : Index := Scalar.indexCast c0_i32_292
  let c6_i32_293 : BitVec 32 := 6#32
  let v275 : Index := Scalar.indexCast c6_i32_293
  let c0_i32_239 : BitVec 32 := 0#32
  let c1_i32_241 : BitVec 32 := 1#32
  let arg8 : BitVec 32 := Scf.iv c0_i32_239 c1_i32_241 k0_t7
  let c16_i32_290 : BitVec 32 := 16#32
  let v272 : BitVec 32 := Scalar.muli arg8 c16_i32_290
  let v276 : Index := Scalar.indexCast v272
  ![0, 0, 6, v276.toNat]
def k0_off585 (k0_t7 : Fin k0_t7_loop.trips) : Fin 4 → Nat :=
  let c0_i32_295 : BitVec 32 := 0#32
  let v280 : Index := Scalar.indexCast c0_i32_295
  let c0_i32_296 : BitVec 32 := 0#32
  let v281 : Index := Scalar.indexCast c0_i32_296
  let c7_i32_297 : BitVec 32 := 7#32
  let v282 : Index := Scalar.indexCast c7_i32_297
  let c0_i32_239 : BitVec 32 := 0#32
  let c1_i32_241 : BitVec 32 := 1#32
  let arg8 : BitVec 32 := Scf.iv c0_i32_239 c1_i32_241 k0_t7
  let c16_i32_294 : BitVec 32 := 16#32
  let v279 : BitVec 32 := Scalar.muli arg8 c16_i32_294
  let v283 : Index := Scalar.indexCast v279
  ![0, 0, 7, v283.toNat]
def k0_off586 (k0_t7 : Fin k0_t7_loop.trips) : Fin 4 → Nat :=
  let c0_i32_299 : BitVec 32 := 0#32
  let v287 : Index := Scalar.indexCast c0_i32_299
  let c0_i32_300 : BitVec 32 := 0#32
  let v288 : Index := Scalar.indexCast c0_i32_300
  let c8_i32_301 : BitVec 32 := 8#32
  let v289 : Index := Scalar.indexCast c8_i32_301
  let c0_i32_239 : BitVec 32 := 0#32
  let c1_i32_241 : BitVec 32 := 1#32
  let arg8 : BitVec 32 := Scf.iv c0_i32_239 c1_i32_241 k0_t7
  let c16_i32_298 : BitVec 32 := 16#32
  let v286 : BitVec 32 := Scalar.muli arg8 c16_i32_298
  let v290 : Index := Scalar.indexCast v286
  ![0, 0, 8, v290.toNat]
def k0_off587 (k0_t7 : Fin k0_t7_loop.trips) : Fin 4 → Nat :=
  let c0_i32_303 : BitVec 32 := 0#32
  let v294 : Index := Scalar.indexCast c0_i32_303
  let c0_i32_304 : BitVec 32 := 0#32
  let v295 : Index := Scalar.indexCast c0_i32_304
  let c9_i32 : BitVec 32 := 9#32
  let v296 : Index := Scalar.indexCast c9_i32
  let c0_i32_239 : BitVec 32 := 0#32
  let c1_i32_241 : BitVec 32 := 1#32
  let arg8 : BitVec 32 := Scf.iv c0_i32_239 c1_i32_241 k0_t7
  let c16_i32_302 : BitVec 32 := 16#32
  let v293 : BitVec 32 := Scalar.muli arg8 c16_i32_302
  let v297 : Index := Scalar.indexCast v293
  ![0, 0, 9, v297.toNat]
def k0_off588 (k0_t7 : Fin k0_t7_loop.trips) : Fin 4 → Nat :=
  let c0_i32_306 : BitVec 32 := 0#32
  let v301 : Index := Scalar.indexCast c0_i32_306
  let c0_i32_307 : BitVec 32 := 0#32
  let v302 : Index := Scalar.indexCast c0_i32_307
  let c10_i32 : BitVec 32 := 10#32
  let v303 : Index := Scalar.indexCast c10_i32
  let c0_i32_239 : BitVec 32 := 0#32
  let c1_i32_241 : BitVec 32 := 1#32
  let arg8 : BitVec 32 := Scf.iv c0_i32_239 c1_i32_241 k0_t7
  let c16_i32_305 : BitVec 32 := 16#32
  let v300 : BitVec 32 := Scalar.muli arg8 c16_i32_305
  let v304 : Index := Scalar.indexCast v300
  ![0, 0, 10, v304.toNat]
def k0_off589 (k0_t7 : Fin k0_t7_loop.trips) : Fin 4 → Nat :=
  let c0_i32_309 : BitVec 32 := 0#32
  let v308 : Index := Scalar.indexCast c0_i32_309
  let c0_i32_310 : BitVec 32 := 0#32
  let v309 : Index := Scalar.indexCast c0_i32_310
  let c11_i32 : BitVec 32 := 11#32
  let v310 : Index := Scalar.indexCast c11_i32
  let c0_i32_239 : BitVec 32 := 0#32
  let c1_i32_241 : BitVec 32 := 1#32
  let arg8 : BitVec 32 := Scf.iv c0_i32_239 c1_i32_241 k0_t7
  let c16_i32_308 : BitVec 32 := 16#32
  let v307 : BitVec 32 := Scalar.muli arg8 c16_i32_308
  let v311 : Index := Scalar.indexCast v307
  ![0, 0, 11, v311.toNat]
def k0_off590 (k0_t7 : Fin k0_t7_loop.trips) : Fin 4 → Nat :=
  let c0_i32_312 : BitVec 32 := 0#32
  let v315 : Index := Scalar.indexCast c0_i32_312
  let c0_i32_313 : BitVec 32 := 0#32
  let v316 : Index := Scalar.indexCast c0_i32_313
  let c12_i32 : BitVec 32 := 12#32
  let v317 : Index := Scalar.indexCast c12_i32
  let c0_i32_239 : BitVec 32 := 0#32
  let c1_i32_241 : BitVec 32 := 1#32
  let arg8 : BitVec 32 := Scf.iv c0_i32_239 c1_i32_241 k0_t7
  let c16_i32_311 : BitVec 32 := 16#32
  let v314 : BitVec 32 := Scalar.muli arg8 c16_i32_311
  let v318 : Index := Scalar.indexCast v314
  ![0, 0, 12, v318.toNat]
def k0_off591 (k0_t7 : Fin k0_t7_loop.trips) : Fin 4 → Nat :=
  let c0_i32_315 : BitVec 32 := 0#32
  let v322 : Index := Scalar.indexCast c0_i32_315
  let c0_i32_316 : BitVec 32 := 0#32
  let v323 : Index := Scalar.indexCast c0_i32_316
  let c13_i32 : BitVec 32 := 13#32
  let v324 : Index := Scalar.indexCast c13_i32
  let c0_i32_239 : BitVec 32 := 0#32
  let c1_i32_241 : BitVec 32 := 1#32
  let arg8 : BitVec 32 := Scf.iv c0_i32_239 c1_i32_241 k0_t7
  let c16_i32_314 : BitVec 32 := 16#32
  let v321 : BitVec 32 := Scalar.muli arg8 c16_i32_314
  let v325 : Index := Scalar.indexCast v321
  ![0, 0, 13, v325.toNat]
def k0_off592 (k0_t7 : Fin k0_t7_loop.trips) : Fin 4 → Nat :=
  let c0_i32_318 : BitVec 32 := 0#32
  let v329 : Index := Scalar.indexCast c0_i32_318
  let c0_i32_319 : BitVec 32 := 0#32
  let v330 : Index := Scalar.indexCast c0_i32_319
  let c14_i32_320 : BitVec 32 := 14#32
  let v331 : Index := Scalar.indexCast c14_i32_320
  let c0_i32_239 : BitVec 32 := 0#32
  let c1_i32_241 : BitVec 32 := 1#32
  let arg8 : BitVec 32 := Scf.iv c0_i32_239 c1_i32_241 k0_t7
  let c16_i32_317 : BitVec 32 := 16#32
  let v328 : BitVec 32 := Scalar.muli arg8 c16_i32_317
  let v332 : Index := Scalar.indexCast v328
  ![0, 0, 14, v332.toNat]
def k0_off593 (k0_t7 : Fin k0_t7_loop.trips) : Fin 4 → Nat :=
  let c0_i32_322 : BitVec 32 := 0#32
  let v336 : Index := Scalar.indexCast c0_i32_322
  let c0_i32_323 : BitVec 32 := 0#32
  let v337 : Index := Scalar.indexCast c0_i32_323
  let c15_i32 : BitVec 32 := 15#32
  let v338 : Index := Scalar.indexCast c15_i32
  let c0_i32_239 : BitVec 32 := 0#32
  let c1_i32_241 : BitVec 32 := 1#32
  let arg8 : BitVec 32 := Scf.iv c0_i32_239 c1_i32_241 k0_t7
  let c16_i32_321 : BitVec 32 := 16#32
  let v335 : BitVec 32 := Scalar.muli arg8 c16_i32_321
  let v339 : Index := Scalar.indexCast v335
  ![0, 0, 15, v339.toNat]
def k0_off594 (k0_t7 : Fin k0_t7_loop.trips) : Fin 4 → Nat :=
  let c0_i32_325 : BitVec 32 := 0#32
  let v343 : Index := Scalar.indexCast c0_i32_325
  let c1_i32_326 : BitVec 32 := 1#32
  let v344 : Index := Scalar.indexCast c1_i32_326
  let c0_i32_327 : BitVec 32 := 0#32
  let v345 : Index := Scalar.indexCast c0_i32_327
  let c0_i32_239 : BitVec 32 := 0#32
  let c1_i32_241 : BitVec 32 := 1#32
  let arg8 : BitVec 32 := Scf.iv c0_i32_239 c1_i32_241 k0_t7
  let c16_i32_324 : BitVec 32 := 16#32
  let v342 : BitVec 32 := Scalar.muli arg8 c16_i32_324
  let v346 : Index := Scalar.indexCast v342
  ![0, 1, 0, v346.toNat]
def k0_off595 (k0_t7 : Fin k0_t7_loop.trips) : Fin 4 → Nat :=
  let c0_i32_329 : BitVec 32 := 0#32
  let v350 : Index := Scalar.indexCast c0_i32_329
  let c1_i32_330 : BitVec 32 := 1#32
  let v351 : Index := Scalar.indexCast c1_i32_330
  let c1_i32_331 : BitVec 32 := 1#32
  let v352 : Index := Scalar.indexCast c1_i32_331
  let c0_i32_239 : BitVec 32 := 0#32
  let c1_i32_241 : BitVec 32 := 1#32
  let arg8 : BitVec 32 := Scf.iv c0_i32_239 c1_i32_241 k0_t7
  let c16_i32_328 : BitVec 32 := 16#32
  let v349 : BitVec 32 := Scalar.muli arg8 c16_i32_328
  let v353 : Index := Scalar.indexCast v349
  ![0, 1, 1, v353.toNat]
def k0_off596 (k0_t7 : Fin k0_t7_loop.trips) : Fin 4 → Nat :=
  let c0_i32_333 : BitVec 32 := 0#32
  let v357 : Index := Scalar.indexCast c0_i32_333
  let c1_i32_334 : BitVec 32 := 1#32
  let v358 : Index := Scalar.indexCast c1_i32_334
  let c2_i32_335 : BitVec 32 := 2#32
  let v359 : Index := Scalar.indexCast c2_i32_335
  let c0_i32_239 : BitVec 32 := 0#32
  let c1_i32_241 : BitVec 32 := 1#32
  let arg8 : BitVec 32 := Scf.iv c0_i32_239 c1_i32_241 k0_t7
  let c16_i32_332 : BitVec 32 := 16#32
  let v356 : BitVec 32 := Scalar.muli arg8 c16_i32_332
  let v360 : Index := Scalar.indexCast v356
  ![0, 1, 2, v360.toNat]
def k0_off597 (k0_t7 : Fin k0_t7_loop.trips) : Fin 4 → Nat :=
  let c0_i32_337 : BitVec 32 := 0#32
  let v364 : Index := Scalar.indexCast c0_i32_337
  let c1_i32_338 : BitVec 32 := 1#32
  let v365 : Index := Scalar.indexCast c1_i32_338
  let c3_i32_339 : BitVec 32 := 3#32
  let v366 : Index := Scalar.indexCast c3_i32_339
  let c0_i32_239 : BitVec 32 := 0#32
  let c1_i32_241 : BitVec 32 := 1#32
  let arg8 : BitVec 32 := Scf.iv c0_i32_239 c1_i32_241 k0_t7
  let c16_i32_336 : BitVec 32 := 16#32
  let v363 : BitVec 32 := Scalar.muli arg8 c16_i32_336
  let v367 : Index := Scalar.indexCast v363
  ![0, 1, 3, v367.toNat]
def k0_off598 (k0_t7 : Fin k0_t7_loop.trips) : Fin 4 → Nat :=
  let c0_i32_341 : BitVec 32 := 0#32
  let v371 : Index := Scalar.indexCast c0_i32_341
  let c1_i32_342 : BitVec 32 := 1#32
  let v372 : Index := Scalar.indexCast c1_i32_342
  let c4_i32_343 : BitVec 32 := 4#32
  let v373 : Index := Scalar.indexCast c4_i32_343
  let c0_i32_239 : BitVec 32 := 0#32
  let c1_i32_241 : BitVec 32 := 1#32
  let arg8 : BitVec 32 := Scf.iv c0_i32_239 c1_i32_241 k0_t7
  let c16_i32_340 : BitVec 32 := 16#32
  let v370 : BitVec 32 := Scalar.muli arg8 c16_i32_340
  let v374 : Index := Scalar.indexCast v370
  ![0, 1, 4, v374.toNat]
def k0_off599 (k0_t7 : Fin k0_t7_loop.trips) : Fin 4 → Nat :=
  let c0_i32_345 : BitVec 32 := 0#32
  let v378 : Index := Scalar.indexCast c0_i32_345
  let c1_i32_346 : BitVec 32 := 1#32
  let v379 : Index := Scalar.indexCast c1_i32_346
  let c5_i32_347 : BitVec 32 := 5#32
  let v380 : Index := Scalar.indexCast c5_i32_347
  let c0_i32_239 : BitVec 32 := 0#32
  let c1_i32_241 : BitVec 32 := 1#32
  let arg8 : BitVec 32 := Scf.iv c0_i32_239 c1_i32_241 k0_t7
  let c16_i32_344 : BitVec 32 := 16#32
  let v377 : BitVec 32 := Scalar.muli arg8 c16_i32_344
  let v381 : Index := Scalar.indexCast v377
  ![0, 1, 5, v381.toNat]
def k0_off600 (k0_t7 : Fin k0_t7_loop.trips) : Fin 4 → Nat :=
  let c0_i32_349 : BitVec 32 := 0#32
  let v385 : Index := Scalar.indexCast c0_i32_349
  let c1_i32_350 : BitVec 32 := 1#32
  let v386 : Index := Scalar.indexCast c1_i32_350
  let c6_i32_351 : BitVec 32 := 6#32
  let v387 : Index := Scalar.indexCast c6_i32_351
  let c0_i32_239 : BitVec 32 := 0#32
  let c1_i32_241 : BitVec 32 := 1#32
  let arg8 : BitVec 32 := Scf.iv c0_i32_239 c1_i32_241 k0_t7
  let c16_i32_348 : BitVec 32 := 16#32
  let v384 : BitVec 32 := Scalar.muli arg8 c16_i32_348
  let v388 : Index := Scalar.indexCast v384
  ![0, 1, 6, v388.toNat]
def k0_off601 (k0_t7 : Fin k0_t7_loop.trips) : Fin 4 → Nat :=
  let c0_i32_353 : BitVec 32 := 0#32
  let v392 : Index := Scalar.indexCast c0_i32_353
  let c1_i32_354 : BitVec 32 := 1#32
  let v393 : Index := Scalar.indexCast c1_i32_354
  let c7_i32_355 : BitVec 32 := 7#32
  let v394 : Index := Scalar.indexCast c7_i32_355
  let c0_i32_239 : BitVec 32 := 0#32
  let c1_i32_241 : BitVec 32 := 1#32
  let arg8 : BitVec 32 := Scf.iv c0_i32_239 c1_i32_241 k0_t7
  let c16_i32_352 : BitVec 32 := 16#32
  let v391 : BitVec 32 := Scalar.muli arg8 c16_i32_352
  let v395 : Index := Scalar.indexCast v391
  ![0, 1, 7, v395.toNat]
def k0_off602 (k0_t7 : Fin k0_t7_loop.trips) : Fin 4 → Nat :=
  let c0_i32_357 : BitVec 32 := 0#32
  let v399 : Index := Scalar.indexCast c0_i32_357
  let c1_i32_358 : BitVec 32 := 1#32
  let v400 : Index := Scalar.indexCast c1_i32_358
  let c8_i32_359 : BitVec 32 := 8#32
  let v401 : Index := Scalar.indexCast c8_i32_359
  let c0_i32_239 : BitVec 32 := 0#32
  let c1_i32_241 : BitVec 32 := 1#32
  let arg8 : BitVec 32 := Scf.iv c0_i32_239 c1_i32_241 k0_t7
  let c16_i32_356 : BitVec 32 := 16#32
  let v398 : BitVec 32 := Scalar.muli arg8 c16_i32_356
  let v402 : Index := Scalar.indexCast v398
  ![0, 1, 8, v402.toNat]
def k0_off603 (k0_t7 : Fin k0_t7_loop.trips) : Fin 4 → Nat :=
  let c0_i32_361 : BitVec 32 := 0#32
  let v406 : Index := Scalar.indexCast c0_i32_361
  let c1_i32_362 : BitVec 32 := 1#32
  let v407 : Index := Scalar.indexCast c1_i32_362
  let c9_i32_363 : BitVec 32 := 9#32
  let v408 : Index := Scalar.indexCast c9_i32_363
  let c0_i32_239 : BitVec 32 := 0#32
  let c1_i32_241 : BitVec 32 := 1#32
  let arg8 : BitVec 32 := Scf.iv c0_i32_239 c1_i32_241 k0_t7
  let c16_i32_360 : BitVec 32 := 16#32
  let v405 : BitVec 32 := Scalar.muli arg8 c16_i32_360
  let v409 : Index := Scalar.indexCast v405
  ![0, 1, 9, v409.toNat]
def k0_off604 (k0_t7 : Fin k0_t7_loop.trips) : Fin 4 → Nat :=
  let c0_i32_365 : BitVec 32 := 0#32
  let v413 : Index := Scalar.indexCast c0_i32_365
  let c1_i32_366 : BitVec 32 := 1#32
  let v414 : Index := Scalar.indexCast c1_i32_366
  let c10_i32_367 : BitVec 32 := 10#32
  let v415 : Index := Scalar.indexCast c10_i32_367
  let c0_i32_239 : BitVec 32 := 0#32
  let c1_i32_241 : BitVec 32 := 1#32
  let arg8 : BitVec 32 := Scf.iv c0_i32_239 c1_i32_241 k0_t7
  let c16_i32_364 : BitVec 32 := 16#32
  let v412 : BitVec 32 := Scalar.muli arg8 c16_i32_364
  let v416 : Index := Scalar.indexCast v412
  ![0, 1, 10, v416.toNat]
def k0_off605 (k0_t7 : Fin k0_t7_loop.trips) : Fin 4 → Nat :=
  let c0_i32_369 : BitVec 32 := 0#32
  let v420 : Index := Scalar.indexCast c0_i32_369
  let c1_i32_370 : BitVec 32 := 1#32
  let v421 : Index := Scalar.indexCast c1_i32_370
  let c11_i32_371 : BitVec 32 := 11#32
  let v422 : Index := Scalar.indexCast c11_i32_371
  let c0_i32_239 : BitVec 32 := 0#32
  let c1_i32_241 : BitVec 32 := 1#32
  let arg8 : BitVec 32 := Scf.iv c0_i32_239 c1_i32_241 k0_t7
  let c16_i32_368 : BitVec 32 := 16#32
  let v419 : BitVec 32 := Scalar.muli arg8 c16_i32_368
  let v423 : Index := Scalar.indexCast v419
  ![0, 1, 11, v423.toNat]
def k0_off606 (k0_t7 : Fin k0_t7_loop.trips) : Fin 4 → Nat :=
  let c0_i32_373 : BitVec 32 := 0#32
  let v427 : Index := Scalar.indexCast c0_i32_373
  let c1_i32_374 : BitVec 32 := 1#32
  let v428 : Index := Scalar.indexCast c1_i32_374
  let c12_i32_375 : BitVec 32 := 12#32
  let v429 : Index := Scalar.indexCast c12_i32_375
  let c0_i32_239 : BitVec 32 := 0#32
  let c1_i32_241 : BitVec 32 := 1#32
  let arg8 : BitVec 32 := Scf.iv c0_i32_239 c1_i32_241 k0_t7
  let c16_i32_372 : BitVec 32 := 16#32
  let v426 : BitVec 32 := Scalar.muli arg8 c16_i32_372
  let v430 : Index := Scalar.indexCast v426
  ![0, 1, 12, v430.toNat]
def k0_off607 (k0_t7 : Fin k0_t7_loop.trips) : Fin 4 → Nat :=
  let c0_i32_377 : BitVec 32 := 0#32
  let v434 : Index := Scalar.indexCast c0_i32_377
  let c1_i32_378 : BitVec 32 := 1#32
  let v435 : Index := Scalar.indexCast c1_i32_378
  let c13_i32_379 : BitVec 32 := 13#32
  let v436 : Index := Scalar.indexCast c13_i32_379
  let c0_i32_239 : BitVec 32 := 0#32
  let c1_i32_241 : BitVec 32 := 1#32
  let arg8 : BitVec 32 := Scf.iv c0_i32_239 c1_i32_241 k0_t7
  let c16_i32_376 : BitVec 32 := 16#32
  let v433 : BitVec 32 := Scalar.muli arg8 c16_i32_376
  let v437 : Index := Scalar.indexCast v433
  ![0, 1, 13, v437.toNat]
def k0_off608 (k0_t7 : Fin k0_t7_loop.trips) : Fin 4 → Nat :=
  let c0_i32_381 : BitVec 32 := 0#32
  let v441 : Index := Scalar.indexCast c0_i32_381
  let c1_i32_382 : BitVec 32 := 1#32
  let v442 : Index := Scalar.indexCast c1_i32_382
  let c14_i32_383 : BitVec 32 := 14#32
  let v443 : Index := Scalar.indexCast c14_i32_383
  let c0_i32_239 : BitVec 32 := 0#32
  let c1_i32_241 : BitVec 32 := 1#32
  let arg8 : BitVec 32 := Scf.iv c0_i32_239 c1_i32_241 k0_t7
  let c16_i32_380 : BitVec 32 := 16#32
  let v440 : BitVec 32 := Scalar.muli arg8 c16_i32_380
  let v444 : Index := Scalar.indexCast v440
  ![0, 1, 14, v444.toNat]
def k0_off609 (k0_t7 : Fin k0_t7_loop.trips) : Fin 4 → Nat :=
  let c0_i32_385 : BitVec 32 := 0#32
  let v448 : Index := Scalar.indexCast c0_i32_385
  let c1_i32_386 : BitVec 32 := 1#32
  let v449 : Index := Scalar.indexCast c1_i32_386
  let c15_i32_387 : BitVec 32 := 15#32
  let v450 : Index := Scalar.indexCast c15_i32_387
  let c0_i32_239 : BitVec 32 := 0#32
  let c1_i32_241 : BitVec 32 := 1#32
  let arg8 : BitVec 32 := Scf.iv c0_i32_239 c1_i32_241 k0_t7
  let c16_i32_384 : BitVec 32 := 16#32
  let v447 : BitVec 32 := Scalar.muli arg8 c16_i32_384
  let v451 : Index := Scalar.indexCast v447
  ![0, 1, 15, v451.toNat]
def k0_off610 (k0_t7 : Fin k0_t7_loop.trips) : Fin 4 → Nat :=
  let c0_i32_389 : BitVec 32 := 0#32
  let v455 : Index := Scalar.indexCast c0_i32_389
  let c2_i32_390 : BitVec 32 := 2#32
  let v456 : Index := Scalar.indexCast c2_i32_390
  let c0_i32_391 : BitVec 32 := 0#32
  let v457 : Index := Scalar.indexCast c0_i32_391
  let c0_i32_239 : BitVec 32 := 0#32
  let c1_i32_241 : BitVec 32 := 1#32
  let arg8 : BitVec 32 := Scf.iv c0_i32_239 c1_i32_241 k0_t7
  let c16_i32_388 : BitVec 32 := 16#32
  let v454 : BitVec 32 := Scalar.muli arg8 c16_i32_388
  let v458 : Index := Scalar.indexCast v454
  ![0, 2, 0, v458.toNat]
def k0_off611 (k0_t7 : Fin k0_t7_loop.trips) : Fin 4 → Nat :=
  let c0_i32_393 : BitVec 32 := 0#32
  let v462 : Index := Scalar.indexCast c0_i32_393
  let c2_i32_394 : BitVec 32 := 2#32
  let v463 : Index := Scalar.indexCast c2_i32_394
  let c1_i32_395 : BitVec 32 := 1#32
  let v464 : Index := Scalar.indexCast c1_i32_395
  let c0_i32_239 : BitVec 32 := 0#32
  let c1_i32_241 : BitVec 32 := 1#32
  let arg8 : BitVec 32 := Scf.iv c0_i32_239 c1_i32_241 k0_t7
  let c16_i32_392 : BitVec 32 := 16#32
  let v461 : BitVec 32 := Scalar.muli arg8 c16_i32_392
  let v465 : Index := Scalar.indexCast v461
  ![0, 2, 1, v465.toNat]
def k0_off612 (k0_t7 : Fin k0_t7_loop.trips) : Fin 4 → Nat :=
  let c0_i32_397 : BitVec 32 := 0#32
  let v469 : Index := Scalar.indexCast c0_i32_397
  let c2_i32_398 : BitVec 32 := 2#32
  let v470 : Index := Scalar.indexCast c2_i32_398
  let c2_i32_399 : BitVec 32 := 2#32
  let v471 : Index := Scalar.indexCast c2_i32_399
  let c0_i32_239 : BitVec 32 := 0#32
  let c1_i32_241 : BitVec 32 := 1#32
  let arg8 : BitVec 32 := Scf.iv c0_i32_239 c1_i32_241 k0_t7
  let c16_i32_396 : BitVec 32 := 16#32
  let v468 : BitVec 32 := Scalar.muli arg8 c16_i32_396
  let v472 : Index := Scalar.indexCast v468
  ![0, 2, 2, v472.toNat]
def k0_off613 (k0_t7 : Fin k0_t7_loop.trips) : Fin 4 → Nat :=
  let c0_i32_401 : BitVec 32 := 0#32
  let v476 : Index := Scalar.indexCast c0_i32_401
  let c2_i32_402 : BitVec 32 := 2#32
  let v477 : Index := Scalar.indexCast c2_i32_402
  let c3_i32_403 : BitVec 32 := 3#32
  let v478 : Index := Scalar.indexCast c3_i32_403
  let c0_i32_239 : BitVec 32 := 0#32
  let c1_i32_241 : BitVec 32 := 1#32
  let arg8 : BitVec 32 := Scf.iv c0_i32_239 c1_i32_241 k0_t7
  let c16_i32_400 : BitVec 32 := 16#32
  let v475 : BitVec 32 := Scalar.muli arg8 c16_i32_400
  let v479 : Index := Scalar.indexCast v475
  ![0, 2, 3, v479.toNat]
def k0_off614 (k0_t7 : Fin k0_t7_loop.trips) : Fin 4 → Nat :=
  let c0_i32_405 : BitVec 32 := 0#32
  let v483 : Index := Scalar.indexCast c0_i32_405
  let c2_i32_406 : BitVec 32 := 2#32
  let v484 : Index := Scalar.indexCast c2_i32_406
  let c4_i32_407 : BitVec 32 := 4#32
  let v485 : Index := Scalar.indexCast c4_i32_407
  let c0_i32_239 : BitVec 32 := 0#32
  let c1_i32_241 : BitVec 32 := 1#32
  let arg8 : BitVec 32 := Scf.iv c0_i32_239 c1_i32_241 k0_t7
  let c16_i32_404 : BitVec 32 := 16#32
  let v482 : BitVec 32 := Scalar.muli arg8 c16_i32_404
  let v486 : Index := Scalar.indexCast v482
  ![0, 2, 4, v486.toNat]
def k0_off615 (k0_t7 : Fin k0_t7_loop.trips) : Fin 4 → Nat :=
  let c0_i32_409 : BitVec 32 := 0#32
  let v490 : Index := Scalar.indexCast c0_i32_409
  let c2_i32_410 : BitVec 32 := 2#32
  let v491 : Index := Scalar.indexCast c2_i32_410
  let c5_i32_411 : BitVec 32 := 5#32
  let v492 : Index := Scalar.indexCast c5_i32_411
  let c0_i32_239 : BitVec 32 := 0#32
  let c1_i32_241 : BitVec 32 := 1#32
  let arg8 : BitVec 32 := Scf.iv c0_i32_239 c1_i32_241 k0_t7
  let c16_i32_408 : BitVec 32 := 16#32
  let v489 : BitVec 32 := Scalar.muli arg8 c16_i32_408
  let v493 : Index := Scalar.indexCast v489
  ![0, 2, 5, v493.toNat]
def k0_off616 (k0_t7 : Fin k0_t7_loop.trips) : Fin 4 → Nat :=
  let c0_i32_413 : BitVec 32 := 0#32
  let v497 : Index := Scalar.indexCast c0_i32_413
  let c2_i32_414 : BitVec 32 := 2#32
  let v498 : Index := Scalar.indexCast c2_i32_414
  let c6_i32_415 : BitVec 32 := 6#32
  let v499 : Index := Scalar.indexCast c6_i32_415
  let c0_i32_239 : BitVec 32 := 0#32
  let c1_i32_241 : BitVec 32 := 1#32
  let arg8 : BitVec 32 := Scf.iv c0_i32_239 c1_i32_241 k0_t7
  let c16_i32_412 : BitVec 32 := 16#32
  let v496 : BitVec 32 := Scalar.muli arg8 c16_i32_412
  let v500 : Index := Scalar.indexCast v496
  ![0, 2, 6, v500.toNat]
def k0_off617 (k0_t7 : Fin k0_t7_loop.trips) : Fin 4 → Nat :=
  let c0_i32_417 : BitVec 32 := 0#32
  let v504 : Index := Scalar.indexCast c0_i32_417
  let c2_i32_418 : BitVec 32 := 2#32
  let v505 : Index := Scalar.indexCast c2_i32_418
  let c7_i32_419 : BitVec 32 := 7#32
  let v506 : Index := Scalar.indexCast c7_i32_419
  let c0_i32_239 : BitVec 32 := 0#32
  let c1_i32_241 : BitVec 32 := 1#32
  let arg8 : BitVec 32 := Scf.iv c0_i32_239 c1_i32_241 k0_t7
  let c16_i32_416 : BitVec 32 := 16#32
  let v503 : BitVec 32 := Scalar.muli arg8 c16_i32_416
  let v507 : Index := Scalar.indexCast v503
  ![0, 2, 7, v507.toNat]
def k0_off618 (k0_t7 : Fin k0_t7_loop.trips) : Fin 4 → Nat :=
  let c0_i32_421 : BitVec 32 := 0#32
  let v511 : Index := Scalar.indexCast c0_i32_421
  let c2_i32_422 : BitVec 32 := 2#32
  let v512 : Index := Scalar.indexCast c2_i32_422
  let c8_i32_423 : BitVec 32 := 8#32
  let v513 : Index := Scalar.indexCast c8_i32_423
  let c0_i32_239 : BitVec 32 := 0#32
  let c1_i32_241 : BitVec 32 := 1#32
  let arg8 : BitVec 32 := Scf.iv c0_i32_239 c1_i32_241 k0_t7
  let c16_i32_420 : BitVec 32 := 16#32
  let v510 : BitVec 32 := Scalar.muli arg8 c16_i32_420
  let v514 : Index := Scalar.indexCast v510
  ![0, 2, 8, v514.toNat]
def k0_off619 (k0_t7 : Fin k0_t7_loop.trips) : Fin 4 → Nat :=
  let c0_i32_425 : BitVec 32 := 0#32
  let v518 : Index := Scalar.indexCast c0_i32_425
  let c2_i32_426 : BitVec 32 := 2#32
  let v519 : Index := Scalar.indexCast c2_i32_426
  let c9_i32_427 : BitVec 32 := 9#32
  let v520 : Index := Scalar.indexCast c9_i32_427
  let c0_i32_239 : BitVec 32 := 0#32
  let c1_i32_241 : BitVec 32 := 1#32
  let arg8 : BitVec 32 := Scf.iv c0_i32_239 c1_i32_241 k0_t7
  let c16_i32_424 : BitVec 32 := 16#32
  let v517 : BitVec 32 := Scalar.muli arg8 c16_i32_424
  let v521 : Index := Scalar.indexCast v517
  ![0, 2, 9, v521.toNat]
def k0_off620 (k0_t7 : Fin k0_t7_loop.trips) : Fin 4 → Nat :=
  let c0_i32_429 : BitVec 32 := 0#32
  let v525 : Index := Scalar.indexCast c0_i32_429
  let c2_i32_430 : BitVec 32 := 2#32
  let v526 : Index := Scalar.indexCast c2_i32_430
  let c10_i32_431 : BitVec 32 := 10#32
  let v527 : Index := Scalar.indexCast c10_i32_431
  let c0_i32_239 : BitVec 32 := 0#32
  let c1_i32_241 : BitVec 32 := 1#32
  let arg8 : BitVec 32 := Scf.iv c0_i32_239 c1_i32_241 k0_t7
  let c16_i32_428 : BitVec 32 := 16#32
  let v524 : BitVec 32 := Scalar.muli arg8 c16_i32_428
  let v528 : Index := Scalar.indexCast v524
  ![0, 2, 10, v528.toNat]
def k0_off621 (k0_t7 : Fin k0_t7_loop.trips) : Fin 4 → Nat :=
  let c0_i32_433 : BitVec 32 := 0#32
  let v532 : Index := Scalar.indexCast c0_i32_433
  let c2_i32_434 : BitVec 32 := 2#32
  let v533 : Index := Scalar.indexCast c2_i32_434
  let c11_i32_435 : BitVec 32 := 11#32
  let v534 : Index := Scalar.indexCast c11_i32_435
  let c0_i32_239 : BitVec 32 := 0#32
  let c1_i32_241 : BitVec 32 := 1#32
  let arg8 : BitVec 32 := Scf.iv c0_i32_239 c1_i32_241 k0_t7
  let c16_i32_432 : BitVec 32 := 16#32
  let v531 : BitVec 32 := Scalar.muli arg8 c16_i32_432
  let v535 : Index := Scalar.indexCast v531
  ![0, 2, 11, v535.toNat]
def k0_off622 (k0_t7 : Fin k0_t7_loop.trips) : Fin 4 → Nat :=
  let c0_i32_437 : BitVec 32 := 0#32
  let v539 : Index := Scalar.indexCast c0_i32_437
  let c2_i32_438 : BitVec 32 := 2#32
  let v540 : Index := Scalar.indexCast c2_i32_438
  let c12_i32_439 : BitVec 32 := 12#32
  let v541 : Index := Scalar.indexCast c12_i32_439
  let c0_i32_239 : BitVec 32 := 0#32
  let c1_i32_241 : BitVec 32 := 1#32
  let arg8 : BitVec 32 := Scf.iv c0_i32_239 c1_i32_241 k0_t7
  let c16_i32_436 : BitVec 32 := 16#32
  let v538 : BitVec 32 := Scalar.muli arg8 c16_i32_436
  let v542 : Index := Scalar.indexCast v538
  ![0, 2, 12, v542.toNat]
def k0_off623 (k0_t7 : Fin k0_t7_loop.trips) : Fin 4 → Nat :=
  let c0_i32_441 : BitVec 32 := 0#32
  let v546 : Index := Scalar.indexCast c0_i32_441
  let c2_i32_442 : BitVec 32 := 2#32
  let v547 : Index := Scalar.indexCast c2_i32_442
  let c13_i32_443 : BitVec 32 := 13#32
  let v548 : Index := Scalar.indexCast c13_i32_443
  let c0_i32_239 : BitVec 32 := 0#32
  let c1_i32_241 : BitVec 32 := 1#32
  let arg8 : BitVec 32 := Scf.iv c0_i32_239 c1_i32_241 k0_t7
  let c16_i32_440 : BitVec 32 := 16#32
  let v545 : BitVec 32 := Scalar.muli arg8 c16_i32_440
  let v549 : Index := Scalar.indexCast v545
  ![0, 2, 13, v549.toNat]
def k0_off624 (k0_t7 : Fin k0_t7_loop.trips) : Fin 4 → Nat :=
  let c0_i32_445 : BitVec 32 := 0#32
  let v553 : Index := Scalar.indexCast c0_i32_445
  let c2_i32_446 : BitVec 32 := 2#32
  let v554 : Index := Scalar.indexCast c2_i32_446
  let c14_i32_447 : BitVec 32 := 14#32
  let v555 : Index := Scalar.indexCast c14_i32_447
  let c0_i32_239 : BitVec 32 := 0#32
  let c1_i32_241 : BitVec 32 := 1#32
  let arg8 : BitVec 32 := Scf.iv c0_i32_239 c1_i32_241 k0_t7
  let c16_i32_444 : BitVec 32 := 16#32
  let v552 : BitVec 32 := Scalar.muli arg8 c16_i32_444
  let v556 : Index := Scalar.indexCast v552
  ![0, 2, 14, v556.toNat]
def k0_off625 (k0_t7 : Fin k0_t7_loop.trips) : Fin 4 → Nat :=
  let c0_i32_449 : BitVec 32 := 0#32
  let v560 : Index := Scalar.indexCast c0_i32_449
  let c2_i32_450 : BitVec 32 := 2#32
  let v561 : Index := Scalar.indexCast c2_i32_450
  let c15_i32_451 : BitVec 32 := 15#32
  let v562 : Index := Scalar.indexCast c15_i32_451
  let c0_i32_239 : BitVec 32 := 0#32
  let c1_i32_241 : BitVec 32 := 1#32
  let arg8 : BitVec 32 := Scf.iv c0_i32_239 c1_i32_241 k0_t7
  let c16_i32_448 : BitVec 32 := 16#32
  let v559 : BitVec 32 := Scalar.muli arg8 c16_i32_448
  let v563 : Index := Scalar.indexCast v559
  ![0, 2, 15, v563.toNat]
def k0_off626 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v566 : Index := Scalar.indexCast arg8
  let c6_i32_452 : BitVec 32 := 6#32
  let v567 : Index := Scalar.indexCast c6_i32_452
  let c0 : Index := 0#32
  ![v566.toNat, 6, 0]
def k0_off627 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v571 : Index := Scalar.indexCast arg8
  let c6_i32_453 : BitVec 32 := 6#32
  let v572 : Index := Scalar.indexCast c6_i32_453
  let c16 : Index := 16#32
  ![v571.toNat, 6, 16]
def k0_off628 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v576 : Index := Scalar.indexCast arg8
  let c6_i32_454 : BitVec 32 := 6#32
  let v577 : Index := Scalar.indexCast c6_i32_454
  let c32 : Index := 32#32
  ![v576.toNat, 6, 32]
def k0_off629 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v581 : Index := Scalar.indexCast arg8
  let c6_i32_455 : BitVec 32 := 6#32
  let v582 : Index := Scalar.indexCast c6_i32_455
  let c48 : Index := 48#32
  ![v581.toNat, 6, 48]
def k0_off630 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v586 : Index := Scalar.indexCast arg8
  let c6_i32_456 : BitVec 32 := 6#32
  let v587 : Index := Scalar.indexCast c6_i32_456
  let c64 : Index := 64#32
  ![v586.toNat, 6, 64]
def k0_off631 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v591 : Index := Scalar.indexCast arg8
  let c6_i32_457 : BitVec 32 := 6#32
  let v592 : Index := Scalar.indexCast c6_i32_457
  let c80 : Index := 80#32
  ![v591.toNat, 6, 80]
def k0_off632 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v596 : Index := Scalar.indexCast arg8
  let c6_i32_458 : BitVec 32 := 6#32
  let v597 : Index := Scalar.indexCast c6_i32_458
  let c96 : Index := 96#32
  ![v596.toNat, 6, 96]
def k0_off633 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v601 : Index := Scalar.indexCast arg8
  let c6_i32_459 : BitVec 32 := 6#32
  let v602 : Index := Scalar.indexCast c6_i32_459
  let c112 : Index := 112#32
  ![v601.toNat, 6, 112]
def k0_off634 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v606 : Index := Scalar.indexCast arg8
  let c6_i32_460 : BitVec 32 := 6#32
  let v607 : Index := Scalar.indexCast c6_i32_460
  let c128 : Index := 128#32
  ![v606.toNat, 6, 128]
def k0_off635 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v611 : Index := Scalar.indexCast arg8
  let c6_i32_461 : BitVec 32 := 6#32
  let v612 : Index := Scalar.indexCast c6_i32_461
  let c144 : Index := 144#32
  ![v611.toNat, 6, 144]
def k0_off636 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v616 : Index := Scalar.indexCast arg8
  let c6_i32_462 : BitVec 32 := 6#32
  let v617 : Index := Scalar.indexCast c6_i32_462
  let c160 : Index := 160#32
  ![v616.toNat, 6, 160]
def k0_off637 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v621 : Index := Scalar.indexCast arg8
  let c6_i32_463 : BitVec 32 := 6#32
  let v622 : Index := Scalar.indexCast c6_i32_463
  let c176 : Index := 176#32
  ![v621.toNat, 6, 176]
def k0_off638 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v626 : Index := Scalar.indexCast arg8
  let c6_i32_464 : BitVec 32 := 6#32
  let v627 : Index := Scalar.indexCast c6_i32_464
  let c192 : Index := 192#32
  ![v626.toNat, 6, 192]
def k0_off639 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v631 : Index := Scalar.indexCast arg8
  let c6_i32_465 : BitVec 32 := 6#32
  let v632 : Index := Scalar.indexCast c6_i32_465
  let c208 : Index := 208#32
  ![v631.toNat, 6, 208]
def k0_off640 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v636 : Index := Scalar.indexCast arg8
  let c6_i32_466 : BitVec 32 := 6#32
  let v637 : Index := Scalar.indexCast c6_i32_466
  let c224 : Index := 224#32
  ![v636.toNat, 6, 224]
def k0_off641 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v641 : Index := Scalar.indexCast arg8
  let c6_i32_467 : BitVec 32 := 6#32
  let v642 : Index := Scalar.indexCast c6_i32_467
  let c240 : Index := 240#32
  ![v641.toNat, 6, 240]
def k0_off642 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v646 : Index := Scalar.indexCast arg8
  let c6_i32_468 : BitVec 32 := 6#32
  let v647 : Index := Scalar.indexCast c6_i32_468
  let c256 : Index := 256#32
  ![v646.toNat, 6, 256]
def k0_off643 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v651 : Index := Scalar.indexCast arg8
  let c6_i32_469 : BitVec 32 := 6#32
  let v652 : Index := Scalar.indexCast c6_i32_469
  let c272 : Index := 272#32
  ![v651.toNat, 6, 272]
def k0_off644 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v656 : Index := Scalar.indexCast arg8
  let c6_i32_470 : BitVec 32 := 6#32
  let v657 : Index := Scalar.indexCast c6_i32_470
  let c288 : Index := 288#32
  ![v656.toNat, 6, 288]
def k0_off645 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v661 : Index := Scalar.indexCast arg8
  let c6_i32_471 : BitVec 32 := 6#32
  let v662 : Index := Scalar.indexCast c6_i32_471
  let c304 : Index := 304#32
  ![v661.toNat, 6, 304]
def k0_off646 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v666 : Index := Scalar.indexCast arg8
  let c6_i32_472 : BitVec 32 := 6#32
  let v667 : Index := Scalar.indexCast c6_i32_472
  let c320 : Index := 320#32
  ![v666.toNat, 6, 320]
def k0_off647 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v671 : Index := Scalar.indexCast arg8
  let c6_i32_473 : BitVec 32 := 6#32
  let v672 : Index := Scalar.indexCast c6_i32_473
  let c336 : Index := 336#32
  ![v671.toNat, 6, 336]
def k0_off648 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v676 : Index := Scalar.indexCast arg8
  let c6_i32_474 : BitVec 32 := 6#32
  let v677 : Index := Scalar.indexCast c6_i32_474
  let c352 : Index := 352#32
  ![v676.toNat, 6, 352]
def k0_off649 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v681 : Index := Scalar.indexCast arg8
  let c6_i32_475 : BitVec 32 := 6#32
  let v682 : Index := Scalar.indexCast c6_i32_475
  let c368 : Index := 368#32
  ![v681.toNat, 6, 368]
def k0_off650 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v686 : Index := Scalar.indexCast arg8
  let c6_i32_476 : BitVec 32 := 6#32
  let v687 : Index := Scalar.indexCast c6_i32_476
  let c384 : Index := 384#32
  ![v686.toNat, 6, 384]
def k0_off651 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v691 : Index := Scalar.indexCast arg8
  let c6_i32_477 : BitVec 32 := 6#32
  let v692 : Index := Scalar.indexCast c6_i32_477
  let c400 : Index := 400#32
  ![v691.toNat, 6, 400]
def k0_off652 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v696 : Index := Scalar.indexCast arg8
  let c6_i32_478 : BitVec 32 := 6#32
  let v697 : Index := Scalar.indexCast c6_i32_478
  let c416 : Index := 416#32
  ![v696.toNat, 6, 416]
def k0_off653 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v701 : Index := Scalar.indexCast arg8
  let c6_i32_479 : BitVec 32 := 6#32
  let v702 : Index := Scalar.indexCast c6_i32_479
  let c432 : Index := 432#32
  ![v701.toNat, 6, 432]
def k0_off654 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v706 : Index := Scalar.indexCast arg8
  let c6_i32_480 : BitVec 32 := 6#32
  let v707 : Index := Scalar.indexCast c6_i32_480
  let c448 : Index := 448#32
  ![v706.toNat, 6, 448]
def k0_off655 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v711 : Index := Scalar.indexCast arg8
  let c6_i32_481 : BitVec 32 := 6#32
  let v712 : Index := Scalar.indexCast c6_i32_481
  let c464 : Index := 464#32
  ![v711.toNat, 6, 464]
def k0_off656 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v716 : Index := Scalar.indexCast arg8
  let c6_i32_482 : BitVec 32 := 6#32
  let v717 : Index := Scalar.indexCast c6_i32_482
  let c480 : Index := 480#32
  ![v716.toNat, 6, 480]
def k0_off657 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v721 : Index := Scalar.indexCast arg8
  let c6_i32_483 : BitVec 32 := 6#32
  let v722 : Index := Scalar.indexCast c6_i32_483
  let c496 : Index := 496#32
  ![v721.toNat, 6, 496]
def k0_off658 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v726 : Index := Scalar.indexCast arg8
  let c6_i32_484 : BitVec 32 := 6#32
  let v727 : Index := Scalar.indexCast c6_i32_484
  let c512 : Index := 512#32
  ![v726.toNat, 6, 512]
def k0_off659 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v731 : Index := Scalar.indexCast arg8
  let c6_i32_485 : BitVec 32 := 6#32
  let v732 : Index := Scalar.indexCast c6_i32_485
  let c528 : Index := 528#32
  ![v731.toNat, 6, 528]
def k0_off660 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v736 : Index := Scalar.indexCast arg8
  let c6_i32_486 : BitVec 32 := 6#32
  let v737 : Index := Scalar.indexCast c6_i32_486
  let c544 : Index := 544#32
  ![v736.toNat, 6, 544]
def k0_off661 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v741 : Index := Scalar.indexCast arg8
  let c6_i32_487 : BitVec 32 := 6#32
  let v742 : Index := Scalar.indexCast c6_i32_487
  let c560 : Index := 560#32
  ![v741.toNat, 6, 560]
def k0_off662 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v746 : Index := Scalar.indexCast arg8
  let c6_i32_488 : BitVec 32 := 6#32
  let v747 : Index := Scalar.indexCast c6_i32_488
  let c576 : Index := 576#32
  ![v746.toNat, 6, 576]
def k0_off663 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v751 : Index := Scalar.indexCast arg8
  let c6_i32_489 : BitVec 32 := 6#32
  let v752 : Index := Scalar.indexCast c6_i32_489
  let c592 : Index := 592#32
  ![v751.toNat, 6, 592]
def k0_off664 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v756 : Index := Scalar.indexCast arg8
  let c6_i32_490 : BitVec 32 := 6#32
  let v757 : Index := Scalar.indexCast c6_i32_490
  let c608 : Index := 608#32
  ![v756.toNat, 6, 608]
def k0_off665 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v761 : Index := Scalar.indexCast arg8
  let c6_i32_491 : BitVec 32 := 6#32
  let v762 : Index := Scalar.indexCast c6_i32_491
  let c624 : Index := 624#32
  ![v761.toNat, 6, 624]
def k0_off666 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v766 : Index := Scalar.indexCast arg8
  let c6_i32_492 : BitVec 32 := 6#32
  let v767 : Index := Scalar.indexCast c6_i32_492
  let c640 : Index := 640#32
  ![v766.toNat, 6, 640]
def k0_off667 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v771 : Index := Scalar.indexCast arg8
  let c6_i32_493 : BitVec 32 := 6#32
  let v772 : Index := Scalar.indexCast c6_i32_493
  let c656 : Index := 656#32
  ![v771.toNat, 6, 656]
def k0_off668 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v776 : Index := Scalar.indexCast arg8
  let c6_i32_494 : BitVec 32 := 6#32
  let v777 : Index := Scalar.indexCast c6_i32_494
  let c672 : Index := 672#32
  ![v776.toNat, 6, 672]
def k0_off669 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v781 : Index := Scalar.indexCast arg8
  let c6_i32_495 : BitVec 32 := 6#32
  let v782 : Index := Scalar.indexCast c6_i32_495
  let c688 : Index := 688#32
  ![v781.toNat, 6, 688]
def k0_off670 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v786 : Index := Scalar.indexCast arg8
  let c6_i32_496 : BitVec 32 := 6#32
  let v787 : Index := Scalar.indexCast c6_i32_496
  let c704 : Index := 704#32
  ![v786.toNat, 6, 704]
def k0_off671 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v791 : Index := Scalar.indexCast arg8
  let c6_i32_497 : BitVec 32 := 6#32
  let v792 : Index := Scalar.indexCast c6_i32_497
  let c720 : Index := 720#32
  ![v791.toNat, 6, 720]
def k0_off672 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v796 : Index := Scalar.indexCast arg8
  let c6_i32_498 : BitVec 32 := 6#32
  let v797 : Index := Scalar.indexCast c6_i32_498
  let c736 : Index := 736#32
  ![v796.toNat, 6, 736]
def k0_off673 (k0_t7 : Fin k0_t7_loop.trips) : Fin 3 → Nat :=
  let c0_i32_239 : BitVec 32 := 0#32
  let c1_i32_241 : BitVec 32 := 1#32
  let arg8 : BitVec 32 := Scf.iv c0_i32_239 c1_i32_241 k0_t7
  let v801 : Index := Scalar.indexCast arg8
  let c6_i32_499 : BitVec 32 := 6#32
  let v802 : Index := Scalar.indexCast c6_i32_499
  let c752 : Index := 752#32
  ![v801.toNat, 6, 752]
@[reducible] def k0_t8_loop : Scf.Loop 32 :=
  let c0_i32_256 : BitVec 32 := 0#32
  let c14_i32_257 : BitVec 32 := 14#32
  let v223 : BitVec 32 := Scalar.addi c0_i32_256 c14_i32_257
  let c1_i32_258 : BitVec 32 := 1#32
  ⟨c0_i32_256, v223, c1_i32_258⟩
def k0_off674 (k0_t8 : Fin k0_t8_loop.trips) : Fin 4 → Nat :=
  let c1_i32_267 : BitVec 32 := 1#32
  let v231 : Index := Scalar.indexCast c1_i32_267
  let c0_i32_268 : BitVec 32 := 0#32
  let v232 : Index := Scalar.indexCast c0_i32_268
  let c0_i32_269 : BitVec 32 := 0#32
  let v233 : Index := Scalar.indexCast c0_i32_269
  let c0_i32_256 : BitVec 32 := 0#32
  let c1_i32_258 : BitVec 32 := 1#32
  let arg8 : BitVec 32 := Scf.iv c0_i32_256 c1_i32_258 k0_t8
  let c16_i32_266 : BitVec 32 := 16#32
  let v230 : BitVec 32 := Scalar.muli arg8 c16_i32_266
  let v234 : Index := Scalar.indexCast v230
  ![1, 0, 0, v234.toNat]
def k0_off675 (k0_t8 : Fin k0_t8_loop.trips) : Fin 4 → Nat :=
  let c1_i32_271 : BitVec 32 := 1#32
  let v238 : Index := Scalar.indexCast c1_i32_271
  let c0_i32_272 : BitVec 32 := 0#32
  let v239 : Index := Scalar.indexCast c0_i32_272
  let c1_i32_273 : BitVec 32 := 1#32
  let v240 : Index := Scalar.indexCast c1_i32_273
  let c0_i32_256 : BitVec 32 := 0#32
  let c1_i32_258 : BitVec 32 := 1#32
  let arg8 : BitVec 32 := Scf.iv c0_i32_256 c1_i32_258 k0_t8
  let c16_i32_270 : BitVec 32 := 16#32
  let v237 : BitVec 32 := Scalar.muli arg8 c16_i32_270
  let v241 : Index := Scalar.indexCast v237
  ![1, 0, 1, v241.toNat]
def k0_off676 (k0_t8 : Fin k0_t8_loop.trips) : Fin 4 → Nat :=
  let c1_i32_275 : BitVec 32 := 1#32
  let v245 : Index := Scalar.indexCast c1_i32_275
  let c0_i32_276 : BitVec 32 := 0#32
  let v246 : Index := Scalar.indexCast c0_i32_276
  let c2_i32_277 : BitVec 32 := 2#32
  let v247 : Index := Scalar.indexCast c2_i32_277
  let c0_i32_256 : BitVec 32 := 0#32
  let c1_i32_258 : BitVec 32 := 1#32
  let arg8 : BitVec 32 := Scf.iv c0_i32_256 c1_i32_258 k0_t8
  let c16_i32_274 : BitVec 32 := 16#32
  let v244 : BitVec 32 := Scalar.muli arg8 c16_i32_274
  let v248 : Index := Scalar.indexCast v244
  ![1, 0, 2, v248.toNat]
def k0_off677 (k0_t8 : Fin k0_t8_loop.trips) : Fin 4 → Nat :=
  let c1_i32_279 : BitVec 32 := 1#32
  let v252 : Index := Scalar.indexCast c1_i32_279
  let c0_i32_280 : BitVec 32 := 0#32
  let v253 : Index := Scalar.indexCast c0_i32_280
  let c3_i32_281 : BitVec 32 := 3#32
  let v254 : Index := Scalar.indexCast c3_i32_281
  let c0_i32_256 : BitVec 32 := 0#32
  let c1_i32_258 : BitVec 32 := 1#32
  let arg8 : BitVec 32 := Scf.iv c0_i32_256 c1_i32_258 k0_t8
  let c16_i32_278 : BitVec 32 := 16#32
  let v251 : BitVec 32 := Scalar.muli arg8 c16_i32_278
  let v255 : Index := Scalar.indexCast v251
  ![1, 0, 3, v255.toNat]
def k0_off678 (k0_t8 : Fin k0_t8_loop.trips) : Fin 4 → Nat :=
  let c1_i32_283 : BitVec 32 := 1#32
  let v259 : Index := Scalar.indexCast c1_i32_283
  let c0_i32_284 : BitVec 32 := 0#32
  let v260 : Index := Scalar.indexCast c0_i32_284
  let c4_i32_285 : BitVec 32 := 4#32
  let v261 : Index := Scalar.indexCast c4_i32_285
  let c0_i32_256 : BitVec 32 := 0#32
  let c1_i32_258 : BitVec 32 := 1#32
  let arg8 : BitVec 32 := Scf.iv c0_i32_256 c1_i32_258 k0_t8
  let c16_i32_282 : BitVec 32 := 16#32
  let v258 : BitVec 32 := Scalar.muli arg8 c16_i32_282
  let v262 : Index := Scalar.indexCast v258
  ![1, 0, 4, v262.toNat]
def k0_off679 (k0_t8 : Fin k0_t8_loop.trips) : Fin 4 → Nat :=
  let c1_i32_287 : BitVec 32 := 1#32
  let v266 : Index := Scalar.indexCast c1_i32_287
  let c0_i32_288 : BitVec 32 := 0#32
  let v267 : Index := Scalar.indexCast c0_i32_288
  let c5_i32_289 : BitVec 32 := 5#32
  let v268 : Index := Scalar.indexCast c5_i32_289
  let c0_i32_256 : BitVec 32 := 0#32
  let c1_i32_258 : BitVec 32 := 1#32
  let arg8 : BitVec 32 := Scf.iv c0_i32_256 c1_i32_258 k0_t8
  let c16_i32_286 : BitVec 32 := 16#32
  let v265 : BitVec 32 := Scalar.muli arg8 c16_i32_286
  let v269 : Index := Scalar.indexCast v265
  ![1, 0, 5, v269.toNat]
def k0_off680 (k0_t8 : Fin k0_t8_loop.trips) : Fin 4 → Nat :=
  let c1_i32_291 : BitVec 32 := 1#32
  let v273 : Index := Scalar.indexCast c1_i32_291
  let c0_i32_292 : BitVec 32 := 0#32
  let v274 : Index := Scalar.indexCast c0_i32_292
  let c6_i32_293 : BitVec 32 := 6#32
  let v275 : Index := Scalar.indexCast c6_i32_293
  let c0_i32_256 : BitVec 32 := 0#32
  let c1_i32_258 : BitVec 32 := 1#32
  let arg8 : BitVec 32 := Scf.iv c0_i32_256 c1_i32_258 k0_t8
  let c16_i32_290 : BitVec 32 := 16#32
  let v272 : BitVec 32 := Scalar.muli arg8 c16_i32_290
  let v276 : Index := Scalar.indexCast v272
  ![1, 0, 6, v276.toNat]
def k0_off681 (k0_t8 : Fin k0_t8_loop.trips) : Fin 4 → Nat :=
  let c1_i32_295 : BitVec 32 := 1#32
  let v280 : Index := Scalar.indexCast c1_i32_295
  let c0_i32_296 : BitVec 32 := 0#32
  let v281 : Index := Scalar.indexCast c0_i32_296
  let c7_i32_297 : BitVec 32 := 7#32
  let v282 : Index := Scalar.indexCast c7_i32_297
  let c0_i32_256 : BitVec 32 := 0#32
  let c1_i32_258 : BitVec 32 := 1#32
  let arg8 : BitVec 32 := Scf.iv c0_i32_256 c1_i32_258 k0_t8
  let c16_i32_294 : BitVec 32 := 16#32
  let v279 : BitVec 32 := Scalar.muli arg8 c16_i32_294
  let v283 : Index := Scalar.indexCast v279
  ![1, 0, 7, v283.toNat]
def k0_off682 (k0_t8 : Fin k0_t8_loop.trips) : Fin 4 → Nat :=
  let c1_i32_299 : BitVec 32 := 1#32
  let v287 : Index := Scalar.indexCast c1_i32_299
  let c0_i32_300 : BitVec 32 := 0#32
  let v288 : Index := Scalar.indexCast c0_i32_300
  let c8_i32_301 : BitVec 32 := 8#32
  let v289 : Index := Scalar.indexCast c8_i32_301
  let c0_i32_256 : BitVec 32 := 0#32
  let c1_i32_258 : BitVec 32 := 1#32
  let arg8 : BitVec 32 := Scf.iv c0_i32_256 c1_i32_258 k0_t8
  let c16_i32_298 : BitVec 32 := 16#32
  let v286 : BitVec 32 := Scalar.muli arg8 c16_i32_298
  let v290 : Index := Scalar.indexCast v286
  ![1, 0, 8, v290.toNat]
def k0_off683 (k0_t8 : Fin k0_t8_loop.trips) : Fin 4 → Nat :=
  let c1_i32_303 : BitVec 32 := 1#32
  let v294 : Index := Scalar.indexCast c1_i32_303
  let c0_i32_304 : BitVec 32 := 0#32
  let v295 : Index := Scalar.indexCast c0_i32_304
  let c9_i32 : BitVec 32 := 9#32
  let v296 : Index := Scalar.indexCast c9_i32
  let c0_i32_256 : BitVec 32 := 0#32
  let c1_i32_258 : BitVec 32 := 1#32
  let arg8 : BitVec 32 := Scf.iv c0_i32_256 c1_i32_258 k0_t8
  let c16_i32_302 : BitVec 32 := 16#32
  let v293 : BitVec 32 := Scalar.muli arg8 c16_i32_302
  let v297 : Index := Scalar.indexCast v293
  ![1, 0, 9, v297.toNat]
def k0_off684 (k0_t8 : Fin k0_t8_loop.trips) : Fin 4 → Nat :=
  let c1_i32_306 : BitVec 32 := 1#32
  let v301 : Index := Scalar.indexCast c1_i32_306
  let c0_i32_307 : BitVec 32 := 0#32
  let v302 : Index := Scalar.indexCast c0_i32_307
  let c10_i32 : BitVec 32 := 10#32
  let v303 : Index := Scalar.indexCast c10_i32
  let c0_i32_256 : BitVec 32 := 0#32
  let c1_i32_258 : BitVec 32 := 1#32
  let arg8 : BitVec 32 := Scf.iv c0_i32_256 c1_i32_258 k0_t8
  let c16_i32_305 : BitVec 32 := 16#32
  let v300 : BitVec 32 := Scalar.muli arg8 c16_i32_305
  let v304 : Index := Scalar.indexCast v300
  ![1, 0, 10, v304.toNat]
def k0_off685 (k0_t8 : Fin k0_t8_loop.trips) : Fin 4 → Nat :=
  let c1_i32_309 : BitVec 32 := 1#32
  let v308 : Index := Scalar.indexCast c1_i32_309
  let c0_i32_310 : BitVec 32 := 0#32
  let v309 : Index := Scalar.indexCast c0_i32_310
  let c11_i32 : BitVec 32 := 11#32
  let v310 : Index := Scalar.indexCast c11_i32
  let c0_i32_256 : BitVec 32 := 0#32
  let c1_i32_258 : BitVec 32 := 1#32
  let arg8 : BitVec 32 := Scf.iv c0_i32_256 c1_i32_258 k0_t8
  let c16_i32_308 : BitVec 32 := 16#32
  let v307 : BitVec 32 := Scalar.muli arg8 c16_i32_308
  let v311 : Index := Scalar.indexCast v307
  ![1, 0, 11, v311.toNat]
def k0_off686 (k0_t8 : Fin k0_t8_loop.trips) : Fin 4 → Nat :=
  let c1_i32_312 : BitVec 32 := 1#32
  let v315 : Index := Scalar.indexCast c1_i32_312
  let c0_i32_313 : BitVec 32 := 0#32
  let v316 : Index := Scalar.indexCast c0_i32_313
  let c12_i32 : BitVec 32 := 12#32
  let v317 : Index := Scalar.indexCast c12_i32
  let c0_i32_256 : BitVec 32 := 0#32
  let c1_i32_258 : BitVec 32 := 1#32
  let arg8 : BitVec 32 := Scf.iv c0_i32_256 c1_i32_258 k0_t8
  let c16_i32_311 : BitVec 32 := 16#32
  let v314 : BitVec 32 := Scalar.muli arg8 c16_i32_311
  let v318 : Index := Scalar.indexCast v314
  ![1, 0, 12, v318.toNat]
def k0_off687 (k0_t8 : Fin k0_t8_loop.trips) : Fin 4 → Nat :=
  let c1_i32_315 : BitVec 32 := 1#32
  let v322 : Index := Scalar.indexCast c1_i32_315
  let c0_i32_316 : BitVec 32 := 0#32
  let v323 : Index := Scalar.indexCast c0_i32_316
  let c13_i32 : BitVec 32 := 13#32
  let v324 : Index := Scalar.indexCast c13_i32
  let c0_i32_256 : BitVec 32 := 0#32
  let c1_i32_258 : BitVec 32 := 1#32
  let arg8 : BitVec 32 := Scf.iv c0_i32_256 c1_i32_258 k0_t8
  let c16_i32_314 : BitVec 32 := 16#32
  let v321 : BitVec 32 := Scalar.muli arg8 c16_i32_314
  let v325 : Index := Scalar.indexCast v321
  ![1, 0, 13, v325.toNat]
def k0_off688 (k0_t8 : Fin k0_t8_loop.trips) : Fin 4 → Nat :=
  let c1_i32_318 : BitVec 32 := 1#32
  let v329 : Index := Scalar.indexCast c1_i32_318
  let c0_i32_319 : BitVec 32 := 0#32
  let v330 : Index := Scalar.indexCast c0_i32_319
  let c14_i32_320 : BitVec 32 := 14#32
  let v331 : Index := Scalar.indexCast c14_i32_320
  let c0_i32_256 : BitVec 32 := 0#32
  let c1_i32_258 : BitVec 32 := 1#32
  let arg8 : BitVec 32 := Scf.iv c0_i32_256 c1_i32_258 k0_t8
  let c16_i32_317 : BitVec 32 := 16#32
  let v328 : BitVec 32 := Scalar.muli arg8 c16_i32_317
  let v332 : Index := Scalar.indexCast v328
  ![1, 0, 14, v332.toNat]
def k0_off689 (k0_t8 : Fin k0_t8_loop.trips) : Fin 4 → Nat :=
  let c1_i32_322 : BitVec 32 := 1#32
  let v336 : Index := Scalar.indexCast c1_i32_322
  let c0_i32_323 : BitVec 32 := 0#32
  let v337 : Index := Scalar.indexCast c0_i32_323
  let c15_i32 : BitVec 32 := 15#32
  let v338 : Index := Scalar.indexCast c15_i32
  let c0_i32_256 : BitVec 32 := 0#32
  let c1_i32_258 : BitVec 32 := 1#32
  let arg8 : BitVec 32 := Scf.iv c0_i32_256 c1_i32_258 k0_t8
  let c16_i32_321 : BitVec 32 := 16#32
  let v335 : BitVec 32 := Scalar.muli arg8 c16_i32_321
  let v339 : Index := Scalar.indexCast v335
  ![1, 0, 15, v339.toNat]
def k0_off690 (k0_t8 : Fin k0_t8_loop.trips) : Fin 4 → Nat :=
  let c1_i32_325 : BitVec 32 := 1#32
  let v343 : Index := Scalar.indexCast c1_i32_325
  let c1_i32_326 : BitVec 32 := 1#32
  let v344 : Index := Scalar.indexCast c1_i32_326
  let c0_i32_327 : BitVec 32 := 0#32
  let v345 : Index := Scalar.indexCast c0_i32_327
  let c0_i32_256 : BitVec 32 := 0#32
  let c1_i32_258 : BitVec 32 := 1#32
  let arg8 : BitVec 32 := Scf.iv c0_i32_256 c1_i32_258 k0_t8
  let c16_i32_324 : BitVec 32 := 16#32
  let v342 : BitVec 32 := Scalar.muli arg8 c16_i32_324
  let v346 : Index := Scalar.indexCast v342
  ![1, 1, 0, v346.toNat]
def k0_off691 (k0_t8 : Fin k0_t8_loop.trips) : Fin 4 → Nat :=
  let c1_i32_329 : BitVec 32 := 1#32
  let v350 : Index := Scalar.indexCast c1_i32_329
  let c1_i32_330 : BitVec 32 := 1#32
  let v351 : Index := Scalar.indexCast c1_i32_330
  let c1_i32_331 : BitVec 32 := 1#32
  let v352 : Index := Scalar.indexCast c1_i32_331
  let c0_i32_256 : BitVec 32 := 0#32
  let c1_i32_258 : BitVec 32 := 1#32
  let arg8 : BitVec 32 := Scf.iv c0_i32_256 c1_i32_258 k0_t8
  let c16_i32_328 : BitVec 32 := 16#32
  let v349 : BitVec 32 := Scalar.muli arg8 c16_i32_328
  let v353 : Index := Scalar.indexCast v349
  ![1, 1, 1, v353.toNat]
def k0_off692 (k0_t8 : Fin k0_t8_loop.trips) : Fin 4 → Nat :=
  let c1_i32_333 : BitVec 32 := 1#32
  let v357 : Index := Scalar.indexCast c1_i32_333
  let c1_i32_334 : BitVec 32 := 1#32
  let v358 : Index := Scalar.indexCast c1_i32_334
  let c2_i32_335 : BitVec 32 := 2#32
  let v359 : Index := Scalar.indexCast c2_i32_335
  let c0_i32_256 : BitVec 32 := 0#32
  let c1_i32_258 : BitVec 32 := 1#32
  let arg8 : BitVec 32 := Scf.iv c0_i32_256 c1_i32_258 k0_t8
  let c16_i32_332 : BitVec 32 := 16#32
  let v356 : BitVec 32 := Scalar.muli arg8 c16_i32_332
  let v360 : Index := Scalar.indexCast v356
  ![1, 1, 2, v360.toNat]
def k0_off693 (k0_t8 : Fin k0_t8_loop.trips) : Fin 4 → Nat :=
  let c1_i32_337 : BitVec 32 := 1#32
  let v364 : Index := Scalar.indexCast c1_i32_337
  let c1_i32_338 : BitVec 32 := 1#32
  let v365 : Index := Scalar.indexCast c1_i32_338
  let c3_i32_339 : BitVec 32 := 3#32
  let v366 : Index := Scalar.indexCast c3_i32_339
  let c0_i32_256 : BitVec 32 := 0#32
  let c1_i32_258 : BitVec 32 := 1#32
  let arg8 : BitVec 32 := Scf.iv c0_i32_256 c1_i32_258 k0_t8
  let c16_i32_336 : BitVec 32 := 16#32
  let v363 : BitVec 32 := Scalar.muli arg8 c16_i32_336
  let v367 : Index := Scalar.indexCast v363
  ![1, 1, 3, v367.toNat]
def k0_off694 (k0_t8 : Fin k0_t8_loop.trips) : Fin 4 → Nat :=
  let c1_i32_341 : BitVec 32 := 1#32
  let v371 : Index := Scalar.indexCast c1_i32_341
  let c1_i32_342 : BitVec 32 := 1#32
  let v372 : Index := Scalar.indexCast c1_i32_342
  let c4_i32_343 : BitVec 32 := 4#32
  let v373 : Index := Scalar.indexCast c4_i32_343
  let c0_i32_256 : BitVec 32 := 0#32
  let c1_i32_258 : BitVec 32 := 1#32
  let arg8 : BitVec 32 := Scf.iv c0_i32_256 c1_i32_258 k0_t8
  let c16_i32_340 : BitVec 32 := 16#32
  let v370 : BitVec 32 := Scalar.muli arg8 c16_i32_340
  let v374 : Index := Scalar.indexCast v370
  ![1, 1, 4, v374.toNat]
def k0_off695 (k0_t8 : Fin k0_t8_loop.trips) : Fin 4 → Nat :=
  let c1_i32_345 : BitVec 32 := 1#32
  let v378 : Index := Scalar.indexCast c1_i32_345
  let c1_i32_346 : BitVec 32 := 1#32
  let v379 : Index := Scalar.indexCast c1_i32_346
  let c5_i32_347 : BitVec 32 := 5#32
  let v380 : Index := Scalar.indexCast c5_i32_347
  let c0_i32_256 : BitVec 32 := 0#32
  let c1_i32_258 : BitVec 32 := 1#32
  let arg8 : BitVec 32 := Scf.iv c0_i32_256 c1_i32_258 k0_t8
  let c16_i32_344 : BitVec 32 := 16#32
  let v377 : BitVec 32 := Scalar.muli arg8 c16_i32_344
  let v381 : Index := Scalar.indexCast v377
  ![1, 1, 5, v381.toNat]
def k0_off696 (k0_t8 : Fin k0_t8_loop.trips) : Fin 4 → Nat :=
  let c1_i32_349 : BitVec 32 := 1#32
  let v385 : Index := Scalar.indexCast c1_i32_349
  let c1_i32_350 : BitVec 32 := 1#32
  let v386 : Index := Scalar.indexCast c1_i32_350
  let c6_i32_351 : BitVec 32 := 6#32
  let v387 : Index := Scalar.indexCast c6_i32_351
  let c0_i32_256 : BitVec 32 := 0#32
  let c1_i32_258 : BitVec 32 := 1#32
  let arg8 : BitVec 32 := Scf.iv c0_i32_256 c1_i32_258 k0_t8
  let c16_i32_348 : BitVec 32 := 16#32
  let v384 : BitVec 32 := Scalar.muli arg8 c16_i32_348
  let v388 : Index := Scalar.indexCast v384
  ![1, 1, 6, v388.toNat]
def k0_off697 (k0_t8 : Fin k0_t8_loop.trips) : Fin 4 → Nat :=
  let c1_i32_353 : BitVec 32 := 1#32
  let v392 : Index := Scalar.indexCast c1_i32_353
  let c1_i32_354 : BitVec 32 := 1#32
  let v393 : Index := Scalar.indexCast c1_i32_354
  let c7_i32_355 : BitVec 32 := 7#32
  let v394 : Index := Scalar.indexCast c7_i32_355
  let c0_i32_256 : BitVec 32 := 0#32
  let c1_i32_258 : BitVec 32 := 1#32
  let arg8 : BitVec 32 := Scf.iv c0_i32_256 c1_i32_258 k0_t8
  let c16_i32_352 : BitVec 32 := 16#32
  let v391 : BitVec 32 := Scalar.muli arg8 c16_i32_352
  let v395 : Index := Scalar.indexCast v391
  ![1, 1, 7, v395.toNat]
def k0_off698 (k0_t8 : Fin k0_t8_loop.trips) : Fin 4 → Nat :=
  let c1_i32_357 : BitVec 32 := 1#32
  let v399 : Index := Scalar.indexCast c1_i32_357
  let c1_i32_358 : BitVec 32 := 1#32
  let v400 : Index := Scalar.indexCast c1_i32_358
  let c8_i32_359 : BitVec 32 := 8#32
  let v401 : Index := Scalar.indexCast c8_i32_359
  let c0_i32_256 : BitVec 32 := 0#32
  let c1_i32_258 : BitVec 32 := 1#32
  let arg8 : BitVec 32 := Scf.iv c0_i32_256 c1_i32_258 k0_t8
  let c16_i32_356 : BitVec 32 := 16#32
  let v398 : BitVec 32 := Scalar.muli arg8 c16_i32_356
  let v402 : Index := Scalar.indexCast v398
  ![1, 1, 8, v402.toNat]
def k0_off699 (k0_t8 : Fin k0_t8_loop.trips) : Fin 4 → Nat :=
  let c1_i32_361 : BitVec 32 := 1#32
  let v406 : Index := Scalar.indexCast c1_i32_361
  let c1_i32_362 : BitVec 32 := 1#32
  let v407 : Index := Scalar.indexCast c1_i32_362
  let c9_i32_363 : BitVec 32 := 9#32
  let v408 : Index := Scalar.indexCast c9_i32_363
  let c0_i32_256 : BitVec 32 := 0#32
  let c1_i32_258 : BitVec 32 := 1#32
  let arg8 : BitVec 32 := Scf.iv c0_i32_256 c1_i32_258 k0_t8
  let c16_i32_360 : BitVec 32 := 16#32
  let v405 : BitVec 32 := Scalar.muli arg8 c16_i32_360
  let v409 : Index := Scalar.indexCast v405
  ![1, 1, 9, v409.toNat]
def k0_off700 (k0_t8 : Fin k0_t8_loop.trips) : Fin 4 → Nat :=
  let c1_i32_365 : BitVec 32 := 1#32
  let v413 : Index := Scalar.indexCast c1_i32_365
  let c1_i32_366 : BitVec 32 := 1#32
  let v414 : Index := Scalar.indexCast c1_i32_366
  let c10_i32_367 : BitVec 32 := 10#32
  let v415 : Index := Scalar.indexCast c10_i32_367
  let c0_i32_256 : BitVec 32 := 0#32
  let c1_i32_258 : BitVec 32 := 1#32
  let arg8 : BitVec 32 := Scf.iv c0_i32_256 c1_i32_258 k0_t8
  let c16_i32_364 : BitVec 32 := 16#32
  let v412 : BitVec 32 := Scalar.muli arg8 c16_i32_364
  let v416 : Index := Scalar.indexCast v412
  ![1, 1, 10, v416.toNat]
def k0_off701 (k0_t8 : Fin k0_t8_loop.trips) : Fin 4 → Nat :=
  let c1_i32_369 : BitVec 32 := 1#32
  let v420 : Index := Scalar.indexCast c1_i32_369
  let c1_i32_370 : BitVec 32 := 1#32
  let v421 : Index := Scalar.indexCast c1_i32_370
  let c11_i32_371 : BitVec 32 := 11#32
  let v422 : Index := Scalar.indexCast c11_i32_371
  let c0_i32_256 : BitVec 32 := 0#32
  let c1_i32_258 : BitVec 32 := 1#32
  let arg8 : BitVec 32 := Scf.iv c0_i32_256 c1_i32_258 k0_t8
  let c16_i32_368 : BitVec 32 := 16#32
  let v419 : BitVec 32 := Scalar.muli arg8 c16_i32_368
  let v423 : Index := Scalar.indexCast v419
  ![1, 1, 11, v423.toNat]
def k0_off702 (k0_t8 : Fin k0_t8_loop.trips) : Fin 4 → Nat :=
  let c1_i32_373 : BitVec 32 := 1#32
  let v427 : Index := Scalar.indexCast c1_i32_373
  let c1_i32_374 : BitVec 32 := 1#32
  let v428 : Index := Scalar.indexCast c1_i32_374
  let c12_i32_375 : BitVec 32 := 12#32
  let v429 : Index := Scalar.indexCast c12_i32_375
  let c0_i32_256 : BitVec 32 := 0#32
  let c1_i32_258 : BitVec 32 := 1#32
  let arg8 : BitVec 32 := Scf.iv c0_i32_256 c1_i32_258 k0_t8
  let c16_i32_372 : BitVec 32 := 16#32
  let v426 : BitVec 32 := Scalar.muli arg8 c16_i32_372
  let v430 : Index := Scalar.indexCast v426
  ![1, 1, 12, v430.toNat]
def k0_off703 (k0_t8 : Fin k0_t8_loop.trips) : Fin 4 → Nat :=
  let c1_i32_377 : BitVec 32 := 1#32
  let v434 : Index := Scalar.indexCast c1_i32_377
  let c1_i32_378 : BitVec 32 := 1#32
  let v435 : Index := Scalar.indexCast c1_i32_378
  let c13_i32_379 : BitVec 32 := 13#32
  let v436 : Index := Scalar.indexCast c13_i32_379
  let c0_i32_256 : BitVec 32 := 0#32
  let c1_i32_258 : BitVec 32 := 1#32
  let arg8 : BitVec 32 := Scf.iv c0_i32_256 c1_i32_258 k0_t8
  let c16_i32_376 : BitVec 32 := 16#32
  let v433 : BitVec 32 := Scalar.muli arg8 c16_i32_376
  let v437 : Index := Scalar.indexCast v433
  ![1, 1, 13, v437.toNat]
def k0_off704 (k0_t8 : Fin k0_t8_loop.trips) : Fin 4 → Nat :=
  let c1_i32_381 : BitVec 32 := 1#32
  let v441 : Index := Scalar.indexCast c1_i32_381
  let c1_i32_382 : BitVec 32 := 1#32
  let v442 : Index := Scalar.indexCast c1_i32_382
  let c14_i32_383 : BitVec 32 := 14#32
  let v443 : Index := Scalar.indexCast c14_i32_383
  let c0_i32_256 : BitVec 32 := 0#32
  let c1_i32_258 : BitVec 32 := 1#32
  let arg8 : BitVec 32 := Scf.iv c0_i32_256 c1_i32_258 k0_t8
  let c16_i32_380 : BitVec 32 := 16#32
  let v440 : BitVec 32 := Scalar.muli arg8 c16_i32_380
  let v444 : Index := Scalar.indexCast v440
  ![1, 1, 14, v444.toNat]
def k0_off705 (k0_t8 : Fin k0_t8_loop.trips) : Fin 4 → Nat :=
  let c1_i32_385 : BitVec 32 := 1#32
  let v448 : Index := Scalar.indexCast c1_i32_385
  let c1_i32_386 : BitVec 32 := 1#32
  let v449 : Index := Scalar.indexCast c1_i32_386
  let c15_i32_387 : BitVec 32 := 15#32
  let v450 : Index := Scalar.indexCast c15_i32_387
  let c0_i32_256 : BitVec 32 := 0#32
  let c1_i32_258 : BitVec 32 := 1#32
  let arg8 : BitVec 32 := Scf.iv c0_i32_256 c1_i32_258 k0_t8
  let c16_i32_384 : BitVec 32 := 16#32
  let v447 : BitVec 32 := Scalar.muli arg8 c16_i32_384
  let v451 : Index := Scalar.indexCast v447
  ![1, 1, 15, v451.toNat]
def k0_off706 (k0_t8 : Fin k0_t8_loop.trips) : Fin 4 → Nat :=
  let c1_i32_389 : BitVec 32 := 1#32
  let v455 : Index := Scalar.indexCast c1_i32_389
  let c2_i32_390 : BitVec 32 := 2#32
  let v456 : Index := Scalar.indexCast c2_i32_390
  let c0_i32_391 : BitVec 32 := 0#32
  let v457 : Index := Scalar.indexCast c0_i32_391
  let c0_i32_256 : BitVec 32 := 0#32
  let c1_i32_258 : BitVec 32 := 1#32
  let arg8 : BitVec 32 := Scf.iv c0_i32_256 c1_i32_258 k0_t8
  let c16_i32_388 : BitVec 32 := 16#32
  let v454 : BitVec 32 := Scalar.muli arg8 c16_i32_388
  let v458 : Index := Scalar.indexCast v454
  ![1, 2, 0, v458.toNat]
def k0_off707 (k0_t8 : Fin k0_t8_loop.trips) : Fin 4 → Nat :=
  let c1_i32_393 : BitVec 32 := 1#32
  let v462 : Index := Scalar.indexCast c1_i32_393
  let c2_i32_394 : BitVec 32 := 2#32
  let v463 : Index := Scalar.indexCast c2_i32_394
  let c1_i32_395 : BitVec 32 := 1#32
  let v464 : Index := Scalar.indexCast c1_i32_395
  let c0_i32_256 : BitVec 32 := 0#32
  let c1_i32_258 : BitVec 32 := 1#32
  let arg8 : BitVec 32 := Scf.iv c0_i32_256 c1_i32_258 k0_t8
  let c16_i32_392 : BitVec 32 := 16#32
  let v461 : BitVec 32 := Scalar.muli arg8 c16_i32_392
  let v465 : Index := Scalar.indexCast v461
  ![1, 2, 1, v465.toNat]
def k0_off708 (k0_t8 : Fin k0_t8_loop.trips) : Fin 4 → Nat :=
  let c1_i32_397 : BitVec 32 := 1#32
  let v469 : Index := Scalar.indexCast c1_i32_397
  let c2_i32_398 : BitVec 32 := 2#32
  let v470 : Index := Scalar.indexCast c2_i32_398
  let c2_i32_399 : BitVec 32 := 2#32
  let v471 : Index := Scalar.indexCast c2_i32_399
  let c0_i32_256 : BitVec 32 := 0#32
  let c1_i32_258 : BitVec 32 := 1#32
  let arg8 : BitVec 32 := Scf.iv c0_i32_256 c1_i32_258 k0_t8
  let c16_i32_396 : BitVec 32 := 16#32
  let v468 : BitVec 32 := Scalar.muli arg8 c16_i32_396
  let v472 : Index := Scalar.indexCast v468
  ![1, 2, 2, v472.toNat]
def k0_off709 (k0_t8 : Fin k0_t8_loop.trips) : Fin 4 → Nat :=
  let c1_i32_401 : BitVec 32 := 1#32
  let v476 : Index := Scalar.indexCast c1_i32_401
  let c2_i32_402 : BitVec 32 := 2#32
  let v477 : Index := Scalar.indexCast c2_i32_402
  let c3_i32_403 : BitVec 32 := 3#32
  let v478 : Index := Scalar.indexCast c3_i32_403
  let c0_i32_256 : BitVec 32 := 0#32
  let c1_i32_258 : BitVec 32 := 1#32
  let arg8 : BitVec 32 := Scf.iv c0_i32_256 c1_i32_258 k0_t8
  let c16_i32_400 : BitVec 32 := 16#32
  let v475 : BitVec 32 := Scalar.muli arg8 c16_i32_400
  let v479 : Index := Scalar.indexCast v475
  ![1, 2, 3, v479.toNat]
def k0_off710 (k0_t8 : Fin k0_t8_loop.trips) : Fin 4 → Nat :=
  let c1_i32_405 : BitVec 32 := 1#32
  let v483 : Index := Scalar.indexCast c1_i32_405
  let c2_i32_406 : BitVec 32 := 2#32
  let v484 : Index := Scalar.indexCast c2_i32_406
  let c4_i32_407 : BitVec 32 := 4#32
  let v485 : Index := Scalar.indexCast c4_i32_407
  let c0_i32_256 : BitVec 32 := 0#32
  let c1_i32_258 : BitVec 32 := 1#32
  let arg8 : BitVec 32 := Scf.iv c0_i32_256 c1_i32_258 k0_t8
  let c16_i32_404 : BitVec 32 := 16#32
  let v482 : BitVec 32 := Scalar.muli arg8 c16_i32_404
  let v486 : Index := Scalar.indexCast v482
  ![1, 2, 4, v486.toNat]
def k0_off711 (k0_t8 : Fin k0_t8_loop.trips) : Fin 4 → Nat :=
  let c1_i32_409 : BitVec 32 := 1#32
  let v490 : Index := Scalar.indexCast c1_i32_409
  let c2_i32_410 : BitVec 32 := 2#32
  let v491 : Index := Scalar.indexCast c2_i32_410
  let c5_i32_411 : BitVec 32 := 5#32
  let v492 : Index := Scalar.indexCast c5_i32_411
  let c0_i32_256 : BitVec 32 := 0#32
  let c1_i32_258 : BitVec 32 := 1#32
  let arg8 : BitVec 32 := Scf.iv c0_i32_256 c1_i32_258 k0_t8
  let c16_i32_408 : BitVec 32 := 16#32
  let v489 : BitVec 32 := Scalar.muli arg8 c16_i32_408
  let v493 : Index := Scalar.indexCast v489
  ![1, 2, 5, v493.toNat]
def k0_off712 (k0_t8 : Fin k0_t8_loop.trips) : Fin 4 → Nat :=
  let c1_i32_413 : BitVec 32 := 1#32
  let v497 : Index := Scalar.indexCast c1_i32_413
  let c2_i32_414 : BitVec 32 := 2#32
  let v498 : Index := Scalar.indexCast c2_i32_414
  let c6_i32_415 : BitVec 32 := 6#32
  let v499 : Index := Scalar.indexCast c6_i32_415
  let c0_i32_256 : BitVec 32 := 0#32
  let c1_i32_258 : BitVec 32 := 1#32
  let arg8 : BitVec 32 := Scf.iv c0_i32_256 c1_i32_258 k0_t8
  let c16_i32_412 : BitVec 32 := 16#32
  let v496 : BitVec 32 := Scalar.muli arg8 c16_i32_412
  let v500 : Index := Scalar.indexCast v496
  ![1, 2, 6, v500.toNat]
def k0_off713 (k0_t8 : Fin k0_t8_loop.trips) : Fin 4 → Nat :=
  let c1_i32_417 : BitVec 32 := 1#32
  let v504 : Index := Scalar.indexCast c1_i32_417
  let c2_i32_418 : BitVec 32 := 2#32
  let v505 : Index := Scalar.indexCast c2_i32_418
  let c7_i32_419 : BitVec 32 := 7#32
  let v506 : Index := Scalar.indexCast c7_i32_419
  let c0_i32_256 : BitVec 32 := 0#32
  let c1_i32_258 : BitVec 32 := 1#32
  let arg8 : BitVec 32 := Scf.iv c0_i32_256 c1_i32_258 k0_t8
  let c16_i32_416 : BitVec 32 := 16#32
  let v503 : BitVec 32 := Scalar.muli arg8 c16_i32_416
  let v507 : Index := Scalar.indexCast v503
  ![1, 2, 7, v507.toNat]
def k0_off714 (k0_t8 : Fin k0_t8_loop.trips) : Fin 4 → Nat :=
  let c1_i32_421 : BitVec 32 := 1#32
  let v511 : Index := Scalar.indexCast c1_i32_421
  let c2_i32_422 : BitVec 32 := 2#32
  let v512 : Index := Scalar.indexCast c2_i32_422
  let c8_i32_423 : BitVec 32 := 8#32
  let v513 : Index := Scalar.indexCast c8_i32_423
  let c0_i32_256 : BitVec 32 := 0#32
  let c1_i32_258 : BitVec 32 := 1#32
  let arg8 : BitVec 32 := Scf.iv c0_i32_256 c1_i32_258 k0_t8
  let c16_i32_420 : BitVec 32 := 16#32
  let v510 : BitVec 32 := Scalar.muli arg8 c16_i32_420
  let v514 : Index := Scalar.indexCast v510
  ![1, 2, 8, v514.toNat]
def k0_off715 (k0_t8 : Fin k0_t8_loop.trips) : Fin 4 → Nat :=
  let c1_i32_425 : BitVec 32 := 1#32
  let v518 : Index := Scalar.indexCast c1_i32_425
  let c2_i32_426 : BitVec 32 := 2#32
  let v519 : Index := Scalar.indexCast c2_i32_426
  let c9_i32_427 : BitVec 32 := 9#32
  let v520 : Index := Scalar.indexCast c9_i32_427
  let c0_i32_256 : BitVec 32 := 0#32
  let c1_i32_258 : BitVec 32 := 1#32
  let arg8 : BitVec 32 := Scf.iv c0_i32_256 c1_i32_258 k0_t8
  let c16_i32_424 : BitVec 32 := 16#32
  let v517 : BitVec 32 := Scalar.muli arg8 c16_i32_424
  let v521 : Index := Scalar.indexCast v517
  ![1, 2, 9, v521.toNat]
def k0_off716 (k0_t8 : Fin k0_t8_loop.trips) : Fin 4 → Nat :=
  let c1_i32_429 : BitVec 32 := 1#32
  let v525 : Index := Scalar.indexCast c1_i32_429
  let c2_i32_430 : BitVec 32 := 2#32
  let v526 : Index := Scalar.indexCast c2_i32_430
  let c10_i32_431 : BitVec 32 := 10#32
  let v527 : Index := Scalar.indexCast c10_i32_431
  let c0_i32_256 : BitVec 32 := 0#32
  let c1_i32_258 : BitVec 32 := 1#32
  let arg8 : BitVec 32 := Scf.iv c0_i32_256 c1_i32_258 k0_t8
  let c16_i32_428 : BitVec 32 := 16#32
  let v524 : BitVec 32 := Scalar.muli arg8 c16_i32_428
  let v528 : Index := Scalar.indexCast v524
  ![1, 2, 10, v528.toNat]
def k0_off717 (k0_t8 : Fin k0_t8_loop.trips) : Fin 4 → Nat :=
  let c1_i32_433 : BitVec 32 := 1#32
  let v532 : Index := Scalar.indexCast c1_i32_433
  let c2_i32_434 : BitVec 32 := 2#32
  let v533 : Index := Scalar.indexCast c2_i32_434
  let c11_i32_435 : BitVec 32 := 11#32
  let v534 : Index := Scalar.indexCast c11_i32_435
  let c0_i32_256 : BitVec 32 := 0#32
  let c1_i32_258 : BitVec 32 := 1#32
  let arg8 : BitVec 32 := Scf.iv c0_i32_256 c1_i32_258 k0_t8
  let c16_i32_432 : BitVec 32 := 16#32
  let v531 : BitVec 32 := Scalar.muli arg8 c16_i32_432
  let v535 : Index := Scalar.indexCast v531
  ![1, 2, 11, v535.toNat]
def k0_off718 (k0_t8 : Fin k0_t8_loop.trips) : Fin 4 → Nat :=
  let c1_i32_437 : BitVec 32 := 1#32
  let v539 : Index := Scalar.indexCast c1_i32_437
  let c2_i32_438 : BitVec 32 := 2#32
  let v540 : Index := Scalar.indexCast c2_i32_438
  let c12_i32_439 : BitVec 32 := 12#32
  let v541 : Index := Scalar.indexCast c12_i32_439
  let c0_i32_256 : BitVec 32 := 0#32
  let c1_i32_258 : BitVec 32 := 1#32
  let arg8 : BitVec 32 := Scf.iv c0_i32_256 c1_i32_258 k0_t8
  let c16_i32_436 : BitVec 32 := 16#32
  let v538 : BitVec 32 := Scalar.muli arg8 c16_i32_436
  let v542 : Index := Scalar.indexCast v538
  ![1, 2, 12, v542.toNat]
def k0_off719 (k0_t8 : Fin k0_t8_loop.trips) : Fin 4 → Nat :=
  let c1_i32_441 : BitVec 32 := 1#32
  let v546 : Index := Scalar.indexCast c1_i32_441
  let c2_i32_442 : BitVec 32 := 2#32
  let v547 : Index := Scalar.indexCast c2_i32_442
  let c13_i32_443 : BitVec 32 := 13#32
  let v548 : Index := Scalar.indexCast c13_i32_443
  let c0_i32_256 : BitVec 32 := 0#32
  let c1_i32_258 : BitVec 32 := 1#32
  let arg8 : BitVec 32 := Scf.iv c0_i32_256 c1_i32_258 k0_t8
  let c16_i32_440 : BitVec 32 := 16#32
  let v545 : BitVec 32 := Scalar.muli arg8 c16_i32_440
  let v549 : Index := Scalar.indexCast v545
  ![1, 2, 13, v549.toNat]
def k0_off720 (k0_t8 : Fin k0_t8_loop.trips) : Fin 4 → Nat :=
  let c1_i32_445 : BitVec 32 := 1#32
  let v553 : Index := Scalar.indexCast c1_i32_445
  let c2_i32_446 : BitVec 32 := 2#32
  let v554 : Index := Scalar.indexCast c2_i32_446
  let c14_i32_447 : BitVec 32 := 14#32
  let v555 : Index := Scalar.indexCast c14_i32_447
  let c0_i32_256 : BitVec 32 := 0#32
  let c1_i32_258 : BitVec 32 := 1#32
  let arg8 : BitVec 32 := Scf.iv c0_i32_256 c1_i32_258 k0_t8
  let c16_i32_444 : BitVec 32 := 16#32
  let v552 : BitVec 32 := Scalar.muli arg8 c16_i32_444
  let v556 : Index := Scalar.indexCast v552
  ![1, 2, 14, v556.toNat]
def k0_off721 (k0_t8 : Fin k0_t8_loop.trips) : Fin 4 → Nat :=
  let c1_i32_449 : BitVec 32 := 1#32
  let v560 : Index := Scalar.indexCast c1_i32_449
  let c2_i32_450 : BitVec 32 := 2#32
  let v561 : Index := Scalar.indexCast c2_i32_450
  let c15_i32_451 : BitVec 32 := 15#32
  let v562 : Index := Scalar.indexCast c15_i32_451
  let c0_i32_256 : BitVec 32 := 0#32
  let c1_i32_258 : BitVec 32 := 1#32
  let arg8 : BitVec 32 := Scf.iv c0_i32_256 c1_i32_258 k0_t8
  let c16_i32_448 : BitVec 32 := 16#32
  let v559 : BitVec 32 := Scalar.muli arg8 c16_i32_448
  let v563 : Index := Scalar.indexCast v559
  ![1, 2, 15, v563.toNat]
def k0_off722 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v566 : Index := Scalar.indexCast arg8
  let c7_i32_452 : BitVec 32 := 7#32
  let v567 : Index := Scalar.indexCast c7_i32_452
  let c0 : Index := 0#32
  ![v566.toNat, 7, 0]
def k0_off723 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v571 : Index := Scalar.indexCast arg8
  let c7_i32_453 : BitVec 32 := 7#32
  let v572 : Index := Scalar.indexCast c7_i32_453
  let c16 : Index := 16#32
  ![v571.toNat, 7, 16]
def k0_off724 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v576 : Index := Scalar.indexCast arg8
  let c7_i32_454 : BitVec 32 := 7#32
  let v577 : Index := Scalar.indexCast c7_i32_454
  let c32 : Index := 32#32
  ![v576.toNat, 7, 32]
def k0_off725 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v581 : Index := Scalar.indexCast arg8
  let c7_i32_455 : BitVec 32 := 7#32
  let v582 : Index := Scalar.indexCast c7_i32_455
  let c48 : Index := 48#32
  ![v581.toNat, 7, 48]
def k0_off726 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v586 : Index := Scalar.indexCast arg8
  let c7_i32_456 : BitVec 32 := 7#32
  let v587 : Index := Scalar.indexCast c7_i32_456
  let c64 : Index := 64#32
  ![v586.toNat, 7, 64]
def k0_off727 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v591 : Index := Scalar.indexCast arg8
  let c7_i32_457 : BitVec 32 := 7#32
  let v592 : Index := Scalar.indexCast c7_i32_457
  let c80 : Index := 80#32
  ![v591.toNat, 7, 80]
def k0_off728 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v596 : Index := Scalar.indexCast arg8
  let c7_i32_458 : BitVec 32 := 7#32
  let v597 : Index := Scalar.indexCast c7_i32_458
  let c96 : Index := 96#32
  ![v596.toNat, 7, 96]
def k0_off729 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v601 : Index := Scalar.indexCast arg8
  let c7_i32_459 : BitVec 32 := 7#32
  let v602 : Index := Scalar.indexCast c7_i32_459
  let c112 : Index := 112#32
  ![v601.toNat, 7, 112]
def k0_off730 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v606 : Index := Scalar.indexCast arg8
  let c7_i32_460 : BitVec 32 := 7#32
  let v607 : Index := Scalar.indexCast c7_i32_460
  let c128 : Index := 128#32
  ![v606.toNat, 7, 128]
def k0_off731 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v611 : Index := Scalar.indexCast arg8
  let c7_i32_461 : BitVec 32 := 7#32
  let v612 : Index := Scalar.indexCast c7_i32_461
  let c144 : Index := 144#32
  ![v611.toNat, 7, 144]
def k0_off732 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v616 : Index := Scalar.indexCast arg8
  let c7_i32_462 : BitVec 32 := 7#32
  let v617 : Index := Scalar.indexCast c7_i32_462
  let c160 : Index := 160#32
  ![v616.toNat, 7, 160]
def k0_off733 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v621 : Index := Scalar.indexCast arg8
  let c7_i32_463 : BitVec 32 := 7#32
  let v622 : Index := Scalar.indexCast c7_i32_463
  let c176 : Index := 176#32
  ![v621.toNat, 7, 176]
def k0_off734 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v626 : Index := Scalar.indexCast arg8
  let c7_i32_464 : BitVec 32 := 7#32
  let v627 : Index := Scalar.indexCast c7_i32_464
  let c192 : Index := 192#32
  ![v626.toNat, 7, 192]
def k0_off735 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v631 : Index := Scalar.indexCast arg8
  let c7_i32_465 : BitVec 32 := 7#32
  let v632 : Index := Scalar.indexCast c7_i32_465
  let c208 : Index := 208#32
  ![v631.toNat, 7, 208]
def k0_off736 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v636 : Index := Scalar.indexCast arg8
  let c7_i32_466 : BitVec 32 := 7#32
  let v637 : Index := Scalar.indexCast c7_i32_466
  let c224 : Index := 224#32
  ![v636.toNat, 7, 224]
def k0_off737 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v641 : Index := Scalar.indexCast arg8
  let c7_i32_467 : BitVec 32 := 7#32
  let v642 : Index := Scalar.indexCast c7_i32_467
  let c240 : Index := 240#32
  ![v641.toNat, 7, 240]
def k0_off738 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v646 : Index := Scalar.indexCast arg8
  let c7_i32_468 : BitVec 32 := 7#32
  let v647 : Index := Scalar.indexCast c7_i32_468
  let c256 : Index := 256#32
  ![v646.toNat, 7, 256]
def k0_off739 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v651 : Index := Scalar.indexCast arg8
  let c7_i32_469 : BitVec 32 := 7#32
  let v652 : Index := Scalar.indexCast c7_i32_469
  let c272 : Index := 272#32
  ![v651.toNat, 7, 272]
def k0_off740 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v656 : Index := Scalar.indexCast arg8
  let c7_i32_470 : BitVec 32 := 7#32
  let v657 : Index := Scalar.indexCast c7_i32_470
  let c288 : Index := 288#32
  ![v656.toNat, 7, 288]
def k0_off741 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v661 : Index := Scalar.indexCast arg8
  let c7_i32_471 : BitVec 32 := 7#32
  let v662 : Index := Scalar.indexCast c7_i32_471
  let c304 : Index := 304#32
  ![v661.toNat, 7, 304]
def k0_off742 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v666 : Index := Scalar.indexCast arg8
  let c7_i32_472 : BitVec 32 := 7#32
  let v667 : Index := Scalar.indexCast c7_i32_472
  let c320 : Index := 320#32
  ![v666.toNat, 7, 320]
def k0_off743 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v671 : Index := Scalar.indexCast arg8
  let c7_i32_473 : BitVec 32 := 7#32
  let v672 : Index := Scalar.indexCast c7_i32_473
  let c336 : Index := 336#32
  ![v671.toNat, 7, 336]
def k0_off744 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v676 : Index := Scalar.indexCast arg8
  let c7_i32_474 : BitVec 32 := 7#32
  let v677 : Index := Scalar.indexCast c7_i32_474
  let c352 : Index := 352#32
  ![v676.toNat, 7, 352]
def k0_off745 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v681 : Index := Scalar.indexCast arg8
  let c7_i32_475 : BitVec 32 := 7#32
  let v682 : Index := Scalar.indexCast c7_i32_475
  let c368 : Index := 368#32
  ![v681.toNat, 7, 368]
def k0_off746 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v686 : Index := Scalar.indexCast arg8
  let c7_i32_476 : BitVec 32 := 7#32
  let v687 : Index := Scalar.indexCast c7_i32_476
  let c384 : Index := 384#32
  ![v686.toNat, 7, 384]
def k0_off747 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v691 : Index := Scalar.indexCast arg8
  let c7_i32_477 : BitVec 32 := 7#32
  let v692 : Index := Scalar.indexCast c7_i32_477
  let c400 : Index := 400#32
  ![v691.toNat, 7, 400]
def k0_off748 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v696 : Index := Scalar.indexCast arg8
  let c7_i32_478 : BitVec 32 := 7#32
  let v697 : Index := Scalar.indexCast c7_i32_478
  let c416 : Index := 416#32
  ![v696.toNat, 7, 416]
def k0_off749 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v701 : Index := Scalar.indexCast arg8
  let c7_i32_479 : BitVec 32 := 7#32
  let v702 : Index := Scalar.indexCast c7_i32_479
  let c432 : Index := 432#32
  ![v701.toNat, 7, 432]
def k0_off750 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v706 : Index := Scalar.indexCast arg8
  let c7_i32_480 : BitVec 32 := 7#32
  let v707 : Index := Scalar.indexCast c7_i32_480
  let c448 : Index := 448#32
  ![v706.toNat, 7, 448]
def k0_off751 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v711 : Index := Scalar.indexCast arg8
  let c7_i32_481 : BitVec 32 := 7#32
  let v712 : Index := Scalar.indexCast c7_i32_481
  let c464 : Index := 464#32
  ![v711.toNat, 7, 464]
def k0_off752 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v716 : Index := Scalar.indexCast arg8
  let c7_i32_482 : BitVec 32 := 7#32
  let v717 : Index := Scalar.indexCast c7_i32_482
  let c480 : Index := 480#32
  ![v716.toNat, 7, 480]
def k0_off753 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v721 : Index := Scalar.indexCast arg8
  let c7_i32_483 : BitVec 32 := 7#32
  let v722 : Index := Scalar.indexCast c7_i32_483
  let c496 : Index := 496#32
  ![v721.toNat, 7, 496]
def k0_off754 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v726 : Index := Scalar.indexCast arg8
  let c7_i32_484 : BitVec 32 := 7#32
  let v727 : Index := Scalar.indexCast c7_i32_484
  let c512 : Index := 512#32
  ![v726.toNat, 7, 512]
def k0_off755 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v731 : Index := Scalar.indexCast arg8
  let c7_i32_485 : BitVec 32 := 7#32
  let v732 : Index := Scalar.indexCast c7_i32_485
  let c528 : Index := 528#32
  ![v731.toNat, 7, 528]
def k0_off756 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v736 : Index := Scalar.indexCast arg8
  let c7_i32_486 : BitVec 32 := 7#32
  let v737 : Index := Scalar.indexCast c7_i32_486
  let c544 : Index := 544#32
  ![v736.toNat, 7, 544]
def k0_off757 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v741 : Index := Scalar.indexCast arg8
  let c7_i32_487 : BitVec 32 := 7#32
  let v742 : Index := Scalar.indexCast c7_i32_487
  let c560 : Index := 560#32
  ![v741.toNat, 7, 560]
def k0_off758 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v746 : Index := Scalar.indexCast arg8
  let c7_i32_488 : BitVec 32 := 7#32
  let v747 : Index := Scalar.indexCast c7_i32_488
  let c576 : Index := 576#32
  ![v746.toNat, 7, 576]
def k0_off759 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v751 : Index := Scalar.indexCast arg8
  let c7_i32_489 : BitVec 32 := 7#32
  let v752 : Index := Scalar.indexCast c7_i32_489
  let c592 : Index := 592#32
  ![v751.toNat, 7, 592]
def k0_off760 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v756 : Index := Scalar.indexCast arg8
  let c7_i32_490 : BitVec 32 := 7#32
  let v757 : Index := Scalar.indexCast c7_i32_490
  let c608 : Index := 608#32
  ![v756.toNat, 7, 608]
def k0_off761 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v761 : Index := Scalar.indexCast arg8
  let c7_i32_491 : BitVec 32 := 7#32
  let v762 : Index := Scalar.indexCast c7_i32_491
  let c624 : Index := 624#32
  ![v761.toNat, 7, 624]
def k0_off762 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v766 : Index := Scalar.indexCast arg8
  let c7_i32_492 : BitVec 32 := 7#32
  let v767 : Index := Scalar.indexCast c7_i32_492
  let c640 : Index := 640#32
  ![v766.toNat, 7, 640]
def k0_off763 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v771 : Index := Scalar.indexCast arg8
  let c7_i32_493 : BitVec 32 := 7#32
  let v772 : Index := Scalar.indexCast c7_i32_493
  let c656 : Index := 656#32
  ![v771.toNat, 7, 656]
def k0_off764 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v776 : Index := Scalar.indexCast arg8
  let c7_i32_494 : BitVec 32 := 7#32
  let v777 : Index := Scalar.indexCast c7_i32_494
  let c672 : Index := 672#32
  ![v776.toNat, 7, 672]
def k0_off765 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v781 : Index := Scalar.indexCast arg8
  let c7_i32_495 : BitVec 32 := 7#32
  let v782 : Index := Scalar.indexCast c7_i32_495
  let c688 : Index := 688#32
  ![v781.toNat, 7, 688]
def k0_off766 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v786 : Index := Scalar.indexCast arg8
  let c7_i32_496 : BitVec 32 := 7#32
  let v787 : Index := Scalar.indexCast c7_i32_496
  let c704 : Index := 704#32
  ![v786.toNat, 7, 704]
def k0_off767 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v791 : Index := Scalar.indexCast arg8
  let c7_i32_497 : BitVec 32 := 7#32
  let v792 : Index := Scalar.indexCast c7_i32_497
  let c720 : Index := 720#32
  ![v791.toNat, 7, 720]
def k0_off768 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v796 : Index := Scalar.indexCast arg8
  let c7_i32_498 : BitVec 32 := 7#32
  let v797 : Index := Scalar.indexCast c7_i32_498
  let c736 : Index := 736#32
  ![v796.toNat, 7, 736]
def k0_off769 (k0_t8 : Fin k0_t8_loop.trips) : Fin 3 → Nat :=
  let c0_i32_256 : BitVec 32 := 0#32
  let c1_i32_258 : BitVec 32 := 1#32
  let arg8 : BitVec 32 := Scf.iv c0_i32_256 c1_i32_258 k0_t8
  let v801 : Index := Scalar.indexCast arg8
  let c7_i32_499 : BitVec 32 := 7#32
  let v802 : Index := Scalar.indexCast c7_i32_499
  let c752 : Index := 752#32
  ![v801.toNat, 7, 752]
def k0_off770 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c14_i32 : BitVec 32 := 14#32
  let c0_i32_0 : BitVec 32 := 0#32
  let v5 : BitVec 1 := Scalar.cmpi .eq c14_i32 c0_i32_0
  let c1_i32 : BitVec 32 := 1#32
  let v6 : BitVec 32 := Scalar.select v5 c1_i32 c14_i32
  let v7 : BitVec 32 := Scalar.remsi v1 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let c14_i32_260 : BitVec 32 := 14#32
  let v224 : BitVec 32 := Scalar.muli v14 c14_i32_260
  let c8_i32_261 : BitVec 32 := 8#32
  let c0_i32_5 : BitVec 32 := 0#32
  let v16 : BitVec 1 := Scalar.cmpi .sgt v1 c0_i32_5
  let v17 : BitVec 32 := Scalar.extui v16
  let c0_i32_6 : BitVec 32 := 0#32
  let v18 : BitVec 1 := Scalar.cmpi .slt v1 c0_i32_6
  let v19 : BitVec 32 := Scalar.extui v18
  let v20 : BitVec 32 := Scalar.subi v17 v19
  let c14_i32_4 : BitVec 32 := 14#32
  let c0_i32_7 : BitVec 32 := 0#32
  let v21 : BitVec 1 := Scalar.cmpi .sgt c14_i32_4 c0_i32_7
  let v22 : BitVec 32 := Scalar.extui v21
  let c0_i32_8 : BitVec 32 := 0#32
  let v23 : BitVec 1 := Scalar.cmpi .slt c14_i32_4 c0_i32_8
  let v24 : BitVec 32 := Scalar.extui v23
  let v25 : BitVec 32 := Scalar.subi v22 v24
  let v26 : BitVec 1 := Scalar.cmpi .ne v20 v25
  let v27 : BitVec 32 := Scalar.remsi v1 c14_i32_4
  let c0_i32_9 : BitVec 32 := 0#32
  let v28 : BitVec 1 := Scalar.cmpi .ne v27 c0_i32_9
  let v29 : BitVec 1 := Scalar.andi v26 v28
  let v15 : BitVec 32 := Scalar.divsi v1 c14_i32_4
  let c1_i32_10 : BitVec 32 := 1#32
  let v30 : BitVec 32 := Scalar.subi v15 c1_i32_10
  let v31 : BitVec 32 := Scalar.select v29 v30 v15
  let v225 : BitVec 32 := Scalar.muli c8_i32_261 v31
  let c0_i32_262 : BitVec 32 := 0#32
  ![v224.toNat, v225.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1568x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1568x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x3x224x224 : Shape := ⟨4, ![16, 3, 224, 224]⟩
abbrev S768x1200 : Shape := ⟨2, ![768, 1200]⟩
abbrev S768 : Shape := ⟨1, ![768]⟩
abbrev S224 : Shape := ⟨1, ![224]⟩
abbrev S_ : Shape := ⟨0, ![]⟩
abbrev S224x1 : Shape := ⟨2, ![224, 1]⟩
abbrev S1x224 : Shape := ⟨2, ![1, 224]⟩
abbrev S224x224 : Shape := ⟨2, ![224, 224]⟩
abbrev S50176 : Shape := ⟨1, ![50176]⟩
abbrev S50176x1 : Shape := ⟨2, ![50176, 1]⟩
abbrev S1x50176 : Shape := ⟨2, ![1, 50176]⟩
abbrev S50176x50176 : Shape := ⟨2, ![50176, 50176]⟩
abbrev S3 : Shape := ⟨1, ![3]⟩
abbrev S3x1 : Shape := ⟨2, ![3, 1]⟩
abbrev S3x50176 : Shape := ⟨2, ![3, 50176]⟩
abbrev S16x3x50176 : Shape := ⟨3, ![16, 3, 50176]⟩
abbrev S235200 : Shape := ⟨1, ![235200]⟩
abbrev S150528 : Shape := ⟨1, ![150528]⟩
abbrev S16x150528 : Shape := ⟨2, ![16, 150528]⟩
abbrev S150528x1 : Shape := ⟨2, ![150528, 1]⟩
abbrev S16x235200 : Shape := ⟨2, ![16, 235200]⟩
abbrev S16x196x1200 : Shape := ⟨3, ![16, 196, 1200]⟩
abbrev S1200x768 : Shape := ⟨2, ![1200, 768]⟩
abbrev S16x196x768 : Shape := ⟨3, ![16, 196, 768]⟩
abbrev S1x1x768 : Shape := ⟨3, ![1, 1, 768]⟩

abbrev nBuf : Space → Nat
  | .hbm => 132
  | .vmem => 0
  | .smem => 0
  | _ => 0

abbrev hbmTy0_0 (i : Nat) : BufTy := match i % 128 with
  | 0 => ⟨S16x3x224x224, .f32⟩
  | 1 => ⟨S768x1200, .f32⟩
  | 2 => ⟨S768, .f32⟩
  | 3 => ⟨S224, .i32⟩
  | 4 => ⟨S_, .i32⟩
  | 5 => ⟨S224, .i32⟩
  | 6 => ⟨S224, .i32⟩
  | 7 => ⟨S_, .i32⟩
  | 8 => ⟨S_, .i32⟩
  | 9 => ⟨S224, .i32⟩
  | 10 => ⟨S224, .i32⟩
  | 11 => ⟨S224, .i32⟩
  | 12 => ⟨S_, .i32⟩
  | 13 => ⟨S224, .i32⟩
  | 14 => ⟨S224, .i1⟩
  | 15 => ⟨S224, .i32⟩
  | 16 => ⟨S224, .i32⟩
  | 17 => ⟨S_, .i32⟩
  | 18 => ⟨S224, .i32⟩
  | 19 => ⟨S224, .i1⟩
  | 20 => ⟨S224, .i1⟩
  | 21 => ⟨S_, .i32⟩
  | 22 => ⟨S224, .i32⟩
  | 23 => ⟨S224, .i32⟩
  | 24 => ⟨S224, .i32⟩
  | 25 => ⟨S224, .i32⟩
  | 26 => ⟨S_, .i32⟩
  | 27 => ⟨S224, .i32⟩
  | 28 => ⟨S224, .i32⟩
  | 29 => ⟨S_, .i32⟩
  | 30 => ⟨S_, .i32⟩
  | 31 => ⟨S224, .i32⟩
  | 32 => ⟨S224, .i32⟩
  | 33 => ⟨S224, .i32⟩
  | 34 => ⟨S_, .i32⟩
  | 35 => ⟨S224, .i32⟩
  | 36 => ⟨S224, .i1⟩
  | 37 => ⟨S224, .i32⟩
  | 38 => ⟨S224, .i32⟩
  | 39 => ⟨S_, .i32⟩
  | 40 => ⟨S224, .i32⟩
  | 41 => ⟨S224, .i1⟩
  | 42 => ⟨S224, .i1⟩
  | 43 => ⟨S_, .i32⟩
  | 44 => ⟨S224, .i32⟩
  | 45 => ⟨S224, .i32⟩
  | 46 => ⟨S224, .i32⟩
  | 47 => ⟨S224x1, .i32⟩
  | 48 => ⟨S_, .i32⟩
  | 49 => ⟨S224x1, .i32⟩
  | 50 => ⟨S224x1, .i32⟩
  | 51 => ⟨S1x224, .i32⟩
  | 52 => ⟨S224x224, .i32⟩
  | 53 => ⟨S224x224, .i32⟩
  | 54 => ⟨S224x224, .i32⟩
  | 55 => ⟨S50176, .i32⟩
  | 56 => ⟨S50176, .i32⟩
  | 57 => ⟨S50176, .i32⟩
  | 58 => ⟨S50176, .i32⟩
  | 59 => ⟨S_, .i32⟩
  | 60 => ⟨S50176, .i32⟩
  | 61 => ⟨S50176, .i1⟩
  | 62 => ⟨S_, .i32⟩
  | 63 => ⟨S50176, .i32⟩
  | 64 => ⟨S50176, .i32⟩
  | 65 => ⟨S50176, .i32⟩
  | 66 => ⟨S50176x1, .i32⟩
  | 67 => ⟨S50176, .i32⟩
  | 68 => ⟨S1x50176, .i32⟩
  | 69 => ⟨S50176x1, .i32⟩
  | 70 => ⟨S50176x50176, .i32⟩
  | 71 => ⟨S50176x50176, .i32⟩
  | 72 => ⟨S50176x50176, .i1⟩
  | 73 => ⟨S50176x50176, .i32⟩
  | 74 => ⟨S_, .i32⟩
  | 75 => ⟨S50176, .i32⟩
  | 76 => ⟨S50176, .i32⟩
  | 77 => ⟨S50176, .i32⟩
  | 78 => ⟨S_, .i32⟩
  | 79 => ⟨S50176, .i32⟩
  | 80 => ⟨S50176, .i1⟩
  | 81 => ⟨S1x50176, .i32⟩
  | 82 => ⟨S_, .i32⟩
  | 83 => ⟨S1x50176, .i32⟩
  | 84 => ⟨S1x50176, .i32⟩
  | 85 => ⟨S3, .i32⟩
  | 86 => ⟨S3x1, .i32⟩
  | 87 => ⟨S_, .i32⟩
  | 88 => ⟨S3x1, .i32⟩
  | 89 => ⟨S3x1, .i32⟩
  | 90 => ⟨S3x50176, .i32⟩
  | 91 => ⟨S3x50176, .i32⟩
  | 92 => ⟨S3x50176, .i32⟩
  | 93 => ⟨S1x50176, .i32⟩
  | 94 => ⟨S3x50176, .i32⟩
  | 95 => ⟨S3x50176, .i32⟩
  | 96 => ⟨S1x50176, .i1⟩
  | 97 => ⟨S_, .i32⟩
  | 98 => ⟨S_, .i32⟩
  | 99 => ⟨S3x50176, .i1⟩
  | 100 => ⟨S3x50176, .i32⟩
  | 101 => ⟨S3x50176, .i32⟩
  | 102 => ⟨S16x3x50176, .f32⟩
  | 103 => ⟨S_, .i32⟩
  | 104 => ⟨S50176, .i32⟩
  | 105 => ⟨S50176, .i1⟩
  | 106 => ⟨S_, .i32⟩
  | 107 => ⟨S50176, .i32⟩
  | 108 => ⟨S50176, .i32⟩
  | 109 => ⟨S50176, .i32⟩
  | 110 => ⟨S50176x1, .i32⟩
  | 111 => ⟨S16x3x50176, .f32⟩
  | 112 => ⟨S_, .f32⟩
  | 113 => ⟨S235200, .f32⟩
  | 114 => ⟨S150528, .i32⟩
  | 115 => ⟨S16x150528, .f32⟩
  | 116 => ⟨S_, .i32⟩
  | 117 => ⟨S150528, .i32⟩
  | 118 => ⟨S150528, .i1⟩
  | 119 => ⟨S_, .i32⟩
  | 120 => ⟨S150528, .i32⟩
  | 121 => ⟨S150528, .i32⟩
  | 122 => ⟨S150528, .i32⟩
  | 123 => ⟨S150528x1, .i32⟩
  | 124 => ⟨S16x235200, .f32⟩
  | 125 => ⟨S16x235200, .f32⟩
  | 126 => ⟨S16x196x1200, .f32⟩
  | 127 => ⟨S1200x768, .f32⟩
  | _ => ⟨S16x3x224x224, .f32⟩

abbrev hbmTy0_1 (i : Nat) : BufTy := match i % 128 with
  | 0 => ⟨S16x196x768, .f32⟩
  | 1 => ⟨S1x1x768, .f32⟩
  | 2 => ⟨S16x196x768, .f32⟩
  | 3 => ⟨S16x196x768, .f32⟩
  | _ => ⟨S16x3x224x224, .f32⟩

abbrev hbmTy (i : Nat) : BufTy := match i / 128 with
  | 0 => hbmTy0_0 i
  | 1 => hbmTy0_1 i
  | _ => ⟨S16x3x224x224, .f32⟩

abbrev bufTy : (tb : Table) → Fin (tcTables nBuf tb) → BufTy
  | .hbm, ⟨i, _⟩ => hbmTy i
  | _, _ => ⟨S16x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_c_1 : Ref sig .tc := ⟨.hbm, 26, rfl⟩
abbrev main_v5 : Ref sig .tc := ⟨.hbm, 27, rfl⟩
abbrev main_v6 : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_c_3 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_call2_v0 : Ref sig .tc := ⟨.hbm, 56, rfl⟩
abbrev main_call2_v1_0 : Ref sig .tc := ⟨.hbm, 57, rfl⟩
abbrev main_v16 : Ref sig .tc := ⟨.hbm, 58, rfl⟩
abbrev main_c_4 : Ref sig .tc := ⟨.hbm, 59, rfl⟩
abbrev main_v17 : Ref sig .tc := ⟨.hbm, 60, rfl⟩
abbrev main_v18 : Ref sig .tc := ⟨.hbm, 61, rfl⟩
abbrev main_c_5 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_6 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_c_7 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_c_8 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_c_9 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_c_10 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v49 : Ref sig .tc := ⟨.hbm, 101, rfl⟩
abbrev main_v50 : Ref sig .tc := ⟨.hbm, 102, rfl⟩
abbrev main_c_11 : Ref sig .tc := ⟨.hbm, 103, rfl⟩
abbrev main_v51 : Ref sig .tc := ⟨.hbm, 104, rfl⟩
abbrev main_v52 : Ref sig .tc := ⟨.hbm, 105, rfl⟩
abbrev main_c_12 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_cst : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_c_13 : Ref sig .tc := ⟨.hbm, 116, rfl⟩
abbrev main_v61 : Ref sig .tc := ⟨.hbm, 117, rfl⟩
abbrev main_v62 : Ref sig .tc := ⟨.hbm, 118, rfl⟩
abbrev main_c_14 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩

abbrev nD : Nat := 1
abbrev τ : Topo := Topo.v7x

variable {F : FTy → Type} [FloatOps F]
-- ==== Proof.Retile.lean ====
/-
  The eight retiling loops of the gather kernel, as ONE program. Each loop body reads the forty-eight rows of sixteen
  floats that one column block has in a slot of the band buffer, then stores them one after another into a row of the
  tile buffer. `retile slot bl` is that body with the slot and the image number as parameters; the printed bodies are
  instances of it by unfolding.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic Idealize.SL.Sem

variable {F : FTy → Type} [FloatOps F]

/-! ## Offsets -/

/-- The loop all eight loops are: sixteen-wide column blocks 0 to 13. -/
@[reducible] def L14 : Scf.Loop 32 := ⟨0#32, Scalar.addi 0#32 14#32, 1#32⟩

/-- Where row `j` (channel `j / 16`, line `j % 16`) of column block `t` lies in the band buffer. -/
def bandOff (slot j : Nat) (t : Fin L14.trips) : Fin 4 → Nat :=
  ![slot, j / 16, j % 16, (Scalar.indexCast (Scalar.muli (Scf.iv 0#32 1#32 t) 16#32)).toNat]

/-- Where row `j` of column block `t` of image `bl` lies in the tile buffer. -/
def tileOff (bl j : Nat) (t : Fin L14.trips) : Fin 3 → Nat :=
  ![(Scalar.indexCast (Scf.iv 0#32 1#32 t)).toNat, bl, 16 * j]

theorem band_col : ∀ t : Fin L14.trips, (Scalar.indexCast (Scalar.muli (Scf.iv 0#32 1#32 t) 16#32)).toNat = 16 * t.val := by
  decide +kernel

theorem tile_row : ∀ t : Fin L14.trips, (Scalar.indexCast (Scf.iv 0#32 1#32 t)).toNat = t.val := by
  decide +kernel

theorem trips_eq : L14.trips = 14 := by decide +kernel

theorem bandOff_eq (slot j : Nat) (t : Fin L14.trips) : bandOff slot j t = ![slot, j / 16, j % 16, 16 * t.val] := by
  rw [bandOff, band_col]

theorem tileOff_eq (bl j : Nat) (t : Fin L14.trips) : tileOff bl j t = ![t.val, bl, 16 * j] := by
  rw [tileOff, tile_row]

theorem bandOff_inb (slot : Fin 3) (j : Fin 48) (t : Fin L14.trips) :
    ∀ a, bandOff slot.val j.val t a + S1x1x1x16.size a ≤ S3x3x16x224.size a := by
  have ht : t.val < 14 := trips_eq ▸ t.isLt
  have hs := slot.isLt
  have hj := j.isLt
  rw [bandOff_eq]
  intro a
  fin_cases a <;> simp [Shape.ofList] <;> omega

theorem tileOff_inb (bl : Fin 8) (j : Fin 48) (t : Fin L14.trips) :
    ∀ a, tileOff bl.val j.val t a + S1x1x16.size a ≤ S14x8x768.size a := by
  have ht : t.val < 14 := trips_eq ▸ t.isLt
  have hs := bl.isLt
  have hj := j.isLt
  rw [tileOff_eq]
  intro a
  fin_cases a <;> simp [Shape.ofList] <;> omega

/-! ## The body -/

section Body

variable (i : grid0.Coords) (a4 : Memref sig .scVector .vmem S3x3x16x224 .f32) (a5 : Memref sig .scVector .vmem S14x8x768 .f32)

/-- A program of the kernel's vector subcore `i`. -/
abbrev PV (F : FTy → Type) (i : grid0.Coords) : Type 1 :=
  Prog (TpuEff nD τ sig (Elt F) Λ₀ (.scVector ((i 0).castLE hcore0) ((i 1).castLE hsub0))) Unit

/-- Read the listed rows of a column block off the band buffer and go on with them, in order. -/
def readRows (slot : Fin 3) (t : Fin L14.trips) : List (Fin 48) → (List (Fin 48 × FVec F S16 .f32) → PV F i) → PV F i
  | [], k => k []
  | j :: js, k => do
    let v : Vec F S1x1x1x16 .f32 ← Prog.lift (.load a4 (Rect.unit (s := S3x3x16x224) (bandOff slot.val j.val t) S1x1x1x16.size
      (bandOff_inb slot j t)).toLoadRect (View.loadsAt_vmem h_S1x1x1x16))
    readRows slot t js fun vs => k ((j, shapeCast S16 v shapeCasts_S1x1x1x16_S16) :: vs)

/-- Store the listed rows into the tile buffer, each read before it is overwritten. -/
def writeRows (bl : Fin 8) (t : Fin L14.trips) : List (Fin 48 × FVec F S16 .f32) → PV F i
  | [] => pure ⟨⟩
  | w :: ws => do
    let _v : Vec F S1x1x16 .f32 ← Prog.lift (.load a5 (Rect.unit (s := S14x8x768) (tileOff bl.val w.1.val t) S1x1x16.size
      (tileOff_inb bl w.1 t)).toLoadRect (View.loadsAt_vmem h_S1x1x16))
    Prog.lift (.store a5 (Rect.unit (s := S14x8x768) (tileOff bl.val w.1.val t) S1x1x16.size (tileOff_inb bl w.1 t))
      (shapeCast S1x1x16 w.2 shapeCasts_S16_S1x1x16) Finset.univ (View.stores_vmem_bits_univ h_S1x1x16 rfl) (.inl rfl))
    writeRows bl t ws

/-- The rows of a column block in the order they are read. -/
def rows : List (Fin 48) :=
  [0, 1, 2, 3, 4, 5, 6, 7, 8, 9, 10, 11, 12, 13, 14, 15, 16, 17, 18, 19, 20, 21, 22, 23, 24, 25, 26, 27, 28, 29, 30, 31,
    32, 33, 34, 35, 36, 37, 38, 39, 40, 41, 42, 43, 44, 45, 46, 47]

/-- One trip of the retiling loop of image `bl`, whose band lies in slot `slot`. -/
def retile (slot : Fin 3) (bl : Fin 8) (t : Fin L14.trips) (_ : Unit) : PV F i :=
  readRows i a4 slot t rows (writeRows i a5 bl t)

variable (a2 : Memref sig .scVector .hbm S16x3x224x224 .f32) (h2 : a2.IsWhole) (a3 : Memref sig .scVector .hbm S196x16x768 .f32)
  (h3 : a3.IsWhole) (h4 : a4.IsWhole) (h5 : a5.IsWhole) (a6 : DmaSems sig S3) (a7 : DmaSems sig S_) (hc : k0_cond1 i = 1#1)

set_option maxRecDepth 65536 in
theorem body1_eq (v14 v31 : BitVec 32) :
    k0_t1_body (F := F) i a2 h2 a3 h3 a4 h4 a5 h5 a6 a7 hc v14 v31 = retile i a4 a5 0 0 := rfl

set_option maxRecDepth 65536 in
theorem body2_eq (v14 v31 : BitVec 32) :
    k0_t2_body (F := F) i a2 h2 a3 h3 a4 h4 a5 h5 a6 a7 hc v14 v31 = retile i a4 a5 1 1 := rfl

set_option maxRecDepth 65536 in
theorem body3_eq (v14 v31 : BitVec 32) :
    k0_t3_body (F := F) i a2 h2 a3 h3 a4 h4 a5 h5 a6 a7 hc v14 v31 = retile i a4 a5 2 2 := rfl

set_option maxRecDepth 65536 in
theorem body4_eq (v14 v31 : BitVec 32) :
    k0_t4_body (F := F) i a2 h2 a3 h3 a4 h4 a5 h5 a6 a7 hc v14 v31 = retile i a4 a5 0 3 := rfl

set_option maxRecDepth 65536 in
theorem body5_eq (v14 v31 : BitVec 32) :
    k0_t5_body (F := F) i a2 h2 a3 h3 a4 h4 a5 h5 a6 a7 hc v14 v31 = retile i a4 a5 1 4 := rfl

set_option maxRecDepth 65536 in
theorem body6_eq :
    k0_t6_body (F := F) i a2 h2 a3 h3 a4 h4 a5 h5 a6 a7 hc = retile i a4 a5 2 5 := rfl

set_option maxRecDepth 65536 in
theorem body7_eq (c0_i32_239 c1_i32_241 : BitVec 32) :
    k0_t7_body (F := F) i a2 h2 a3 h3 a4 h4 a5 h5 a6 a7 hc c0_i32_239 c1_i32_241 = retile i a4 a5 0 6 := rfl

set_option maxRecDepth 65536 in
theorem body8_eq :
    k0_t8_body (F := F) i a2 h2 a3 h3 a4 h4 a5 h5 a6 a7 hc = retile i a4 a5 1 7 := rfl

end Body

end Cert.Proof.Gather

end
-- ==== Proof.Setup.lean ====
/-
  The gather call's launch set-up and the geometry of its work: which pixels of the images and which patches each
  vector subcore owns, what it fetches, and what it leaves.
-/
module

public import proofs.«01_k».proof.Proof.Retile
public import Idealize.ShloMosaic.Lib.ValueLayout
public import proofs.«01_k».proof.Proof.Gen.KernelIdeal.Launch

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4 eq_ix2 eq_ix3 eq_ix4)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the handshakes' rounds, the projection's pipeline, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) :=
  (Emb.inl : Emb (UR sig nD τ) (UR sig nD τ × Counters)).trans embR

/-! ## The arrays -/

variable (m : (ℓ : Loc nD τ sig) → Buf (Elt F) ℓ)

/-- The images and the patches. -/
abbrev iLoc (d : Dev nD) : Loc nD τ sig := (SparseCore.T d).loc main_arg0
abbrev pLoc (d : Dev nD) : Loc nD τ sig := (SparseCore.T d).loc main_v3

abbrev imgV : Memref sig .scVector .hbm S16x3x224x224 .f32 := Memref.whole main_arg0_scv
abbrev patV : Memref sig .scVector .hbm S196x16x768 .f32 := Memref.whole main_v3_scv
abbrev bandV : Memref sig .scVector .vmem S3x3x16x224 .f32 := Memref.whole cc0_scratch0
abbrev tileV : Memref sig .scVector .vmem S14x8x768 .f32 := Memref.whole cc0_scratch1

/-- The pixel of image `b`, channel `c`, at line `y` and column `x` (coordinates read modulo the extents). -/
def pix (b c y x : Nat) : S16x3x224x224.Idx :=
  ix4 ⟨b % 16, Nat.mod_lt _ (by decide)⟩ ⟨c % 3, Nat.mod_lt _ (by decide)⟩ ⟨y % 224, Nat.mod_lt _ (by decide)⟩ ⟨x % 224, Nat.mod_lt _ (by decide)⟩

/-- Entry `p` of patch `s` of image `b` is the pixel of channel `p / 256` at line `p % 256 / 16` and column `p % 16` of
    the cell. -/
def patchPix (s b p : Nat) : S16x3x224x224.Idx := pix b (p / 256) (s / 14 * 16 + p % 256 / 16) (s % 14 * 16 + p % 16)

/-- The patches of the images `f`. -/
def patches {α : Type} (f : S16x3x224x224.Idx → α) (j : S196x16x768.Idx) : α := f (patchPix (j 0).val (j 1).val (j 2).val)

/-! ## Who owns what -/

/-- The number of vector subcore `(c, s)`: its worker id. -/
abbrev wid (c : Fin 2) (s : Fin 16) : Nat := 2 * s.val + c.val

/-- The pixels of worker `(c, s)` in the `k`-th of its eight images, -/
def imgSet (c : Fin 2) (s : Fin 16) (k : Fin 8) : Finset S16x3x224x224.Idx :=
  Finset.univ.filter fun j => (j 0).val / 8 * 14 + (j 2).val / 16 = wid c s ∧ (j 0).val % 8 = k.val

/-- and the patch entries it writes. -/
def patSet (c : Fin 2) (s : Fin 16) : Finset S196x16x768.Idx :=
  Finset.univ.filter fun j => (j 1).val / 8 * 14 + (j 0).val / 14 = wid c s

section Worker

variable (d : Dev nD) (L : grid0.Coords)

abbrev cV (L : grid0.Coords) : Fin τ.nSC := (L 0).castLE hcore0
abbrev jV (L : grid0.Coords) : Fin τ.nSub := (L 1).castLE hsub0
abbrev cL (L : grid0.Coords) : Fin 2 := L 0
abbrev sL (L : grid0.Coords) : Fin 16 := L 1
abbrev thr (d : Dev nD) (L : grid0.Coords) : Thread nD τ := V d (cV L) (jV L)

/-- The worker's line of cells and its half of the images. -/
abbrev sy (L : grid0.Coords) : Nat := wid (cL L) (sL L) % 14
abbrev bh (L : grid0.Coords) : Nat := wid (cL L) (sL L) / 14

/-- A worker with work has an id below 28. -/
theorem wid_lt : ∀ L : grid0.Coords, k0_cond1 L = 1#1 ↔ wid (cL L) (sL L) < 28 := by decide +kernel

theorem off1_eq : ∀ L : grid0.Coords, k0_cond1 L = 1#1 → ∀ r : Fin 8,
    k0_off1 L (BitVec.ofNat 32 r.val) = ![8 * bh L + r.val, 0, 16 * sy L, 0] := by decide +kernel

theorem off770_eq : ∀ L : grid0.Coords, k0_cond1 L = 1#1 → k0_off770 L = ![14 * sy L, 8 * bh L, 0] := by decide +kernel

/-- The worker's band of its `k`-th image, and its block of the patches, as it addresses them; the slots of its band buffer. -/
abbrev imgK (L : grid0.Coords) (hc : k0_cond1 L = 1#1) (r : Fin 8) : Memref sig .scVector .hbm S3x16x224 .f32 :=
  (imgV.slice (Rect.unit (s := S16x3x224x224) (k0_off1 L (BitVec.ofNat 32 r.val)) S1x3x16x224.size (k0_off1_inb L hc r)) (fun _ => rfl)).squeeze
    S3x16x224 squeezes_S1x3x16x224_S3x16x224
abbrev patK (L : grid0.Coords) (hc : k0_cond1 L = 1#1) : Memref sig .scVector .hbm S14x8x768 .f32 :=
  patV.slice (Rect.unit (s := S196x16x768) (k0_off770 L) S14x8x768.size (k0_off770_inb L hc)) (fun _ => rfl)

theorem slot_inb (k : Fin 3) : ∀ a, (![k.val, 0, 0, 0] : Fin 4 → Nat) a + S1x3x16x224.size a ≤ S3x3x16x224.size a := by
  revert k; decide
abbrev slotK (k : Fin 3) : Memref sig .scVector .vmem S3x16x224 .f32 :=
  (bandV.slice (Rect.unit (s := S3x3x16x224) ![k.val, 0, 0, 0] S1x3x16x224.size (slot_inb k)) (fun _ => rfl)).squeeze
    S3x16x224 squeezes_S1x3x16x224_S3x16x224

theorem set_imgK (hc : k0_cond1 L = 1#1) (r : Fin 8) : (imgK L hc r).view.set = imgSet (cL L) (sL L) r := by
  rw [show (imgK L hc r).view.set = (imgV.view.slice (Rect.unit (s := S16x3x224x224) (k0_off1 L (BitVec.ofNat 32 r.val)) S1x3x16x224.size (k0_off1_inb L hc r))).set
    from View.set_reshape .., View.set_slice_whole]
  have hw := (wid_lt L).mp hc
  ext j
  have h0 : (j 0).val < 16 := (j 0).isLt
  have h1 : (j 1).val < 3 := (j 1).isLt
  have h2 : (j 2).val < 224 := (j 2).isLt
  have h3 : (j 3).val < 224 := (j 3).isLt
  rw [Rect.mem_set_unit, off1_eq L hc r, imgSet, Finset.mem_filter]
  show (∀ a : Fin 4, ![8 * bh L + r.val, 0, 16 * sy L, 0] a ≤ (j a).val ∧ (j a).val < ![8 * bh L + r.val, 0, 16 * sy L, 0] a + ![1, 3, 16, 224] a) ↔ _
  simp [Fin.forall_fin_succ]
  have := r.isLt
  have hs : sy L = wid (cL L) (sL L) % 14 := rfl
  have hb : bh L = wid (cL L) (sL L) / 14 := rfl
  omega

theorem set_patK (hc : k0_cond1 L = 1#1) : (patK L hc).view.set = patSet (cL L) (sL L) := by
  show (patV.view.slice _).set = _
  rw [View.set_slice_whole]
  have hw := (wid_lt L).mp hc
  ext j
  have h0 : (j 0).val < 196 := (j 0).isLt
  have h1 : (j 1).val < 16 := (j 1).isLt
  have h2 : (j 2).val < 768 := (j 2).isLt
  rw [Rect.mem_set_unit, off770_eq L hc, patSet, Finset.mem_filter]
  show (∀ a : Fin 3, ![14 * sy L, 8 * bh L, 0] a ≤ (j a).val ∧ (j a).val < ![14 * sy L, 8 * bh L, 0] a + ![14, 8, 768] a) ↔ _
  simp [Fin.forall_fin_succ]
  have hs : sy L = wid (cL L) (sL L) % 14 := rfl
  have hb : bh L = wid (cL L) (sL L) / 14 := rfl
  omega

end Worker

end Cert.Proof.Gather

end
-- ==== Proof.TileLoop.lean ====
/-
  The retiling loop's run: from a slot that holds a band of an image, and a tile buffer finished up to that image, to a
  tile buffer finished past it. One theorem serves all eight loops.
-/
module

public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 ix3 ix4 eq_ix1 eq_ix2 eq_ix3 eq_ix4)

variable {F : FTy → Type} [FloatOps F]

local notation "𝕄" => MT nD τ sig (HIx 1) (Elt F) ℕ UU ℕ

/-! ## The rows as functions of the buffers -/

/-- The rectangle of row `j` of column block `t` in the band buffer, and in the tile buffer. -/
abbrev bandRect (slot : Fin 3) (j : Fin 48) (t : Fin L14.trips) : Rect S3x3x16x224 :=
  Rect.unit (s := S3x3x16x224) (bandOff slot.val j.val t) S1x1x1x16.size (bandOff_inb slot j t)
abbrev tileRect (bl : Fin 8) (j : Fin 48) (t : Fin L14.trips) : Rect S14x8x768 :=
  Rect.unit (s := S14x8x768) (tileOff bl.val j.val t) S1x1x16.size (tileOff_inb bl j t)

/-- The row a load reads, and the tile buffer after a store of a row. -/
def rowOf (slot : Fin 3) (t : Fin L14.trips) (f : S3x3x16x224.Idx → Elt F .f32) (j : Fin 48) : FVec F S16 .f32 :=
  shapeCast S16 ((bandV.access (bandRect slot j t)).read (Elt F) f) shapeCasts_S1x1x1x16_S16
def putRow (bl : Fin 8) (t : Fin L14.trips) (g : S14x8x768.Idx → Elt F .f32) (w : Fin 48 × FVec F S16 .f32) : S14x8x768.Idx → Elt F .f32 :=
  (tileV.access (tileRect bl w.1 t)).write (Elt F) g (shapeCast S1x1x16 w.2 shapeCasts_S16_S1x1x16) Finset.univ

theorem lt14 (t : Fin L14.trips) : t.val < 14 := trips_eq ▸ t.isLt

theorem rowOf_apply (slot : Fin 3) (t : Fin L14.trips) (f : S3x3x16x224.Idx → Elt F .f32) (j : Fin 48) (x : Fin 16) :
    rowOf slot t f j (ix1 x) = f (ix4 slot ⟨j.val / 16, by omega⟩ ⟨j.val % 16, by omega⟩ ⟨16 * t.val + x.val, by have := lt14 t; omega⟩) := by
  unfold rowOf
  show (bandV.access (bandRect slot j t)).read (Elt F) f (Shape.reshapeEquiv _ (ix1 x)) = _
  rw [Shape.reshapeEquiv_eq_of_rowMajor (y := (ix4 0 0 0 x : S1x1x1x16.Idx)) _ (by
    rw [Shape.rowMajor_val_four, Shape.rowMajor_val_one]; simp [ix4, ix1])]
  rw [View.read_apply]
  show f ((bandRect slot j t).emb (ix4 0 0 0 x)) = _
  congr 1
  funext a
  apply Fin.ext
  show bandOff slot.val j.val t a + 1 * (ix4 0 0 0 x : S1x1x1x16.Idx) a = _
  rw [bandOff_eq]
  fin_cases a <;> simp [ix4]

theorem bandRect_sub (slot : Fin 3) (j : Fin 48) (t : Fin L14.trips) :
    (bandV.access (bandRect slot j t)).set ⊆ (slotK slot).view.set := by
  rw [show (slotK slot).view.set = (bandV.view.slice (Rect.unit (s := S3x3x16x224) ![slot.val, 0, 0, 0] S1x3x16x224.size (slot_inb slot))).set
    from View.set_reshape .., show (bandV.access (bandRect slot j t)).set = (bandRect slot j t).set from View.set_slice_whole _ _, View.set_slice_whole]
  intro i hi
  rw [Rect.mem_set_unit, bandOff_eq] at hi
  rw [Rect.mem_set_unit]
  have ht := lt14 t
  have hj := j.isLt
  change ∀ a : Fin 4, ![slot.val, j.val / 16, j.val % 16, 16 * t.val] a ≤ (i a).val ∧ (i a).val < ![slot.val, j.val / 16, j.val % 16, 16 * t.val] a + ![1, 1, 1, 16] a at hi
  show ∀ a : Fin 4, ![slot.val, 0, 0, 0] a ≤ (i a).val ∧ (i a).val < ![slot.val, 0, 0, 0] a + ![1, 3, 16, 224] a
  simp [Fin.forall_fin_succ] at hi ⊢
  omega

theorem mem_tileRect (bl : Fin 8) (j : Fin 48) (t : Fin L14.trips) (i : S14x8x768.Idx) :
    i ∈ (tileV.access (tileRect bl j t)).setOn Finset.univ ↔ (i 0).val = t.val ∧ (i 1).val = bl.val ∧ (i 2).val / 16 = j.val := by
  show i ∈ (tileV.view.slice (tileRect bl j t)).set ↔ _
  rw [View.set_slice_whole, Rect.mem_set_unit, tileOff_eq]
  show (∀ a : Fin 3, ![t.val, bl.val, 16 * j.val] a ≤ (i a).val ∧ (i a).val < ![t.val, bl.val, 16 * j.val] a + ![1, 1, 16] a) ↔ _
  simp [Fin.forall_fin_succ]
  omega

theorem putRow_apply (bl : Fin 8) (t : Fin L14.trips) (g : S14x8x768.Idx → Elt F .f32) (w : Fin 48 × FVec F S16 .f32) (i : S14x8x768.Idx) :
    putRow bl t g w i = if (i 0).val = t.val ∧ (i 1).val = bl.val ∧ (i 2).val / 16 = w.1.val
      then w.2 (ix1 ⟨(i 2).val % 16, Nat.mod_lt _ (by decide)⟩) else g i := by
  by_cases h : i ∈ (tileV.access (tileRect bl w.1 t)).setOn Finset.univ
  · rw [if_pos ((mem_tileRect bl w.1 t i).mp h)]
    obtain ⟨h0, h1, h2⟩ := (mem_tileRect bl w.1 t i).mp h
    have e : i = (tileV.access (tileRect bl w.1 t)).emb (ix3 0 0 ⟨(i 2).val % 16, Nat.mod_lt _ (by decide)⟩ : S1x1x16.Idx) := by
      show i = (tileRect bl w.1 t).emb (ix3 0 0 ⟨(i 2).val % 16, Nat.mod_lt _ (by decide)⟩ : S1x1x16.Idx)
      funext a
      apply Fin.ext
      show (i a).val = tileOff bl.val w.1.val t a + 1 * ((ix3 0 0 ⟨(i 2).val % 16, Nat.mod_lt _ (by decide)⟩ : S1x1x16.Idx) a).val
      rw [tileOff_eq]
      fin_cases a <;> simp [ix3] <;> omega
    unfold putRow
    conv_lhs => rw [e]
    rw [View.write_emb_of_mem (h := Finset.mem_univ _)]
    show shapeCast S1x1x16 w.2 shapeCasts_S16_S1x1x16 _ = _
    show w.2 (Shape.reshapeEquiv _ _) = _
    rw [Shape.reshapeEquiv_eq_of_rowMajor (y := (ix1 ⟨(i 2).val % 16, Nat.mod_lt _ (by decide)⟩ : S16.Idx)) _ (by
      rw [Shape.rowMajor_val_three, Shape.rowMajor_val_one]; simp [ix3, ix1])]
  · rw [if_neg (fun hh => h ((mem_tileRect bl w.1 t i).mpr hh))]
    exact View.write_of_not_mem (v := tileV.access (tileRect bl w.1 t)) (Val := Elt F) g _ _ h

/-- All the listed rows stored. -/
theorem putRows_apply (bl : Fin 8) (t : Fin L14.trips) (val : Fin 48 → FVec F S16 .f32) :
    ∀ (js : List (Fin 48)) (g : S14x8x768.Idx → Elt F .f32) (i : S14x8x768.Idx),
      (js.map fun j => (j, val j)).foldl (putRow bl t) g i
        = if h : (i 0).val = t.val ∧ (i 1).val = bl.val ∧ (⟨(i 2).val / 16, by have : (i 2).val < 768 := (i 2).isLt; omega⟩ : Fin 48) ∈ js
          then val ⟨(i 2).val / 16, by have : (i 2).val < 768 := (i 2).isLt; omega⟩ (ix1 ⟨(i 2).val % 16, Nat.mod_lt _ (by decide)⟩) else g i
  | [], g, i => by simp
  | j :: js, g, i => by
    rw [List.map_cons, List.foldl_cons, putRows_apply bl t val js, putRow_apply]
    by_cases h : (i 0).val = t.val ∧ (i 1).val = bl.val
    · obtain ⟨h0, h1⟩ := h
      by_cases h2 : (⟨(i 2).val / 16, by have : (i 2).val < 768 := (i 2).isLt; omega⟩ : Fin 48) ∈ js
      · simp [h0, h1, h2]
      · by_cases h3 : (i 2).val / 16 = j.val
        · have e : (⟨(i 2).val / 16, by have : (i 2).val < 768 := (i 2).isLt; omega⟩ : Fin 48) = j := Fin.ext h3
          rw [dif_neg (fun hh => h2 hh.2.2), if_pos ⟨h0, h1, h3⟩, dif_pos ⟨h0, h1, e ▸ List.mem_cons_self ..⟩, e]
        · have e : (⟨(i 2).val / 16, by have : (i 2).val < 768 := (i 2).isLt; omega⟩ : Fin 48) ≠ j := fun e => h3 (congrArg Fin.val e)
          simp [h0, h1, h2, h3, e]
    · have e : ∀ p, ¬((i 0).val = t.val ∧ (i 1).val = bl.val ∧ p) := fun p hh => h ⟨hh.1, hh.2.1⟩
      simp only [e, if_false, dif_neg, not_false_eq_true]

/-! ## The runs -/

section Run

variable (d : Dev nD) (L : grid0.Coords)

abbrev bandPts (slot : Fin 3) (f : Buf (Elt F) ((thr d L).loc cc0_scratch0)) : sProp 𝕄 :=
  (thr d L).loc cc0_scratch0 ↦[(slotK slot).view.set]{fullShare} f
abbrev tilePts (g : Buf (Elt F) ((thr d L).loc cc0_scratch1)) : sProp 𝕄 :=
  (thr d L).loc cc0_scratch1 ↦{fullShare} g

theorem wp_readRows (slot : Fin 3) (t : Fin L14.trips) (f : Buf (Elt F) ((thr d L).loc cc0_scratch0)) {Q : Unit → sProp 𝕄} :
    ∀ (js : List (Fin 48)) (k : List (Fin 48 × FVec F S16 .f32) → PV F L),
      bandPts d L slot f ⊢ iprop((bandPts d L slot f
          -∗ wp frame (wpE (defs₀ (F := F)) 𝒱₀ (thr d L) none) Set.univ (k (js.map fun j => (j, rowOf slot t f j))) Q)
        -∗ wp frame (wpE (defs₀ (F := F)) 𝒱₀ (thr d L) none) Set.univ (readRows L bandV slot t js k) Q)
  | [], k => by
    iintro Hb HK
    iapply HK; iexact Hb
  | j :: js, k => by
    iintro Hb HK
    unfold readRows
    iapply (wp_load_rect (defs := defs₀ (F := F)) 𝒱₀ (thr d L) none Set.univ (m := bandV) (r := bandRect slot j t) (f := f)
      (bandRect_sub slot j t)) $$ [Hb]
    · iexact Hb
    iintro Hb
    iapply (wp_readRows slot t f js _) $$ Hb
    iexact HK

theorem wp_writeRows (bl : Fin 8) (t : Fin L14.trips) {Q : Unit → sProp 𝕄} :
    ∀ (ws : List (Fin 48 × FVec F S16 .f32)) (g : Buf (Elt F) ((thr d L).loc cc0_scratch1)),
      tilePts d L g ⊢ iprop((tilePts d L (ws.foldl (putRow bl t) g) -∗ Q ⟨⟩)
        -∗ wp frame (wpE (defs₀ (F := F)) 𝒱₀ (thr d L) none) Set.univ (writeRows L tileV bl t ws) Q)
  | [], g => by
    iintro Hb HK
    unfold writeRows
    iapply (Entails.of_eq (wp_ret _ _ _ PUnit.unit Q).symm)
    imodintro
    iapply HK; iexact Hb
  | w :: ws, g => by
    iintro Hb HK
    unfold writeRows
    iapply (wp_load_rect (defs := defs₀ (F := F)) 𝒱₀ (thr d L) none Set.univ (m := tileV) (r := tileRect bl w.1 t) (f := g)
      (Finset.subset_univ _)) $$ [Hb]
    · iexact Hb
    iintro Hb
    iapply (wp_store (defs := defs₀ (F := F)) 𝒱₀ (thr d L) none Set.univ (m := tileV) (r := tileRect bl w.1 t) (f := g)
      (S := Finset.univ) (Finset.subset_univ _)) $$ [Hb]
    · iexact Hb
    iintro Hb
    iapply (wp_writeRows bl t ws (putRow bl t g w)) $$ [Hb]
    · iexact Hb
    iexact HK

/-! ## The loop -/

/-- Slot `slot` holds the worker's band of its `bl`-th image. -/
def BandIs (img : S16x3x224x224.Idx → Elt F .f32) (slot : Fin 3) (bl : Nat) (f : S3x3x16x224.Idx → Elt F .f32) : Prop :=
  ∀ (c : Fin 3) (y : Fin 16) (x : Fin 224), f (ix4 slot c y x) = img (pix (8 * bh L + bl) c.val (16 * sy L + y.val) x.val)

/-- The tile buffer is finished for the images before the `bl`-th, and for the `bl`-th up to column block `t`. -/
def Done (img : S16x3x224x224.Idx → Elt F .f32) (bl t : Nat) (g : S14x8x768.Idx → Elt F .f32) : Prop :=
  ∀ j : S14x8x768.Idx, (j 1).val < bl ∨ ((j 1).val = bl ∧ (j 0).val < t) →
    g j = img (patchPix (14 * sy L + (j 0).val) (8 * bh L + (j 1).val) (j 2).val)

theorem mem_rows : ∀ j : Fin 48, j ∈ rows := by decide

theorem done_step {img : S16x3x224x224.Idx → Elt F .f32} {slot : Fin 3} {bl : Fin 8} {f : S3x3x16x224.Idx → Elt F .f32}
    (hf : BandIs L img slot bl.val f) (t : Fin L14.trips) {g : S14x8x768.Idx → Elt F .f32} (hg : Done L img bl.val t.val g) :
    Done L img bl.val (t.val + 1) ((rows.map fun j => (j, rowOf slot t f j)).foldl (putRow bl t) g) := by
  intro j hj
  have hj2 : (j 2).val < 768 := (j 2).isLt
  have ht := lt14 t
  rw [putRows_apply]
  by_cases h : (j 0).val = t.val ∧ (j 1).val = bl.val
  · rw [dif_pos ⟨h.1, h.2, mem_rows _⟩, rowOf_apply, hf]
    congr 1
    unfold patchPix pix
    have e1 : (14 * sy L + (j 0).val) / 14 = sy L := by omega
    have e2 : (14 * sy L + (j 0).val) % 14 = t.val := by omega
    rw [e1, e2, h.2]
    have a1 : (j 2).val / 16 / 16 = (j 2).val / 256 := by omega
    have a2 : (j 2).val / 16 % 16 = (j 2).val % 256 / 16 := by omega
    simp only [a1, a2]
    congr 1 <;> simp <;> omega
  · rw [dif_neg (fun hh => h ⟨hh.1, hh.2.1⟩)]
    exact hg j (by omega)

theorem done_next {img : S16x3x224x224.Idx → Elt F .f32} {bl : Nat} {g : S14x8x768.Idx → Elt F .f32}
    (hg : Done L img bl 14 g) : Done L img (bl + 1) 0 g := fun j hj =>
  hg j (by have : (j 0).val < 14 := (j 0).isLt; omega)

/-- THE LOOP: image `bl`'s, whose band lies in slot `slot`. -/
theorem wp_loop (img : S16x3x224x224.Idx → Elt F .f32) (slot : Fin 3) (bl : Fin 8) (f : Buf (Elt F) ((thr d L).loc cc0_scratch0))
    (hf : BandIs L img slot bl.val f) (ok : L14.OK) {k : Unit → PV F L} {Q : Unit → sProp 𝕄} :
    iprop(bandPts d L slot f ∗ ∃ g, ⌜Done L img bl.val 0 g⌝ ∗ tilePts d L g)
      ⊢ iprop(((bandPts d L slot f ∗ ∃ g, ⌜Done L img (bl.val + 1) 0 g⌝ ∗ tilePts d L g)
          -∗ wp frame (wpE (defs₀ (F := F)) 𝒱₀ (thr d L) none) Set.univ (k ⟨⟩) Q)
        -∗ wp frame (wpE (defs₀ (F := F)) 𝒱₀ (thr d L) none) Set.univ (Scf.Loop.for L14 ok ⟨⟩ (retile L bandV tileV slot bl) >>= k) Q) := by
  have step : ∀ (t : Fin L14.trips) (u : Unit), iprop(bandPts d L slot f ∗ ∃ g, ⌜Done L img bl.val t.val g⌝ ∗ tilePts d L g)
      ⊢ wp frame (wpE (defs₀ (F := F)) 𝒱₀ (thr d L) none) Set.univ (retile L bandV tileV slot bl t u)
        fun _ => iprop(bandPts d L slot f ∗ ∃ g, ⌜Done L img bl.val (t.val + 1) g⌝ ∗ tilePts d L g) := by
    intro t u
    iintro ⟨Hb, %g, %hg, Ht⟩
    unfold retile
    iapply (wp_readRows d L slot t f rows _) $$ Hb
    iintro Hb
    iapply (wp_writeRows d L bl t _ g) $$ Ht
    iintro Ht
    isplitl [Hb]
    · iexact Hb
    · iexists _
      isplitr [Ht]
      · ipureintro; exact done_step L hf t hg
      · iexact Ht
  iintro H HK
  iapply (Scf.wp_for_bind frame (wpE (defs₀ (F := F)) 𝒱₀ (thr d L) none) Set.univ L14.lb L14.ub L14.st ok PUnit.unit (retile L bandV tileV slot bl)
    (fun t _ => iprop(bandPts d L slot f ∗ ∃ g, ⌜Done L img bl.val t g⌝ ∗ tilePts d L g)) step) $$ [H]
  · iexact H
  · iintro %u ⟨Hb, %g, %hg, Ht⟩
    iapply HK
    isplitl [Hb]
    · iexact Hb
    · iexists g
      isplitr [Ht]
      · ipureintro; exact done_next L (trips_eq ▸ hg)
      · iexact Ht

end Run

end Cert.Proof.Gather

end
-- ==== Proof.Staged.lean ====
/-
  The gather kernel's body as a schedule of three steps: `fetch` starts a band's copy into a slot of the band buffer,
  `arrive` waits for it, and the retiling loop moves a slot's band to the tile buffer. The printed body is this schedule
  by unfolding, part by part.
-/
module

public import proofs.«01_k».proof.Proof.Setup

@[expose] public section

noncomputable section

namespace Cert.Proof.Gather

open Cert.KernelIdeal Cert.KernelIdeal.Gen
open Idealize.ShloMosaic Idealize.SL.Sem

variable {F : FTy → Type} [FloatOps F]

theorem sem_inb (k : Fin 3) : ∀ a, (![k.val] : Fin 1 → Nat) a + S1.size a ≤ S3.size a := by
  revert k; decide

/-- The semaphore of a slot. -/
abbrev semK (k : Fin 3) : DmaSems sig S_ :=
  (cc0_scratch2.slice (Rect.unit (s := S3) ![k.val] S1.size (sem_inb k))).squeeze S_ squeezes_S1_S_

theorem ok14 : L14.OK := by decide +kernel

variable (L : grid0.Coords) (hc : k0_cond1 L = 1#1)

/-- Start the copy of the worker's band of its `r`-th image into slot `k`. -/
def fetch (k : Fin 3) (r : Fin 8) : PV F L :=
  Prog.lift (.enqueueDma (imgK L hc r) (.here (slotK k)) (.dma (semK k).sem) ((View.wordExact_bits rfl).reshape _ _)
    ((View.wordExact_bits rfl).reshape _ _) ⟨Or.inl rfl, trivial⟩)

/-- Wait for it. -/
def arrive (k : Fin 3) (r : Fin 8) : PV F L :=
  Prog.lift (.waitDma2 (semK k).sem (imgK L hc r) (slotK k) ((View.wordExact_bits rfl).reshape _ _) ((View.wordExact_bits rfl).reshape _ _))

/-- Move slot `k`'s band to the rows of the `r`-th image. -/
def move (k : Fin 3) (r : Fin 8) : PV F L := Scf.Loop.for L14 ok14 ⟨⟩ (retile L bandV tileV k r)

/-- Start one band, wait for another and move it. -/
def stage (k : Fin 3) (r : Fin 8) (k' : Fin 3) (r' : Fin 8) : PV F L := do
  fetch L hc k r
  arrive L hc k' r'
  move L k' r'
  pure ⟨⟩

/-- Write the finished tile buffer out. -/
def writeOut : PV F L := do
  Prog.lift (.enqueueDma tileV (.here (patK L hc)) (.dma cc0_scratch3.sem) (Memref.isWhole_whole _).wordExact (View.wordExact_bits rfl) ⟨Or.inl rfl, trivial⟩)
  Prog.lift (.waitDma2 cc0_scratch3.sem tileV (patK L hc) (Memref.isWhole_whole _).wordExact (View.wordExact_bits rfl))

set_option maxRecDepth 65536 in
theorem part122_eq (v14 v31 : BitVec 32) : k0_part122 (F := F) L imgV (Memref.isWhole_whole _) patV (Memref.isWhole_whole _) bandV (Memref.isWhole_whole _)
      tileV (Memref.isWhole_whole _) cc0_scratch2 cc0_scratch3 hc v14 v31 = (do fetch L hc 0 0; fetch L hc 1 1) := rfl

set_option maxRecDepth 65536 in
theorem part123_eq (v14 v31 : BitVec 32) : k0_part123 (F := F) L imgV (Memref.isWhole_whole _) patV (Memref.isWhole_whole _) bandV (Memref.isWhole_whole _)
      tileV (Memref.isWhole_whole _) cc0_scratch2 cc0_scratch3 hc v14 v31 = stage L hc 2 2 0 0 := by
  rw [k0_part123_eq_skeleton]; unfold k0_part123_skel stage move
  rw [body1_eq]; rfl

set_option maxRecDepth 65536 in
theorem part124_eq (v14 v31 : BitVec 32) : k0_part124 (F := F) L imgV (Memref.isWhole_whole _) patV (Memref.isWhole_whole _) bandV (Memref.isWhole_whole _)
      tileV (Memref.isWhole_whole _) cc0_scratch2 cc0_scratch3 hc v14 v31 = stage L hc 0 3 1 1 := by
  rw [k0_part124_eq_skeleton]; unfold k0_part124_skel stage move
  rw [body2_eq]; rfl

set_option maxRecDepth 65536 in
theorem part125_eq (v14 v31 : BitVec 32) : k0_part125 (F := F) L imgV (Memref.isWhole_whole _) patV (Memref.isWhole_whole _) bandV (Memref.isWhole_whole _)
      tileV (Memref.isWhole_whole _) cc0_scratch2 cc0_scratch3 hc v14 v31 = stage L hc 1 4 2 2 := by
  rw [k0_part125_eq_skeleton]; unfold k0_part125_skel stage move
  rw [body3_eq]; rfl

set_option maxRecDepth 65536 in
theorem part126_eq (v14 v31 : BitVec 32) : k0_part126 (F := F) L imgV (Memref.isWhole_whole _) patV (Memref.isWhole_whole _) bandV (Memref.isWhole_whole _)
      tileV (Memref.isWhole_whole _) cc0_scratch2 cc0_scratch3 hc v14 v31 = stage L hc 2 5 0 3 := by
  rw [k0_part126_eq_skeleton]; unfold k0_part126_skel stage move
  rw [body4_eq]; rfl

set_option maxRecDepth 65536 in
theorem part127_eq (v14 v31 : BitVec 32) : k0_part127 (F := F) L imgV (Memref.isWhole_whole _) patV (Memref.isWhole_whole _) bandV (Memref.isWhole_whole _)
      tileV (Memref.isWhole_whole _) cc0_scratch2 cc0_scratch3 hc v14 v31 = stage L hc 0 6 1 4 := by
  rw [k0_part127_eq_skeleton]; unfold k0_part127_skel stage move
  rw [body5_eq]; rfl

set_option maxRecDepth 65536 in
theorem part128_eq : k0_part128 (F := F) L imgV (Memref.isWhole_whole _) patV (Memref.isWhole_whole _) bandV (Memref.isWhole_whole _)
      tileV (Memref.isWhole_whole _) cc0_scratch2 cc0_scratch3 hc = (do stage L hc 1 7 2 5; arrive L hc 0 6; pure ⟨0#32, 1#32⟩) := by
  rw [k0_part128_eq_skeleton]; unfold k0_part128_skel stage move
  rw [body6_eq]; simp only [bind_assoc, pure_bind]; rfl

/-- The whole schedule. -/
def staged : PV F L := do
  fetch L hc 0 0
  fetch L hc 1 1
  stage L hc 2 2 0 0
  stage L hc 0 3 1 1
  stage L hc 1 4 2 2
  stage L hc 2 5 0 3
  stage L hc 0 6 1 4
  stage L hc 1 7 2 5
  arrive L hc 0 6
  move L 0 6
  arrive L hc 1 7
  move L 1 7
  writeOut L hc

/-- A worker with work runs the schedule. -/
theorem body_eq : cc0__gather_body (F := F) L imgV (Memref.isWhole_whole _) patV (Memref.isWhole_whole _) bandV (Memref.isWhole_whole _)
      tileV (Memref.isWhole_whole _) cc0_scratch2 cc0_scratch3 = staged L hc := by
  rw [cc0__gather_body_eq_skeleton]; unfold cc0__gather_body_skel
  simp only [dif_pos hc]
  rw [show k0_part121 (F := F) L imgV (Memref.isWhole_whole _) patV (Memref.isWhole_whole _) bandV (Memref.isWhole_whole _)
      tileV (Memref.isWhole_whole _) cc0_scratch2 cc0_scratch3 (Scalar.addi (Scalar.muli (BitVec.ofNat 32 (L 1).val) 2#32) (BitVec.ofNat 32 (L 0).val)) hc = pure _ from rfl]
  simp only [pure_bind, part122_eq, part123_eq, part124_eq, part125_eq, part126_eq, part127_eq, part128_eq, body7_eq, body8_eq]
  simp only [pure_bind, bind_assoc, bind_pure, staged, writeOut]
  rfl

/-- A worker without work does nothing. -/
theorem body_idle (hn : ¬ k0_cond1 L = 1#1) : cc0__gather_body (F := F) L imgV (Memref.isWhole_whole _) patV (Memref.isWhole_whole _) bandV (Memref.isWhole_whole _)
      tileV (Memref.isWhole_whole _) cc0_scratch2 cc0_scratch3 = pure ⟨⟩ := by
  rw [cc0__gather_body_eq_skeleton]; unfold cc0__gather_body_skel
  simp only [dif_neg hn, pure_bind]

end Cert.Proof.Gather

end
-- ==== Proof.Tile.lean ====
/-
  The run of one vector subcore: from its pixels and its patch entries to the patch entries filled from the pixels.
-/
module

public import proofs.«01_k».proof.Proof.TileLoop
public import proofs.«01_k».proof.Proof.Staged

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 ix3 ix4 eq_ix1 eq_ix2 eq_ix3 eq_ix4 reshapeEquiv_ix3_1abc)

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## What a fetched slot holds -/

theorem bandIs_write (hc : k0_cond1 L = 1#1) (k : Fin 3) (r : Fin 8) (img : S16x3x224x224.Idx → Elt F .f32) (f : S3x3x16x224.Idx → Elt F .f32) :
    BandIs L img k r.val ((slotK k).view.write (Elt F) f ((imgK L hc r).view.read (Elt F) img) Finset.univ) := by
  intro c y x
  have hw := (wid_lt L).mp hc
  have hr := r.isLt
  have es : (ix4 k c y x : S3x3x16x224.Idx) = (slotK k).view.emb (ix3 c y x : S3x16x224.Idx) := by
    show _ = (Rect.unit (s := S3x3x16x224) ![k.val, 0, 0, 0] S1x3x16x224.size (slot_inb k)).emb (Shape.reshapeEquiv _ (ix3 c y x))
    rw [reshapeEquiv_ix3_1abc]
    funext a
    apply Fin.ext
    show _ = ![k.val, 0, 0, 0] a + 1 * ((ix4 (⟨0, Nat.one_pos⟩ : Fin 1) c y x : S1x3x16x224.Idx) a).val
    fin_cases a <;> simp [ix4]
  have ei : (imgK L hc r).view.emb (ix3 c y x : S3x16x224.Idx) = pix (8 * bh L + r.val) c.val (16 * sy L + y.val) x.val := by
    show (Rect.unit (s := S16x3x224x224) (k0_off1 L (BitVec.ofNat 32 r.val)) S1x3x16x224.size (k0_off1_inb L hc r)).emb (Shape.reshapeEquiv _ (ix3 c y x)) = _
    rw [reshapeEquiv_ix3_1abc]
    funext a
    apply Fin.ext
    show k0_off1 L (BitVec.ofNat 32 r.val) a + 1 * ((ix4 (⟨0, Nat.one_pos⟩ : Fin 1) c y x : S1x3x16x224.Idx) a).val = _
    rw [off1_eq L hc r]
    have hs : sy L = wid (cL L) (sL L) % 14 := rfl
    have hb : bh L = wid (cL L) (sL L) / 14 := rfl
    have hy := y.isLt
    have hx := x.isLt
    have hcc := c.isLt
    fin_cases a <;> simp [pix, ix4] <;> omega
  rw [es, View.write_emb_of_mem (h := Finset.mem_univ _), ← ei]
  rfl

/-! ## The pieces held -/

abbrev imgPts (r : Fin 8) : sProp 𝕄 := iLoc d ↦[imgSet (cL L) (sL L) r]{fullShare} m (iLoc d)
abbrev patPts (f : Buf (Elt F) (pLoc d)) : sProp 𝕄 := pLoc d ↦[patSet (cL L) (sL L)]{fullShare} f
abbrev semPts (k : Fin 3) : sProp 𝕄 := semVal (thr d L, .dma (semK k).sem) 0

/-- Slot `k` idle. -/
abbrev Idle (k : Fin 3) : sProp 𝕄 := iprop((∃ f, bandPts d L k f) ∗ semPts d L k)
/-- The copy of image `r`'s band into slot `k` in flight. -/
abbrev Coming (k : Fin 3) (r : Fin 8) : sProp 𝕄 :=
  iprop(∃ f, ⌜BandIs L (m (iLoc d)) k r.val f⌝ ∗ Transfers.Flight (countersEmb (nD := nD) (τ := τ) (sig := sig) (Ix := HIx 1) (Val := Elt F) (Name := ℕ) (U := UU) (Lvl := ℕ))
    (thr d L) (.dma (semK k).sem) (default : HIx 1) (slotK k).view.dmaCredit iprop(bandPts d L k f ∗ imgPts m d L r))
/-- The tile buffer finished for the images before the `n`-th. -/
abbrev Tiled (n : Nat) : sProp 𝕄 := iprop(∃ g, ⌜Done L (m (iLoc d)) n 0 g⌝ ∗ tilePts d L g)
/-- What the subcore owes, after waits on its own cells only. -/
abbrev Owes (O : CellTallies nD τ sig (HIx 1)) (W : Waits sig (HIx 1)) : sProp 𝕄 :=
  iprop(∃ W', ⌜∀ p ∈ W', p ∈ W ∨ p.2 = none⌝ ∗ owes (thr d L) O W')

theorem credit_pos (k : Fin 3) : 0 < (slotK k).view.dmaCredit := by revert k; decide

theorem wp_fetch (hc : k0_cond1 L = 1#1) (k : Fin 3) (r : Fin 8) {Q : Unit → sProp 𝕄} :
    iprop(imgPts m d L r ∗ Idle d L k)
      ⊢ iprop((Coming m d L k r -∗ Q ⟨⟩) -∗ wp frame (wpE (defs₀ (F := F)) 𝒱₀ (thr d L) none) Set.univ (fetch L hc k r) Q) := by
  iintro ⟨Hi, ⟨%f, Hb⟩, Hs⟩ HK
  unfold fetch
  ihave Hi' := (Entails.of_eq (show imgPts m d L r = ((imgK L hc r).view.loc (thr d L) ↦[(imgK L hc r).view.set]{fullShare} m (iLoc d) : sProp 𝕄)
    by rw [set_imgK])) $$ Hi
  iapply (Transfers.wp_dmaLocal countersEmb 𝒱₀ (thr d L) none (default : HIx 1) (slotK k).view.dmaCredit rfl (credit_pos k) (Finset.Subset.refl _)) $$ [Hi' Hb Hs]
  · isplitl [Hi']; · iexact Hi'
    isplitl [Hb]; · iexact Hb
    iexact Hs
  iintro Hf
  iapply (Entails.of_eq (wp_ret _ _ _ PUnit.unit Q).symm)
  imodintro
  iapply HK
  iexists _
  isplitr
  swap
  · iapply (Entails.of_eq (show Transfers.Flight countersEmb (thr d L) (.dma (semK k).sem) (default : HIx 1) (slotK k).view.dmaCredit
      iprop(((slotK k).view.loc (thr d L) ↦[(slotK k).view.set]{fullShare} ((slotK k).view.write (Elt F) f ((imgK L hc r).view.read (Elt F) (m (iLoc d))) Finset.univ))
        ∗ ((imgK L hc r).view.loc (thr d L) ↦[(imgK L hc r).view.set]{fullShare} m (iLoc d))) =
      (Transfers.Flight countersEmb (thr d L) (.dma (semK k).sem) (default : HIx 1) (slotK k).view.dmaCredit
        iprop(bandPts d L k ((slotK k).view.write (Elt F) f ((imgK L hc r).view.read (Elt F) (m (iLoc d))) Finset.univ) ∗ imgPts m d L r) : sProp 𝕄) by rw [set_imgK]))
    iexact Hf
  · ipureintro; exact bandIs_write L hc k r (m (iLoc d)) f

theorem wp_arrive (hc : k0_cond1 L = 1#1) (k : Fin 3) (r : Fin 8) (O : CellTallies nD τ sig (HIx 1)) (W : Waits sig (HIx 1)) {Q : Unit → sProp 𝕄} :
    iprop(Coming m d L k r ∗ Transfers.MayWaits (thr d L) (default : HIx 1) O ∗ Owes d L O W)
      ⊢ iprop((iprop((∃ f, ⌜BandIs L (m (iLoc d)) k r.val f⌝ ∗ bandPts d L k f) ∗ imgPts m d L r ∗ semPts d L k ∗ Owes d L O W) -∗ Q ⟨⟩)
        -∗ wp frame (wpE (defs₀ (F := F)) 𝒱₀ (thr d L) none) Set.univ (arrive L hc k r) Q) := by
  iintro ⟨⟨%f, %hf, Hf⟩, #Hmw, %W', %hW, HO⟩ HK
  unfold arrive
  iapply (Transfers.wp_waitLocalO countersEmb 𝒱₀ (thr d L) none (default : HIx 1) (rfl : (slotK k).view.dmaCredit = _)) $$ [Hf HO]
  · isplitl [Hf]; · iexact Hf
    isplitl [HO]; · iexact HO
    iapply (Transfers.MayWaits.elim (SemLoc.dma (semK k).sem)) $$ Hmw
  iintro ⟨⟨Hb, Hi⟩, Hs, HO⟩
  iapply (Entails.of_eq (wp_ret _ _ _ PUnit.unit Q).symm)
  imodintro
  iapply HK
  isplitl [Hb]
  · iexists f
    isplitr; · ipureintro; exact hf
    iexact Hb
  isplitl [Hi]; · iexact Hi
  isplitl [Hs]; · iexact Hs
  iexists _
  isplitr
  swap; · iexact HO
  ipureintro
  intro p hp
  rcases Finset.mem_insert.mp hp with hp | hp
  · exact .inr (hp ▸ rfl)
  · exact hW p hp

theorem wp_move (k : Fin 3) (r : Fin 8) {Q : Unit → sProp 𝕄} :
    iprop((∃ f, ⌜BandIs L (m (iLoc d)) k r.val f⌝ ∗ bandPts d L k f) ∗ semPts d L k ∗ Tiled m d L r.val)
      ⊢ iprop((iprop(Idle d L k ∗ Tiled m d L (r.val + 1)) -∗ Q ⟨⟩) -∗ wp frame (wpE (defs₀ (F := F)) 𝒱₀ (thr d L) none) Set.univ (move L k r) Q) := by
  iintro ⟨⟨%f, %hf, Hb⟩, Hs, Ht⟩ HK
  unfold move
  rw [← bind_pure (Scf.Loop.for L14 ok14 ⟨⟩ (retile L bandV tileV k r))]
  iapply (wp_loop d L (m (iLoc d)) k r f hf ok14) $$ [Hb Ht]
  · isplitl [Hb]; · iexact Hb
    iexact Ht
  iintro ⟨Hb, Ht⟩
  iapply (Entails.of_eq (wp_ret _ _ _ PUnit.unit Q).symm)
  imodintro
  iapply HK
  isplitr [Ht]
  · isplitl [Hb]
    · iexists f; iexact Hb
    · iexact Hs
  · iexact Ht

/-- One stage: image `r`'s band starts for slot `k` while image `r'`'s leaves slot `k'`. -/
theorem wp_stage (hc : k0_cond1 L = 1#1) (k : Fin 3) (r : Fin 8) (k' : Fin 3) (r' : Fin 8) (O : CellTallies nD τ sig (HIx 1))
    (W : Waits sig (HIx 1)) {Q : Unit → sProp 𝕄} :
    iprop(imgPts m d L r ∗ Idle d L k ∗ Coming m d L k' r' ∗ Tiled m d L r'.val ∗ Transfers.MayWaits (thr d L) (default : HIx 1) O ∗ Owes d L O W)
      ⊢ iprop((iprop(Coming m d L k r ∗ imgPts m d L r' ∗ Idle d L k' ∗ Tiled m d L (r'.val + 1) ∗ Owes d L O W) -∗ Q ⟨⟩)
        -∗ wp frame (wpE (defs₀ (F := F)) 𝒱₀ (thr d L) none) Set.univ (stage L hc k r k' r') Q) := by
  iintro ⟨Hi, Hk, Hf, Ht, #Hmw, HO⟩ HK
  unfold stage
  rw [wp_bind]
  iapply (wp_fetch m d L hc k r) $$ [Hi Hk]
  · isplitl [Hi] <;> iassumption
  iintro Hg
  rw [wp_bind]
  iapply (wp_arrive m d L hc k' r' O W) $$ [Hf HO]
  · isplitl [Hf]; · iexact Hf
    isplitr; · iexact Hmw
    iexact HO
  iintro ⟨Hb, Hi, Hs, HO⟩
  rw [wp_bind]
  iapply (wp_move m d L k' r') $$ [Hb Hs Ht]
  · isplitl [Hb]; · iexact Hb
    isplitl [Hs] <;> iassumption
  iintro ⟨Hk, Ht⟩
  iapply (Entails.of_eq (wp_ret _ _ _ PUnit.unit Q).symm)
  imodintro
  iapply HK
  isplitl [Hg]; · iexact Hg
  isplitl [Hi]; · iexact Hi
  isplitl [Hk]; · iexact Hk
  isplitl [Ht]; · iexact Ht
  iexact HO

theorem out_pos (hc : k0_cond1 L = 1#1) : 0 < (patK L hc).view.dmaCredit := by
  show 0 < (patK L hc).view.amount (.dma cc0_scratch3.sem)
  exact View.amount_pos _ _ (by decide)

/-- The tile buffer as the whole view holds it. -/
theorem pts_tileV (g : Buf (Elt F) ((thr d L).loc cc0_scratch1)) :
    (tileV.view.loc (thr d L) ↦[tileV.view.set]{fullShare} g : sProp 𝕄) = tilePts d L g := by
  rw [show tileV.view.set = Finset.univ from View.set_whole _]

/-- What the write-out leaves in the worker's patch entries. -/
theorem written (hc : k0_cond1 L = 1#1) {g : S14x8x768.Idx → Elt F .f32} (hg : Done L (m (iLoc d)) 8 0 g) (f : Buf (Elt F) (pLoc d)) :
    ∀ i ∈ (patK L hc).view.set, (patK L hc).view.write (Elt F) f (tileV.view.read (Elt F) g) Finset.univ i = patches (m (iLoc d)) i := by
  intro i hi
  obtain ⟨x, -, rfl⟩ := Finset.mem_map.mp hi
  rw [View.write_emb_of_mem (h := Finset.mem_univ _)]
  show g x = _
  have hx1 : (x 1).val < 8 := (x 1).isLt
  rw [hg x (Or.inl hx1)]
  unfold patches
  have e : ∀ a, (((patK L hc).view.emb x) a).val = k0_off770 L a + 1 * (x a).val := fun a => rfl
  rw [e, e, e, off770_eq L hc]
  simp

theorem wp_writeOut (hc : k0_cond1 L = 1#1) (O : CellTallies nD τ sig (HIx 1)) (W : Waits sig (HIx 1)) {Q : Unit → sProp 𝕄} :
    iprop(Tiled m d L 8 ∗ (∃ f, patPts d L f) ∗ semVal (thr d L, .dma cc0_scratch3.sem) 0 ∗ Transfers.MayWaits (thr d L) (default : HIx 1) O ∗ Owes d L O W)
      ⊢ iprop((iprop((∃ g, tilePts d L g) ∗ patPts d L (patches (m (iLoc d))) ∗ semVal (thr d L, .dma cc0_scratch3.sem) 0 ∗ Owes d L O W) -∗ Q ⟨⟩)
        -∗ wp frame (wpE (defs₀ (F := F)) 𝒱₀ (thr d L) none) Set.univ (writeOut L hc) Q) := by
  iintro ⟨⟨%g, %hg, Ht⟩, ⟨%f, Hp⟩, Hs, #Hmw, %W', %hW, HO⟩ HK
  unfold writeOut
  ihave Ht' := (Entails.of_eq (pts_tileV d L g).symm) $$ Ht
  ihave Hp' := (Entails.of_eq (show patPts d L f = ((patK L hc).view.loc (thr d L) ↦[(patK L hc).view.set]{fullShare} f : sProp 𝕄)
    by rw [set_patK])) $$ Hp
  iapply (Transfers.wp_dmaLocal countersEmb 𝒱₀ (thr d L) none (default : HIx 1) (patK L hc).view.dmaCredit rfl (out_pos L hc) (Finset.Subset.refl _)) $$ [Ht' Hp' Hs]
  · isplitl [Ht']; · iexact Ht'
    isplitl [Hp']; · iexact Hp'
    iexact Hs
  iintro Hf
  iapply (Transfers.wp_waitLocalO countersEmb 𝒱₀ (thr d L) none (default : HIx 1) (rfl : (patK L hc).view.dmaCredit = _)) $$ [Hf HO]
  · isplitl [Hf]; · iexact Hf
    isplitl [HO]; · iexact HO
    iapply (Transfers.MayWaits.elim (SemLoc.dma cc0_scratch3.sem)) $$ Hmw
  iintro ⟨⟨Hp, Ht⟩, Hs, HO⟩
  iapply (Entails.of_eq (wp_ret _ _ _ PUnit.unit Q).symm)
  imodintro
  iapply HK
  isplitl [Ht]
  · iexists g
    iapply (Entails.of_eq (pts_tileV d L g)) $$ Ht
  isplitl [Hp]
  · iapply (Entails.of_eq (show ((patK L hc).view.loc (thr d L) ↦[(patK L hc).view.set]{fullShare}
        ((patK L hc).view.write (Elt F) f (tileV.view.read (Elt F) g) Finset.univ) : sProp 𝕄) = patPts d L (patches (m (iLoc d))) by
      rw [pointsTo_congr (written m d L hc hg f), set_patK]))
    iexact Hp
  isplitl [Hs]; · iexact Hs
  iexists _
  isplitr
  swap; · iexact HO
  ipureintro
  intro p hp
  rcases Finset.mem_insert.mp hp with hp | hp
  · exact .inr (hp ▸ rfl)
  · exact hW p hp

end Cert.Proof.Gather

end
-- ==== Proof.Worker.lean ====
/-
  The gather call's obligation for every vector subcore, and how the images and the patches split over the subcores.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section Own

variable (d : Dev nD) (L : grid0.Coords)

abbrev cellK (d : Dev nD) (L : grid0.Coords) (k : Fin 3) : GSem nD τ sig := (thr d L, .dma (semK k).sem)
abbrev cellO (d : Dev nD) (L : grid0.Coords) : GSem nD τ sig := (thr d L, .dma cc0_scratch3.sem)

theorem semK_scoped : ∀ k : Fin 3, (SemLoc.dma (semK k).sem : SemLoc sig).isScoped .scVector = true := by decide
theorem semK_ne : ∀ k k' : Fin 3, k ≠ k' → (SemLoc.dma (semK k).sem : SemLoc sig) ≠ .dma (semK k').sem := by decide
theorem semO_ne : ∀ k : Fin 3, (SemLoc.dma cc0_scratch3.sem : SemLoc sig) ≠ .dma (semK k).sem := by decide

theorem cell_ne {k k' : Fin 3} (h : k ≠ k') : cellK d L k ≠ cellK d L k' := fun e => semK_ne k k' h (congrArg Prod.snd e)
theorem cellO_ne (k : Fin 3) : cellO d L ≠ cellK d L k := fun e => semO_ne k (congrArg Prod.snd e)
theorem mem_cellK (k : Fin 3) : cellK d L k ∈ ownCells (thr d L) := mem_ownCells.mpr ⟨rfl, semK_scoped k⟩
theorem mem_cellO : cellO d L ∈ ownCells (thr d L) :=
  mem_ownCells.mpr ⟨rfl, show (SemLoc.dma cc0_scratch3.sem : SemLoc sig).isScoped .scVector = true by decide⟩

/-- The four cells the body waits on are among the subcore's own. -/
theorem ownSems0_V :
    (ownSems0 (thr d L) : sProp 𝕄)
      = iprop(semVal (cellK d L 0) 0 ∗ semVal (cellK d L 1) 0 ∗ semVal (cellK d L 2) 0 ∗ semVal (cellO d L) 0
          ∗ bigSep (((((ownCells (thr d L)).erase (cellK d L 0)).erase (cellK d L 1)).erase (cellK d L 2)).erase (cellO d L)) fun g => semVal g 0) := by
  unfold SparseCore.Cfg.ownSems0
  rw [SparseCore.bigSep_erase' (mem_cellK d L 0),
    SparseCore.bigSep_erase' (Finset.mem_erase.mpr ⟨cell_ne d L (by decide), mem_cellK d L 1⟩),
    SparseCore.bigSep_erase' (Finset.mem_erase.mpr ⟨cell_ne d L (by decide), Finset.mem_erase.mpr ⟨cell_ne d L (by decide), mem_cellK d L 2⟩⟩),
    SparseCore.bigSep_erase' (Finset.mem_erase.mpr ⟨cellO_ne d L 2, Finset.mem_erase.mpr ⟨cellO_ne d L 1,
      Finset.mem_erase.mpr ⟨cellO_ne d L 0, mem_cellO d L⟩⟩⟩)]

/-- The band buffer and the tile buffer are among the subcore's own buffers. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The slots of the band buffer -/

theorem mem_slot (k : Fin 3) (i : S3x3x16x224.Idx) : i ∈ (slotK k).view.set ↔ (i 0).val = k.val := by
  rw [show (slotK k).view.set = (bandV.view.slice (Rect.unit (s := S3x3x16x224) ![k.val, 0, 0, 0] S1x3x16x224.size (slot_inb k))).set
    from View.set_reshape .., View.set_slice_whole, Rect.mem_set_unit]
  show (∀ a : Fin 4, ![k.val, 0, 0, 0] a ≤ (i a).val ∧ (i a).val < ![k.val, 0, 0, 0] a + ![1, 3, 16, 224] a) ↔ _
  have h1 : (i 1).val < 3 := (i 1).isLt
  have h2 : (i 2).val < 16 := (i 2).isLt
  have h3 : (i 3).val < 224 := (i 3).isLt
  simp [Fin.forall_fin_succ]
  omega

theorem slots_disjoint : ∀ k ∈ (Finset.univ : Finset (Fin 3)), ∀ k' ∈ (Finset.univ : Finset (Fin 3)), k ≠ k' →
    Disjoint (slotK k).view.set (slotK k').view.set := fun k _ k' _ h =>
  Finset.disjoint_left.mpr fun i hi hi' => h (Fin.ext (((mem_slot k i).mp hi).symm.trans ((mem_slot k' i).mp hi')))

/-- A slot's elements, of the buffer's own index type. -/
abbrev slotSet (k : Fin 3) : Finset S3x3x16x224.Idx := (slotK k).view.set

theorem slots_cover : (Finset.univ : Finset (Fin 3)).biUnion slotSet = Finset.univ :=
  Finset.eq_univ_iff_forall.mpr fun i => Finset.mem_biUnion.mpr ⟨i 0, Finset.mem_univ _, (mem_slot _ i).mpr rfl⟩

theorem band_split (f : Buf (Elt F) ((thr d L).loc cc0_scratch0)) :
    ((thr d L).loc cc0_scratch0 ↦{fullShare} f : sProp 𝕄) = bigSep Finset.univ fun k : Fin 3 => bandPts d L k f := by
  rw [← pointsTo_biUnion Finset.univ (ℓ := (thr d L).loc cc0_scratch0) slotSet slots_disjoint, slots_cover]; try rfl

theorem bigSep_three (Φ : Fin 3 → sProp 𝕄) : bigSep Finset.univ Φ = iprop(Φ 0 ∗ Φ 1 ∗ Φ 2) := by
  rw [bigSep_univ_eq_bigSepL [0, 1, 2] (by decide) (by decide)]; try rfl

theorem band_join :
    iprop((∃ f, bandPts d L 0 f) ∗ (∃ f, bandPts d L 1 f) ∗ (∃ f, bandPts d L 2 f)) ⊢ (iprop(∃ f, (thr d L).loc cc0_scratch0 ↦{fullShare} f) : sProp 𝕄) := by
  iintro ⟨⟨%f0, H0⟩, ⟨%f1, H1⟩, %f2, H2⟩
  ihave H' := (pointsTo_biUnion_join (ℓ := (thr d L).loc cc0_scratch0) (q := fullShare) (Val := Elt F) Finset.univ
    slotSet ![f0, f1, f2] f0 slots_disjoint) $$ [H0 H1 H2]
  · rw [bigSep_three]
    isplitl [H0]; · iexact H0
    isplitl [H1]; · iexact H1
    iexact H2
  icases H' with ⟨%g, -, Hg⟩
  rw [slots_cover]
  iexists g; iexact Hg

end Own

/-! ## The body -/

variable [FloatOps F]
variable (m : (ℓ : Loc nD τ sig) → Buf (Elt F) ℓ)

section Body

variable (d : Dev nD) (L : grid0.Coords)

/-- The images' pieces of one worker, one by one. -/
theorem imgs_eq : (bigSep Finset.univ fun r : Fin 8 => imgPts m d L r) = (iprop(imgPts m d L 0 ∗ imgPts m d L 1 ∗ imgPts m d L 2 ∗ imgPts m d L 3
    ∗ imgPts m d L 4 ∗ imgPts m d L 5 ∗ imgPts m d L 6 ∗ imgPts m d L 7) : sProp 𝕄) := by
  rw [bigSep_univ_eq_bigSepL [0, 1, 2, 3, 4, 5, 6, 7] (by decide) (by decide)]; try rfl

theorem done_zero (img : S16x3x224x224.Idx → Elt F .f32) (g : S14x8x768.Idx → Elt F .f32) : Done L img 0 0 g := fun j hj => by omega

/-- The schedule's run. -/
theorem wp_staged (hc : k0_cond1 L = 1#1) (O : CellTallies nD τ sig (HIx 1)) (W : Waits sig (HIx 1)) :
    iprop((bigSep Finset.univ fun r : Fin 8 => imgPts m d L r) ∗ patPts d L (m (pLoc d))
        ∗ (Idle d L 0 ∗ Idle d L 1 ∗ Idle d L 2) ∗ (∃ g, tilePts d L g) ∗ semVal (cellO d L) 0
        ∗ Transfers.MayWaits (thr d L) (default : HIx 1) O ∗ owes (thr d L) O W)
      ⊢ wp frame (wpE (defs₀ (F := F)) 𝒱₀ (thr d L) none) Set.univ (staged L hc)
          fun _ => iprop((bigSep Finset.univ fun r : Fin 8 => imgPts m d L r) ∗ patPts d L (patches (m (iLoc d)))
            ∗ (Idle d L 0 ∗ Idle d L 1 ∗ Idle d L 2) ∗ (∃ g, tilePts d L g) ∗ semVal (cellO d L) 0 ∗ Owes d L O W) := by
  rw [imgs_eq]
  iintro ⟨⟨H0, H1, H2, H3, H4, H5, H6, H7⟩, Hp, ⟨K0, K1, K2⟩, ⟨%g, Ht⟩, Hs, #Hmw, HO⟩
  ihave HO := (show (owes (thr d L) O W : sProp 𝕄) ⊢ Owes d L O W by
    iintro HO
    iexists W
    isplitr; · ipureintro; exact fun p hp => .inl hp
    iexact HO) $$ HO
  ihave Ht := (show (tilePts d L g : sProp 𝕄) ⊢ Tiled m d L 0 by
    iintro Ht
    iexists g
    isplitr; · ipureintro; exact done_zero L _ g
    iexact Ht) $$ Ht
  unfold staged
  rw [wp_bind]
  iapply (wp_fetch m d L hc 0 0) $$ [H0 K0]
  · isplitl [H0] <;> iassumption
  iintro C0
  rw [wp_bind]
  iapply (wp_fetch m d L hc 1 1) $$ [H1 K1]
  · isplitl [H1] <;> iassumption
  iintro C1
  rw [wp_bind]
  iapply (wp_stage m d L hc 2 2 0 0 O W) $$ [H2 K2 C0 Ht HO]
  · isplitl [H2]; · iexact H2
    isplitl [K2]; · iexact K2
    isplitl [C0]; · iexact C0
    isplitl [Ht]; · iexact Ht
    isplitr; · iexact Hmw
    iexact HO
  iintro ⟨C2, H0, K0, Ht, HO⟩
  rw [wp_bind]
  iapply (wp_stage m d L hc 0 3 1 1 O W) $$ [H3 K0 C1 Ht HO]
  · isplitl [H3]; · iexact H3
    isplitl [K0]; · iexact K0
    isplitl [C1]; · iexact C1
    isplitl [Ht]; · iexact Ht
    isplitr; · iexact Hmw
    iexact HO
  iintro ⟨C3, H1, K1, Ht, HO⟩
  rw [wp_bind]
  iapply (wp_stage m d L hc 1 4 2 2 O W) $$ [H4 K1 C2 Ht HO]
  · isplitl [H4]; · iexact H4
    isplitl [K1]; · iexact K1
    isplitl [C2]; · iexact C2
    isplitl [Ht]; · iexact Ht
    isplitr; · iexact Hmw
    iexact HO
  iintro ⟨C4, H2, K2, Ht, HO⟩
  rw [wp_bind]
  iapply (wp_stage m d L hc 2 5 0 3 O W) $$ [H5 K2 C3 Ht HO]
  · isplitl [H5]; · iexact H5
    isplitl [K2]; · iexact K2
    isplitl [C3]; · iexact C3
    isplitl [Ht]; · iexact Ht
    isplitr; · iexact Hmw
    iexact HO
  iintro ⟨C5, H3, K0, Ht, HO⟩
  rw [wp_bind]
  iapply (wp_stage m d L hc 0 6 1 4 O W) $$ [H6 K0 C4 Ht HO]
  · isplitl [H6]; · iexact H6
    isplitl [K0]; · iexact K0
    isplitl [C4]; · iexact C4
    isplitl [Ht]; · iexact Ht
    isplitr; · iexact Hmw
    iexact HO
  iintro ⟨C6, H4, K1, Ht, HO⟩
  rw [wp_bind]
  iapply (wp_stage m d L hc 1 7 2 5 O W) $$ [H7 K1 C5 Ht HO]
  · isplitl [H7]; · iexact H7
    isplitl [K1]; · iexact K1
    isplitl [C5]; · iexact C5
    isplitl [Ht]; · iexact Ht
    isplitr; · iexact Hmw
    iexact HO
  iintro ⟨C7, H5, K2, Ht, HO⟩
  rw [wp_bind]
  iapply (wp_arrive m d L hc 0 6 O W) $$ [C6 HO]
  · isplitl [C6]; · iexact C6
    isplitr; · iexact Hmw
    iexact HO
  iintro ⟨B0, H6, S0, HO⟩
  rw [wp_bind]
  iapply (wp_move m d L 0 6) $$ [B0 S0 Ht]
  · isplitl [B0]; · iexact B0
    isplitl [S0]; · iexact S0
    iexact Ht
  iintro ⟨K0, Ht⟩
  rw [wp_bind]
  iapply (wp_arrive m d L hc 1 7 O W) $$ [C7 HO]
  · isplitl [C7]; · iexact C7
    isplitr; · iexact Hmw
    iexact HO
  iintro ⟨B1, H7, S1, HO⟩
  rw [wp_bind]
  iapply (wp_move m d L 1 7) $$ [B1 S1 Ht]
  · isplitl [B1]; · iexact B1
    isplitl [S1]; · iexact S1
    iexact Ht
  iintro ⟨K1, Ht⟩
  iapply (wp_writeOut m d L hc O W) $$ [Ht Hp Hs HO]
  · isplitl [Ht]; · iexact Ht
    isplitl [Hp]; · iexists _; iexact Hp
    isplitl [Hs]; · iexact Hs
    isplitr; · iexact Hmw
    iexact HO
  iintro ⟨Ht, Hp, Hs, HO⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hp]; · iexact Hp
  isplitl [K0 K1 K2]
  · isplitl [K0]; · iexact K0
    isplitl [K1] <;> iassumption
  isplitl [Ht]; · iexact Ht
  isplitl [Hs]; · iexact Hs
  iexact HO

/-- What a subcore is handed, and what it hands back: its pixels and its patch entries. -/
abbrev goPts (c : Fin 2) (s : Fin 16) : sProp 𝕄 :=
  iprop((bigSep Finset.univ fun r : Fin 8 => iLoc d ↦[imgSet c s r]{fullShare} m (iLoc d)) ∗ pLoc d ↦[patSet c s]{fullShare} m (pLoc d))
abbrev tdPts (c : Fin 2) (s : Fin 16) : sProp 𝕄 :=
  iprop((bigSep Finset.univ fun r : Fin 8 => iLoc d ↦[imgSet c s r]{fullShare} m (iLoc d)) ∗ pLoc d ↦[patSet c s]{fullShare} patches (m (iLoc d)))

/-- A worker without work owns no patch entry. -/
theorem patSet_idle (hn : ¬ k0_cond1 L = 1#1) : ∀ i ∈ patSet (cL L) (sL L), (m (pLoc d)) i = patches (m (iLoc d)) i := by
  intro i hi
  have hw := mt (wid_lt L).mpr hn
  have h0 : (i 0).val < 196 := (i 0).isLt
  have h1 : (i 1).val < 16 := (i 1).isLt
  have := (Finset.mem_filter.mp hi).2
  omega

/-- The task on a vector subcore. -/
theorem tile_body (hF : (K (F := F)).Facts) (O : CellTallies nD τ sig (HIx 1)) (W : Waits sig (HIx 1)) (hO : ∀ g, O g none = 0) :
    iprop(levAts (K (F := F)).L (K (F := F)).lev ∗ emp ∗ goPts m d (cL L) (sL L)
        ∗ scopedBufs (thr d L) ∗ scopedSems0 (thr d L) ∗ owes (thr d L) O W)
      ⊢ wp frame (wpE (defs₀ (F := F)) 𝒱₀ (thr d L) none) Set.univ
          (cc0__gather_body L imgV (Memref.isWhole_whole _) patV (Memref.isWhole_whole _) bandV (Memref.isWhole_whole _)
            tileV (Memref.isWhole_whole _) cc0_scratch2 cc0_scratch3)
          fun _ => iprop(tdPts m d (cL L) (sL L) ∗ scopedBufs (thr d L) ∗ scopedSems0 (thr d L) ∗ Owes d L O W) := by
  by_cases hc : k0_cond1 L = 1#1
  · rw [body_eq L hc, (K (F := F)).scopedBufs_V hF d (cV L) (jV L), SparseCore.Cfg.scopedSems0_V (Val := Elt F) d (cV L) (jV L), ownSems0_V, ownBufs_V]
    iintro ⟨#Hlv, -, ⟨Hi, Hp⟩, ⟨⟨%f, Hb⟩, Ht, Hbufs⟩, ⟨S0, S1, S2, So, Hsems⟩, HO⟩
    ihave Hmw := (show levAts (K (F := F)).L (K (F := F)).lev ⊢ Transfers.MayWaits (thr d L) (default : HIx 1) O from
      (K (F := F)).mayWaits_none (thr := thr d L) hO) $$ Hlv
    ihave Hb := (Entails.of_eq ((band_split d L f).trans (bigSep_three _))) $$ Hb
    icases Hb with ⟨B0, B1, B2⟩
    iapply (wp_wand_r frame _ Set.univ)
    isplitl [Hi Hp Ht B0 B1 B2 S0 S1 S2 So Hmw HO]
    · iapply (wp_staged m d L hc O W)
      isplitl [Hi]; · iexact Hi
      isplitl [Hp]; · iexact Hp
      isplitl [B0 B1 B2 S0 S1 S2]
      · isplitl [B0 S0]
        · isplitl [B0]; · iexists f; iexact B0
          iexact S0
        isplitl [B1 S1]
        · isplitl [B1]; · iexists f; iexact B1
          iexact S1
        · isplitl [B2]; · iexists f; iexact B2
          iexact S2
      isplitl [Ht]; · iexact Ht
      isplitl [So]; · iexact So
      isplitl [Hmw]; · iexact Hmw
      iexact HO
    · iintro %_ ⟨Hi, Hp, ⟨⟨B0, S0⟩, ⟨B1, S1⟩, B2, S2⟩, Ht, So, HO⟩
      isplitl [Hi Hp]
      · isplitl [Hi] <;> iassumption
      isplitl [B0 B1 B2 Ht Hbufs]
      · isplitl [B0 B1 B2]
        · iapply (band_join d L)
          isplitl [B0]; · iexact B0
          isplitl [B1] <;> iassumption
        isplitl [Ht] <;> iassumption
      isplitl [S0 S1 S2 So Hsems]
      · isplitl [S0]; · iexact S0
        isplitl [S1]; · iexact S1
        isplitl [S2]; · iexact S2
        isplitl [So] <;> iassumption
      iexact HO
  · rw [body_idle L hc]
    iintro ⟨-, -, ⟨Hi, Hp⟩, Hb, Hs, HO⟩
    iapply (Entails.of_eq (wp_ret frame _ Set.univ PUnit.unit _).symm)
    imodintro
    isplitl [Hi Hp]
    · isplitl [Hi]; · iexact Hi
      iapply (Entails.of_eq (pointsTo_congr (patSet_idle m d L hc))); iexact Hp
    isplitl [Hb]; · iexact Hb
    isplitl [Hs]; · iexact Hs
    iexists W
    isplitr; · ipureintro; exact fun p hp => .inl hp
    iexact HO

end Body

/-! ## What the handshakes carry -/

theorem nCore_zero : (K (F := F)).nCore 0 = 2 := rfl
theorem nSub_zero : (K (F := F)).nSub 0 = 16 := rfl

/-- A SparseCore is handed its sixteen subcores' pieces, and hands them back. -/
abbrev stPts (d : Dev nD) (c : Fin 2) : sProp 𝕄 := bigSep Finset.univ fun s : Fin 16 => goPts m d c s
abbrev dnPts (d : Dev nD) (c : Fin 2) : sProp 𝕄 := bigSep Finset.univ fun s : Fin 16 => tdPts m d c s

def P : (K (F := F)).Pay (nD := nD) (Val := Elt F) (Name := ℕ) (U := UU) where
  st := fun q d c => match q with | 0 => stPts m d (Fin.cast nCore_zero c)
  dn := fun q d c => match q with | 0 => dnPts m d (Fin.cast nCore_zero c)
  go := fun q d c i => match q with | 0 => goPts m d (Fin.cast nCore_zero c) (Fin.cast nSub_zero i)
  td := fun q d c i => match q with | 0 => tdPts m d (Fin.cast nCore_zero c) (Fin.cast nSub_zero i)
  x := fun _ _ => iprop(emp)

instance P_storable : (P (F := F) m).IsStorable where
  st q d c := match q with
    | 0 => (inferInstance : BI.Storable (upEmb : UEmb _ 𝕄) (stPts m d (Fin.cast nCore_zero c)))
  dn q d c := match q with
    | 0 => (inferInstance : BI.Storable (upEmb : UEmb _ 𝕄) (dnPts m d (Fin.cast nCore_zero c)))
  go q d c i := match q with
    | 0 => (inferInstance : BI.Storable (upEmb : UEmb _ 𝕄) (goPts m d (Fin.cast nCore_zero c) (Fin.cast nSub_zero i)))
  td q d c i := match q with
    | 0 => (inferInstance : BI.Storable (upEmb : UEmb _ 𝕄) (tdPts m d (Fin.cast nCore_zero c) (Fin.cast nSub_zero i)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s) imgV (Memref.isWhole_whole _) patV (Memref.isWhole_whole _)
          bandV (Memref.isWhole_whole _) tileV (Memref.isWhole_whole _) cc0_scratch2 cc0_scratch3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show stPts m d (Fin.cast nCore_zero c) ⊢ |={Set.univ}=> iprop(
      (bigSep Finset.univ fun i : Fin ((K (F := F)).nSub 0) => goPts m d (Fin.cast nCore_zero c) (Fin.cast nSub_zero i))
      ∗ ((bigSep Finset.univ fun i : Fin ((K (F := F)).nSub 0) => tdPts m d (Fin.cast nCore_zero c) (Fin.cast nSub_zero i))
          -∗ dnPts m d (Fin.cast nCore_zero c)))
  rw [bigSep_tasks (F := F) (fun i => goPts m d (Fin.cast nCore_zero c) i), bigSep_tasks (F := F) (fun i => tdPts m d (Fin.cast nCore_zero c) i)]
  iintro H; imodintro
  isplitl [H]; · iexact H
  iintro H; iexact H

/-! ## The arrays as the subcores' pieces -/

/-- An array as the pieces its elements' keys sort it into. -/
theorem pointsTo_key {ℓ : Loc nD τ sig} {ι : Type} [Fintype ι] [DecidableEq ι] (A : ι → Finset (Idx ℓ)) (key : Idx ℓ → ι)
    (h : ∀ k i, i ∈ A k ↔ key i = k) (f : Buf (Elt F) ℓ) :
    (ℓ ↦{fullShare} f : sProp 𝕄) = bigSep Finset.univ fun k => ℓ ↦[A k]{fullShare} f := by
  rw [← pointsTo_biUnion Finset.univ (ℓ := ℓ) A (fun k _ k' _ hk => Finset.disjoint_left.mpr fun i hi hi' => hk (((h k i).mp hi).symm.trans ((h k' i).mp hi'))),
    show Finset.univ.biUnion A = Finset.univ from Finset.eq_univ_iff_forall.mpr fun i => Finset.mem_biUnion.mpr ⟨key i, Finset.mem_univ _, (h _ i).mpr rfl⟩]

/-- The worker and the image of a pixel; the worker of a patch entry. -/
def imgKey (j : S16x3x224x224.Idx) : Fin 2 × Fin 16 × Fin 8 :=
  (⟨((j 0).val / 8 * 14 + (j 2).val / 16) % 2, Nat.mod_lt _ (by decide)⟩,
    ⟨((j 0).val / 8 * 14 + (j 2).val / 16) / 2, by
      have h0 : (j 0).val < 16 := (j 0).isLt
      have h2 : (j 2).val < 224 := (j 2).isLt
      omega⟩, ⟨(j 0).val % 8, Nat.mod_lt _ (by decide)⟩)
def patKey (j : S196x16x768.Idx) : Fin 2 × Fin 16 :=
  (⟨((j 1).val / 8 * 14 + (j 0).val / 14) % 2, Nat.mod_lt _ (by decide)⟩,
    ⟨((j 1).val / 8 * 14 + (j 0).val / 14) / 2, by
      have h0 : (j 0).val < 196 := (j 0).isLt
      have h1 : (j 1).val < 16 := (j 1).isLt
      omega⟩)

theorem mem_imgSet (k : Fin 2 × Fin 16 × Fin 8) (j : S16x3x224x224.Idx) : j ∈ imgSet k.1 k.2.1 k.2.2 ↔ imgKey j = k := by
  obtain ⟨c, s, r⟩ := k
  have hc := c.isLt
  simp only [imgSet, imgKey, Finset.mem_filter, Finset.mem_univ, true_and, Prod.mk.injEq, Fin.ext_iff, wid]
  omega
theorem mem_patSet (k : Fin 2 × Fin 16) (j : S196x16x768.Idx) : j ∈ patSet k.1 k.2 ↔ patKey j = k := by
  obtain ⟨c, s⟩ := k
  have hc := c.isLt
  simp only [patSet, patKey, Finset.mem_filter, Finset.mem_univ, true_and, Prod.mk.injEq, Fin.ext_iff, wid]
  omega

theorem img_split (d : Dev nD) (f : Buf (Elt F) (iLoc d)) :
    (iLoc d ↦{fullShare} f : sProp 𝕄) = bigSep Finset.univ fun c : Fin 2 => bigSep Finset.univ fun s : Fin 16 =>
      bigSep Finset.univ fun r : Fin 8 => iLoc d ↦[imgSet c s r]{fullShare} f := by
  rw [pointsTo_key (ℓ := iLoc d) (fun k => imgSet k.1 k.2.1 k.2.2) imgKey mem_imgSet f, bigSep_univ_prod]
  refine bigSep_congr fun c _ => ?_
  rw [bigSep_univ_prod]

theorem pat_split (d : Dev nD) (f : Buf (Elt F) (pLoc d)) :
    (pLoc d ↦{fullShare} f : sProp 𝕄) = bigSep Finset.univ fun c : Fin 2 => bigSep Finset.univ fun s : Fin 16 =>
      pLoc d ↦[patSet c s]{fullShare} f := by
  rw [pointsTo_key (ℓ := pLoc d) (fun k => patSet k.1 k.2) patKey mem_patSet f, bigSep_univ_prod]

theorem st_eq (d : Dev nD) : (bigSep Finset.univ fun c : Fin ((K (F := F)).nCore 0) => (P m).st 0 d c)
    = iprop((iLoc d ↦{fullShare} m (iLoc d)) ∗ pLoc d ↦{fullShare} m (pLoc d)) := by
  show (bigSep Finset.univ fun c : Fin 2 => stPts m d c) = _
  unfold stPts goPts
  simp only [bigSep_sep']
  rw [← img_split, ← pat_split]

theorem dn_eq (d : Dev nD) : (bigSep Finset.univ fun c : Fin ((K (F := F)).nCore 0) => (P m).dn 0 d c)
    = iprop((iLoc d ↦{fullShare} m (iLoc d)) ∗ pLoc d ↦{fullShare} patches (m (iLoc d))) := by
  show (bigSep Finset.univ fun c : Fin 2 => dnPts m d c) = _
  unfold dnPts tdPts
  simp only [bigSep_sep']
  rw [← img_split, ← pat_split]

end Cert.Proof.Gather

end
-- ==== Proof.Region.lean ====
/-
  The projection call: what its body leaves at each grid point, its region entered from any contents of the arrays,
  and the product it leaves, as one function of the rows, the weights and the bias.
-/
module

public import proofs.«01_k».proof.Proof.Setup
public import proofs.«01_k».proof.Proof.Gen.KernelIdeal.Skeleton
public import Idealize.ShloMosaic.Lib.Pipeline.ValueKit
public import Idealize.ShloMosaic.Lib.Pipeline.RegionsLoop

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => MT nD τ sig (HIx 1) (Elt F) ℕ UU ℕ

/-! ## The body -/

theorem read_full {sp : Space} {s : Shape} {e : EltTy} (M : Memref sig .tc sp s e) {off : Fin s.rank → Nat} (h : off = fun _ => 0)
    (inb : ∀ a, off a + s.size a ≤ s.size a) (f : M.view.ty.Contents (Elt F)) :
    (M.access (Rect.unit off s.size inb)).read (Elt F) f = M.view.read (Elt F) f := by
  subst h
  funext x
  show M.view.read (Elt F) f ((Rect.whole s).emb x) = _
  rw [Rect.emb_whole_apply]

theorem read_write_full {sp : Space} {s : Shape} {e : EltTy} (M : Memref sig .tc sp s e) {off : Fin s.rank → Nat} (h : off = fun _ => 0)
    (inb : ∀ a, off a + s.size a ≤ s.size a) (f : M.view.ty.Contents (Elt F)) (w : s.Idx → Elt F e) :
    M.view.read (Elt F) ((M.access (Rect.unit off s.size inb)).write (Elt F) f w Finset.univ) = w := by
  rw [← read_full M h inb]
  exact View.read_write_univ ..

theorem zero2 : (![0, 0] : Fin 2 → Nat) = fun _ => 0 := by funext a; fin_cases a <;> rfl

theorem access_sub {sp : Space} {s : Shape} {e : EltTy} (M : Memref sig .tc sp s e) (r : Rect s) (Mk : Finset r.shape.Idx) :
    (M.access r).setOn Mk ⊆ M.view.set := by
  intro i hi
  obtain ⟨y, -, rfl⟩ := Finset.mem_map.mp hi
  exact Finset.mem_map.mpr ⟨r.emb y, Finset.mem_univ _, rfl⟩

variable (c : Dev nD)

/-- From its operands' buffers reading `X0`, `X1`, `X2` the body leaves the result's buffer reading their product plus
    the bias, the operands as they were. -/
theorem body_run (i : grid1.Coords) (M0 : Memref sig .tc .vmem S1568x768 .f32) (h0 : M0.IsWhole) (M1 : Memref sig .tc .vmem S768x768 .f32) (h1 : M1.IsWhole)
    (M2 : Memref sig .tc .vmem S1x768 .f32) (h2 : M2.IsWhole) (M3 : Memref sig .tc .vmem S1568x768 .f32) (h3 : M3.IsWhole)
    (X0 : Vec F S1568x768 .f32) (X1 : Vec F S768x768 .f32) (X2 : Vec F S1x768 .f32) (X3 : Vec F S1568x768 .f32) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3
        ∗ (iprop(owns (c : Thread nD τ) M0 fullShare X0 ∗ owns (c : Thread nD τ) M1 fullShare X1 ∗ owns (c : Thread nD τ) M2 fullShare X2
            ∗ owns (c : Thread nD τ) M3 fullShare (k1_pay1 X0 X1 X2)) -∗ Q ⟨⟩))
      ⊢ wp frame (wpE (defs₀ (F := F)) 𝒱₀ (c : Thread nD τ) none) Set.univ (cc1__matmul_body i M0 h0 M1 h1 M2 h2 M3 h3) Q := by
  rw [cc1__matmul_body_eq_skeleton]
  unfold cc1__matmul_body_skel
  simp only [owns, Prog.lift, Prog.bind_op, Prog.bind_ret]
  iintro ⟨⟨%f0, %e0, H0⟩, ⟨%f1, %e1, H1⟩, ⟨%f2, %e2, H2⟩, ⟨%f3, %e3, H3⟩, Hk⟩
  iapply (wp_load_rect 𝒱₀ (c : Thread nD τ) none Set.univ (m := M0) (r := Rect.unit (s := S1568x768) ![0, 0] S1568x768.size inb_S1568x768_S1568x768_0_0)
    (S := M0.view.set) (q := fullShare) (f := f0) (access_sub M0 _ Finset.univ)) $$ [H0]
  · iexact H0
  iintro H0
  iapply (wp_load_rect 𝒱₀ (c : Thread nD τ) none Set.univ (m := M1) (r := Rect.unit (s := S768x768) ![0, 0] S768x768.size inb_S768x768_S768x768_0_0)
    (S := M1.view.set) (q := fullShare) (f := f1) (access_sub M1 _ Finset.univ)) $$ [H1]
  · iexact H1
  iintro H1
  iapply (wp_load_rect 𝒱₀ (c : Thread nD τ) none Set.univ (m := M2) (r := Rect.unit (s := S1x768) ![0, 0] S1x768.size inb_S1x768_S1x768_0_0)
    (S := M2.view.set) (q := fullShare) (f := f2) (access_sub M2 _ Finset.univ)) $$ [H2]
  · iexact H2
  iintro H2
  iapply (wp_load_rect 𝒱₀ (c : Thread nD τ) none Set.univ (m := M3) (r := Rect.unit (s := S1568x768) ![0, 0] S1568x768.size inb_S1568x768_S1568x768_0_0)
    (S := M3.view.set) (q := fullShare) (f := f3) (access_sub M3 _ Finset.univ)) $$ [H3]
  · iexact H3
  iintro H3
  iapply (wp_store 𝒱₀ (c : Thread nD τ) none Set.univ (m := M3) (r := Rect.unit (s := S1568x768) ![0, 0] S1568x768.size inb_S1568x768_S1568x768_0_0)
    (S := M3.view.set) (f := f3) (access_sub M3 _ Finset.univ)) $$ [H3]
  · iexact H3
  iintro H3
  rw [read_full M0 zero2, read_full M1 zero2, read_full M2 zero2, e0, e1, e2]
  iapply (Entails.of_eq (wp_ret _ _ _ PUnit.unit Q).symm)
  imodintro
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  iexists _
  isplitr
  swap
  · iexact H3
  ipureintro
  exact read_write_full M3 zero2 _ _ _

/-! ## The proof data, at contents of the arrays -/

variable (bd : ℕ) (V : (c : Dev nD) → (b : Ref sig .tc) → Buf (Elt F) ((c : Thread nD τ).loc b))

/-- Window `w`'s block at point `t`, of its array at the entry contents. -/
abbrev inBlk (w : Fin cfg1.W) (t : Fin cfg1.N) : (cfg1.win w).block.Idx → Elt F (cfg1.win w).elt :=
  match w with
  | ⟨0, _⟩ => ((cfg1.win 0).blk t).view.read (Elt F) (V c main_v4)
  | ⟨1, _⟩ => ((cfg1.win 1).blk t).view.read (Elt F) (V c main_v2)
  | ⟨2, _⟩ => ((cfg1.win 2).blk t).view.read (Elt F) (V c main_v5)
  | ⟨3, _⟩ => fun _ => Classical.arbitrary _

/-- The proof data: the arrays at their entry contents; after the body the operands' blocks as fetched and the result's
    the product; nothing owed, and every recorded wait of level at most `bd`. -/
def dat : Dat τ (Elt F) (HIx 1) ℕ UU ℕ cfg1 c where
  A w := V c (Pipeline.arrRef spec1 w)
  after w t := match w with
    | ⟨0, _⟩ => inBlk c V 0 t
    | ⟨1, _⟩ => inBlk c V 1 t
    | ⟨2, _⟩ => inBlk c V 2 t
    | ⟨3, _⟩ => k1_pay1 (inBlk c V 0 t) (inBlk c V 1 t) (inBlk c V 2 t)
  Φ _ := BI.emp
  q _ := fullShare
  owed _ := 0
  recorded _ := {p | (K (F := F)).lev ((c : Thread nD τ), p.1) p.2 ≤ bd}

theorem before0 (t : Fin cfg1.N) (x : (cfg1.win 0).block.Idx → Elt F (cfg1.win 0).elt) : (dat c bd V).before 0 t x = inBlk c V 0 t :=
  (dat c bd V).before_in_eq_fetched 0 rfl (fun _ => rfl) (fun _ _ _ => rfl) (fun _ => rfl) t x
theorem before1 (t : Fin cfg1.N) (x : (cfg1.win 1).block.Idx → Elt F (cfg1.win 1).elt) : (dat c bd V).before 1 t x = inBlk c V 1 t :=
  (dat c bd V).before_in_eq_fetched 1 rfl (fun _ => rfl) (fun _ _ _ => rfl) (fun _ => rfl) t x
theorem before2 (t : Fin cfg1.N) (x : (cfg1.win 2).block.Idx → Elt F (cfg1.win 2).elt) : (dat c bd V).before 2 t x = inBlk c V 2 t :=
  (dat c bd V).before_in_eq_fetched 2 rfl (fun _ => rfl) (fun _ _ _ => rfl) (fun _ => rfl) t x

theorem body_obligation : BodyObligation (dat c bd V) (defs₀ (F := F)) 𝒱₀ none Set.univ := fun t => by
  rw [bigSep_W1, bigSep_W1]
  rw [show (dat c bd V).Φ t.castSucc = BI.emp from rfl, show (dat c bd V).Φ t.succ = BI.emp from rfl,
    show (dat c bd V).owesAt none t.succ = (dat c bd V).owesAt none t.castSucc from rfl]
  iintro ⟨-, Howes, ⟨%d0, H0⟩, ⟨%d1, H1⟩, ⟨%d2, H2⟩, ⟨%d3, H3⟩⟩
  rw [before0, before1, before2]
  iapply (body_run c (cfg1.grid.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3))
    (inBlk c V 0 t) (inBlk c V 1 t) (inBlk c V 2 t) ((dat c bd V).before 3 t d3) _)
  isplitl [H0]; · iexact H0
  isplitl [H1]; · iexact H1
  isplitl [H2]; · iexact H2
  isplitl [H3]; · iexact H3
  iintro ⟨H0, H1, H2, H3⟩
  isplitr; · iempintro
  isplitl [Howes]; · iexact Howes
  isplitl [H0]; · iexact H0
  isplitl [H1]; · iexact H1
  isplitl [H2]; · iexact H2
  iexact H3

/-! ## The product, as a function of the arrays -/

section Value

variable {α : Type}

/-- Rows `1568 t` to `1568 t + 1567` of `X` (read modulo its extent). -/
def rowBlk (X : S3136x768.Idx → α) (t : Nat) (y : S1568x768.Idx) : α :=
  X (ValueIdx.ix2 ⟨(1568 * t + (y 0).val) % 3136, Nat.mod_lt _ (by decide)⟩ (y 1))

/-- What the two grid points leave: each row block's product and bias, at its rows. -/
def matOut (X : Vec F S3136x768 .f32) (W : Vec F S768x768 .f32) (B : Vec F S1x768 .f32) : Vec F S3136x768 .f32 :=
  fun j => k1_pay1 (rowBlk X ((j 0).val / 1568)) W B (ValueIdx.ix2 ⟨(j 0).val % 1568, Nat.mod_lt _ (by decide)⟩ (j 1))

end Value

theorem idx1_0 : ∀ t : Fin cfg1.N, (cfg1.win 0).index t = ![t.val, 0] := by decide +kernel
theorem idx1_1 : ∀ t : Fin cfg1.N, (cfg1.win 1).index t = ![0, 0] := by decide +kernel
theorem idx1_2 : ∀ t : Fin cfg1.N, (cfg1.win 2).index t = ![0, 0] := by decide +kernel
theorem idx1_3 : ∀ t : Fin cfg1.N, (cfg1.win 3).index t = ![t.val, 0] := by decide +kernel

theorem inBlk0 (t : Fin cfg1.N) : inBlk c V 0 t = rowBlk (V c main_v4) t.val := by
  funext y
  refine congrArg (V c main_v4) ?_
  have ht : t.val < 2 := N_1 ▸ t.isLt
  have hy : (y 0).val < 1568 := (y 0).isLt
  funext a
  refine Fin.ext ?_
  have h := congrFun (idx1_0 t) a
  fin_cases a
  · show (cfg1.win 0).index t 0 * 1568 + 1 * (y 0).val = _
    rw [show (cfg1.win 0).index t 0 = t.val from h]
    show _ = (1568 * t.val + (y 0).val) % 3136
    omega
  · show (cfg1.win 0).index t 1 * 768 + 1 * (y 1).val = (y 1).val
    rw [show (cfg1.win 0).index t 1 = 0 from h]
    omega

theorem inBlk1 (t : Fin cfg1.N) : inBlk c V 1 t = V c main_v2 := by
  funext y
  refine congrArg (V c main_v2) ?_
  funext a
  refine Fin.ext ?_
  have h := congrFun (idx1_1 t) a
  fin_cases a
  · show (cfg1.win 1).index t 0 * 768 + 1 * (y 0).val = (y 0).val
    rw [show (cfg1.win 1).index t 0 = 0 from h]; omega
  · show (cfg1.win 1).index t 1 * 768 + 1 * (y 1).val = (y 1).val
    rw [show (cfg1.win 1).index t 1 = 0 from h]; omega

theorem inBlk2 (t : Fin cfg1.N) : inBlk c V 2 t = V c main_v5 := by
  funext y
  refine congrArg (V c main_v5) ?_
  funext a
  refine Fin.ext ?_
  have h := congrFun (idx1_2 t) a
  fin_cases a
  · show (cfg1.win 2).index t 0 * 1 + 1 * (y 0).val = (y 0).val
    rw [show (cfg1.win 2).index t 0 = 0 from h]; omega
  · show (cfg1.win 2).index t 1 * 768 + 1 * (y 1).val = (y 1).val
    rw [show (cfg1.win 2).index t 1 = 0 from h]; omega

/-- The result's array after the region. -/
theorem arrAt_out : (dat c bd V).arrAt 3 cfg1.N = matOut (V c main_v4) (V c main_v2) (V c main_v5) := by
  refine (dat c bd V).arrAt_eq_of_covers 3 _ (by decide +kernel) fun t _ y => ?_
  have ht : t.val < 2 := N_1 ▸ t.isLt
  have hy : (y 0).val < 1568 := (y 0).isLt
  have h := idx1_3 t
  have e0 : ((((cfg1.win 3).blk t).view.emb y) 0).val = 1568 * t.val + (y 0).val := by
    show (cfg1.win 3).index t 0 * 1568 + 1 * (y 0).val = _
    rw [show (cfg1.win 3).index t 0 = t.val from congrFun h 0]; omega
  have e1 : ((((cfg1.win 3).blk t).view.emb y) 1).val = (y 1).val := by
    show (cfg1.win 3).index t 1 * 768 + 1 * (y 1).val = _
    rw [show (cfg1.win 3).index t 1 = 0 from congrFun h 1]; omega
  show k1_pay1 (inBlk c V 0 t) (inBlk c V 1 t) (inBlk c V 2 t) y = matOut _ _ _ (((cfg1.win 3).blk t).view.emb y)
  rw [inBlk0, inBlk1, inBlk2]
  unfold matOut
  rw [show ((((cfg1.win 3).blk t).view.emb y) 0).val / 1568 = t.val by rw [e0]; omega]
  refine congrArg _ ?_
  rw [ValueIdx.eq_ix2 y]
  refine congrArg₂ ValueIdx.ix2 (Fin.ext ?_) (Fin.ext e1.symm)
  show (y 0).val = ((((cfg1.win 3).blk t).view.emb y) 0).val % 1568
  rw [e0]; omega

/-! ## The region over the arrays' contents -/

abbrev adm : (p : Fin 1) → (pcfgs (F := F) p).Adm := fun p => (cfgs p).toPCfg_adm

/-- The proof data of the program's one pipeline. -/
def pdats : (p : Fin 1) → (c : Dev nD) → Dat τ (Elt F) (HIx 1) ℕ UU ℕ (Pipeline.pin (pcfgs (F := F)) adm p) c
  | ⟨0, _⟩ => fun c => dat c bd V

/-- The recorded waits are all of level at most `bd`, and nothing is owed. -/
abbrev owesBelow : sProp 𝕄 :=
  iprop(∃ W, ⌜(K (F := F)).WBelow (c : Thread nD τ) W bd⌝ ∗ owes (c : Thread nD τ) (0 : CellTallies nD τ sig (HIx 1)) W)

variable (Vp : (c : Dev nD) → (b : Ref sig .tc) → Buf (Elt F) ((c : Thread nD τ).loc b))

-- the launch's lemmas are stated at the pinned configuration, which unifies by unfolding plain definitions
set_option backward.isDefEq.respectTransparency.types false in
/-- The region: entered with every unscoped buffer at `V`, left with them at `Vp`, which has the product at the
    result and is `V` elsewhere. -/
def reg (hout : ∀ c, Vp c main_v6 = matOut (V c main_v4) (V c main_v2) (V c main_v5))
    (hne : ∀ c (b : Ref sig .tc), b ≠ main_v6 → Vp c b = V c b) :
    Pipeline.RegionSeg (pcfgs (F := F)) adm (pdats bd V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation c bd V).loose
  hwaits := Pipeline.hwaits_of_owed_zero _ _ _ _ (K (F := F)).L (K (F := F)).lev 0 fun _ _ => rfl
  pre c := iprop(unscopedBufs c (V c) ∗ owesBelow c bd)
  post c := iprop(unscopedBufs c (Vp c) ∗ owesBelow c bd)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats bd V) launch1.win launch1.arr_whole c
      ((pdats bd V 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats bd V 0 c).Φ 0 = BI.emp from rfl]
    rw [scopedRest1_eq]
    iintro ⟨-, -, -⟩; iempintro
  hout c := by
    rw [Pipeline.ownSems0_none, show (pdats bd V 0 c).Φ (Fin.last _) = BI.emp from rfl, scopedRest1_eq]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) launch1.win launch1.arr_whole c
      (pdats bd V) ((pdats bd V 0 c).share_full fun _ => rfl) (V c) (Vp c) ((pdats bd V 0 c).arrAt · cfg1.N)
      (fun w => by
        fin_cases w
        · exact ((pdats bd V 0 c).arrAt_in 0 rfl _).trans (hne c main_v4 (by decide)).symm
        · exact ((pdats bd V 0 c).arrAt_in 1 rfl _).trans (hne c main_v2 (by decide)).symm
        · exact ((pdats bd V 0 c).arrAt_in 2 rfl _).trans (hne c main_v5 (by decide)).symm
        · exact (arrAt_out c bd V).trans (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      rintro p hp
      rcases hW hp with h | ⟨w, s, rfl⟩
      · exact h
      · rw [SparseCore.Cfg.lev_none]; exact Nat.zero_le _
    iexact HO

end Cert.Proof.Gather

end
-- ==== Proof.Main.lean ====
/-
  The whole program: @main on the TensorCore, through the gather's call and the projection's region, and the launch;
  every execution ends with the arguments as they were, the semaphores at zero and the result at one function of the
  arguments.
-/
module

public import proofs.«01_k».proof.Proof.Worker
public import proofs.«01_k».proof.Proof.Region

@[expose] public section

noncomputable section

namespace Cert.Proof.Gather

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's operations and the arrays' contents between them -/

abbrev op0 : HloOp τ sig (Elt F) := StableHlo.reshape main_arg1 main_v0 (rfl : (.f32 : EltTy) = .f32) shapeCasts_S768x1200_S768x3x400
abbrev op1 : HloOp τ sig (Elt F) := StableHlo.unary main_v0 main_v1 ((extractStridedSlice S768x3x256 ![0, 0, 0] · slices_S768x3x400_S768x3x256_0_0_0) : (⟨S768x3x400, .f32⟩ : BufTy).Contents (Elt F) → (⟨S768x3x256, .f32⟩ : BufTy).Contents (Elt F))
abbrev op2 : HloOp τ sig (Elt F) := StableHlo.reshape main_v1 main_v2 (rfl : (.f32 : EltTy) = .f32) shapeCasts_S768x3x256_S768x768
abbrev op4 : HloOp τ sig (Elt F) := StableHlo.reshape main_v3 main_v4 (rfl : (.f32 : EltTy) = .f32) shapeCasts_S196x16x768_S3136x768
abbrev op5 : HloOp τ sig (Elt F) := StableHlo.reshape main_arg2 main_v5 (rfl : (.f32 : EltTy) = .f32) shapeCasts_S768_S1x768
abbrev op7 : HloOp τ sig (Elt F) := StableHlo.reshape main_v6 main_v7 (rfl : (.f32 : EltTy) = .f32) shapeCasts_S3136x768_S196x16x768
abbrev op8 : HloOp τ sig (Elt F) := StableHlo.unary main_v7 main_v8 ((transpose S16x196x768 [1, 0, 2] · transposes_S196x16x768_S16x196x768_1_0_2) : (⟨S196x16x768, .f32⟩ : BufTy).Contents (Elt F) → (⟨S16x196x768, .f32⟩ : BufTy).Contents (Elt F))

abbrev dr (b : Ref sig .tc) : DevRef τ sig := Proc.devRef .tc b

/-- The arrays before the gather, -/
def A1 (d : Dev nD) : Valuation τ sig (Elt F) := op2.result (op1.result (op0.result fun b => m (d, b)))
/-- after it, -/
def A2 (d : Dev nD) : Valuation τ sig (Elt F) := Function.update (A1 m d) (dr main_v3) (patches (m (iLoc d)))
/-- before the projection, -/
def A3 (d : Dev nD) : Valuation τ sig (Elt F) := op5.result (op4.result (A2 m d))
/-- after it, -/
def A4 (d : Dev nD) : Valuation τ sig (Elt F) :=
  Function.update (A3 m d) (dr main_v6) (matOut (A3 m d (dr main_v4)) (A3 m d (dr main_v2)) (A3 m d (dr main_v5)))
/-- and at the end. -/
def A5 (d : Dev nD) : Valuation τ sig (Elt F) := op8.result (op7.result (A4 m d))

/-- The arrays the TensorCore holds. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = held (c : Thread nD τ) ucRefs W := by
  unfold unscopedBufs StableHlo.held ucRefs StableHlo.tcRefs
  rw [Finset.filter_map, bigSep_map]
  rfl

theorem mem_uc (b : Ref sig .tc) (h : (dr b).isScoped = false := by decide) : dr b ∈ ucRefs := by
  unfold ucRefs
  rw [Finset.mem_filter]
  exact ⟨StableHlo.devRef_mem_tcRefs b, by rw [h]; decide⟩

theorem pair_uc (a b : Ref sig .tc) (ha : (dr a).isScoped = false := by decide) (hb : (dr b).isScoped = false := by decide) :
    ({dr a, dr b} : Finset (DevRef τ sig)) ⊆ ucRefs := by
  intro x hx
  rcases Finset.mem_insert.mp hx with rfl | hx
  · exact mem_uc a ha
  · rw [Finset.mem_singleton.mp hx]; exact mem_uc b hb

/-- The images and the patches apart from the other arrays. -/
theorem held_call (d : Dev nD) (W : Valuation τ sig (Elt F)) :
    (held (SparseCore.T d) ucRefs W : sProp 𝕄)
      = iprop(((iLoc d ↦{fullShare} W (dr main_arg0)) ∗ pLoc d ↦{fullShare} W (dr main_v3))
          ∗ held (SparseCore.T d) (ucRefs \ {dr main_arg0, dr main_v3}) W) := by
  rw [StableHlo.held_sub_split (SparseCore.T d) (pair_uc main_arg0 main_v3) W]
  congr 1
  unfold StableHlo.held
  rw [SparseCore.bigSep_insert' (by decide), bigSep_singleton]

/-! ## What the run leaves at each array read -/

theorem A1_arg0 (d : Dev nD) : A1 m d (dr main_arg0) = m (iLoc d) := by
  unfold A1
  rw [StableHlo.reshape_result_ne (h := by decide), StableHlo.unary_result_ne (h := by decide), StableHlo.reshape_result_ne (h := by decide)]

theorem A1_v3 (d : Dev nD) : A1 m d (dr main_v3) = m (pLoc d) := by
  unfold A1
  rw [StableHlo.reshape_result_ne (h := by decide), StableHlo.unary_result_ne (h := by decide), StableHlo.reshape_result_ne (h := by decide)]

theorem dr_ne {a b : Ref sig .tc} (h : a ≠ b) : dr a ≠ dr b := StableHlo.devRef_ne_of_ne h

/-- An argument is written by nothing. -/
theorem A5_kept (d : Dev nD) (b : Ref sig .tc) (h : b ≠ main_v0 ∧ b ≠ main_v1 ∧ b ≠ main_v2 ∧ b ≠ main_v3 ∧ b ≠ main_v4 ∧ b ≠ main_v5 ∧ b ≠ main_v6
    ∧ b ≠ main_v7 ∧ b ≠ main_v8) : A5 m d (dr b) = m (d, dr b) := by
  obtain ⟨h0, h1, h2, h3, h4, h5, h6, h7, h8⟩ := h
  unfold A5 A4 A3 A2 A1
  rw [StableHlo.unary_result_ne (h := h8), StableHlo.reshape_result_ne (h := h7), Function.update_of_ne (dr_ne h6),
    StableHlo.reshape_result_ne (h := h5), StableHlo.reshape_result_ne (h := h4), Function.update_of_ne (dr_ne h3),
    StableHlo.reshape_result_ne (h := h2), StableHlo.unary_result_ne (h := h1), StableHlo.reshape_result_ne (h := h0)]

/-! ## @main on the TensorCore -/

abbrev G (d : Dev nD) : sProp 𝕄 :=
  iprop(Pipeline.cellsGhost (Pipeline.pin (pcfgs (F := F)) adm) EP 0 d ∗ Pipeline.toksInit (Pipeline.pin (pcfgs (F := F)) adm) EP 0 d)

abbrev V3 (d : Dev nD) (b : Ref sig .tc) : Buf (Elt F) ((d : Thread nD τ).loc b) := A3 m d (dr b)
abbrev V4 (d : Dev nD) (b : Ref sig .tc) : Buf (Elt F) ((d : Thread nD τ).loc b) := A4 m d (dr b)

abbrev region : Pipeline.RegionSeg (pcfgs (F := F)) adm (pdats 8 (V3 m)) none defs₀ 𝒱₀ (K (F := F)).L (K (F := F)).lev 0 :=
  reg 8 (V3 m) (V4 m) (fun d => Function.update_self ..) fun d b h => Function.update_of_ne (dr_ne h) _ _

abbrev FIN (d : Dev nD) : sProp 𝕄 := held (SparseCore.T d) ucRefs (A5 m d)

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d fun b => m ((SparseCore.T d).loc b) : sProp 𝕄) = held (SparseCore.T d) ucRefs (fun b => m (d, b)) from
    unscopedBufs_held d fun b => m (d, b)]
  simp only [main, wp_bind, wp_pure]
  iintro ⟨#Hctx, Hst, ⟨Hb, Hh, Hts, -⟩, Hg⟩
  iapply (StableHlo.wp_hlo_within 𝒱 (SparseCore.T d) none Set.univ (op := op0) (S := ucRefs) (pair_uc _ _) (V := fun b => m (d, b))) $$ [Hb Hh]
  · isplitl [Hb] <;> iassumption
  iintro ⟨Hb, Hh⟩
  rw [wp_ret]; imodintro
  iapply (StableHlo.wp_hlo_within 𝒱 (SparseCore.T d) none Set.univ (op := op1) (S := ucRefs) (pair_uc _ _)) $$ [Hb Hh]
  · isplitl [Hb] <;> iassumption
  iintro ⟨Hb, Hh⟩
  rw [wp_ret]; imodintro
  iapply (StableHlo.wp_hlo_within 𝒱 (SparseCore.T d) none Set.univ (op := op2) (S := ucRefs) (pair_uc _ _)) $$ [Hb Hh]
  · isplitl [Hb] <;> iassumption
  iintro ⟨Hb, Hh⟩
  rw [wp_ret]; imodintro
  ihave Hh' := (Entails.of_eq (held_call d (A1 m d))) $$ [Hh]
  · iexact Hh
  icases Hh' with ⟨⟨Hi, Hp⟩, Hrest⟩
  iapply ((K (F := F)).wp_run (D (F := F)) 𝒱 (EH := EH) (P := P m) κ d 0) $$ [Hst Hi Hp Hb Hrest Hts Hg]
  isplitr; · iexact Hctx
  isplitl [Hst]; · iexact Hst
  isplitl [Hi Hp]
  · rw [st_eq, A1_arg0, A1_v3]
    isplitl [Hi]; · iexact Hi
    iexact Hp
  iintro ⟨Hst, Hdn⟩
  ihave Hdn' := (Entails.of_eq (dn_eq m d)) $$ Hdn
  icases Hdn' with ⟨Hi, Hp⟩
  ihave Hh := (Entails.of_eq (held_call d (A2 m d)).symm) $$ [Hi Hp Hrest]
  · isplitl [Hi Hp]
    · isplitl [Hi]
      · rw [show A2 m d (dr main_arg0) = m (iLoc d) from (Function.update_of_ne (dr_ne (by decide)) _ _).trans (A1_arg0 m d)]
        iexact Hi
      rw [show A2 m d (dr main_v3) = patches (m (iLoc d)) from Function.update_self ..]
      iexact Hp
    · rw [show (held (SparseCore.T d) (ucRefs \ {dr main_arg0, dr main_v3}) (A2 m d) : sProp 𝕄) = held (SparseCore.T d) (ucRefs \ {dr main_arg0, dr main_v3}) (A1 m d) from
        bigSep_congr fun b hb => by
          have hne : b ≠ dr main_v3 := fun h => (Finset.mem_sdiff.mp hb).2 (h ▸ by simp)
          rw [show A2 m d b = A1 m d b from Function.update_of_ne hne _ _]]
      iexact Hrest
  iapply (StableHlo.wp_hlo_within 𝒱 (SparseCore.T d) none Set.univ (op := op4) (S := ucRefs) (pair_uc _ _)) $$ [Hb Hh]
  · isplitl [Hb] <;> iassumption
  iintro ⟨Hb, Hh⟩
  rw [wp_ret]; imodintro
  iapply (StableHlo.wp_hlo_within 𝒱 (SparseCore.T d) none Set.univ (op := op5) (S := ucRefs) (pair_uc _ _)) $$ [Hb Hh]
  · isplitl [Hb] <;> iassumption
  iintro ⟨Hb, Hh⟩
  rw [wp_ret]; imodintro
  unfold SparseCore.Cfg.tcSt
  rw [show (0 : Fin 1).val + 1 = 1 from rfl, (K (F := F)).Otc_end d le_rfl]
  icases Hst with ⟨HO, Hst⟩
  ihave Hlev := (SparseCore.Cfg.ctx_levAts (K := K (F := F)) (EH := EH) (P := P m) κ) $$ Hctx
  iapply ((K (F := F)).wp_liftProg (D (F := F)) 𝒱 (SparseCore.T d) Set.univ none (.op (.customCall (Pipeline.entry 0) ()) .ret) _)
  iapply (Pipeline.RegionSeg.wp (pcfgs (F := F)) adm (pdats 8 (V3 m)) none cellOf_inj EP defs₀ 𝒱₀ (K (F := F)).L (K (F := F)).lev (region m) d none (by simp) .ret _)
  isplitr [Hb Hh HO Hg Hlev]
  swap
  · isplitl [Hb]; · iexact Hb
    isplitl [Hh HO]
    · iapply (show iprop(held (SparseCore.T d) ucRefs (A3 m d) ∗ owesBelow d 8) ⊢ (region m).pre d from
        Entails.of_eq (congrArg (fun X : sProp 𝕄 => iprop(X ∗ owesBelow d 8)) (unscopedBufs_held d (A3 m d)).symm))
      isplitl [Hh]; · iexact Hh
      iexact HO
    isplitl [Hlev]; · iexact Hlev
    iexact Hg
  iintro ⟨Hb, Hpost⟩
  rw [wp_ret]; imodintro
  ihave Hpost' := (show (region m).post d ⊢ iprop(held (SparseCore.T d) ucRefs (A4 m d) ∗ owesBelow d 8) from
    Entails.of_eq (congrArg (fun X : sProp 𝕄 => iprop(X ∗ owesBelow d 8)) (unscopedBufs_held d (A4 m d)))) $$ Hpost
  icases Hpost' with ⟨Hh, HO⟩
  iapply (StableHlo.wp_hlo_within 𝒱 (SparseCore.T d) none Set.univ (op := op7) (S := ucRefs) (pair_uc _ _)) $$ [Hb Hh]
  · isplitl [Hb] <;> iassumption
  iintro ⟨Hb, Hh⟩
  rw [wp_ret]; imodintro
  iapply (StableHlo.wp_hlo_within 𝒱 (SparseCore.T d) none Set.univ (op := op8) (S := ucRefs) (pair_uc _ _)) $$ [Hb Hh]
  · isplitl [Hb] <;> iassumption
  iintro ⟨Hb, Hh⟩
  rw [wp_ret]; imodintro
  imodintro
  isplitl [HO Hst]
  · isplitl [HO] <;> iassumption
  isplitl [Hh]; · iexact Hh
  isplitl [Hb] <;> iassumption

/-! ## The launch -/

/-- The launch's ghost element: the handshakes' cells, the pipeline's staging cells, no counter. -/
def u₀ : UU := (initOf (K (F := F)).hsCells (K (F := F)).hsToks,
  (initOf (Pipeline.cells cfgs cellOf_inj) (Pipeline.launchToks cfgs cellOf_inj), 1))

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells cfgs cellOf_inj) (Pipeline.launchToks cfgs cellOf_inj), 1) : UR sig nD τ × Counters)) $$ Hu
  icases H with ⟨HH, HR⟩
  ihave H := (own_pair_emb (embR : Emb (UR sig nD τ × Counters) 𝕄) (initOf (Pipeline.cells cfgs cellOf_inj) (Pipeline.launchToks cfgs cellOf_inj)) (1 : Counters)) $$ HR
  icases H with ⟨HP, -⟩
  imod (Pipeline.fund_ghost cfgs EP cellOf_inj) $$ HP with ⟨Hg, Ht⟩
  imodintro
  isplitl [HH]; · iexact HH
  isplitl [Hg Ht]
  · rw [bigSep_sep']
    isplitl [Hg]
    · iapply (show (bigSep Finset.univ fun c : Dev nD => bigSep Finset.univ fun p : Fin 1 => Pipeline.cellsGhost cfgs EP p c : sProp 𝕄)
        ⊢ bigSep Finset.univ fun d : Dev nD => Pipeline.cellsGhost (Pipeline.pin (pcfgs (F := F)) adm) EP 0 d from
        Entails.of_eq (bigSep_congr fun _ _ => bigSep_univ_of_subsingleton (0 : Fin 1)))
      iexact Hg
    · iapply (show (bigSep Finset.univ fun c : Dev nD => bigSep Finset.univ fun p : Fin 1 => Pipeline.toksInit cfgs EP p c : sProp 𝕄)
        ⊢ bigSep Finset.univ fun d : Dev nD => Pipeline.toksInit (Pipeline.pin (pcfgs (F := F)) adm) EP 0 d from
        Entails.of_eq (bigSep_congr fun _ _ => bigSep_univ_of_subsingleton (0 : Fin 1)))
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-- What the final memory holds on device `d`: every array of the TensorCore at its last contents. -/
def fq (d : Dev nD) (s' : Phys nD τ sig (Elt F)) : Prop := ∀ b ∈ ucRefs, s'.mem.mem (d, b) = A5 m d b

theorem hfin (d : Dev nD) (s' : Phys nD τ sig (Elt F)) : iprop(FIN m d ∗ SI s') ⊢ (⌜fq m d s'⌝ : sProp 𝕄) := by
  have key : ∀ b ∈ ucRefs, iprop(FIN m d ∗ SI s') ⊢ (⌜s'.mem.mem (d, b) = A5 m d b⌝ : sProp 𝕄) := by
    intro b hb
    iintro ⟨Hh, HSI⟩
    ihave Hb := (show (FIN m d : sProp 𝕄) ⊢ (((d, b) : Loc nD τ sig) ↦{fullShare} A5 m d b) from bigSep_elim hb) $$ Hh
    ihave H := (SI_pointsTo_agree (st := s') (ℓ := ((d, b) : Loc nD τ sig)) (I := Finset.univ) (q := fullShare) (f := A5 m d b)) $$ [HSI Hb]
    · isplitl [HSI] <;> iassumption
    icases H with %h
    ipureintro
    exact funext fun i => h i (Finset.mem_univ i)
  unfold fq
  exact (forall_intro fun b => (forall_intro fun hb => key b hb).trans pure_forall.2).trans pure_forall.2

def QC : PUnit × MemSt nD τ sig (Elt F) → Prop :=
  fun r => (∀ d : Dev nD, ∀ b ∈ ucRefs, r.2.mem (d, b) = A5 m d b) ∧ r.2.sem = fun _ => 0

/-- Every execution ends, without a fault, the arrays at their last contents and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Gather

end
-- ==== Proof.Frames.lean ====
/-
  The frames: the kernel as printed at `Bits`, its idealization at `Ideal`, and the reference.
-/
module

public import proofs.«01_k».proof.Proof.Main
public import proofs.«01_k».proof.Defs
public import proofs.«01_k».proof.Proof.Gen.Kernel
public import proofs.«01_k».proof.Proof.Gen.ReferenceIdeal.Run

@[expose] public section

noncomputable section

namespace Cert.Proof.Gather

open Idealize.ShloMosaic Idealize.ShloMosaic.TcCoe Idealize.SL.Sem

open Cert.KernelIdeal in
/-- Over any float values: the arguments end as they were and every semaphore at zero. -/
theorem run_args {F : FTy → Type} [FloatOps F] [∀ e, Nonempty (Elt F e)] (m : (ℓ : Loc nD τ sig) → Buf (Elt F) ℓ) (ρ : Dev nD → PrngReg) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨
      (h.1 c _ (mem_uc main_arg0)).trans (A5_kept m c main_arg0 (by decide)),
      (h.1 c _ (mem_uc main_arg1)).trans (A5_kept m c main_arg1 (by decide)),
      (h.1 c _ (mem_uc main_arg2)).trans (A5_kept m c main_arg2 (by decide))⟩, h.2⟩)
    (run_main m ρ)

/-- The kernel as printed and its idealization call the same bodies, -/
theorem bodies_eq {F : FTy → Type} [FloatOps F] : Cert.Kernel.defs₀ (F := F) = Cert.KernelIdeal.defs₀ (F := F) := by
  funext p l a
  match p, l, a with
  | .scVector _ _, 0, () => rfl
  | .tc, 1, _ => rfl
  | .tc, 0, _ => rfl
  | .scVector _ _, 1, _ => rfl
  | .scScalar _, _, _ => rfl

/-- under one table. -/
theorem defs_eq {F : FTy → Type} [FloatOps F] : Cert.KernelIdeal.defs (F := F) = Cert.Kernel.defs (F := F) :=
  congrArg (fun D => Cert.KernelIdeal.sc.defs (Pipeline.defs Cert.KernelIdeal.pcfgs D)) bodies_eq.symm

/-- The kernel ends with its arguments as they were and every semaphore at zero. -/
theorem frame_kernel : Cert.quiescent_Kernel := fun m ρ _ =>
  cast (congrArg (fun D => θ_run D (Cert.KernelIdeal.threads (F := Bits)) ⟨m, fun _ => 0, ρ⟩ _) defs_eq) (run_args (F := Bits) m ρ)

/-- So does its idealization. -/
theorem frame_kernelIdeal : Cert.quiescent_KernelIdeal := fun m ρ _ => run_args (F := Ideal) m ρ

/-- And the reference. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Gather

end
-- ==== Proof.KerValue.lean ====
/-
  What the kernel leaves in its result, entry by entry: a patch's row against the weights of the pixels it holds.
-/
module

public import proofs.«01_k».proof.Proof.Main
public import Idealize.ShloMosaic.Lib.MatmulPlain

@[expose] public section

noncomputable section

namespace Cert.Proof.Gather

open Cert.KernelIdeal Cert.KernelIdeal.Gen
open Idealize.ShloMosaic Idealize.ShloMosaic.TcCoe Idealize.SL.Sem
open scoped BigOperators

/-- Where the weight of entry `p` of a patch lies in a row of the weights. -/
def wCol (p : Fin 768) : Fin 1200 := ⟨p.val / 256 * 400 + p.val % 256, by have := p.isLt; omega⟩

section Host

variable {F : FTy → Type} [FloatOps F] (m : (ℓ : Loc nD τ sig) → Buf (Elt F) ℓ) (d : Dev nD)

/-- The weights and the bias as the arguments hold them. -/
def kerW : S768x1200.Idx → F .f32 := m (d, dr main_arg1)
def kerB : S768.Idx → F .f32 := m (d, dr main_arg2)
def kerImg : S16x3x224x224.Idx → F .f32 := m (d, dr main_arg0)

/-! ## The projection's operands -/

theorem A3_v2 : A3 m d (dr main_v2) = shapeCast S768x768 (extractStridedSlice S768x3x256 ![0, 0, 0]
    (shapeCast S768x3x400 (kerW m d) shapeCasts_S768x1200_S768x3x400) slices_S768x3x400_S768x3x256_0_0_0) shapeCasts_S768x3x256_S768x768 := by
  unfold A3 A2 A1
  rw [StableHlo.reshape_result_ne (h := by decide), StableHlo.reshape_result_ne (h := by decide), Function.update_of_ne (dr_ne (by decide)),
    StableHlo.reshape_result, StableHlo.unary_result, StableHlo.reshape_result]
  rfl

/-- The weights the projection is given are those of the pixels: past a colour's 256 pixels none is taken. -/
theorem weight_at (o : Fin 768) (p : Fin 768) :
    (A3 m d (dr main_v2) : S768x768.Idx → F .f32) (ValueIdx.ix2 o p) = kerW m d (ValueIdx.ix2 o (wCol p)) := by
  have hp := p.isLt
  rw [A3_v2]
  refine (shapeCast_apply _ shapeCasts_S768x3x256_S768x768 (ValueIdx.ix2 o p)
    (ValueIdx.ix3 o (⟨p.val / 256, by omega⟩ : Fin 3) (⟨p.val % 256, by omega⟩ : Fin 256)) ?_).trans ?_
  · rw [Shape.rowMajor_val_three, Shape.rowMajor_val_two]
    show (o.val * 3 + p.val / 256) * 256 + p.val % 256 = o.val * 768 + p.val
    omega
  refine (extractStridedSlice_apply _ _ slices_S768x3x400_S768x3x256_0_0_0 _
    (ValueIdx.ix3 o (⟨p.val / 256, by omega⟩ : Fin 3) (⟨p.val % 256, by omega⟩ : Fin 400)) fun a => ?_).trans ?_
  · match a with
    | ⟨0, _⟩ => exact (Nat.zero_add _).symm
    | ⟨1, _⟩ => exact (Nat.zero_add _).symm
    | ⟨2, _⟩ => exact (Nat.zero_add _).symm
  refine shapeCast_apply _ shapeCasts_S768x1200_S768x3x400 _ _ ?_
  rw [Shape.rowMajor_val_two, Shape.rowMajor_val_three]
  show o.val * 1200 + (p.val / 256 * 400 + p.val % 256) = (o.val * 3 + p.val / 256) * 400 + p.val % 256
  omega

theorem A3_v4 : A3 m d (dr main_v4) = shapeCast S3136x768 (patches (kerImg m d)) shapeCasts_S196x16x768_S3136x768 := by
  unfold A3 A2
  rw [StableHlo.reshape_result_ne (h := by decide), StableHlo.reshape_result, Function.update_self]
  rfl

/-- Row `16 s + b` of the projection's left operand is patch `s` of image `b`. -/
theorem row_at (s : Fin 196) (b : Fin 16) (p : Fin 768) (r : Fin 3136) (hr : r.val = 16 * s.val + b.val) :
    (A3 m d (dr main_v4) : S3136x768.Idx → F .f32) (ValueIdx.ix2 r p) = kerImg m d (patchPix s.val b.val p.val) := by
  rw [A3_v4]
  refine (shapeCast_apply _ shapeCasts_S196x16x768_S3136x768 (ValueIdx.ix2 r p) (ValueIdx.ix3 s b p) ?_).trans rfl
  rw [Shape.rowMajor_val_three, Shape.rowMajor_val_two]
  show (s.val * 16 + b.val) * 768 + p.val = r.val * 768 + p.val
  omega

theorem A3_v5 : A3 m d (dr main_v5) = shapeCast S1x768 (kerB m d) shapeCasts_S768_S1x768 := by
  unfold A3 A2 A1
  rw [StableHlo.reshape_result, StableHlo.reshape_result_ne (h := by decide), Function.update_of_ne (dr_ne (by decide)),
    StableHlo.reshape_result_ne (h := by decide), StableHlo.unary_result_ne (h := by decide), StableHlo.reshape_result_ne (h := by decide)]
  rfl

theorem bias_at (o : Fin 768) : (A3 m d (dr main_v5) : S1x768.Idx → F .f32) (ValueIdx.ix2 0 o) = kerB m d (ValueIdx.ix1 o) := by
  rw [A3_v5]
  refine shapeCast_apply _ shapeCasts_S768_S1x768 _ _ ?_
  rw [Shape.rowMajor_val_one, Shape.rowMajor_val_two]
  show o.val = 0 * 768 + o.val
  omega

/-! ## The result from the projection's -/

theorem A5_v8 : A5 m d (dr main_v8) = transpose S16x196x768 [1, 0, 2]
    (shapeCast S196x16x768 (matOut (A3 m d (dr main_v4)) (A3 m d (dr main_v2)) (A3 m d (dr main_v5))) shapeCasts_S3136x768_S196x16x768)
    transposes_S196x16x768_S16x196x768_1_0_2 := by
  unfold A5 A4
  rw [StableHlo.unary_result, StableHlo.reshape_result, Function.update_self]
  rfl

theorem out_at (b : Fin 16) (s : Fin 196) (o : Fin 768) (r : Fin 3136) (hr : r.val = 16 * s.val + b.val) :
    (A5 m d (dr main_v8) : S16x196x768.Idx → F .f32) (ValueIdx.ix3 b s o)
      = matOut (A3 m d (dr main_v4)) (A3 m d (dr main_v2)) (A3 m d (dr main_v5)) (ValueIdx.ix2 r o) := by
  rw [A5_v8]
  refine (transpose_apply [1, 0, 2] _ transposes_S196x16x768_S16x196x768_1_0_2 (ValueIdx.ix3 b s o) (ValueIdx.ix3 s b o) fun a => ?_).trans ?_
  · match a with
    | ⟨0, _⟩ => rfl
    | ⟨1, _⟩ => rfl
    | ⟨2, _⟩ => rfl
  refine shapeCast_apply _ shapeCasts_S3136x768_S196x16x768 _ _ ?_
  rw [Shape.rowMajor_val_three, Shape.rowMajor_val_two]
  show r.val * 768 + o.val = (s.val * 16 + b.val) * 768 + o.val
  omega

end Host

/-! ## The projection over the extended reals -/

theorem pay_at (x : Vec Ideal S1568x768 .f32) (w : Vec Ideal S768x768 .f32) (v : Vec Ideal S1x768 .f32) (r : Fin 1568) (o : Fin 768) :
    k1_pay1 x w v (ValueIdx.ix2 r o)
      = (∑ p : Fin 768, x (ValueIdx.ix2 r p) * w (ValueIdx.ix2 o p)) + v (ValueIdx.ix2 0 o) := by
  show (FloatOps.matmul (F := Ideal) (φ₁ := .f32) (φ₂ := .f32) (DotDims.transposedRhs 1568 768 768) none (shapeCast S1568x768 x shapeCasts_S1568x768_S1568x768)
      (shapeCast S768x768 w shapeCasts_S768x768_S768x768) (constant S1568x768 .f32 0x00000000#32) (ValueIdx.ix2 r o) : EReal)
    + broadcastTo S1568x768 (shapeCast S1x768 v shapeCasts_S1x768_S1x768) broadcasts_S1x768_S1568x768 (ValueIdx.ix2 r o) = _
  rw [shapeCast_self, shapeCast_self, shapeCast_self, Ideal.matmul_transposedRhs_apply]
  refine congrArg₂ (· + ·) ?_ ?_
  · rw [show (constant S1568x768 .f32 0x00000000#32 : FVec Ideal S1568x768 .f32) (ValueIdx.ix2 r o) = 0 from Ideal.ofBits_zero_f32, zero_add]
  · refine broadcastTo_apply _ _ _ _ fun a => ?_
    match a with
    | ⟨0, _⟩ => rfl
    | ⟨1, _⟩ => rfl

/-- The kernel's result at image `b`, patch `s` and feature `o`. -/
theorem kernel_at (m : (ℓ : Loc nD τ sig) → Buf (Elt Ideal) ℓ) (d : Dev nD) (b : Fin 16) (s : Fin 196) (o : Fin 768) :
    (A5 m d (dr main_v8) : S16x196x768.Idx → EReal) (ValueIdx.ix3 b s o)
      = (∑ p : Fin 768, kerImg m d (patchPix s.val b.val p.val) * kerW m d (ValueIdx.ix2 o (wCol p))) + kerB m d (ValueIdx.ix1 o) := by
  have hb := b.isLt
  have hs := s.isLt
  rw [out_at m d b s o ⟨16 * s.val + b.val, by omega⟩ rfl]
  unfold matOut
  refine (pay_at _ _ _ _ _).trans ?_
  rw [bias_at]
  refine congrArg (· + _) (Finset.sum_congr rfl fun p _ => ?_)
  rw [weight_at]
  refine congrArg (· * _) (row_at m d s b p _ ?_)
  show (1568 * ((16 * s.val + b.val) / 1568) + (16 * s.val + b.val) % 1568) % 3136 = 16 * s.val + b.val
  omega

end Cert.Proof.Gather

end
-- ==== Proof.Order.lean ====
/-
  The image's pixels in the order of their cells: where a stable sort by cell takes each position from. Numbers only,
  no program: 50176 pixels, row-major in a 224 by 224 image, in 196 cells of 16 by 16.
-/
module

public import Idealize.ShloMosaic.Lib.SortPrefix

@[expose] public section

namespace Cert.Proof.Gather

open Idealize.ShloMosaic

/-- The cell in which pixel `i` of the row-major image lies. -/
def cell (i : ℕ) : ℕ := i / 224 / 16 * 14 + i % 224 / 16

/-- The pixel that stands at position `k` when cell follows cell: pixel `k % 256`, row-major, of cell `k / 256`. -/
def pixel (k : ℕ) : ℕ := (k / 256 / 14 * 16 + k % 256 / 16) * 224 + (k / 256 % 14 * 16 + k % 256 % 16)

/-- Every position names a pixel of the image, -/
theorem pixel_lt {k : ℕ} (h : k < 50176) : pixel k < 50176 := by
  unfold pixel; omega

/-- whose row, -/
theorem pixel_div (k : ℕ) : pixel k / 224 = k / 256 / 14 * 16 + k % 256 / 16 := by
  unfold pixel; omega

/-- column, -/
theorem pixel_mod (k : ℕ) : pixel k % 224 = k / 256 % 14 * 16 + k % 256 % 16 := by
  unfold pixel; omega

/-- and cell are these. -/
theorem cell_pixel (k : ℕ) : cell (pixel k) = k / 256 := by
  unfold cell
  rw [pixel_div, pixel_mod]
  omega

/-- There are 196 cells. -/
theorem cell_lt {i : ℕ} (h : i < 50176) : cell i < 196 := by
  unfold cell; omega

/-- Within one cell a later position is a later pixel. -/
theorem pixel_lt_pixel {i j : ℕ} (h : i < j) (hc : i / 256 = j / 256) : pixel i < pixel j := by
  unfold pixel
  rw [hc]
  have : i % 256 < j % 256 := by omega
  omega

/-- Different positions are different pixels. -/
theorem pixel_inj {i j : ℕ} (h : pixel i = pixel j) : i = j := by
  have hc : i / 256 = j / 256 := by rw [← cell_pixel i, ← cell_pixel j, h]
  rcases Nat.lt_trichotomy i j with hlt | heq | hgt
  · exact absurd h (Nat.ne_of_lt (pixel_lt_pixel hlt hc))
  · exact heq
  · exact absurd h (Nat.ne_of_gt (pixel_lt_pixel hgt hc.symm))

/-- Two comparisons that agree wherever the second entry stands earlier than the first sort a list in increasing order
    alike: a stable sort only ever asks whether a later entry goes before an earlier one. -/
theorem stableSort_eq {n : ℕ} (B B' : Fin n → Fin n → Bool) (h : ∀ a b, a < b → B b a = B' b a) (l : List (Fin n))
    (hl : l.Pairwise (· < ·)) : stableSort B l = stableSort B' l := by
  induction l with
  | nil => rfl
  | cons a l ih =>
    have hp := List.pairwise_cons.mp hl
    unfold stableSort
    rw [ih hp.2]
    exact insertBefore_congr B B' a _ fun b hb => h a b (hp.1 b ((perm_stableSort B' l).mem_iff.mp hb))

/-- So they leave the same source at every position. -/
theorem sortedFrom_eq {n : ℕ} (B B' : Fin n → Fin n → Bool) (h : ∀ a b, a < b → B b a = B' b a) :
    sortedFrom B = sortedFrom B' := by
  funext k
  unfold sortedFrom
  have e : sortPositions n B = sortPositions n B' := stableSort_eq B B' h (List.finRange n) (List.pairwise_lt_finRange n)
  rw [List.get_of_eq e]
  rfl

/-- A stable sort of the pixels by cell takes position `k` from pixel `pixel k`. -/
theorem sortedFrom_cell (B : Fin 50176 → Fin 50176 → Bool) (hB : ∀ a b, B a b = decide (cell a.val < cell b.val))
    (k : Fin 50176) : sortedFrom B k = ⟨pixel k.val, pixel_lt k.isLt⟩ := by
  have hT : StrictTotalBefore fun a b : Fin 50176 =>
      decide (cell a.val < cell b.val) || (decide (cell a.val = cell b.val) && decide (a < b)) :=
    StrictTotalBefore.of_key_then_position (fun x y : ℕ => decide (x < y)) (fun a : Fin 50176 => cell a.val)
      (fun a => by simp) (fun a b c hab hbc => by simp only [decide_eq_true_eq] at *; omega)
      (fun a b => by simp only [decide_eq_true_eq]; omega)
  have hS : sortedFrom B = sortedFrom fun a b : Fin 50176 =>
      decide (cell a.val < cell b.val) || (decide (cell a.val = cell b.val) && decide (a < b)) := by
    refine sortedFrom_eq _ _ fun a b hab => ?_
    rw [hB, decide_eq_false (p := b < a) (by omega), Bool.and_false, Bool.or_false]
  rw [hS]
  refine hT.sortedFrom_eq_of_prefix (le_refl _) (fun k : Fin 50176 => (⟨pixel k.val, pixel_lt k.isLt⟩ : Fin 50176)) ?_ ?_ ?_ k
  · intro i j h
    exact Fin.ext (pixel_inj (congrArg Fin.val h))
  · intro i j hij
    show (decide (cell (pixel j.val) < cell (pixel i.val)) || (decide (cell (pixel j.val) = cell (pixel i.val)) && decide (pixel j.val < pixel i.val))) = false
    rw [cell_pixel, cell_pixel]
    have hij' : i.val < j.val := hij
    have h1 : ¬ j.val / 256 < i.val / 256 := by omega
    by_cases hc : j.val / 256 = i.val / 256
    · have h2 := pixel_lt_pixel hij' hc.symm
      simp [h1, hc, Nat.le_of_lt h2]
    · simp [h1, hc]
  · intro i p hp
    have hinj : Function.Injective fun k : Fin 50176 => (⟨pixel k.val, pixel_lt k.isLt⟩ : Fin 50176) := fun i j h =>
      Fin.ext (pixel_inj (congrArg Fin.val h))
    obtain ⟨j, hj⟩ := Finite.surjective_of_injective hinj p
    exact absurd hj (hp j)

end Cert.Proof.Gather
-- ==== Proof.RefIndex.lean ====
/-
  The reference's index arithmetic: its words at each position, as naturals. Which cell a pixel is in, which pixel
  stands at each place of the stable sort by cell, the cell there, the rank within it, and where the scatter puts it.
-/
module

public import proofs.«01_k».proof.Proof.Order
public import proofs.«01_k».proof.Proof.Gen.ReferenceIdeal.Run
public import Idealize.ShloMosaic.Lib.Routing.Words
public import Idealize.ShloMosaic.Lib.Routing.OpsSet
public import Idealize.ShloMosaic.Lib.WordCmp

@[expose] public section

noncomputable section

namespace Cert.Proof.Gather

open Cert.ReferenceIdeal Cert.ReferenceIdeal.Gen Cert.ReferenceIdeal.Value
open Idealize.ShloMosaic Idealize.ShloMosaic.TcCoe Idealize.SL.Sem Idealize.ShloMosaic.Routing Idealize.ShloMosaic.ValueIdx

variable {F : FTy → Type} [FloatOps F] (V0 : Valuation τ sig (Elt F))

/-! ## Words that hold naturals -/

theorem ofNat_add' (a b : ℕ) : BitVec.ofNat 32 a + BitVec.ofNat 32 b = BitVec.ofNat 32 (a + b) := (BitVec.ofNat_add a b).symm

theorem ofNat_mul' (a b : ℕ) : BitVec.ofNat 32 a * BitVec.ofNat 32 b = BitVec.ofNat 32 (a * b) := (BitVec.ofNat_mul a b).symm

/-! ## The cells -/

/-- Fourteen times a coordinate, -/
theorem scaled_at (h : S_.BroadcastsInDim S224 (![] : Fin 0 → Fin S224.rank)) (y : Fin 224) :
    muli (iotaInDim S224 32 0) (broadcastInDim S224 ![] h (constantI S_ 32 14#32)) (ix1 y) = BitVec.ofNat 32 (y.val * 14) := by
  rw [muli_ap, bc0]
  exact ofNat_mul' y.val 14

/-- divided by 224 the way jnp's floor division prints, is the coordinate over 16. -/
theorem axis_at (h : S_.BroadcastsInDim S224 (![] : Fin 0 → Fin S224.rank)) (y : Fin 224) :
    pyDiv h (muli (iotaInDim S224 32 0) (broadcastInDim S224 ![] h (constantI S_ 32 14#32))) (constantI S_ 32 224#32) (ix1 y)
      = BitVec.ofNat 32 (y.val / 16) := by
  have hy := y.isLt
  rw [pyDiv_ap h _ _ _ (scaled_at h y) (rfl : constantI S_ 32 224#32 ix0 = BitVec.ofNat 32 224) (by omega) (by omega) (by omega)]
  exact congrArg (BitVec.ofNat 32) (by omega)

/-- The cell of pixel `i`. -/
theorem v15_at (i : Fin 50176) : (res_main_v15 V0 : IVec S50176 32) (ix1 i) = BitVec.ofNat 32 (cell i.val) := by
  have hi := i.isLt
  refine (cast21 (a := 224) (b := 224) _ shapeCasts_S224x224_S50176 ⟨i.val / 224, by omega⟩ ⟨i.val % 224, by omega⟩ i
    (by show i.val = i.val / 224 * 224 + i.val % 224; omega)).trans ?_
  rw [addi_ap]
  have e1 := (broadcastInDim_apply ![0, 1] bcast_S224x1_S224x224_0_1
    (muli (broadcastInDim S224x1 ![0] bcast_S224_S224x1_0
      (pyDiv bcast_S_S224 (muli (iotaInDim S224 32 0) (broadcastInDim S224 ![] bcast_S_S224 (constantI S_ 32 14#32))) (constantI S_ 32 224#32)))
      (broadcastInDim S224x1 ![] bcast_S_S224x1 (constantI S_ 32 14#32)))
    (ix2 (⟨i.val / 224, by omega⟩ : Fin 224) (⟨i.val % 224, by omega⟩ : Fin 224)) (ix2 (⟨i.val / 224, by omega⟩ : Fin 224) (0 : Fin 1))
    (fun a => by match a with | ⟨0, _⟩ => rfl | ⟨1, _⟩ => rfl))
  have e2 := bcCols bcast_S224_S1x224_1 bcast_S1x224_S224x224_0_1
    (pyDiv bcast_S_S224 (muli (iotaInDim S224 32 0) (broadcastInDim S224 ![] bcast_S_S224 (constantI S_ 32 14#32))) (constantI S_ 32 224#32))
    (⟨i.val / 224, by omega⟩ : Fin 224) (⟨i.val % 224, by omega⟩ : Fin 224)
  rw [muli_ap, bcCol, bc0, axis_at] at e1
  rw [axis_at] at e2
  refine (congrArg₂ (· + ·) e1 e2).trans ?_
  show BitVec.ofNat 32 (i.val / 224 / 16) * BitVec.ofNat 32 14 + BitVec.ofNat 32 (i.val % 224 / 16) = _
  rw [ofNat_mul', ofNat_add']
  rfl

/-! ## The order -/

/-- A sort of two vectors carries the second by the order of both. -/
theorem sort2_snd_at {n : ℕ} {α β : Type} (cmp : α × β → α × β → BitVec 1) (x : (shape1 n).Idx → α) (y : (shape1 n).Idx → β) (k : Fin n) :
    (Host.sort2 (shape1 n) 0 cmp x y).2 (ix1 k)
      = y (ix1 (sortedFrom (fun a b => cmp (x (ix1 a), y (ix1 a)) (x (ix1 b), y (ix1 b)) == 1#1) k)) := by
  have e : (fun a : Fin n => (ix1 k : (shape1 n).Idx).along 0 a) = fun a : Fin n => (ix1 a : (shape1 n).Idx) := by
    funext a d
    match d with
    | ⟨0, _⟩ => rfl
  unfold Host.sort2
  rw [dif_pos (show 0 < 1 from Nat.one_pos)]
  exact congrArg (fun f : Fin n → (shape1 n).Idx =>
    y (f (sortedFrom (fun a b : Fin n => cmp (x (f a), y (f a)) (x (f b), y (f b)) == 1#1) k))) e

/-- At place `k` of the stable sort by cell stands pixel `pixel k`. -/
theorem v16_at (k : Fin 50176) : (res_main_v16 V0 : IVec S50176 32) (ix1 k) = BitVec.ofNat 32 (pixel k.val) := by
  have hs := sortedFrom_cell (fun a b => comparator_i32_i32_d0
      ((res_main_v15 V0 : IVec S50176 32) (ix1 a), (res_main_call2_v0 V0 : IVec S50176 32) (ix1 a))
      ((res_main_v15 V0 : IVec S50176 32) (ix1 b), (res_main_call2_v0 V0 : IVec S50176 32) (ix1 b)) == 1#1)
    (fun a b => by
      show (IntOp.cmpi .slt ((res_main_v15 V0 : IVec S50176 32) (ix1 a)) ((res_main_v15 V0 : IVec S50176 32) (ix1 b)) == 1#1) = _
      have ha := cell_lt a.isLt
      have hb := cell_lt b.isLt
      rw [v15_at, v15_at, WordCmp.cmpi_slt_ofNat (w := 32) (by omega) (by omega)]
      by_cases h : cell a.val < cell b.val <;> simp [h]) k
  refine (sort2_snd_at comparator_i32_i32_d0 (res_main_v15 V0 : IVec S50176 32) (res_main_call2_v0 V0 : IVec S50176 32) k).trans ?_
  rw [hs]
  rfl

/-- jnp's wrap of a negative index leaves the order as it is. -/
theorem order_at (k : Fin 50176) :
    (broadcastInDim S50176x1 ![0] bcast_S50176_S50176x1_0 (select (cmpi .slt (res_main_v16 V0) (broadcastInDim S50176 ![] bcast_S_S50176 (constantI S_ 32 0#32)))
      (addi (res_main_v16 V0) (broadcastInDim S50176 ![] bcast_S_S50176 (constantI S_ 32 50176#32))) (res_main_v16 V0)) : IVec S50176x1 32)
      (ix2 k (0 : Fin 1)) = BitVec.ofNat 32 (pixel k.val) := by
  have hp := pixel_lt k.isLt
  refine (bcCol bcast_S50176_S50176x1_0 _ k).trans ?_
  refine (wrap_of_lt (w := 32) ((res_main_v16 V0 : IVec S50176 32) (ix1 k)) _ ?_).trans (v16_at V0 k)
  rw [v16_at, BitVec.toNat_ofNat]
  omega

/-- The cell at place `k`. -/
theorem v23_at (k : Fin 50176) : (res_main_v23 V0 : IVec S50176 32) (ix1 k) = BitVec.ofNat 32 (k.val / 256) := by
  refine (gather_take1 gather_S50176_S50176x1_S50176_n_0_n_n_0_1_1 rfl rfl rfl rfl (res_main_v15 V0) _ k
    ⟨pixel k.val, pixel_lt k.isLt⟩ (order_at V0 k) (by decide)).trans ?_
  rw [v15_at]
  exact congrArg (BitVec.ofNat 32) (cell_pixel k.val)

/-! ## The ranks -/

/-- As many of the first 50176 numbers lie in earlier blocks of 256 as the blocks before hold. -/
theorem count_before (k : ℕ) (hk : k < 50176) : Nat.count (fun q => q / 256 < k / 256) 50176 = k / 256 * 256 := by
  rw [Nat.count_eq_card_filter_range]
  rw [show (Finset.range 50176).filter (fun q => q / 256 < k / 256) = Finset.range (k / 256 * 256) from ?_, Finset.card_range]
  ext q
  simp only [Finset.mem_filter, Finset.mem_range]
  omega

/-- The rank of place `k` within its cell. -/
theorem v32_at (k : Fin 50176) : (res_main_v32 V0 : IVec S50176 32) (ix1 k) = BitVec.ofNat 32 (k.val % 256) := by
  have hk := k.isLt
  have hc := reduce_count (n := 50176) (m := 50176) (by decide)
    (cmpi .slt (broadcastInDim S50176x50176 ![0, 1] bcast_S1x50176_S50176x50176_0_1 (broadcastInDim S1x50176 ![1] bcast_S50176_S1x50176_1 (res_main_v23 V0)))
      (broadcastInDim S50176x50176 ![0, 1] bcast_S50176x1_S50176x50176_0_1 (broadcastInDim S50176x1 ![0] bcast_S50176_S50176x1_0 (res_main_v23 V0))))
    natLt_1_32 reducesTo_S50176x50176_S50176_d1 h_S_ k (fun q => q / 256 < k.val / 256) (fun q => by
      have hq := q.isLt
      show IntOp.cmpi .slt (broadcastInDim S50176x50176 ![0, 1] bcast_S1x50176_S50176x50176_0_1 (broadcastInDim S1x50176 ![1] bcast_S50176_S1x50176_1 (res_main_v23 V0 : IVec S50176 32)) (ix2 k q))
        (broadcastInDim S50176x50176 ![0, 1] bcast_S50176x1_S50176x50176_0_1 (broadcastInDim S50176x1 ![0] bcast_S50176_S50176x1_0 (res_main_v23 V0 : IVec S50176 32)) (ix2 k q)) = 1#1 ↔ _
      rw [bcCols bcast_S50176_S1x50176_1 bcast_S1x50176_S50176x50176_0_1, bcRows bcast_S50176_S50176x1_0 bcast_S50176x1_S50176x50176_0_1,
        v23_at, v23_at, WordCmp.cmpi_slt_ofNat_eq_one_iff (w := 32) (by omega) (by omega)])
  rw [count_before k.val hk] at hc
  unfold res_main_v32
  rw [subi_ap]
  refine (congrArg₂ (· - ·) (iota1_ap k) hc).trans ?_
  rw [ofNat32_sub (by omega)]
  exact congrArg (BitVec.ofNat 32) (by omega)

/-! ## Where the scatter puts it -/

/-- Colour `c` at place `k` goes to feature `c * 400 + k % 256` of cell `k / 256`. -/
def slot (c k : ℕ) : ℕ := k / 256 * 1200 + c * 400 + k % 256

theorem v59_at (c : Fin 3) (k : Fin 50176) (n : Fin 150528) (hn : n.val = c.val * 50176 + k.val) :
    (res_main_v59 V0 : IVec S150528 32) (ix1 n) = BitVec.ofNat 32 (slot c.val k.val) := by
  have hk := k.isLt
  refine (cast21 (a := 3) (b := 50176) _ shapeCasts_S3x50176_S150528 c k n hn).trans ?_
  have e0 := bcCols bcast_S50176_S1x50176_1 bcast_S1x50176_S3x50176_0_1
    (cmpi .slt (res_main_v32 V0 : IVec S50176 32) (broadcastInDim S50176 ![] bcast_S_S50176 (constantI S_ 32 400#32))) c k
  have hv : (cmpi .slt (res_main_v32 V0 : IVec S50176 32) (broadcastInDim S50176 ![] bcast_S_S50176 (constantI S_ 32 400#32)) : IVec S50176 1) (ix1 k) = 1#1 := by
    show IntOp.cmpi .slt ((res_main_v32 V0 : IVec S50176 32) (ix1 k)) (broadcastInDim S50176 ![] bcast_S_S50176 (constantI S_ 32 400#32) (ix1 k)) = 1#1
    rw [v32_at, bc0]
    exact (WordCmp.cmpi_slt_ofNat_eq_one_iff (w := 32) (a := k.val % 256) (b := 400) (by omega) (by omega)).2 (by omega)
  have e1 := broadcastInDim_apply ![0, 1] bcast_S1x50176_S3x50176_0_1
    (muli (broadcastInDim S1x50176 ![1] bcast_S50176_S1x50176_1 (res_main_v23 V0 : IVec S50176 32)) (broadcastInDim S1x50176 ![] bcast_S_S1x50176 (constantI S_ 32 1200#32)))
    (ix2 c k) (ix2 (0 : Fin 1) k) (fun a => by match a with | ⟨0, _⟩ => rfl | ⟨1, _⟩ => rfl)
  have e1' := broadcastInDim_apply ![1] bcast_S50176_S1x50176_1 (res_main_v23 V0 : IVec S50176 32) (ix2 (0 : Fin 1) k) (ix1 k)
    (fun a => by match a with | ⟨0, _⟩ => rfl)
  have e2 := broadcastInDim_apply ![0, 1] bcast_S3x1_S3x50176_0_1
    (muli (broadcastInDim S3x1 ![0] bcast_S3_S3x1_0 (iotaInDim S3 32 0)) (broadcastInDim S3x1 ![] bcast_S_S3x1 (constantI S_ 32 400#32)))
    (ix2 c k) (ix2 c (0 : Fin 1)) (fun a => by match a with | ⟨0, _⟩ => rfl | ⟨1, _⟩ => rfl)
  have e3 := bcCols bcast_S50176_S1x50176_1 bcast_S1x50176_S3x50176_0_1 (res_main_v32 V0 : IVec S50176 32) c k
  rw [muli_ap, e1', bc0, v23_at] at e1
  rw [muli_ap, bcCol, bc0] at e2
  rw [v32_at] at e3
  show Scalar.select _ (_ + _ + _) _ = _
  rw [e0, hv, e1, e2, e3]
  show BitVec.ofNat 32 (k.val / 256) * BitVec.ofNat 32 1200 + BitVec.ofNat 32 c.val * BitVec.ofNat 32 400 + BitVec.ofNat 32 (k.val % 256) = _
  simp only [ofNat_mul', ofNat_add']
  rfl

/-- Every slot is a feature of the 196 cells, -/
theorem slot_lt {c k : ℕ} (hc : c < 3) (hk : k < 50176) : slot c k < 235200 := by
  unfold slot; omega

/-- and no two places share one. -/
theorem slot_inj {c k c' k' : ℕ} (hc : c < 3) (hc' : c' < 3) (h : slot c k = slot c' k') : c = c' ∧ k = k' := by
  unfold slot at h; omega

/-- The scatter's start indices, after jnp's wrap. -/
theorem start_at (c : Fin 3) (k : Fin 50176) (n : Fin 150528) (hn : n.val = c.val * 50176 + k.val) :
    (broadcastInDim S150528x1 ![0] bcast_S150528_S150528x1_0 (select (cmpi .slt (res_main_v59 V0) (broadcastInDim S150528 ![] bcast_S_S150528 (constantI S_ 32 0#32)))
      (addi (res_main_v59 V0) (broadcastInDim S150528 ![] bcast_S_S150528 (constantI S_ 32 235200#32))) (res_main_v59 V0)) : IVec S150528x1 32)
      (ix2 n (0 : Fin 1)) = BitVec.ofNat 32 (slot c.val k.val) := by
  have hs := slot_lt c.isLt k.isLt
  refine (bcCol bcast_S150528_S150528x1_0 _ n).trans ?_
  refine (wrap_of_lt (w := 32) ((res_main_v59 V0 : IVec S150528 32) (ix1 n)) _ ?_).trans (v59_at V0 c k n hn)
  rw [v59_at V0 c k n hn, BitVec.toNat_ofNat]
  omega

end Cert.Proof.Gather

end
-- ==== Proof.RefFeat.lean ====
/-
  The reference's features: its gather of the pixels in their order, and its scatter of them into the cells' rows.
-/
module

public import proofs.«01_k».proof.Proof.RefIndex

@[expose] public section

noncomputable section

namespace Cert.Proof.Gather

open Cert.ReferenceIdeal Cert.ReferenceIdeal.Gen Cert.ReferenceIdeal.Value
open Idealize.ShloMosaic Idealize.ShloMosaic.TcCoe Idealize.SL.Sem Idealize.ShloMosaic.Routing Idealize.ShloMosaic.ValueIdx

/-! ## The gather along the pixels -/

/-- The start index that result `(b, c, k)` reads is `k`'s, -/
theorem take_siIdx (b : Fin 16) (c : Fin 3) (k : Fin 50176) (q : Fin gather_S16x3x50176_S50176x1_S16x3x50176_01_2_n_n_2_1_1631.startIndexMap.length) :
    gather_S16x3x50176_S50176x1_S16x3x50176_01_2_n_n_2_1_1631.siIdx (ix3 b c k) q = (ix2 k (0 : Fin 1) : S50176x1.Idx) := by
  funext a
  apply Fin.ext
  match a with
  | ⟨0, _⟩ => rfl
  | ⟨1, _⟩ =>
    show q.val = 0
    have : q.val < 1 := q.isLt
    omega

/-- and where it holds `p` the result is the operand at `(b, c, p)`. -/
theorem take_at {α : Type} (x : S16x3x50176.Idx → α) (idx : IVec S50176x1 32) (b : Fin 16) (c : Fin 3) (k p : Fin 50176)
    (h : idx (ix2 k (0 : Fin 1)) = BitVec.ofNat 32 p.val) :
    Host.gather gather_S16x3x50176_S50176x1_S16x3x50176_01_2_n_n_2_1_1631 x idx (ix3 b c k) = x (ix3 b c p) := by
  have hp := p.isLt
  unfold Host.gather
  refine congrArg x (funext fun a => Fin.ext ?_)
  unfold GatherDims.operandIdx
  match a with
  | ⟨0, _⟩ =>
    show GatherDims.start gather_S16x3x50176_S50176x1_S16x3x50176_01_2_n_n_2_1_1631 (ix3 b c k) idx 0 + GatherDims.batchCoord gather_S16x3x50176_S50176x1_S16x3x50176_01_2_n_n_2_1_1631 (ix3 b c k) 0
      + GatherDims.offCoord gather_S16x3x50176_S50176x1_S16x3x50176_01_2_n_n_2_1_1631 (ix3 b c k) 0 = b.val
    rw [show GatherDims.start gather_S16x3x50176_S50176x1_S16x3x50176_01_2_n_n_2_1_1631 (ix3 b c k) idx 0 = 0 from dif_neg (by decide),
      show GatherDims.batchCoord gather_S16x3x50176_S50176x1_S16x3x50176_01_2_n_n_2_1_1631 (ix3 b c k) 0 = 0 from dif_neg (by decide),
      show GatherDims.offCoord gather_S16x3x50176_S50176x1_S16x3x50176_01_2_n_n_2_1_1631 (ix3 b c k) 0 = b.val from dif_pos (by decide)]
    omega
  | ⟨1, _⟩ =>
    show GatherDims.start gather_S16x3x50176_S50176x1_S16x3x50176_01_2_n_n_2_1_1631 (ix3 b c k) idx 1 + GatherDims.batchCoord gather_S16x3x50176_S50176x1_S16x3x50176_01_2_n_n_2_1_1631 (ix3 b c k) 1
      + GatherDims.offCoord gather_S16x3x50176_S50176x1_S16x3x50176_01_2_n_n_2_1_1631 (ix3 b c k) 1 = c.val
    rw [show GatherDims.start gather_S16x3x50176_S50176x1_S16x3x50176_01_2_n_n_2_1_1631 (ix3 b c k) idx 1 = 0 from dif_neg (by decide),
      show GatherDims.batchCoord gather_S16x3x50176_S50176x1_S16x3x50176_01_2_n_n_2_1_1631 (ix3 b c k) 1 = 0 from dif_neg (by decide),
      show GatherDims.offCoord gather_S16x3x50176_S50176x1_S16x3x50176_01_2_n_n_2_1_1631 (ix3 b c k) 1 = c.val from dif_pos (by decide)]
    omega
  | ⟨2, _⟩ =>
    show GatherDims.start gather_S16x3x50176_S50176x1_S16x3x50176_01_2_n_n_2_1_1631 (ix3 b c k) idx 2 + GatherDims.batchCoord gather_S16x3x50176_S50176x1_S16x3x50176_01_2_n_n_2_1_1631 (ix3 b c k) 2
      + GatherDims.offCoord gather_S16x3x50176_S50176x1_S16x3x50176_01_2_n_n_2_1_1631 (ix3 b c k) 2 = p.val
    rw [show GatherDims.batchCoord gather_S16x3x50176_S50176x1_S16x3x50176_01_2_n_n_2_1_1631 (ix3 b c k) 2 = 0 from dif_neg (by decide),
      show GatherDims.offCoord gather_S16x3x50176_S50176x1_S16x3x50176_01_2_n_n_2_1_1631 (ix3 b c k) 2 = 0 from dif_neg (by decide)]
    unfold GatherDims.start
    rw [dif_pos (by decide), take_siIdx, h, StableHlo.Predicate.toInt_ofNat_small _ (by omega)]
    show min p.val (50176 - 1) + 0 + 0 = p.val
    omega

/-! ## The scatter into the rows -/

/-- The start index that update `(b, n)` reads is `n`'s, -/
theorem put_siIdx (b : Fin 16) (n : Fin 150528) (q : Fin scatter_S16x235200_S150528x1_S16x150528_0_1_1_1.scatterDimsToOperandDims.length) :
    scatter_S16x235200_S150528x1_S16x150528_0_1_1_1.siIdx (ix2 b n) q = (ix2 n (0 : Fin 1) : S150528x1.Idx) := by
  funext a
  apply Fin.ext
  match a with
  | ⟨0, _⟩ => rfl
  | ⟨1, _⟩ =>
    show q.val = 0
    have : q.val < 1 := q.isLt
    omega

/-- and it lands at `(b', f)` exactly when `b' = b` and the start index is `f`. -/
theorem put_lands (idx : IVec S150528x1 32) (b b' : Fin 16) (n : Fin 150528) (f : Fin 235200) :
    scatter_S16x235200_S150528x1_S16x150528_0_1_1_1.resultIdx? (ix2 b n) idx = some (ix2 b' f)
      ↔ b.val = b'.val ∧ (idx (ix2 n (0 : Fin 1))).toInt = (f.val : Int) := by
  rw [resultIdx?_ix2]
  rw [show ScatterDims.start scatter_S16x235200_S150528x1_S16x150528_0_1_1_1 (ix2 b n) idx 0 = 0 from dif_neg (by decide),
    show ScatterDims.window scatter_S16x235200_S150528x1_S16x150528_0_1_1_1 (ix2 b n) 0 = b.val from dif_pos (by decide),
    show ScatterDims.window scatter_S16x235200_S150528x1_S16x150528_0_1_1_1 (ix2 b n) 1 = 0 from dif_neg (by decide)]
  unfold ScatterDims.start
  rw [dif_pos (by decide), put_siIdx]
  omega

/-! ## The features -/

variable {F : FTy → Type} [FloatOps F] (V0 : Valuation τ sig (Elt F))

/-- The image as the reference's argument holds it. -/
def refImg : S16x3x224x224.Idx → F .f32 := V0 (Proc.devRef .tc main_arg0)

/-- The pixels of every image and colour, in the order of their cells. -/
def sortedPix : S16x150528.Idx → F .f32 :=
  shapeCast _ (Host.gather gather_S16x3x50176_S50176x1_S16x3x50176_01_2_n_n_2_1_1631 (shapeCast _ (refImg V0) shapeCasts_S16x3x224x224_S16x3x50176) (broadcastInDim S50176x1 ![0] bcast_S50176_S50176x1_0 (select (cmpi .slt (res_main_v16 V0) (broadcastInDim S50176 ![] bcast_S_S50176 (constantI S_ 32 0#32))) (addi (res_main_v16 V0) (broadcastInDim S50176 ![] bcast_S_S50176 (constantI S_ 32 50176#32))) (res_main_v16 V0)))) shapeCasts_S16x3x50176_S16x150528

/-- The features of every image, cell after cell. -/
def feats : S16x235200.Idx → F .f32 :=
  Host.scatter scatter_S16x235200_S150528x1_S16x150528_0_1_1_1 (fun _ b => b) (broadcastInDim S16x235200 ![1] bcast_S235200_S16x235200_1 (broadcastInDim S235200 ![] bcast_S_S235200 (constant S_ .f32 0x00000000#32))) (broadcastInDim S150528x1 ![0] bcast_S150528_S150528x1_0 (select (cmpi .slt (res_main_v59 V0) (broadcastInDim S150528 ![] bcast_S_S150528 (constantI S_ 32 0#32))) (addi (res_main_v59 V0) (broadcastInDim S150528 ![] bcast_S_S150528 (constantI S_ 32 235200#32))) (res_main_v59 V0))) (sortedPix V0)

/-- Colour `c` at place `k` is the image's pixel `pixel k`. -/
theorem sortedPix_at (b : Fin 16) (c : Fin 3) (k : Fin 50176) (n : Fin 150528) (hn : n.val = c.val * 50176 + k.val)
    (y x : Fin 224) (hy : y.val = pixel k.val / 224) (hx : x.val = pixel k.val % 224) :
    sortedPix V0 (ix2 b n) = refImg V0 (ix4 b c y x) := by
  have hc := c.isLt
  have hk := k.isLt
  refine (shapeCast_apply _ shapeCasts_S16x3x50176_S16x150528 (ix2 b n) (ix3 b c k) ?_).trans ?_
  · rw [Shape.rowMajor_val_two, Shape.rowMajor_val_three]
    show (b.val * 3 + c.val) * 50176 + k.val = b.val * 150528 + n.val
    omega
  refine (take_at _ _ b c k ⟨pixel k.val, pixel_lt hk⟩ (order_at V0 k)).trans ?_
  refine shapeCast_apply _ shapeCasts_S16x3x224x224_S16x3x50176 _ (ix4 b c y x) ?_
  rw [Shape.rowMajor_val_four, Shape.rowMajor_val_three]
  show ((b.val * 3 + c.val) * 224 + y.val) * 224 + x.val = (b.val * 3 + c.val) * 50176 + pixel k.val
  omega

/-- Every place of the updates is some colour's place in the order. -/
theorem place_of (n : Fin 150528) : ∃ (c : Fin 3) (k : Fin 50176), n.val = c.val * 50176 + k.val := by
  have hn := n.isLt
  exact ⟨⟨n.val / 50176, by omega⟩, ⟨n.val % 50176, by omega⟩, by show n.val = n.val / 50176 * 50176 + n.val % 50176; omega⟩

/-- Where update `(b, n)` lands. -/
theorem feats_lands (b b' : Fin 16) (c : Fin 3) (k : Fin 50176) (n : Fin 150528) (hn : n.val = c.val * 50176 + k.val) (f : Fin 235200) :
    scatter_S16x235200_S150528x1_S16x150528_0_1_1_1.resultIdx? (ix2 b n) (broadcastInDim S150528x1 ![0] bcast_S150528_S150528x1_0 (select (cmpi .slt (res_main_v59 V0) (broadcastInDim S150528 ![] bcast_S_S150528 (constantI S_ 32 0#32))) (addi (res_main_v59 V0) (broadcastInDim S150528 ![] bcast_S_S150528 (constantI S_ 32 235200#32))) (res_main_v59 V0)) : IVec S150528x1 32) = some (ix2 b' f)
      ↔ b.val = b'.val ∧ slot c.val k.val = f.val := by
  have hs := slot_lt c.isLt k.isLt
  rw [put_lands, start_at V0 c k n hn, StableHlo.Predicate.toInt_ofNat_small _ (by omega)]
  omega

/-- Feature `slot c k` is colour `c` of pixel `pixel k`. -/
theorem feats_hit (b : Fin 16) (c : Fin 3) (k : Fin 50176) (f : Fin 235200) (hf : f.val = slot c.val k.val)
    (y x : Fin 224) (hy : y.val = pixel k.val / 224) (hx : x.val = pixel k.val % 224) :
    feats V0 (ix2 b f) = refImg V0 (ix4 b c y x) := by
  have hc := c.isLt
  have hk := k.isLt
  have hn : (⟨c.val * 50176 + k.val, by omega⟩ : Fin 150528).val = c.val * 50176 + k.val := rfl
  refine scatter_set_hit _ _ _ _ (ix2 b f) _ (fun j hj => ?_) (ix2 b ⟨c.val * 50176 + k.val, by omega⟩)
    ((feats_lands V0 b b c k _ hn f).2 ⟨rfl, hf.symm⟩)
  obtain ⟨b', n', rfl⟩ : ∃ b' n', j = ix2 b' n' := ⟨_, _, eq_ix2 j⟩
  obtain ⟨c', k', hn'⟩ := place_of n'
  obtain ⟨hb, hs⟩ := (feats_lands V0 b' b c' k' n' hn' f).1 hj
  obtain ⟨hcc, hkk⟩ := slot_inj c'.isLt hc (hs.trans hf)
  obtain rfl := Fin.ext hb
  obtain rfl := Fin.ext hcc
  obtain rfl := Fin.ext hkk
  exact sortedPix_at V0 b' c' k' n' hn' y x hy hx

/-- A feature past the 256 pixels of its colour is the zero the row was filled with. -/
theorem feats_miss (b : Fin 16) (f : Fin 235200) (hf : 256 ≤ f.val % 400) :
    feats V0 (ix2 b f) = FloatOps.ofBits .f32 0x00000000#32 := by
  refine (scatter_set_miss _ _ _ _ (ix2 b f) (fun j hj => ?_)).trans ?_
  · obtain ⟨b', n', rfl⟩ : ∃ b' n', j = ix2 b' n' := ⟨_, _, eq_ix2 j⟩
    obtain ⟨c', k', hn'⟩ := place_of n'
    have hs := ((feats_lands V0 b' b c' k' n' hn' f).1 hj).2
    unfold slot at hs
    have := c'.isLt
    omega
  · rfl

end Cert.Proof.Gather

end
-- ==== Proof.RefValue.lean ====
/-
  What the reference leaves in its result, entry by entry: a cell's features against a row of the weights.
-/
module

public import proofs.«01_k».proof.Proof.RefFeat
public import Idealize.ShloMosaic.Lib.MatmulPlain
public import Idealize.ShloMosaic.Lib.ValueLayout

@[expose] public section

noncomputable section

namespace Cert.Proof.Gather

open Cert.ReferenceIdeal Cert.ReferenceIdeal.Gen Cert.ReferenceIdeal.Value
open Idealize.ShloMosaic Idealize.ShloMosaic.TcCoe Idealize.SL.Sem Idealize.ShloMosaic.Routing Idealize.ShloMosaic.ValueIdx
open scoped BigOperators

/-- The reference's product over the extended reals. -/
theorem refDot_at (x : S16x196x1200.Idx → EReal) (w : S1200x768.Idx → EReal) (b : Fin 16) (s : Fin 196) (o : Fin 768) :
    (Host.dotGeneral (F := Ideal) (φ₁ := .f32) (φ₂ := .f32) dot_S16x196x1200_S1200x768_S16x196x768_2_0_01_1_n_n none x w) (ix3 b s o)
      = ∑ q : Fin 1200, x (ix3 b s q) * w (ix2 q o) := by
  simp only [Host.dotGeneral]
  rw [Ideal.dotGeneral_apply, ← Equiv.sum_comp (contrEquiv1 dot_S16x196x1200_S1200x768_S16x196x768_2_0_01_1_n_n 1200 rfl rfl).symm]
  refine Finset.sum_congr rfl fun q _ => ?_
  have hq := contrEquiv1_symm_val dot_S16x196x1200_S1200x768_S16x196x768_2_0_01_1_n_n 1200 rfl rfl q
  refine congrArg₂ (· * ·) (congrArg x (funext fun a => Fin.ext ?_)) (congrArg w (funext fun a => Fin.ext ?_))
  · match a with
    | ⟨0, _⟩ => rfl
    | ⟨1, _⟩ => rfl
    | ⟨2, _⟩ => exact hq
  · match a with
    | ⟨0, _⟩ => exact hq
    | ⟨1, _⟩ => rfl

/-- Where feature `q` of cell `s` lies in a row of the features. -/
def fCol (s : Fin 196) (q : Fin 1200) : Fin 235200 := ⟨s.val * 1200 + q.val, by have := s.isLt; have := q.isLt; omega⟩

/-- The reference's last operations, from the features `x`, the weights `w` and the bias `v`. -/
def project (x : FVec Ideal S16x235200 .f32) (w : FVec Ideal S768x1200 .f32) (v : FVec Ideal S768 .f32) : FVec Ideal S16x196x768 .f32 :=
  addf (Host.dotGeneral dot_S16x196x1200_S1200x768_S16x196x768_2_0_01_1_n_n none (shapeCast _ x shapeCasts_S16x235200_S16x196x1200) (transpose S1200x768 [1, 0] w transposes_S768x1200_S1200x768_1_0)) (broadcastInDim S16x196x768 ![0, 1, 2] bcast_S1x1x768_S16x196x768_0_1_2 (broadcastInDim S1x1x768 ![2] bcast_S768_S1x1x768_2 v))

theorem cells_at (x : S16x235200.Idx → EReal) (b : Fin 16) (s : Fin 196) (q : Fin 1200) :
    shapeCast S16x196x1200 x shapeCasts_S16x235200_S16x196x1200 (ix3 b s q) = x (ix2 b (fCol s q)) := by
  refine shapeCast_apply _ shapeCasts_S16x235200_S16x196x1200 _ _ ?_
  rw [Shape.rowMajor_val_two, Shape.rowMajor_val_three]
  show b.val * 235200 + (s.val * 1200 + q.val) = (b.val * 196 + s.val) * 1200 + q.val
  omega

theorem refBias_at (v : S768.Idx → EReal) (b : Fin 16) (s : Fin 196) (o : Fin 768) :
    broadcastInDim S16x196x768 ![0, 1, 2] bcast_S1x1x768_S16x196x768_0_1_2 (broadcastInDim S1x1x768 ![2] bcast_S768_S1x1x768_2 v) (ix3 b s o) = v (ix1 o) := by
  refine (broadcastInDim_apply _ bcast_S1x1x768_S16x196x768_0_1_2 _ _ (ix3 (0 : Fin 1) (0 : Fin 1) o) fun a => ?_).trans
    (broadcastInDim_apply _ bcast_S768_S1x1x768_2 _ _ (ix1 o) fun a => ?_)
  · match a with
    | ⟨0, _⟩ => rfl
    | ⟨1, _⟩ => rfl
    | ⟨2, _⟩ => rfl
  · match a with
    | ⟨0, _⟩ => rfl

/-- The reference's result at image `b`, cell `s` and output `o`. -/
theorem project_at (x : S16x235200.Idx → EReal) (w : S768x1200.Idx → EReal) (v : S768.Idx → EReal) (b : Fin 16) (s : Fin 196) (o : Fin 768) :
    (project x w v (ix3 b s o) : EReal) = (∑ q : Fin 1200, x (ix2 b (fCol s q)) * w (ix2 o q)) + v (ix1 o) := by
  refine (congrArg₂ (fun p r : EReal => p + r) (refDot_at _ _ b s o) (refBias_at v b s o)).trans ?_
  refine congrArg (fun p : EReal => p + v (ix1 o)) (Finset.sum_congr rfl fun q _ => ?_)
  rw [cells_at, transpose_ix2_apply]

end Cert.Proof.Gather

end
-- ==== Proof.Algebraic.lean ====
/-
  The value: over the extended reals the kernel's result is the reference's.
-/
module

public import proofs.«01_k».proof.Proof.Frames
public import proofs.«01_k».proof.Proof.KerValue
public import proofs.«01_k».proof.Proof.RefValue

@[expose] public section

noncomputable section

namespace Cert.Proof.Gather

open Idealize.ShloMosaic Idealize.ShloMosaic.TcCoe Idealize.SL.Sem
open scoped BigOperators

/-- A sum over the features whose terms past each colour's 256 pixels are zero is the sum over the pixels. -/
theorem sum_pixels (f : Fin 1200 → EReal) (h : ∀ q, 256 ≤ q.val % 400 → f q = 0) : ∑ q, f q = ∑ p : Fin 768, f (wCol p) := by
  refine (Fintype.sum_of_injective wCol (fun p p' e => Fin.ext ?_) _ _ (fun q hq => h q ?_) fun _ => rfl).symm
  · have e' : p.val / 256 * 400 + p.val % 256 = p'.val / 256 * 400 + p'.val % 256 := congrArg Fin.val e
    omega
  · by_contra hlt
    have hq' := q.isLt
    refine hq ⟨⟨q.val / 400 * 256 + q.val % 400, by omega⟩, Fin.ext ?_⟩
    show (q.val / 400 * 256 + q.val % 400) / 256 * 400 + (q.val / 400 * 256 + q.val % 400) % 256 = q.val
    omega

section Value

variable (V0 : Valuation Cert.ReferenceIdeal.τ Cert.ReferenceIdeal.sig (Elt Ideal))

/-- A feature that a weight of the projection multiplies is an entry of the cell's patch. -/
theorem feats_patch (b : Fin 16) (s : Fin 196) (p : Fin 768) :
    feats V0 (ValueIdx.ix2 b (fCol s (wCol p))) = refImg V0 (patchPix s.val b.val p.val) := by
  have hb := b.isLt
  have hs := s.isLt
  have hp := p.isLt
  have hy := pixel_div (s.val * 256 + p.val % 256)
  have hx := pixel_mod (s.val * 256 + p.val % 256)
  refine (feats_hit V0 b ⟨p.val / 256, by omega⟩ ⟨s.val * 256 + p.val % 256, by omega⟩ _ ?_
    ⟨(s.val / 14 * 16 + p.val % 256 / 16) % 224, Nat.mod_lt _ (by decide)⟩ ⟨(s.val % 14 * 16 + p.val % 16) % 224, Nat.mod_lt _ (by decide)⟩ ?_ ?_).trans ?_
  · show s.val * 1200 + (p.val / 256 * 400 + p.val % 256) = (s.val * 256 + p.val % 256) / 256 * 1200 + p.val / 256 * 400 + (s.val * 256 + p.val % 256) % 256
    omega
  · show (s.val / 14 * 16 + p.val % 256 / 16) % 224 = pixel (s.val * 256 + p.val % 256) / 224
    omega
  · show (s.val % 14 * 16 + p.val % 16) % 224 = pixel (s.val * 256 + p.val % 256) % 224
    omega
  · unfold patchPix pix
    have e0 : b = ⟨b.val % 16, Nat.mod_lt _ (by decide)⟩ := Fin.ext (Nat.mod_eq_of_lt hb).symm
    have e1 : (⟨p.val / 256, by omega⟩ : Fin 3) = ⟨p.val / 256 % 3, Nat.mod_lt _ (by decide)⟩ := Fin.ext (Nat.mod_eq_of_lt (by omega)).symm
    exact congrArg₂ (fun b c => refImg V0 (ValueIdx.ix4 b c _ _)) e0 e1

variable (m : (ℓ : Loc Cert.KernelIdeal.nD Cert.KernelIdeal.τ Cert.KernelIdeal.sig) → Buf (Elt Ideal) ℓ) (d : Dev Cert.KernelIdeal.nD)

/-- On the same images, weights and bias the two results agree at every entry. -/
theorem results_at (w : Cert.ReferenceIdeal.S768x1200.Idx → EReal) (v : Cert.ReferenceIdeal.S768.Idx → EReal)
    (hi : refImg V0 = kerImg m d) (hw : w = kerW m d) (hv : v = kerB m d) (b : Fin 16) (s : Fin 196) (o : Fin 768) :
    (project (feats V0) w v (ValueIdx.ix3 b s o) : EReal) = (A5 m d (dr Cert.KernelIdeal.main_v8) : Cert.KernelIdeal.S16x196x768.Idx → EReal) (ValueIdx.ix3 b s o) := by
  subst hw hv
  refine (project_at _ _ _ b s o).trans (Eq.trans ?_ (kernel_at m d b s o).symm)
  refine congrArg (fun x : EReal => x + kerB m d (ValueIdx.ix1 o)) ?_
  refine (sum_pixels _ fun q hq => ?_).trans (Finset.sum_congr rfl fun p _ => ?_)
  · rw [feats_miss V0 b (fCol s q) (by show 256 ≤ (s.val * 1200 + q.val) % 400; omega)]
    exact (congrArg (fun x : EReal => x * _) Ideal.ofBits_zero_f32).trans (zero_mul _)
  · rw [feats_patch, hi]

theorem results_eq (w : Cert.ReferenceIdeal.S768x1200.Idx → EReal) (v : Cert.ReferenceIdeal.S768.Idx → EReal)
    (hi : refImg V0 = kerImg m d) (hw : w = kerW m d) (hv : v = kerB m d) :
    project (feats V0) w v = (A5 m d (dr Cert.KernelIdeal.main_v8) : Cert.KernelIdeal.S16x196x768.Idx → EReal) :=
  funext fun j => (congrArg (project (feats V0) w v) (ValueIdx.eq_ix3 j)).trans
    ((results_at V0 m d w v hi hw hv (j 0) (j 1) (j 2)).trans (congrArg (A5 m d (dr Cert.KernelIdeal.main_v8)) (ValueIdx.eq_ix3 j).symm))

end Value

/-- The kernel over the extended reals ends with the reference's result, the arguments of both as they were. -/
theorem algebraic : Cert.algebraic_KernelIdeal_ReferenceIdeal := by
  intro m ρ m' ρ' _ hargs
  refine ⟨fun d => A5 m d (dr Cert.KernelIdeal.main_v8), ?_, ?_⟩
  · exact (θ_run Cert.KernelIdeal.defs _ _).mono (fun _ h c => ⟨h.1 c _ (mem_uc Cert.KernelIdeal.main_v8),
      (h.1 c _ (mem_uc Cert.KernelIdeal.main_arg0)).trans (A5_kept m c Cert.KernelIdeal.main_arg0 (by decide)),
      (h.1 c _ (mem_uc Cert.KernelIdeal.main_arg1)).trans (A5_kept m c Cert.KernelIdeal.main_arg1 (by decide)),
      (h.1 c _ (mem_uc Cert.KernelIdeal.main_arg2)).trans (A5_kept m c Cert.KernelIdeal.main_arg2 (by decide))⟩)
      (run_main m ρ)
  · refine (θ_run Cert.ReferenceIdeal.defs _ _).mono (fun r h c => ⟨(h c).1.trans ?_, (h c).2⟩) (Cert.ReferenceIdeal.Value.run (F := Ideal) m' ρ')
    obtain ⟨h0, h1, h2⟩ := hargs c
    exact results_eq _ m c _ _ h0 h1 h2

end Cert.Proof.Gather

end
-- ==== Proof.lean ====
/-
  The certificate: the frames, the idealization and the value, each proved in its module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Gather.frame_kernel, Gather.frame_kernelIdeal, Gather.frame_reference, trivial, Gather.algebraic⟩

end Cert.Proof

end
